-- ==== Defs.lean ====
def Pre_KOut (m : (ℓ : Loc Cert.KOut.nD Cert.KOut.τ Cert.KOut.sig) → Buf (Elt Bits) ℓ) : Prop :=
  True

def Pre_KOutIdeal (m : (ℓ : Loc Cert.KOutIdeal.nD Cert.KOutIdeal.τ Cert.KOutIdeal.sig) → Buf (Elt Ideal) ℓ) : Prop :=
  True

def Pre_ROutIdeal (m : (ℓ : Loc Cert.ROutIdeal.nD Cert.ROutIdeal.τ Cert.ROutIdeal.sig) → Buf (Elt Ideal) ℓ) : Prop :=
  True

def Pre_KQkv (m : (ℓ : Loc Cert.KQkv.nD Cert.KQkv.τ Cert.KQkv.sig) → Buf (Elt Bits) ℓ) : Prop :=
  True

def Pre_KQkvIdeal (m : (ℓ : Loc Cert.KQkvIdeal.nD Cert.KQkvIdeal.τ Cert.KQkvIdeal.sig) → Buf (Elt Ideal) ℓ) : Prop :=
  True

def Pre_RQkvIdeal (m : (ℓ : Loc Cert.RQkvIdeal.nD Cert.RQkvIdeal.τ Cert.RQkvIdeal.sig) → Buf (Elt Ideal) ℓ) : Prop :=
  True

def Pre_KIn (m : (ℓ : Loc Cert.KIn.nD Cert.KIn.τ Cert.KIn.sig) → Buf (Elt Bits) ℓ) : Prop :=
  True

def Pre_KInIdeal (m : (ℓ : Loc Cert.KInIdeal.nD Cert.KInIdeal.τ Cert.KInIdeal.sig) → Buf (Elt Ideal) ℓ) : Prop :=
  True

def Pre_KInIdeal_normal_cmax [hPre_normal_cmax : Cert.Pre_normal_cmax.Facts] (m : (ℓ : Loc Cert.KInIdeal.nD Cert.KInIdeal.τ Cert.KInIdeal.sig) → Buf (Elt Ideal) ℓ) : Prop :=
  ∀ c : Dev Cert.KInIdeal.nD,
    (Cert.Pre_normal_cmax.fn (F := Ideal) (m ((c.tc : Thread Cert.KInIdeal.nD Cert.KInIdeal.τ).loc Cert.KInIdeal.main_arg0)) (m ((c.tc : Thread Cert.KInIdeal.nD Cert.KInIdeal.τ).loc Cert.KInIdeal.main_arg1)) (m ((c.tc : Thread Cert.KInIdeal.nD Cert.KInIdeal.τ).loc Cert.KInIdeal.main_arg2)) (m ((c.tc : Thread Cert.KInIdeal.nD Cert.KInIdeal.τ).loc Cert.KInIdeal.main_arg3)) (m ((c.tc : Thread Cert.KInIdeal.nD Cert.KInIdeal.τ).loc Cert.KInIdeal.main_arg4))) = (fun _ => 1#1)

def Pre_RInIdeal (m : (ℓ : Loc Cert.RInIdeal.nD Cert.RInIdeal.τ Cert.RInIdeal.sig) → Buf (Elt Ideal) ℓ) : Prop :=
  True

def Pre_RInIdeal_normal_cmax [hPre_normal_cmax : Cert.Pre_normal_cmax.Facts] (m : (ℓ : Loc Cert.RInIdeal.nD Cert.RInIdeal.τ Cert.RInIdeal.sig) → Buf (Elt Ideal) ℓ) : Prop :=
  ∀ c : Dev Cert.RInIdeal.nD,
    (Cert.Pre_normal_cmax.fn (F := Ideal) (m ((c.tc : Thread Cert.RInIdeal.nD Cert.RInIdeal.τ).loc Cert.RInIdeal.main_arg0)) (m ((c.tc : Thread Cert.RInIdeal.nD Cert.RInIdeal.τ).loc Cert.RInIdeal.main_arg1)) (m ((c.tc : Thread Cert.RInIdeal.nD Cert.RInIdeal.τ).loc Cert.RInIdeal.main_arg2)) (m ((c.tc : Thread Cert.RInIdeal.nD Cert.RInIdeal.τ).loc Cert.RInIdeal.main_arg3)) (m ((c.tc : Thread Cert.RInIdeal.nD Cert.RInIdeal.τ).loc Cert.RInIdeal.main_arg4))) = (fun _ => 1#1)

def Pre_KDx (m : (ℓ : Loc Cert.KDx.nD Cert.KDx.τ Cert.KDx.sig) → Buf (Elt Bits) ℓ) : Prop :=
  True

def Pre_KDxIdeal (m : (ℓ : Loc Cert.KDxIdeal.nD Cert.KDxIdeal.τ Cert.KDxIdeal.sig) → Buf (Elt Ideal) ℓ) : Prop :=
  True

def Pre_KDxIdeal_normal_rmax [hPre_normal_rmax : Cert.Pre_normal_rmax.Facts] (m : (ℓ : Loc Cert.KDxIdeal.nD Cert.KDxIdeal.τ Cert.KDxIdeal.sig) → Buf (Elt Ideal) ℓ) : Prop :=
  ∀ c : Dev Cert.KDxIdeal.nD,
    (Cert.Pre_normal_rmax.fn (F := Ideal) (m ((c.tc : Thread Cert.KDxIdeal.nD Cert.KDxIdeal.τ).loc Cert.KDxIdeal.main_arg0)) (m ((c.tc : Thread Cert.KDxIdeal.nD Cert.KDxIdeal.τ).loc Cert.KDxIdeal.main_arg1)) (m ((c.tc : Thread Cert.KDxIdeal.nD Cert.KDxIdeal.τ).loc Cert.KDxIdeal.main_arg2)) (m ((c.tc : Thread Cert.KDxIdeal.nD Cert.KDxIdeal.τ).loc Cert.KDxIdeal.main_arg3)) (m ((c.tc : Thread Cert.KDxIdeal.nD Cert.KDxIdeal.τ).loc Cert.KDxIdeal.main_arg4)) (m ((c.tc : Thread Cert.KDxIdeal.nD Cert.KDxIdeal.τ).loc Cert.KDxIdeal.main_arg5)) (m ((c.tc : Thread Cert.KDxIdeal.nD Cert.KDxIdeal.τ).loc Cert.KDxIdeal.main_arg6)) (m ((c.tc : Thread Cert.KDxIdeal.nD Cert.KDxIdeal.τ).loc Cert.KDxIdeal.main_arg7)) (m ((c.tc : Thread Cert.KDxIdeal.nD Cert.KDxIdeal.τ).loc Cert.KDxIdeal.main_arg8)) (m ((c.tc : Thread Cert.KDxIdeal.nD Cert.KDxIdeal.τ).loc Cert.KDxIdeal.main_arg9)) (m ((c.tc : Thread Cert.KDxIdeal.nD Cert.KDxIdeal.τ).loc Cert.KDxIdeal.main_arg10)) (m ((c.tc : Thread Cert.KDxIdeal.nD Cert.KDxIdeal.τ).loc Cert.KDxIdeal.main_arg11)) (m ((c.tc : Thread Cert.KDxIdeal.nD Cert.KDxIdeal.τ).loc Cert.KDxIdeal.main_arg12)) (m ((c.tc : Thread Cert.KDxIdeal.nD Cert.KDxIdeal.τ).loc Cert.KDxIdeal.main_arg13))) = (fun _ => 1#1)

def Pre_RDxIdeal (m : (ℓ : Loc Cert.RDxIdeal.nD Cert.RDxIdeal.τ Cert.RDxIdeal.sig) → Buf (Elt Ideal) ℓ) : Prop :=
  True

def Pre_RDxIdeal_normal_rmax [hPre_normal_rmax : Cert.Pre_normal_rmax.Facts] (m : (ℓ : Loc Cert.RDxIdeal.nD Cert.RDxIdeal.τ Cert.RDxIdeal.sig) → Buf (Elt Ideal) ℓ) : Prop :=
  ∀ c : Dev Cert.RDxIdeal.nD,
    (Cert.Pre_normal_rmax.fn (F := Ideal) (m ((c.tc : Thread Cert.RDxIdeal.nD Cert.RDxIdeal.τ).loc Cert.RDxIdeal.main_arg0)) (m ((c.tc : Thread Cert.RDxIdeal.nD Cert.RDxIdeal.τ).loc Cert.RDxIdeal.main_arg1)) (m ((c.tc : Thread Cert.RDxIdeal.nD Cert.RDxIdeal.τ).loc Cert.RDxIdeal.main_arg2)) (m ((c.tc : Thread Cert.RDxIdeal.nD Cert.RDxIdeal.τ).loc Cert.RDxIdeal.main_arg3)) (m ((c.tc : Thread Cert.RDxIdeal.nD Cert.RDxIdeal.τ).loc Cert.RDxIdeal.main_arg4)) (m ((c.tc : Thread Cert.RDxIdeal.nD Cert.RDxIdeal.τ).loc Cert.RDxIdeal.main_arg5)) (m ((c.tc : Thread Cert.RDxIdeal.nD Cert.RDxIdeal.τ).loc Cert.RDxIdeal.main_arg6)) (m ((c.tc : Thread Cert.RDxIdeal.nD Cert.RDxIdeal.τ).loc Cert.RDxIdeal.main_arg7)) (m ((c.tc : Thread Cert.RDxIdeal.nD Cert.RDxIdeal.τ).loc Cert.RDxIdeal.main_arg8)) (m ((c.tc : Thread Cert.RDxIdeal.nD Cert.RDxIdeal.τ).loc Cert.RDxIdeal.main_arg9)) (m ((c.tc : Thread Cert.RDxIdeal.nD Cert.RDxIdeal.τ).loc Cert.RDxIdeal.main_arg10)) (m ((c.tc : Thread Cert.RDxIdeal.nD Cert.RDxIdeal.τ).loc Cert.RDxIdeal.main_arg11)) (m ((c.tc : Thread Cert.RDxIdeal.nD Cert.RDxIdeal.τ).loc Cert.RDxIdeal.main_arg12)) (m ((c.tc : Thread Cert.RDxIdeal.nD Cert.RDxIdeal.τ).loc Cert.RDxIdeal.main_arg13))) = (fun _ => 1#1)

def quiescent_KOut [hKOut : Cert.KOut.Facts] : Prop :=
  ∀ (m : (ℓ : Loc Cert.KOut.nD Cert.KOut.τ Cert.KOut.sig) → Buf (Elt Bits) ℓ) (g : Dev Cert.KOut.nD → PrngReg), Pre_KOut m →
    θ_run (Cert.KOut.defs (F := Bits)) (onTc (τ := Cert.KOut.τ) (Cert.KOut.main (F := Bits))) ⟨m, fun _ => 0, g⟩ (fun r => (∀ c : Dev Cert.KOut.nD,
      r.2.mem ((c.tc : Thread Cert.KOut.nD Cert.KOut.τ).loc Cert.KOut.main_arg0) = m ((c.tc : Thread Cert.KOut.nD Cert.KOut.τ).loc Cert.KOut.main_arg0)
      ∧ r.2.mem ((c.tc : Thread Cert.KOut.nD Cert.KOut.τ).loc Cert.KOut.main_arg1) = m ((c.tc : Thread Cert.KOut.nD Cert.KOut.τ).loc Cert.KOut.main_arg1)
      ∧ r.2.mem ((c.tc : Thread Cert.KOut.nD Cert.KOut.τ).loc Cert.KOut.main_arg2) = m ((c.tc : Thread Cert.KOut.nD Cert.KOut.τ).loc Cert.KOut.main_arg2)
      ∧ r.2.mem ((c.tc : Thread Cert.KOut.nD Cert.KOut.τ).loc Cert.KOut.main_arg3) = m ((c.tc : Thread Cert.KOut.nD Cert.KOut.τ).loc Cert.KOut.main_arg3))
      ∧ r.2.sem = fun _ => 0)

def quiescent_KOutIdeal [hKOutIdeal : Cert.KOutIdeal.Facts] : Prop :=
  ∀ (m : (ℓ : Loc Cert.KOutIdeal.nD Cert.KOutIdeal.τ Cert.KOutIdeal.sig) → Buf (Elt Ideal) ℓ) (g : Dev Cert.KOutIdeal.nD → PrngReg), Pre_KOutIdeal m →
    θ_run (Cert.KOutIdeal.defs (F := Ideal)) (onTc (τ := Cert.KOutIdeal.τ) (Cert.KOutIdeal.main (F := Ideal))) ⟨m, fun _ => 0, g⟩ (fun r => (∀ c : Dev Cert.KOutIdeal.nD,
      r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
      ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1)
      ∧ r.2.mem ((c.tc : Thread Cert.KOutIdeal.nD Cert.KOutIdeal.τ).loc Cert.KOutIdeal.main_arg2) = m ((c.tc : Thread Cert.KOutIdeal.nD Cert.KOutIdeal.τ).loc Cert.KOutIdeal.main_arg2)
      ∧ r.2.mem ((c.tc : Thread Cert.KOutIdeal.nD Cert.KOutIdeal.τ).loc Cert.KOutIdeal.main_arg3) = m ((c.tc : Thread Cert.KOutIdeal.nD Cert.KOutIdeal.τ).loc Cert.KOutIdeal.main_arg3))
      ∧ r.2.sem = fun _ => 0)

def quiescent_ROutIdeal [hROutIdeal : Cert.ROutIdeal.Facts] : Prop :=
  ∀ (m : (ℓ : Loc Cert.ROutIdeal.nD Cert.ROutIdeal.τ Cert.ROutIdeal.sig) → Buf (Elt Ideal) ℓ) (g : Dev Cert.ROutIdeal.nD → PrngReg), Pre_ROutIdeal m →
    θ_run (Cert.ROutIdeal.defs (F := Ideal)) (onTc (τ := Cert.ROutIdeal.τ) (Cert.ROutIdeal.main (F := Ideal))) ⟨m, fun _ => 0, g⟩ (fun r => (∀ c : Dev Cert.ROutIdeal.nD,
      r.2.mem ((c.tc : Thread Cert.ROutIdeal.nD Cert.ROutIdeal.τ).loc Cert.ROutIdeal.main_arg0) = m ((c.tc : Thread Cert.ROutIdeal.nD Cert.ROutIdeal.τ).loc Cert.ROutIdeal.main_arg0)
      ∧ r.2.mem ((c.tc : Thread Cert.ROutIdeal.nD Cert.ROutIdeal.τ).loc Cert.ROutIdeal.main_arg1) = m ((c.tc : Thread Cert.ROutIdeal.nD Cert.ROutIdeal.τ).loc Cert.ROutIdeal.main_arg1)
      ∧ r.2.mem ((c.tc : Thread Cert.ROutIdeal.nD Cert.ROutIdeal.τ).loc Cert.ROutIdeal.main_arg2) = m ((c.tc : Thread Cert.ROutIdeal.nD Cert.ROutIdeal.τ).loc Cert.ROutIdeal.main_arg2)
      ∧ r.2.mem ((c.tc : Thread Cert.ROutIdeal.nD Cert.ROutIdeal.τ).loc Cert.ROutIdeal.main_arg3) = m ((c.tc : Thread Cert.ROutIdeal.nD Cert.ROutIdeal.τ).loc Cert.ROutIdeal.main_arg3))
      ∧ r.2.sem = fun _ => 0)

def quiescent_KQkv [hKQkv : Cert.KQkv.Facts] : Prop :=
  ∀ (m : (ℓ : Loc Cert.KQkv.nD Cert.KQkv.τ Cert.KQkv.sig) → Buf (Elt Bits) ℓ) (g : Dev Cert.KQkv.nD → PrngReg), Pre_KQkv m →
    θ_run (Cert.KQkv.defs (F := Bits)) (onTc (τ := Cert.KQkv.τ) (Cert.KQkv.main (F := Bits))) ⟨m, fun _ => 0, g⟩ (fun r => (∀ c : Dev Cert.KQkv.nD,
      r.2.mem ((c.tc : Thread Cert.KQkv.nD Cert.KQkv.τ).loc Cert.KQkv.main_arg0) = m ((c.tc : Thread Cert.KQkv.nD Cert.KQkv.τ).loc Cert.KQkv.main_arg0)
      ∧ r.2.mem ((c.tc : Thread Cert.KQkv.nD Cert.KQkv.τ).loc Cert.KQkv.main_arg1) = m ((c.tc : Thread Cert.KQkv.nD Cert.KQkv.τ).loc Cert.KQkv.main_arg1)
      ∧ r.2.mem ((c.tc : Thread Cert.KQkv.nD Cert.KQkv.τ).loc Cert.KQkv.main_arg2) = m ((c.tc : Thread Cert.KQkv.nD Cert.KQkv.τ).loc Cert.KQkv.main_arg2)
      ∧ r.2.mem ((c.tc : Thread Cert.KQkv.nD Cert.KQkv.τ).loc Cert.KQkv.main_arg3) = m ((c.tc : Thread Cert.KQkv.nD Cert.KQkv.τ).loc Cert.KQkv.main_arg3)
      ∧ r.2.mem ((c.tc : Thread Cert.KQkv.nD Cert.KQkv.τ).loc Cert.KQkv.main_arg4) = m ((c.tc : Thread Cert.KQkv.nD Cert.KQkv.τ).loc Cert.KQkv.main_arg4))
      ∧ r.2.sem = fun _ => 0)

def quiescent_KQkvIdeal [hKQkvIdeal : Cert.KQkvIdeal.Facts] : Prop :=
  ∀ (m : (ℓ : Loc Cert.KQkvIdeal.nD Cert.KQkvIdeal.τ Cert.KQkvIdeal.sig) → Buf (Elt Ideal) ℓ) (g : Dev Cert.KQkvIdeal.nD → PrngReg), Pre_KQkvIdeal m →
    θ_run (Cert.KQkvIdeal.defs (F := Ideal)) (onTc (τ := Cert.KQkvIdeal.τ) (Cert.KQkvIdeal.main (F := Ideal))) ⟨m, fun _ => 0, g⟩ (fun r => (∀ c : Dev Cert.KQkvIdeal.nD,
      r.2.mem ((c.tc : Thread Cert.KQkvIdeal.nD Cert.KQkvIdeal.τ).loc Cert.KQkvIdeal.main_arg0) = m ((c.tc : Thread Cert.KQkvIdeal.nD Cert.KQkvIdeal.τ).loc Cert.KQkvIdeal.main_arg0)
      ∧ r.2.mem ((c.tc : Thread Cert.KQkvIdeal.nD Cert.KQkvIdeal.τ).loc Cert.KQkvIdeal.main_arg1) = m ((c.tc : Thread Cert.KQkvIdeal.nD Cert.KQkvIdeal.τ).loc Cert.KQkvIdeal.main_arg1)
      ∧ r.2.mem ((c.tc : Thread Cert.KQkvIdeal.nD Cert.KQkvIdeal.τ).loc Cert.KQkvIdeal.main_arg2) = m ((c.tc : Thread Cert.KQkvIdeal.nD Cert.KQkvIdeal.τ).loc Cert.KQkvIdeal.main_arg2)
      ∧ r.2.mem ((c.tc : Thread Cert.KQkvIdeal.nD Cert.KQkvIdeal.τ).loc Cert.KQkvIdeal.main_arg3) = m ((c.tc : Thread Cert.KQkvIdeal.nD Cert.KQkvIdeal.τ).loc Cert.KQkvIdeal.main_arg3)
      ∧ r.2.mem ((c.tc : Thread Cert.KQkvIdeal.nD Cert.KQkvIdeal.τ).loc Cert.KQkvIdeal.main_arg4) = m ((c.tc : Thread Cert.KQkvIdeal.nD Cert.KQkvIdeal.τ).loc Cert.KQkvIdeal.main_arg4))
      ∧ r.2.sem = fun _ => 0)

def quiescent_RQkvIdeal [hRQkvIdeal : Cert.RQkvIdeal.Facts] : Prop :=
  ∀ (m : (ℓ : Loc Cert.RQkvIdeal.nD Cert.RQkvIdeal.τ Cert.RQkvIdeal.sig) → Buf (Elt Ideal) ℓ) (g : Dev Cert.RQkvIdeal.nD → PrngReg), Pre_RQkvIdeal m →
    θ_run (Cert.RQkvIdeal.defs (F := Ideal)) (onTc (τ := Cert.RQkvIdeal.τ) (Cert.RQkvIdeal.main (F := Ideal))) ⟨m, fun _ => 0, g⟩ (fun r => (∀ c : Dev Cert.RQkvIdeal.nD,
      r.2.mem ((c.tc : Thread Cert.RQkvIdeal.nD Cert.RQkvIdeal.τ).loc Cert.RQkvIdeal.main_arg0) = m ((c.tc : Thread Cert.RQkvIdeal.nD Cert.RQkvIdeal.τ).loc Cert.RQkvIdeal.main_arg0)
      ∧ r.2.mem ((c.tc : Thread Cert.RQkvIdeal.nD Cert.RQkvIdeal.τ).loc Cert.RQkvIdeal.main_arg1) = m ((c.tc : Thread Cert.RQkvIdeal.nD Cert.RQkvIdeal.τ).loc Cert.RQkvIdeal.main_arg1)
      ∧ r.2.mem ((c.tc : Thread Cert.RQkvIdeal.nD Cert.RQkvIdeal.τ).loc Cert.RQkvIdeal.main_arg2) = m ((c.tc : Thread Cert.RQkvIdeal.nD Cert.RQkvIdeal.τ).loc Cert.RQkvIdeal.main_arg2)
      ∧ r.2.mem ((c.tc : Thread Cert.RQkvIdeal.nD Cert.RQkvIdeal.τ).loc Cert.RQkvIdeal.main_arg3) = m ((c.tc : Thread Cert.RQkvIdeal.nD Cert.RQkvIdeal.τ).loc Cert.RQkvIdeal.main_arg3)
      ∧ r.2.mem ((c.tc : Thread Cert.RQkvIdeal.nD Cert.RQkvIdeal.τ).loc Cert.RQkvIdeal.main_arg4) = m ((c.tc : Thread Cert.RQkvIdeal.nD Cert.RQkvIdeal.τ).loc Cert.RQkvIdeal.main_arg4))
      ∧ r.2.sem = fun _ => 0)

def quiescent_KIn [hKIn : Cert.KIn.Facts] : Prop :=
  ∀ (m : (ℓ : Loc Cert.KIn.nD Cert.KIn.τ Cert.KIn.sig) → Buf (Elt Bits) ℓ) (g : Dev Cert.KIn.nD → PrngReg), Pre_KIn m →
    θ_run (Cert.KIn.defs (F := Bits)) (onTc (τ := Cert.KIn.τ) (Cert.KIn.main (F := Bits))) ⟨m, fun _ => 0, g⟩ (fun r => (∀ c : Dev Cert.KIn.nD,
      r.2.mem ((c.tc : Thread Cert.KIn.nD Cert.KIn.τ).loc Cert.KIn.main_arg0) = m ((c.tc : Thread Cert.KIn.nD Cert.KIn.τ).loc Cert.KIn.main_arg0)
      ∧ r.2.mem ((c.tc : Thread Cert.KIn.nD Cert.KIn.τ).loc Cert.KIn.main_arg1) = m ((c.tc : Thread Cert.KIn.nD Cert.KIn.τ).loc Cert.KIn.main_arg1)
      ∧ r.2.mem ((c.tc : Thread Cert.KIn.nD Cert.KIn.τ).loc Cert.KIn.main_arg2) = m ((c.tc : Thread Cert.KIn.nD Cert.KIn.τ).loc Cert.KIn.main_arg2)
      ∧ r.2.mem ((c.tc : Thread Cert.KIn.nD Cert.KIn.τ).loc Cert.KIn.main_arg3) = m ((c.tc : Thread Cert.KIn.nD Cert.KIn.τ).loc Cert.KIn.main_arg3)
      ∧ r.2.mem ((c.tc : Thread Cert.KIn.nD Cert.KIn.τ).loc Cert.KIn.main_arg4) = m ((c.tc : Thread Cert.KIn.nD Cert.KIn.τ).loc Cert.KIn.main_arg4))
      ∧ r.2.sem = fun _ => 0)

def quiescent_KInIdeal [hKInIdeal : Cert.KInIdeal.Facts] : Prop :=
  ∀ (m : (ℓ : Loc Cert.KInIdeal.nD Cert.KInIdeal.τ Cert.KInIdeal.sig) → Buf (Elt Ideal) ℓ) (g : Dev Cert.KInIdeal.nD → PrngReg), Pre_KInIdeal m →
    θ_run (Cert.KInIdeal.defs (F := Ideal)) (onTc (τ := Cert.KInIdeal.τ) (Cert.KInIdeal.main (F := Ideal))) ⟨m, fun _ => 0, g⟩ (fun r => (∀ c : Dev Cert.KInIdeal.nD,
      r.2.mem ((c.tc : Thread Cert.KInIdeal.nD Cert.KInIdeal.τ).loc Cert.KInIdeal.main_arg0) = m ((c.tc : Thread Cert.KInIdeal.nD Cert.KInIdeal.τ).loc Cert.KInIdeal.main_arg0)
      ∧ r.2.mem ((c.tc : Thread Cert.KInIdeal.nD Cert.KInIdeal.τ).loc Cert.KInIdeal.main_arg1) = m ((c.tc : Thread Cert.KInIdeal.nD Cert.KInIdeal.τ).loc Cert.KInIdeal.main_arg1)
      ∧ r.2.mem ((c.tc : Thread Cert.KInIdeal.nD Cert.KInIdeal.τ).loc Cert.KInIdeal.main_arg2) = m ((c.tc : Thread Cert.KInIdeal.nD Cert.KInIdeal.τ).loc Cert.KInIdeal.main_arg2)
      ∧ r.2.mem ((c.tc : Thread Cert.KInIdeal.nD Cert.KInIdeal.τ).loc Cert.KInIdeal.main_arg3) = m ((c.tc : Thread Cert.KInIdeal.nD Cert.KInIdeal.τ).loc Cert.KInIdeal.main_arg3)
      ∧ r.2.mem ((c.tc : Thread Cert.KInIdeal.nD Cert.KInIdeal.τ).loc Cert.KInIdeal.main_arg4) = m ((c.tc : Thread Cert.KInIdeal.nD Cert.KInIdeal.τ).loc Cert.KInIdeal.main_arg4))
      ∧ r.2.sem = fun _ => 0)

def quiescent_KInIdeal_pre_normal_cmax [hKInIdeal : Cert.KInIdeal.Facts] [hPre_normal_cmax : Cert.Pre_normal_cmax.Facts] : Prop :=
  ∀ (m : (ℓ : Loc Cert.KInIdeal.nD Cert.KInIdeal.τ Cert.KInIdeal.sig) → Buf (Elt Ideal) ℓ) (g : Dev Cert.KInIdeal.nD → PrngReg), Pre_KInIdeal_normal_cmax m →
    θ_run (Cert.KInIdeal.defs (F := Ideal)) (onTc (τ := Cert.KInIdeal.τ) (Cert.KInIdeal.main (F := Ideal))) ⟨m, fun _ => 0, g⟩ (fun r => (∀ c : Dev Cert.KInIdeal.nD,
      r.2.mem ((c.tc : Thread Cert.KInIdeal.nD Cert.KInIdeal.τ).loc Cert.KInIdeal.main_arg0) = m ((c.tc : Thread Cert.KInIdeal.nD Cert.KInIdeal.τ).loc Cert.KInIdeal.main_arg0)
      ∧ r.2.mem ((c.tc : Thread Cert.KInIdeal.nD Cert.KInIdeal.τ).loc Cert.KInIdeal.main_arg1) = m ((c.tc : Thread Cert.KInIdeal.nD Cert.KInIdeal.τ).loc Cert.KInIdeal.main_arg1)
      ∧ r.2.mem ((c.tc : Thread Cert.KInIdeal.nD Cert.KInIdeal.τ).loc Cert.KInIdeal.main_arg2) = m ((c.tc : Thread Cert.KInIdeal.nD Cert.KInIdeal.τ).loc Cert.KInIdeal.main_arg2)
      ∧ r.2.mem ((c.tc : Thread Cert.KInIdeal.nD Cert.KInIdeal.τ).loc Cert.KInIdeal.main_arg3) = m ((c.tc : Thread Cert.KInIdeal.nD Cert.KInIdeal.τ).loc Cert.KInIdeal.main_arg3)
      ∧ r.2.mem ((c.tc : Thread Cert.KInIdeal.nD Cert.KInIdeal.τ).loc Cert.KInIdeal.main_arg4) = m ((c.tc : Thread Cert.KInIdeal.nD Cert.KInIdeal.τ).loc Cert.KInIdeal.main_arg4))
      ∧ r.2.sem = fun _ => 0)

def quiescent_RInIdeal [hRInIdeal : Cert.RInIdeal.Facts] : Prop :=
  ∀ (m : (ℓ : Loc Cert.RInIdeal.nD Cert.RInIdeal.τ Cert.RInIdeal.sig) → Buf (Elt Ideal) ℓ) (g : Dev Cert.RInIdeal.nD → PrngReg), Pre_RInIdeal m →
    θ_run (Cert.RInIdeal.defs (F := Ideal)) (onTc (τ := Cert.RInIdeal.τ) (Cert.RInIdeal.main (F := Ideal))) ⟨m, fun _ => 0, g⟩ (fun r => (∀ c : Dev Cert.RInIdeal.nD,
      r.2.mem ((c.tc : Thread Cert.RInIdeal.nD Cert.RInIdeal.τ).loc Cert.RInIdeal.main_arg0) = m ((c.tc : Thread Cert.RInIdeal.nD Cert.RInIdeal.τ).loc Cert.RInIdeal.main_arg0)
      ∧ r.2.mem ((c.tc : Thread Cert.RInIdeal.nD Cert.RInIdeal.τ).loc Cert.RInIdeal.main_arg1) = m ((c.tc : Thread Cert.RInIdeal.nD Cert.RInIdeal.τ).loc Cert.RInIdeal.main_arg1)
      ∧ r.2.mem ((c.tc : Thread Cert.RInIdeal.nD Cert.RInIdeal.τ).loc Cert.RInIdeal.main_arg2) = m ((c.tc : Thread Cert.RInIdeal.nD Cert.RInIdeal.τ).loc Cert.RInIdeal.main_arg2)
      ∧ r.2.mem ((c.tc : Thread Cert.RInIdeal.nD Cert.RInIdeal.τ).loc Cert.RInIdeal.main_arg3) = m ((c.tc : Thread Cert.RInIdeal.nD Cert.RInIdeal.τ).loc Cert.RInIdeal.main_arg3)
      ∧ r.2.mem ((c.tc : Thread Cert.RInIdeal.nD Cert.RInIdeal.τ).loc Cert.RInIdeal.main_arg4) = m ((c.tc : Thread Cert.RInIdeal.nD Cert.RInIdeal.τ).loc Cert.RInIdeal.main_arg4))
      ∧ r.2.sem = fun _ => 0)

def quiescent_RInIdeal_pre_normal_cmax [hRInIdeal : Cert.RInIdeal.Facts] [hPre_normal_cmax : Cert.Pre_normal_cmax.Facts] : Prop :=
  ∀ (m : (ℓ : Loc Cert.RInIdeal.nD Cert.RInIdeal.τ Cert.RInIdeal.sig) → Buf (Elt Ideal) ℓ) (g : Dev Cert.RInIdeal.nD → PrngReg), Pre_RInIdeal_normal_cmax m →
    θ_run (Cert.RInIdeal.defs (F := Ideal)) (onTc (τ := Cert.RInIdeal.τ) (Cert.RInIdeal.main (F := Ideal))) ⟨m, fun _ => 0, g⟩ (fun r => (∀ c : Dev Cert.RInIdeal.nD,
      r.2.mem ((c.tc : Thread Cert.RInIdeal.nD Cert.RInIdeal.τ).loc Cert.RInIdeal.main_arg0) = m ((c.tc : Thread Cert.RInIdeal.nD Cert.RInIdeal.τ).loc Cert.RInIdeal.main_arg0)
      ∧ r.2.mem ((c.tc : Thread Cert.RInIdeal.nD Cert.RInIdeal.τ).loc Cert.RInIdeal.main_arg1) = m ((c.tc : Thread Cert.RInIdeal.nD Cert.RInIdeal.τ).loc Cert.RInIdeal.main_arg1)
      ∧ r.2.mem ((c.tc : Thread Cert.RInIdeal.nD Cert.RInIdeal.τ).loc Cert.RInIdeal.main_arg2) = m ((c.tc : Thread Cert.RInIdeal.nD Cert.RInIdeal.τ).loc Cert.RInIdeal.main_arg2)
      ∧ r.2.mem ((c.tc : Thread Cert.RInIdeal.nD Cert.RInIdeal.τ).loc Cert.RInIdeal.main_arg3) = m ((c.tc : Thread Cert.RInIdeal.nD Cert.RInIdeal.τ).loc Cert.RInIdeal.main_arg3)
      ∧ r.2.mem ((c.tc : Thread Cert.RInIdeal.nD Cert.RInIdeal.τ).loc Cert.RInIdeal.main_arg4) = m ((c.tc : Thread Cert.RInIdeal.nD Cert.RInIdeal.τ).loc Cert.RInIdeal.main_arg4))
      ∧ r.2.sem = fun _ => 0)

def quiescent_KDx [hKDx : Cert.KDx.Facts] : Prop :=
  ∀ (m : (ℓ : Loc Cert.KDx.nD Cert.KDx.τ Cert.KDx.sig) → Buf (Elt Bits) ℓ) (g : Dev Cert.KDx.nD → PrngReg), Pre_KDx m →
    θ_run (Cert.KDx.defs (F := Bits)) (onTc (τ := Cert.KDx.τ) (Cert.KDx.main (F := Bits))) ⟨m, fun _ => 0, g⟩ (fun r => (∀ c : Dev Cert.KDx.nD,
      r.2.mem ((c.tc : Thread Cert.KDx.nD Cert.KDx.τ).loc Cert.KDx.main_arg0) = m ((c.tc : Thread Cert.KDx.nD Cert.KDx.τ).loc Cert.KDx.main_arg0)
      ∧ r.2.mem ((c.tc : Thread Cert.KDx.nD Cert.KDx.τ).loc Cert.KDx.main_arg1) = m ((c.tc : Thread Cert.KDx.nD Cert.KDx.τ).loc Cert.KDx.main_arg1)
      ∧ r.2.mem ((c.tc : Thread Cert.KDx.nD Cert.KDx.τ).loc Cert.KDx.main_arg2) = m ((c.tc : Thread Cert.KDx.nD Cert.KDx.τ).loc Cert.KDx.main_arg2)
      ∧ r.2.mem ((c.tc : Thread Cert.KDx.nD Cert.KDx.τ).loc Cert.KDx.main_arg3) = m ((c.tc : Thread Cert.KDx.nD Cert.KDx.τ).loc Cert.KDx.main_arg3)
      ∧ r.2.mem ((c.tc : Thread Cert.KDx.nD Cert.KDx.τ).loc Cert.KDx.main_arg4) = m ((c.tc : Thread Cert.KDx.nD Cert.KDx.τ).loc Cert.KDx.main_arg4)
      ∧ r.2.mem ((c.tc : Thread Cert.KDx.nD Cert.KDx.τ).loc Cert.KDx.main_arg5) = m ((c.tc : Thread Cert.KDx.nD Cert.KDx.τ).loc Cert.KDx.main_arg5)
      ∧ r.2.mem ((c.tc : Thread Cert.KDx.nD Cert.KDx.τ).loc Cert.KDx.main_arg6) = m ((c.tc : Thread Cert.KDx.nD Cert.KDx.τ).loc Cert.KDx.main_arg6)
      ∧ r.2.mem ((c.tc : Thread Cert.KDx.nD Cert.KDx.τ).loc Cert.KDx.main_arg7) = m ((c.tc : Thread Cert.KDx.nD Cert.KDx.τ).loc Cert.KDx.main_arg7)
      ∧ r.2.mem ((c.tc : Thread Cert.KDx.nD Cert.KDx.τ).loc Cert.KDx.main_arg8) = m ((c.tc : Thread Cert.KDx.nD Cert.KDx.τ).loc Cert.KDx.main_arg8)
      ∧ r.2.mem ((c.tc : Thread Cert.KDx.nD Cert.KDx.τ).loc Cert.KDx.main_arg9) = m ((c.tc : Thread Cert.KDx.nD Cert.KDx.τ).loc Cert.KDx.main_arg9)
      ∧ r.2.mem ((c.tc : Thread Cert.KDx.nD Cert.KDx.τ).loc Cert.KDx.main_arg10) = m ((c.tc : Thread Cert.KDx.nD Cert.KDx.τ).loc Cert.KDx.main_arg10)
      ∧ r.2.mem ((c.tc : Thread Cert.KDx.nD Cert.KDx.τ).loc Cert.KDx.main_arg11) = m ((c.tc : Thread Cert.KDx.nD Cert.KDx.τ).loc Cert.KDx.main_arg11)
      ∧ r.2.mem ((c.tc : Thread Cert.KDx.nD Cert.KDx.τ).loc Cert.KDx.main_arg12) = m ((c.tc : Thread Cert.KDx.nD Cert.KDx.τ).loc Cert.KDx.main_arg12)
      ∧ r.2.mem ((c.tc : Thread Cert.KDx.nD Cert.KDx.τ).loc Cert.KDx.main_arg13) = m ((c.tc : Thread Cert.KDx.nD Cert.KDx.τ).loc Cert.KDx.main_arg13))
      ∧ r.2.sem = fun _ => 0)

def quiescent_KDxIdeal [hKDxIdeal : Cert.KDxIdeal.Facts] : Prop :=
  ∀ (m : (ℓ : Loc Cert.KDxIdeal.nD Cert.KDxIdeal.τ Cert.KDxIdeal.sig) → Buf (Elt Ideal) ℓ) (g : Dev Cert.KDxIdeal.nD → PrngReg), Pre_KDxIdeal m →
    θ_run (Cert.KDxIdeal.defs (F := Ideal)) (onTc (τ := Cert.KDxIdeal.τ) (Cert.KDxIdeal.main (F := Ideal))) ⟨m, fun _ => 0, g⟩ (fun r => (∀ c : Dev Cert.KDxIdeal.nD,
      r.2.mem ((c.tc : Thread Cert.KDxIdeal.nD Cert.KDxIdeal.τ).loc Cert.KDxIdeal.main_arg0) = m ((c.tc : Thread Cert.KDxIdeal.nD Cert.KDxIdeal.τ).loc Cert.KDxIdeal.main_arg0)
      ∧ r.2.mem ((c.tc : Thread Cert.KDxIdeal.nD Cert.KDxIdeal.τ).loc Cert.KDxIdeal.main_arg1) = m ((c.tc : Thread Cert.KDxIdeal.nD Cert.KDxIdeal.τ).loc Cert.KDxIdeal.main_arg1)
      ∧ r.2.mem ((c.tc : Thread Cert.KDxIdeal.nD Cert.KDxIdeal.τ).loc Cert.KDxIdeal.main_arg2) = m ((c.tc : Thread Cert.KDxIdeal.nD Cert.KDxIdeal.τ).loc Cert.KDxIdeal.main_arg2)
      ∧ r.2.mem ((c.tc : Thread Cert.KDxIdeal.nD Cert.KDxIdeal.τ).loc Cert.KDxIdeal.main_arg3) = m ((c.tc : Thread Cert.KDxIdeal.nD Cert.KDxIdeal.τ).loc Cert.KDxIdeal.main_arg3)
      ∧ r.2.mem ((c.tc : Thread Cert.KDxIdeal.nD Cert.KDxIdeal.τ).loc Cert.KDxIdeal.main_arg4) = m ((c.tc : Thread Cert.KDxIdeal.nD Cert.KDxIdeal.τ).loc Cert.KDxIdeal.main_arg4)
      ∧ r.2.mem ((c.tc : Thread Cert.KDxIdeal.nD Cert.KDxIdeal.τ).loc Cert.KDxIdeal.main_arg5) = m ((c.tc : Thread Cert.KDxIdeal.nD Cert.KDxIdeal.τ).loc Cert.KDxIdeal.main_arg5)
      ∧ r.2.mem ((c.tc : Thread Cert.KDxIdeal.nD Cert.KDxIdeal.τ).loc Cert.KDxIdeal.main_arg6) = m ((c.tc : Thread Cert.KDxIdeal.nD Cert.KDxIdeal.τ).loc Cert.KDxIdeal.main_arg6)
      ∧ r.2.mem ((c.tc : Thread Cert.KDxIdeal.nD Cert.KDxIdeal.τ).loc Cert.KDxIdeal.main_arg7) = m ((c.tc : Thread Cert.KDxIdeal.nD Cert.KDxIdeal.τ).loc Cert.KDxIdeal.main_arg7)
      ∧ r.2.mem ((c.tc : Thread Cert.KDxIdeal.nD Cert.KDxIdeal.τ).loc Cert.KDxIdeal.main_arg8) = m ((c.tc : Thread Cert.KDxIdeal.nD Cert.KDxIdeal.τ).loc Cert.KDxIdeal.main_arg8)
      ∧ r.2.mem ((c.tc : Thread Cert.KDxIdeal.nD Cert.KDxIdeal.τ).loc Cert.KDxIdeal.main_arg9) = m ((c.tc : Thread Cert.KDxIdeal.nD Cert.KDxIdeal.τ).loc Cert.KDxIdeal.main_arg9)
      ∧ r.2.mem ((c.tc : Thread Cert.KDxIdeal.nD Cert.KDxIdeal.τ).loc Cert.KDxIdeal.main_arg10) = m ((c.tc : Thread Cert.KDxIdeal.nD Cert.KDxIdeal.τ).loc Cert.KDxIdeal.main_arg10)
      ∧ r.2.mem ((c.tc : Thread Cert.KDxIdeal.nD Cert.KDxIdeal.τ).loc Cert.KDxIdeal.main_arg11) = m ((c.tc : Thread Cert.KDxIdeal.nD Cert.KDxIdeal.τ).loc Cert.KDxIdeal.main_arg11)
      ∧ r.2.mem ((c.tc : Thread Cert.KDxIdeal.nD Cert.KDxIdeal.τ).loc Cert.KDxIdeal.main_arg12) = m ((c.tc : Thread Cert.KDxIdeal.nD Cert.KDxIdeal.τ).loc Cert.KDxIdeal.main_arg12)
      ∧ r.2.mem ((c.tc : Thread Cert.KDxIdeal.nD Cert.KDxIdeal.τ).loc Cert.KDxIdeal.main_arg13) = m ((c.tc : Thread Cert.KDxIdeal.nD Cert.KDxIdeal.τ).loc Cert.KDxIdeal.main_arg13))
      ∧ r.2.sem = fun _ => 0)

def quiescent_KDxIdeal_pre_normal_rmax [hKDxIdeal : Cert.KDxIdeal.Facts] [hPre_normal_rmax : Cert.Pre_normal_rmax.Facts] : Prop :=
  ∀ (m : (ℓ : Loc Cert.KDxIdeal.nD Cert.KDxIdeal.τ Cert.KDxIdeal.sig) → Buf (Elt Ideal) ℓ) (g : Dev Cert.KDxIdeal.nD → PrngReg), Pre_KDxIdeal_normal_rmax m →
    θ_run (Cert.KDxIdeal.defs (F := Ideal)) (onTc (τ := Cert.KDxIdeal.τ) (Cert.KDxIdeal.main (F := Ideal))) ⟨m, fun _ => 0, g⟩ (fun r => (∀ c : Dev Cert.KDxIdeal.nD,
      r.2.mem ((c.tc : Thread Cert.KDxIdeal.nD Cert.KDxIdeal.τ).loc Cert.KDxIdeal.main_arg0) = m ((c.tc : Thread Cert.KDxIdeal.nD Cert.KDxIdeal.τ).loc Cert.KDxIdeal.main_arg0)
      ∧ r.2.mem ((c.tc : Thread Cert.KDxIdeal.nD Cert.KDxIdeal.τ).loc Cert.KDxIdeal.main_arg1) = m ((c.tc : Thread Cert.KDxIdeal.nD Cert.KDxIdeal.τ).loc Cert.KDxIdeal.main_arg1)
      ∧ r.2.mem ((c.tc : Thread Cert.KDxIdeal.nD Cert.KDxIdeal.τ).loc Cert.KDxIdeal.main_arg2) = m ((c.tc : Thread Cert.KDxIdeal.nD Cert.KDxIdeal.τ).loc Cert.KDxIdeal.main_arg2)
      ∧ r.2.mem ((c.tc : Thread Cert.KDxIdeal.nD Cert.KDxIdeal.τ).loc Cert.KDxIdeal.main_arg3) = m ((c.tc : Thread Cert.KDxIdeal.nD Cert.KDxIdeal.τ).loc Cert.KDxIdeal.main_arg3)
      ∧ r.2.mem ((c.tc : Thread Cert.KDxIdeal.nD Cert.KDxIdeal.τ).loc Cert.KDxIdeal.main_arg4) = m ((c.tc : Thread Cert.KDxIdeal.nD Cert.KDxIdeal.τ).loc Cert.KDxIdeal.main_arg4)
      ∧ r.2.mem ((c.tc : Thread Cert.KDxIdeal.nD Cert.KDxIdeal.τ).loc Cert.KDxIdeal.main_arg5) = m ((c.tc : Thread Cert.KDxIdeal.nD Cert.KDxIdeal.τ).loc Cert.KDxIdeal.main_arg5)
      ∧ r.2.mem ((c.tc : Thread Cert.KDxIdeal.nD Cert.KDxIdeal.τ).loc Cert.KDxIdeal.main_arg6) = m ((c.tc : Thread Cert.KDxIdeal.nD Cert.KDxIdeal.τ).loc Cert.KDxIdeal.main_arg6)
      ∧ r.2.mem ((c.tc : Thread Cert.KDxIdeal.nD Cert.KDxIdeal.τ).loc Cert.KDxIdeal.main_arg7) = m ((c.tc : Thread Cert.KDxIdeal.nD Cert.KDxIdeal.τ).loc Cert.KDxIdeal.main_arg7)
      ∧ r.2.mem ((c.tc : Thread Cert.KDxIdeal.nD Cert.KDxIdeal.τ).loc Cert.KDxIdeal.main_arg8) = m ((c.tc : Thread Cert.KDxIdeal.nD Cert.KDxIdeal.τ).loc Cert.KDxIdeal.main_arg8)
      ∧ r.2.mem ((c.tc : Thread Cert.KDxIdeal.nD Cert.KDxIdeal.τ).loc Cert.KDxIdeal.main_arg9) = m ((c.tc : Thread Cert.KDxIdeal.nD Cert.KDxIdeal.τ).loc Cert.KDxIdeal.main_arg9)
      ∧ r.2.mem ((c.tc : Thread Cert.KDxIdeal.nD Cert.KDxIdeal.τ).loc Cert.KDxIdeal.main_arg10) = m ((c.tc : Thread Cert.KDxIdeal.nD Cert.KDxIdeal.τ).loc Cert.KDxIdeal.main_arg10)
      ∧ r.2.mem ((c.tc : Thread Cert.KDxIdeal.nD Cert.KDxIdeal.τ).loc Cert.KDxIdeal.main_arg11) = m ((c.tc : Thread Cert.KDxIdeal.nD Cert.KDxIdeal.τ).loc Cert.KDxIdeal.main_arg11)
      ∧ r.2.mem ((c.tc : Thread Cert.KDxIdeal.nD Cert.KDxIdeal.τ).loc Cert.KDxIdeal.main_arg12) = m ((c.tc : Thread Cert.KDxIdeal.nD Cert.KDxIdeal.τ).loc Cert.KDxIdeal.main_arg12)
      ∧ r.2.mem ((c.tc : Thread Cert.KDxIdeal.nD Cert.KDxIdeal.τ).loc Cert.KDxIdeal.main_arg13) = m ((c.tc : Thread Cert.KDxIdeal.nD Cert.KDxIdeal.τ).loc Cert.KDxIdeal.main_arg13))
      ∧ r.2.sem = fun _ => 0)

def quiescent_RDxIdeal [hRDxIdeal : Cert.RDxIdeal.Facts] : Prop :=
  ∀ (m : (ℓ : Loc Cert.RDxIdeal.nD Cert.RDxIdeal.τ Cert.RDxIdeal.sig) → Buf (Elt Ideal) ℓ) (g : Dev Cert.RDxIdeal.nD → PrngReg), Pre_RDxIdeal m →
    θ_run (Cert.RDxIdeal.defs (F := Ideal)) (onTc (τ := Cert.RDxIdeal.τ) (Cert.RDxIdeal.main (F := Ideal))) ⟨m, fun _ => 0, g⟩ (fun r => (∀ c : Dev Cert.RDxIdeal.nD,
      r.2.mem ((c.tc : Thread Cert.RDxIdeal.nD Cert.RDxIdeal.τ).loc Cert.RDxIdeal.main_arg0) = m ((c.tc : Thread Cert.RDxIdeal.nD Cert.RDxIdeal.τ).loc Cert.RDxIdeal.main_arg0)
      ∧ r.2.mem ((c.tc : Thread Cert.RDxIdeal.nD Cert.RDxIdeal.τ).loc Cert.RDxIdeal.main_arg1) = m ((c.tc : Thread Cert.RDxIdeal.nD Cert.RDxIdeal.τ).loc Cert.RDxIdeal.main_arg1)
      ∧ r.2.mem ((c.tc : Thread Cert.RDxIdeal.nD Cert.RDxIdeal.τ).loc Cert.RDxIdeal.main_arg2) = m ((c.tc : Thread Cert.RDxIdeal.nD Cert.RDxIdeal.τ).loc Cert.RDxIdeal.main_arg2)
      ∧ r.2.mem ((c.tc : Thread Cert.RDxIdeal.nD Cert.RDxIdeal.τ).loc Cert.RDxIdeal.main_arg3) = m ((c.tc : Thread Cert.RDxIdeal.nD Cert.RDxIdeal.τ).loc Cert.RDxIdeal.main_arg3)
      ∧ r.2.mem ((c.tc : Thread Cert.RDxIdeal.nD Cert.RDxIdeal.τ).loc Cert.RDxIdeal.main_arg4) = m ((c.tc : Thread Cert.RDxIdeal.nD Cert.RDxIdeal.τ).loc Cert.RDxIdeal.main_arg4)
      ∧ r.2.mem ((c.tc : Thread Cert.RDxIdeal.nD Cert.RDxIdeal.τ).loc Cert.RDxIdeal.main_arg5) = m ((c.tc : Thread Cert.RDxIdeal.nD Cert.RDxIdeal.τ).loc Cert.RDxIdeal.main_arg5)
      ∧ r.2.mem ((c.tc : Thread Cert.RDxIdeal.nD Cert.RDxIdeal.τ).loc Cert.RDxIdeal.main_arg6) = m ((c.tc : Thread Cert.RDxIdeal.nD Cert.RDxIdeal.τ).loc Cert.RDxIdeal.main_arg6)
      ∧ r.2.mem ((c.tc : Thread Cert.RDxIdeal.nD Cert.RDxIdeal.τ).loc Cert.RDxIdeal.main_arg7) = m ((c.tc : Thread Cert.RDxIdeal.nD Cert.RDxIdeal.τ).loc Cert.RDxIdeal.main_arg7)
      ∧ r.2.mem ((c.tc : Thread Cert.RDxIdeal.nD Cert.RDxIdeal.τ).loc Cert.RDxIdeal.main_arg8) = m ((c.tc : Thread Cert.RDxIdeal.nD Cert.RDxIdeal.τ).loc Cert.RDxIdeal.main_arg8)
      ∧ r.2.mem ((c.tc : Thread Cert.RDxIdeal.nD Cert.RDxIdeal.τ).loc Cert.RDxIdeal.main_arg9) = m ((c.tc : Thread Cert.RDxIdeal.nD Cert.RDxIdeal.τ).loc Cert.RDxIdeal.main_arg9)
      ∧ r.2.mem ((c.tc : Thread Cert.RDxIdeal.nD Cert.RDxIdeal.τ).loc Cert.RDxIdeal.main_arg10) = m ((c.tc : Thread Cert.RDxIdeal.nD Cert.RDxIdeal.τ).loc Cert.RDxIdeal.main_arg10)
      ∧ r.2.mem ((c.tc : Thread Cert.RDxIdeal.nD Cert.RDxIdeal.τ).loc Cert.RDxIdeal.main_arg11) = m ((c.tc : Thread Cert.RDxIdeal.nD Cert.RDxIdeal.τ).loc Cert.RDxIdeal.main_arg11)
      ∧ r.2.mem ((c.tc : Thread Cert.RDxIdeal.nD Cert.RDxIdeal.τ).loc Cert.RDxIdeal.main_arg12) = m ((c.tc : Thread Cert.RDxIdeal.nD Cert.RDxIdeal.τ).loc Cert.RDxIdeal.main_arg12)
      ∧ r.2.mem ((c.tc : Thread Cert.RDxIdeal.nD Cert.RDxIdeal.τ).loc Cert.RDxIdeal.main_arg13) = m ((c.tc : Thread Cert.RDxIdeal.nD Cert.RDxIdeal.τ).loc Cert.RDxIdeal.main_arg13))
      ∧ r.2.sem = fun _ => 0)

def quiescent_RDxIdeal_pre_normal_rmax [hRDxIdeal : Cert.RDxIdeal.Facts] [hPre_normal_rmax : Cert.Pre_normal_rmax.Facts] : Prop :=
  ∀ (m : (ℓ : Loc Cert.RDxIdeal.nD Cert.RDxIdeal.τ Cert.RDxIdeal.sig) → Buf (Elt Ideal) ℓ) (g : Dev Cert.RDxIdeal.nD → PrngReg), Pre_RDxIdeal_normal_rmax m →
    θ_run (Cert.RDxIdeal.defs (F := Ideal)) (onTc (τ := Cert.RDxIdeal.τ) (Cert.RDxIdeal.main (F := Ideal))) ⟨m, fun _ => 0, g⟩ (fun r => (∀ c : Dev Cert.RDxIdeal.nD,
      r.2.mem ((c.tc : Thread Cert.RDxIdeal.nD Cert.RDxIdeal.τ).loc Cert.RDxIdeal.main_arg0) = m ((c.tc : Thread Cert.RDxIdeal.nD Cert.RDxIdeal.τ).loc Cert.RDxIdeal.main_arg0)
      ∧ r.2.mem ((c.tc : Thread Cert.RDxIdeal.nD Cert.RDxIdeal.τ).loc Cert.RDxIdeal.main_arg1) = m ((c.tc : Thread Cert.RDxIdeal.nD Cert.RDxIdeal.τ).loc Cert.RDxIdeal.main_arg1)
      ∧ r.2.mem ((c.tc : Thread Cert.RDxIdeal.nD Cert.RDxIdeal.τ).loc Cert.RDxIdeal.main_arg2) = m ((c.tc : Thread Cert.RDxIdeal.nD Cert.RDxIdeal.τ).loc Cert.RDxIdeal.main_arg2)
      ∧ r.2.mem ((c.tc : Thread Cert.RDxIdeal.nD Cert.RDxIdeal.τ).loc Cert.RDxIdeal.main_arg3) = m ((c.tc : Thread Cert.RDxIdeal.nD Cert.RDxIdeal.τ).loc Cert.RDxIdeal.main_arg3)
      ∧ r.2.mem ((c.tc : Thread Cert.RDxIdeal.nD Cert.RDxIdeal.τ).loc Cert.RDxIdeal.main_arg4) = m ((c.tc : Thread Cert.RDxIdeal.nD Cert.RDxIdeal.τ).loc Cert.RDxIdeal.main_arg4)
      ∧ r.2.mem ((c.tc : Thread Cert.RDxIdeal.nD Cert.RDxIdeal.τ).loc Cert.RDxIdeal.main_arg5) = m ((c.tc : Thread Cert.RDxIdeal.nD Cert.RDxIdeal.τ).loc Cert.RDxIdeal.main_arg5)
      ∧ r.2.mem ((c.tc : Thread Cert.RDxIdeal.nD Cert.RDxIdeal.τ).loc Cert.RDxIdeal.main_arg6) = m ((c.tc : Thread Cert.RDxIdeal.nD Cert.RDxIdeal.τ).loc Cert.RDxIdeal.main_arg6)
      ∧ r.2.mem ((c.tc : Thread Cert.RDxIdeal.nD Cert.RDxIdeal.τ).loc Cert.RDxIdeal.main_arg7) = m ((c.tc : Thread Cert.RDxIdeal.nD Cert.RDxIdeal.τ).loc Cert.RDxIdeal.main_arg7)
      ∧ r.2.mem ((c.tc : Thread Cert.RDxIdeal.nD Cert.RDxIdeal.τ).loc Cert.RDxIdeal.main_arg8) = m ((c.tc : Thread Cert.RDxIdeal.nD Cert.RDxIdeal.τ).loc Cert.RDxIdeal.main_arg8)
      ∧ r.2.mem ((c.tc : Thread Cert.RDxIdeal.nD Cert.RDxIdeal.τ).loc Cert.RDxIdeal.main_arg9) = m ((c.tc : Thread Cert.RDxIdeal.nD Cert.RDxIdeal.τ).loc Cert.RDxIdeal.main_arg9)
      ∧ r.2.mem ((c.tc : Thread Cert.RDxIdeal.nD Cert.RDxIdeal.τ).loc Cert.RDxIdeal.main_arg10) = m ((c.tc : Thread Cert.RDxIdeal.nD Cert.RDxIdeal.τ).loc Cert.RDxIdeal.main_arg10)
      ∧ r.2.mem ((c.tc : Thread Cert.RDxIdeal.nD Cert.RDxIdeal.τ).loc Cert.RDxIdeal.main_arg11) = m ((c.tc : Thread Cert.RDxIdeal.nD Cert.RDxIdeal.τ).loc Cert.RDxIdeal.main_arg11)
      ∧ r.2.mem ((c.tc : Thread Cert.RDxIdeal.nD Cert.RDxIdeal.τ).loc Cert.RDxIdeal.main_arg12) = m ((c.tc : Thread Cert.RDxIdeal.nD Cert.RDxIdeal.τ).loc Cert.RDxIdeal.main_arg12)
      ∧ r.2.mem ((c.tc : Thread Cert.RDxIdeal.nD Cert.RDxIdeal.τ).loc Cert.RDxIdeal.main_arg13) = m ((c.tc : Thread Cert.RDxIdeal.nD Cert.RDxIdeal.τ).loc Cert.RDxIdeal.main_arg13))
      ∧ r.2.sem = fun _ => 0)

def preserves_KOut_KOutIdeal : Prop :=
  True

def algebraic_KOutIdeal_ROutIdeal [hKOutIdeal : Cert.KOutIdeal.Facts] [hROutIdeal : Cert.ROutIdeal.Facts] : Prop :=
  ∀ (m : (ℓ : Loc Cert.KOutIdeal.nD Cert.KOutIdeal.τ Cert.KOutIdeal.sig) → Buf (Elt Ideal) ℓ) (g : Dev Cert.KOutIdeal.nD → PrngReg)
    (m' : (ℓ : Loc Cert.ROutIdeal.nD Cert.ROutIdeal.τ Cert.ROutIdeal.sig) → Buf (Elt Ideal) ℓ) (g' : Dev Cert.ROutIdeal.nD → PrngReg), Pre_KOutIdeal m →
    (∀ c : Dev Cert.KOutIdeal.nD,
      m' ((c.tc : Thread Cert.ROutIdeal.nD Cert.ROutIdeal.τ).loc Cert.ROutIdeal.main_arg0) = m ((c.tc : Thread Cert.KOutIdeal.nD Cert.KOutIdeal.τ).loc Cert.KOutIdeal.main_arg0)
      ∧ m' ((c.tc : Thread Cert.ROutIdeal.nD Cert.ROutIdeal.τ).loc Cert.ROutIdeal.main_arg1) = m ((c.tc : Thread Cert.KOutIdeal.nD Cert.KOutIdeal.τ).loc Cert.KOutIdeal.main_arg1)
      ∧ m' ((c.tc : Thread Cert.ROutIdeal.nD Cert.ROutIdeal.τ).loc Cert.ROutIdeal.main_arg2) = m ((c.tc : Thread Cert.KOutIdeal.nD Cert.KOutIdeal.τ).loc Cert.KOutIdeal.main_arg2)
      ∧ m' ((c.tc : Thread Cert.ROutIdeal.nD Cert.ROutIdeal.τ).loc Cert.ROutIdeal.main_arg3) = m ((c.tc : Thread Cert.KOutIdeal.nD Cert.KOutIdeal.τ).loc Cert.KOutIdeal.main_arg3)) →
    ∃ (v0 : (c : Dev Cert.KOutIdeal.nD) → Buf (Elt Ideal) ((c.tc : Thread Cert.KOutIdeal.nD Cert.KOutIdeal.τ).loc Cert.KOutIdeal.main_v2)),
      θ_run (Cert.KOutIdeal.defs (F := Ideal)) (onTc (τ := Cert.KOutIdeal.τ) (Cert.KOutIdeal.main (F := Ideal))) ⟨m, fun _ => 0, g⟩ (fun r => ∀ c : Dev Cert.KOutIdeal.nD,
          r.2.mem ((c.tc : Thread Cert.KOutIdeal.nD Cert.KOutIdeal.τ).loc Cert.KOutIdeal.main_v2) = v0 c
          ∧ r.2.mem ((c.tc : Thread Cert.KOutIdeal.nD Cert.KOutIdeal.τ).loc Cert.KOutIdeal.main_arg0) = m ((c.tc : Thread Cert.KOutIdeal.nD Cert.KOutIdeal.τ).loc Cert.KOutIdeal.main_arg0)
          ∧ r.2.mem ((c.tc : Thread Cert.KOutIdeal.nD Cert.KOutIdeal.τ).loc Cert.KOutIdeal.main_arg1) = m ((c.tc : Thread Cert.KOutIdeal.nD Cert.KOutIdeal.τ).loc Cert.KOutIdeal.main_arg1)
          ∧ r.2.mem ((c.tc : Thread Cert.KOutIdeal.nD Cert.KOutIdeal.τ).loc Cert.KOutIdeal.main_arg2) = m ((c.tc : Thread Cert.KOutIdeal.nD Cert.KOutIdeal.τ).loc Cert.KOutIdeal.main_arg2)
          ∧ r.2.mem ((c.tc : Thread Cert.KOutIdeal.nD Cert.KOutIdeal.τ).loc Cert.KOutIdeal.main_arg3) = m ((c.tc : Thread Cert.KOutIdeal.nD Cert.KOutIdeal.τ).loc Cert.KOutIdeal.main_arg3))
      ∧ θ_run (Cert.ROutIdeal.defs (F := Ideal)) (onTc (τ := Cert.ROutIdeal.τ) (Cert.ROutIdeal.main (F := Ideal))) ⟨m', fun _ => 0, g'⟩ (fun r => ∀ c : Dev Cert.ROutIdeal.nD,
          r.2.mem ((c.tc : Thread Cert.ROutIdeal.nD Cert.ROutIdeal.τ).loc Cert.ROutIdeal.main_v4) = v0 c
          ∧ r.2.mem ((c.tc : Thread Cert.ROutIdeal.nD Cert.ROutIdeal.τ).loc Cert.ROutIdeal.main_arg0) = m' ((c.tc : Thread Cert.ROutIdeal.nD Cert.ROutIdeal.τ).loc Cert.ROutIdeal.main_arg0)
          ∧ r.2.mem ((c.tc : Thread Cert.ROutIdeal.nD Cert.ROutIdeal.τ).loc Cert.ROutIdeal.main_arg1) = m' ((c.tc : Thread Cert.ROutIdeal.nD Cert.ROutIdeal.τ).loc Cert.ROutIdeal.main_arg1)
          ∧ r.2.mem ((c.tc : Thread Cert.ROutIdeal.nD Cert.ROutIdeal.τ).loc Cert.ROutIdeal.main_arg2) = m' ((c.tc : Thread Cert.ROutIdeal.nD Cert.ROutIdeal.τ).loc Cert.ROutIdeal.main_arg2)
          ∧ r.2.mem ((c.tc : Thread Cert.ROutIdeal.nD Cert.ROutIdeal.τ).loc Cert.ROutIdeal.main_arg3) = m' ((c.tc : Thread Cert.ROutIdeal.nD Cert.ROutIdeal.τ).loc Cert.ROutIdeal.main_arg3))

def preserves_KQkv_KQkvIdeal : Prop :=
  True

def algebraic_KQkvIdeal_RQkvIdeal [hKQkvIdeal : Cert.KQkvIdeal.Facts] [hRQkvIdeal : Cert.RQkvIdeal.Facts] : Prop :=
  ∀ (m : (ℓ : Loc Cert.KQkvIdeal.nD Cert.KQkvIdeal.τ Cert.KQkvIdeal.sig) → Buf (Elt Ideal) ℓ) (g : Dev Cert.KQkvIdeal.nD → PrngReg)
    (m' : (ℓ : Loc Cert.RQkvIdeal.nD Cert.RQkvIdeal.τ Cert.RQkvIdeal.sig) → Buf (Elt Ideal) ℓ) (g' : Dev Cert.RQkvIdeal.nD → PrngReg), Pre_KQkvIdeal m →
    (∀ c : Dev Cert.KQkvIdeal.nD,
      m' ((c.tc : Thread Cert.RQkvIdeal.nD Cert.RQkvIdeal.τ).loc Cert.RQkvIdeal.main_arg0) = m ((c.tc : Thread Cert.KQkvIdeal.nD Cert.KQkvIdeal.τ).loc Cert.KQkvIdeal.main_arg0)
      ∧ m' ((c.tc : Thread Cert.RQkvIdeal.nD Cert.RQkvIdeal.τ).loc Cert.RQkvIdeal.main_arg1) = m ((c.tc : Thread Cert.KQkvIdeal.nD Cert.KQkvIdeal.τ).loc Cert.KQkvIdeal.main_arg1)
      ∧ m' ((c.tc : Thread Cert.RQkvIdeal.nD Cert.RQkvIdeal.τ).loc Cert.RQkvIdeal.main_arg2) = m ((c.tc : Thread Cert.KQkvIdeal.nD Cert.KQkvIdeal.τ).loc Cert.KQkvIdeal.main_arg2)
      ∧ m' ((c.tc : Thread Cert.RQkvIdeal.nD Cert.RQkvIdeal.τ).loc Cert.RQkvIdeal.main_arg3) = m ((c.tc : Thread Cert.KQkvIdeal.nD Cert.KQkvIdeal.τ).loc Cert.KQkvIdeal.main_arg3)
      ∧ m' ((c.tc : Thread Cert.RQkvIdeal.nD Cert.RQkvIdeal.τ).loc Cert.RQkvIdeal.main_arg4) = m ((c.tc : Thread Cert.KQkvIdeal.nD Cert.KQkvIdeal.τ).loc Cert.KQkvIdeal.main_arg4)) →
    ∃ (v0 : (c : Dev Cert.KQkvIdeal.nD) → Buf (Elt Ideal) ((c.tc : Thread Cert.KQkvIdeal.nD Cert.KQkvIdeal.τ).loc Cert.KQkvIdeal.main_v3)),
      θ_run (Cert.KQkvIdeal.defs (F := Ideal)) (onTc (τ := Cert.KQkvIdeal.τ) (Cert.KQkvIdeal.main (F := Ideal))) ⟨m, fun _ => 0, g⟩ (fun r => ∀ c : Dev Cert.KQkvIdeal.nD,
          r.2.mem ((c.tc : Thread Cert.KQkvIdeal.nD Cert.KQkvIdeal.τ).loc Cert.KQkvIdeal.main_v3) = v0 c
          ∧ r.2.mem ((c.tc : Thread Cert.KQkvIdeal.nD Cert.KQkvIdeal.τ).loc Cert.KQkvIdeal.main_arg0) = m ((c.tc : Thread Cert.KQkvIdeal.nD Cert.KQkvIdeal.τ).loc Cert.KQkvIdeal.main_arg0)
          ∧ r.2.mem ((c.tc : Thread Cert.KQkvIdeal.nD Cert.KQkvIdeal.τ).loc Cert.KQkvIdeal.main_arg1) = m ((c.tc : Thread Cert.KQkvIdeal.nD Cert.KQkvIdeal.τ).loc Cert.KQkvIdeal.main_arg1)
          ∧ r.2.mem ((c.tc : Thread Cert.KQkvIdeal.nD Cert.KQkvIdeal.τ).loc Cert.KQkvIdeal.main_arg2) = m ((c.tc : Thread Cert.KQkvIdeal.nD Cert.KQkvIdeal.τ).loc Cert.KQkvIdeal.main_arg2)
          ∧ r.2.mem ((c.tc : Thread Cert.KQkvIdeal.nD Cert.KQkvIdeal.τ).loc Cert.KQkvIdeal.main_arg3) = m ((c.tc : Thread Cert.KQkvIdeal.nD Cert.KQkvIdeal.τ).loc Cert.KQkvIdeal.main_arg3)
          ∧ r.2.mem ((c.tc : Thread Cert.KQkvIdeal.nD Cert.KQkvIdeal.τ).loc Cert.KQkvIdeal.main_arg4) = m ((c.tc : Thread Cert.KQkvIdeal.nD Cert.KQkvIdeal.τ).loc Cert.KQkvIdeal.main_arg4))
      ∧ θ_run (Cert.RQkvIdeal.defs (F := Ideal)) (onTc (τ := Cert.RQkvIdeal.τ) (Cert.RQkvIdeal.main (F := Ideal))) ⟨m', fun _ => 0, g'⟩ (fun r => ∀ c : Dev Cert.RQkvIdeal.nD,
          r.2.mem ((c.tc : Thread Cert.RQkvIdeal.nD Cert.RQkvIdeal.τ).loc Cert.RQkvIdeal.main_v5) = v0 c
          ∧ r.2.mem ((c.tc : Thread Cert.RQkvIdeal.nD Cert.RQkvIdeal.τ).loc Cert.RQkvIdeal.main_arg0) = m' ((c.tc : Thread Cert.RQkvIdeal.nD Cert.RQkvIdeal.τ).loc Cert.RQkvIdeal.main_arg0)
          ∧ r.2.mem ((c.tc : Thread Cert.RQkvIdeal.nD Cert.RQkvIdeal.τ).loc Cert.RQkvIdeal.main_arg1) = m' ((c.tc : Thread Cert.RQkvIdeal.nD Cert.RQkvIdeal.τ).loc Cert.RQkvIdeal.main_arg1)
          ∧ r.2.mem ((c.tc : Thread Cert.RQkvIdeal.nD Cert.RQkvIdeal.τ).loc Cert.RQkvIdeal.main_arg2) = m' ((c.tc : Thread Cert.RQkvIdeal.nD Cert.RQkvIdeal.τ).loc Cert.RQkvIdeal.main_arg2)
          ∧ r.2.mem ((c.tc : Thread Cert.RQkvIdeal.nD Cert.RQkvIdeal.τ).loc Cert.RQkvIdeal.main_arg3) = m' ((c.tc : Thread Cert.RQkvIdeal.nD Cert.RQkvIdeal.τ).loc Cert.RQkvIdeal.main_arg3)
          ∧ r.2.mem ((c.tc : Thread Cert.RQkvIdeal.nD Cert.RQkvIdeal.τ).loc Cert.RQkvIdeal.main_arg4) = m' ((c.tc : Thread Cert.RQkvIdeal.nD Cert.RQkvIdeal.τ).loc Cert.RQkvIdeal.main_arg4))

def preserves_KIn_KInIdeal : Prop :=
  True

def algebraic_KInIdeal_RInIdeal_pre_normal_cmax [hKInIdeal : Cert.KInIdeal.Facts] [hRInIdeal : Cert.RInIdeal.Facts] [hPre_normal_cmax : Cert.Pre_normal_cmax.Facts] : Prop :=
  ∀ (m : (ℓ : Loc Cert.KInIdeal.nD Cert.KInIdeal.τ Cert.KInIdeal.sig) → Buf (Elt Ideal) ℓ) (g : Dev Cert.KInIdeal.nD → PrngReg)
    (m' : (ℓ : Loc Cert.RInIdeal.nD Cert.RInIdeal.τ Cert.RInIdeal.sig) → Buf (Elt Ideal) ℓ) (g' : Dev Cert.RInIdeal.nD → PrngReg), Pre_KInIdeal_normal_cmax m →
    (∀ c : Dev Cert.KInIdeal.nD,
      m' ((c.tc : Thread Cert.RInIdeal.nD Cert.RInIdeal.τ).loc Cert.RInIdeal.main_arg0) = m ((c.tc : Thread Cert.KInIdeal.nD Cert.KInIdeal.τ).loc Cert.KInIdeal.main_arg0)
      ∧ m' ((c.tc : Thread Cert.RInIdeal.nD Cert.RInIdeal.τ).loc Cert.RInIdeal.main_arg1) = m ((c.tc : Thread Cert.KInIdeal.nD Cert.KInIdeal.τ).loc Cert.KInIdeal.main_arg1)
      ∧ m' ((c.tc : Thread Cert.RInIdeal.nD Cert.RInIdeal.τ).loc Cert.RInIdeal.main_arg2) = m ((c.tc : Thread Cert.KInIdeal.nD Cert.KInIdeal.τ).loc Cert.KInIdeal.main_arg2)
      ∧ m' ((c.tc : Thread Cert.RInIdeal.nD Cert.RInIdeal.τ).loc Cert.RInIdeal.main_arg3) = m ((c.tc : Thread Cert.KInIdeal.nD Cert.KInIdeal.τ).loc Cert.KInIdeal.main_arg3)
      ∧ m' ((c.tc : Thread Cert.RInIdeal.nD Cert.RInIdeal.τ).loc Cert.RInIdeal.main_arg4) = m ((c.tc : Thread Cert.KInIdeal.nD Cert.KInIdeal.τ).loc Cert.KInIdeal.main_arg4)) →
    ∃ (v0 : (c : Dev Cert.KInIdeal.nD) → Buf (Elt Ideal) ((c.tc : Thread Cert.KInIdeal.nD Cert.KInIdeal.τ).loc Cert.KInIdeal.main_v2_0)) (v1 : (c : Dev Cert.KInIdeal.nD) → Buf (Elt Ideal) ((c.tc : Thread Cert.KInIdeal.nD Cert.KInIdeal.τ).loc Cert.KInIdeal.main_v2_1)) (v2 : (c : Dev Cert.KInIdeal.nD) → Buf (Elt Ideal) ((c.tc : Thread Cert.KInIdeal.nD Cert.KInIdeal.τ).loc Cert.KInIdeal.main_v2_2)),
      θ_run (Cert.KInIdeal.defs (F := Ideal)) (onTc (τ := Cert.KInIdeal.τ) (Cert.KInIdeal.main (F := Ideal))) ⟨m, fun _ => 0, g⟩ (fun r => ∀ c : Dev Cert.KInIdeal.nD,
          r.2.mem ((c.tc : Thread Cert.KInIdeal.nD Cert.KInIdeal.τ).loc Cert.KInIdeal.main_v2_0) = v0 c
          ∧ r.2.mem ((c.tc : Thread Cert.KInIdeal.nD Cert.KInIdeal.τ).loc Cert.KInIdeal.main_v2_1) = v1 c
          ∧ r.2.mem ((c.tc : Thread Cert.KInIdeal.nD Cert.KInIdeal.τ).loc Cert.KInIdeal.main_v2_2) = v2 c
          ∧ r.2.mem ((c.tc : Thread Cert.KInIdeal.nD Cert.KInIdeal.τ).loc Cert.KInIdeal.main_arg0) = m ((c.tc : Thread Cert.KInIdeal.nD Cert.KInIdeal.τ).loc Cert.KInIdeal.main_arg0)
          ∧ r.2.mem ((c.tc : Thread Cert.KInIdeal.nD Cert.KInIdeal.τ).loc Cert.KInIdeal.main_arg1) = m ((c.tc : Thread Cert.KInIdeal.nD Cert.KInIdeal.τ).loc Cert.KInIdeal.main_arg1)
          ∧ r.2.mem ((c.tc : Thread Cert.KInIdeal.nD Cert.KInIdeal.τ).loc Cert.KInIdeal.main_arg2) = m ((c.tc : Thread Cert.KInIdeal.nD Cert.KInIdeal.τ).loc Cert.KInIdeal.main_arg2)
          ∧ r.2.mem ((c.tc : Thread Cert.KInIdeal.nD Cert.KInIdeal.τ).loc Cert.KInIdeal.main_arg3) = m ((c.tc : Thread Cert.KInIdeal.nD Cert.KInIdeal.τ).loc Cert.KInIdeal.main_arg3)
          ∧ r.2.mem ((c.tc : Thread Cert.KInIdeal.nD Cert.KInIdeal.τ).loc Cert.KInIdeal.main_arg4) = m ((c.tc : Thread Cert.KInIdeal.nD Cert.KInIdeal.τ).loc Cert.KInIdeal.main_arg4))
      ∧ θ_run (Cert.RInIdeal.defs (F := Ideal)) (onTc (τ := Cert.RInIdeal.τ) (Cert.RInIdeal.main (F := Ideal))) ⟨m', fun _ => 0, g'⟩ (fun r => ∀ c : Dev Cert.RInIdeal.nD,
          r.2.mem ((c.tc : Thread Cert.RInIdeal.nD Cert.RInIdeal.τ).loc Cert.RInIdeal.main_v3_0) = v0 c
          ∧ r.2.mem ((c.tc : Thread Cert.RInIdeal.nD Cert.RInIdeal.τ).loc Cert.RInIdeal.main_v3_1) = v1 c
          ∧ r.2.mem ((c.tc : Thread Cert.RInIdeal.nD Cert.RInIdeal.τ).loc Cert.RInIdeal.main_v3_2) = v2 c
          ∧ r.2.mem ((c.tc : Thread Cert.RInIdeal.nD Cert.RInIdeal.τ).loc Cert.RInIdeal.main_arg0) = m' ((c.tc : Thread Cert.RInIdeal.nD Cert.RInIdeal.τ).loc Cert.RInIdeal.main_arg0)
          ∧ r.2.mem ((c.tc : Thread Cert.RInIdeal.nD Cert.RInIdeal.τ).loc Cert.RInIdeal.main_arg1) = m' ((c.tc : Thread Cert.RInIdeal.nD Cert.RInIdeal.τ).loc Cert.RInIdeal.main_arg1)
          ∧ r.2.mem ((c.tc : Thread Cert.RInIdeal.nD Cert.RInIdeal.τ).loc Cert.RInIdeal.main_arg2) = m' ((c.tc : Thread Cert.RInIdeal.nD Cert.RInIdeal.τ).loc Cert.RInIdeal.main_arg2)
          ∧ r.2.mem ((c.tc : Thread Cert.RInIdeal.nD Cert.RInIdeal.τ).loc Cert.RInIdeal.main_arg3) = m' ((c.tc : Thread Cert.RInIdeal.nD Cert.RInIdeal.τ).loc Cert.RInIdeal.main_arg3)
          ∧ r.2.mem ((c.tc : Thread Cert.RInIdeal.nD Cert.RInIdeal.τ).loc Cert.RInIdeal.main_arg4) = m' ((c.tc : Thread Cert.RInIdeal.nD Cert.RInIdeal.τ).loc Cert.RInIdeal.main_arg4))

def preserves_KDx_KDxIdeal : Prop :=
  True

def algebraic_KDxIdeal_RDxIdeal_pre_normal_rmax [hKDxIdeal : Cert.KDxIdeal.Facts] [hRDxIdeal : Cert.RDxIdeal.Facts] [hPre_normal_rmax : Cert.Pre_normal_rmax.Facts] : Prop :=
  ∀ (m : (ℓ : Loc Cert.KDxIdeal.nD Cert.KDxIdeal.τ Cert.KDxIdeal.sig) → Buf (Elt Ideal) ℓ) (g : Dev Cert.KDxIdeal.nD → PrngReg)
    (m' : (ℓ : Loc Cert.RDxIdeal.nD Cert.RDxIdeal.τ Cert.RDxIdeal.sig) → Buf (Elt Ideal) ℓ) (g' : Dev Cert.RDxIdeal.nD → PrngReg), Pre_KDxIdeal_normal_rmax m →
    (∀ c : Dev Cert.KDxIdeal.nD,
      m' ((c.tc : Thread Cert.RDxIdeal.nD Cert.RDxIdeal.τ).loc Cert.RDxIdeal.main_arg0) = m ((c.tc : Thread Cert.KDxIdeal.nD Cert.KDxIdeal.τ).loc Cert.KDxIdeal.main_arg0)
      ∧ m' ((c.tc : Thread Cert.RDxIdeal.nD Cert.RDxIdeal.τ).loc Cert.RDxIdeal.main_arg1) = m ((c.tc : Thread Cert.KDxIdeal.nD Cert.KDxIdeal.τ).loc Cert.KDxIdeal.main_arg1)
      ∧ m' ((c.tc : Thread Cert.RDxIdeal.nD Cert.RDxIdeal.τ).loc Cert.RDxIdeal.main_arg2) = m ((c.tc : Thread Cert.KDxIdeal.nD Cert.KDxIdeal.τ).loc Cert.KDxIdeal.main_arg2)
      ∧ m' ((c.tc : Thread Cert.RDxIdeal.nD Cert.RDxIdeal.τ).loc Cert.RDxIdeal.main_arg3) = m ((c.tc : Thread Cert.KDxIdeal.nD Cert.KDxIdeal.τ).loc Cert.KDxIdeal.main_arg3)
      ∧ m' ((c.tc : Thread Cert.RDxIdeal.nD Cert.RDxIdeal.τ).loc Cert.RDxIdeal.main_arg4) = m ((c.tc : Thread Cert.KDxIdeal.nD Cert.KDxIdeal.τ).loc Cert.KDxIdeal.main_arg4)
      ∧ m' ((c.tc : Thread Cert.RDxIdeal.nD Cert.RDxIdeal.τ).loc Cert.RDxIdeal.main_arg5) = m ((c.tc : Thread Cert.KDxIdeal.nD Cert.KDxIdeal.τ).loc Cert.KDxIdeal.main_arg5)
      ∧ m' ((c.tc : Thread Cert.RDxIdeal.nD Cert.RDxIdeal.τ).loc Cert.RDxIdeal.main_arg6) = m ((c.tc : Thread Cert.KDxIdeal.nD Cert.KDxIdeal.τ).loc Cert.KDxIdeal.main_arg6)
      ∧ m' ((c.tc : Thread Cert.RDxIdeal.nD Cert.RDxIdeal.τ).loc Cert.RDxIdeal.main_arg7) = m ((c.tc : Thread Cert.KDxIdeal.nD Cert.KDxIdeal.τ).loc Cert.KDxIdeal.main_arg7)
      ∧ m' ((c.tc : Thread Cert.RDxIdeal.nD Cert.RDxIdeal.τ).loc Cert.RDxIdeal.main_arg8) = m ((c.tc : Thread Cert.KDxIdeal.nD Cert.KDxIdeal.τ).loc Cert.KDxIdeal.main_arg8)
      ∧ m' ((c.tc : Thread Cert.RDxIdeal.nD Cert.RDxIdeal.τ).loc Cert.RDxIdeal.main_arg9) = m ((c.tc : Thread Cert.KDxIdeal.nD Cert.KDxIdeal.τ).loc Cert.KDxIdeal.main_arg9)
      ∧ m' ((c.tc : Thread Cert.RDxIdeal.nD Cert.RDxIdeal.τ).loc Cert.RDxIdeal.main_arg10) = m ((c.tc : Thread Cert.KDxIdeal.nD Cert.KDxIdeal.τ).loc Cert.KDxIdeal.main_arg10)
      ∧ m' ((c.tc : Thread Cert.RDxIdeal.nD Cert.RDxIdeal.τ).loc Cert.RDxIdeal.main_arg11) = m ((c.tc : Thread Cert.KDxIdeal.nD Cert.KDxIdeal.τ).loc Cert.KDxIdeal.main_arg11)
      ∧ m' ((c.tc : Thread Cert.RDxIdeal.nD Cert.RDxIdeal.τ).loc Cert.RDxIdeal.main_arg12) = m ((c.tc : Thread Cert.KDxIdeal.nD Cert.KDxIdeal.τ).loc Cert.KDxIdeal.main_arg12)
      ∧ m' ((c.tc : Thread Cert.RDxIdeal.nD Cert.RDxIdeal.τ).loc Cert.RDxIdeal.main_arg13) = m ((c.tc : Thread Cert.KDxIdeal.nD Cert.KDxIdeal.τ).loc Cert.KDxIdeal.main_arg13)) →
    ∃ (v0 : (c : Dev Cert.KDxIdeal.nD) → Buf (Elt Ideal) ((c.tc : Thread Cert.KDxIdeal.nD Cert.KDxIdeal.τ).loc Cert.KDxIdeal.main_v7_0)) (v1 : (c : Dev Cert.KDxIdeal.nD) → Buf (Elt Ideal) ((c.tc : Thread Cert.KDxIdeal.nD Cert.KDxIdeal.τ).loc Cert.KDxIdeal.main_v7_1)),
      θ_run (Cert.KDxIdeal.defs (F := Ideal)) (onTc (τ := Cert.KDxIdeal.τ) (Cert.KDxIdeal.main (F := Ideal))) ⟨m, fun _ => 0, g⟩ (fun r => ∀ c : Dev Cert.KDxIdeal.nD,
          r.2.mem ((c.tc : Thread Cert.KDxIdeal.nD Cert.KDxIdeal.τ).loc Cert.KDxIdeal.main_v7_0) = v0 c
          ∧ r.2.mem ((c.tc : Thread Cert.KDxIdeal.nD Cert.KDxIdeal.τ).loc Cert.KDxIdeal.main_v7_1) = v1 c
          ∧ r.2.mem ((c.tc : Thread Cert.KDxIdeal.nD Cert.KDxIdeal.τ).loc Cert.KDxIdeal.main_arg0) = m ((c.tc : Thread Cert.KDxIdeal.nD Cert.KDxIdeal.τ).loc Cert.KDxIdeal.main_arg0)
          ∧ r.2.mem ((c.tc : Thread Cert.KDxIdeal.nD Cert.KDxIdeal.τ).loc Cert.KDxIdeal.main_arg1) = m ((c.tc : Thread Cert.KDxIdeal.nD Cert.KDxIdeal.τ).loc Cert.KDxIdeal.main_arg1)
          ∧ r.2.mem ((c.tc : Thread Cert.KDxIdeal.nD Cert.KDxIdeal.τ).loc Cert.KDxIdeal.main_arg2) = m ((c.tc : Thread Cert.KDxIdeal.nD Cert.KDxIdeal.τ).loc Cert.KDxIdeal.main_arg2)
          ∧ r.2.mem ((c.tc : Thread Cert.KDxIdeal.nD Cert.KDxIdeal.τ).loc Cert.KDxIdeal.main_arg3) = m ((c.tc : Thread Cert.KDxIdeal.nD Cert.KDxIdeal.τ).loc Cert.KDxIdeal.main_arg3)
          ∧ r.2.mem ((c.tc : Thread Cert.KDxIdeal.nD Cert.KDxIdeal.τ).loc Cert.KDxIdeal.main_arg4) = m ((c.tc : Thread Cert.KDxIdeal.nD Cert.KDxIdeal.τ).loc Cert.KDxIdeal.main_arg4)
          ∧ r.2.mem ((c.tc : Thread Cert.KDxIdeal.nD Cert.KDxIdeal.τ).loc Cert.KDxIdeal.main_arg5) = m ((c.tc : Thread Cert.KDxIdeal.nD Cert.KDxIdeal.τ).loc Cert.KDxIdeal.main_arg5)
          ∧ r.2.mem ((c.tc : Thread Cert.KDxIdeal.nD Cert.KDxIdeal.τ).loc Cert.KDxIdeal.main_arg6) = m ((c.tc : Thread Cert.KDxIdeal.nD Cert.KDxIdeal.τ).loc Cert.KDxIdeal.main_arg6)
          ∧ r.2.mem ((c.tc : Thread Cert.KDxIdeal.nD Cert.KDxIdeal.τ).loc Cert.KDxIdeal.main_arg7) = m ((c.tc : Thread Cert.KDxIdeal.nD Cert.KDxIdeal.τ).loc Cert.KDxIdeal.main_arg7)
          ∧ r.2.mem ((c.tc : Thread Cert.KDxIdeal.nD Cert.KDxIdeal.τ).loc Cert.KDxIdeal.main_arg8) = m ((c.tc : Thread Cert.KDxIdeal.nD Cert.KDxIdeal.τ).loc Cert.KDxIdeal.main_arg8)
          ∧ r.2.mem ((c.tc : Thread Cert.KDxIdeal.nD Cert.KDxIdeal.τ).loc Cert.KDxIdeal.main_arg9) = m ((c.tc : Thread Cert.KDxIdeal.nD Cert.KDxIdeal.τ).loc Cert.KDxIdeal.main_arg9)
          ∧ r.2.mem ((c.tc : Thread Cert.KDxIdeal.nD Cert.KDxIdeal.τ).loc Cert.KDxIdeal.main_arg10) = m ((c.tc : Thread Cert.KDxIdeal.nD Cert.KDxIdeal.τ).loc Cert.KDxIdeal.main_arg10)
          ∧ r.2.mem ((c.tc : Thread Cert.KDxIdeal.nD Cert.KDxIdeal.τ).loc Cert.KDxIdeal.main_arg11) = m ((c.tc : Thread Cert.KDxIdeal.nD Cert.KDxIdeal.τ).loc Cert.KDxIdeal.main_arg11)
          ∧ r.2.mem ((c.tc : Thread Cert.KDxIdeal.nD Cert.KDxIdeal.τ).loc Cert.KDxIdeal.main_arg12) = m ((c.tc : Thread Cert.KDxIdeal.nD Cert.KDxIdeal.τ).loc Cert.KDxIdeal.main_arg12)
          ∧ r.2.mem ((c.tc : Thread Cert.KDxIdeal.nD Cert.KDxIdeal.τ).loc Cert.KDxIdeal.main_arg13) = m ((c.tc : Thread Cert.KDxIdeal.nD Cert.KDxIdeal.τ).loc Cert.KDxIdeal.main_arg13))
      ∧ θ_run (Cert.RDxIdeal.defs (F := Ideal)) (onTc (τ := Cert.RDxIdeal.τ) (Cert.RDxIdeal.main (F := Ideal))) ⟨m', fun _ => 0, g'⟩ (fun r => ∀ c : Dev Cert.RDxIdeal.nD,
          r.2.mem ((c.tc : Thread Cert.RDxIdeal.nD Cert.RDxIdeal.τ).loc Cert.RDxIdeal.main_v12_0) = v0 c
          ∧ r.2.mem ((c.tc : Thread Cert.RDxIdeal.nD Cert.RDxIdeal.τ).loc Cert.RDxIdeal.main_v12_1) = v1 c
          ∧ r.2.mem ((c.tc : Thread Cert.RDxIdeal.nD Cert.RDxIdeal.τ).loc Cert.RDxIdeal.main_arg0) = m' ((c.tc : Thread Cert.RDxIdeal.nD Cert.RDxIdeal.τ).loc Cert.RDxIdeal.main_arg0)
          ∧ r.2.mem ((c.tc : Thread Cert.RDxIdeal.nD Cert.RDxIdeal.τ).loc Cert.RDxIdeal.main_arg1) = m' ((c.tc : Thread Cert.RDxIdeal.nD Cert.RDxIdeal.τ).loc Cert.RDxIdeal.main_arg1)
          ∧ r.2.mem ((c.tc : Thread Cert.RDxIdeal.nD Cert.RDxIdeal.τ).loc Cert.RDxIdeal.main_arg2) = m' ((c.tc : Thread Cert.RDxIdeal.nD Cert.RDxIdeal.τ).loc Cert.RDxIdeal.main_arg2)
          ∧ r.2.mem ((c.tc : Thread Cert.RDxIdeal.nD Cert.RDxIdeal.τ).loc Cert.RDxIdeal.main_arg3) = m' ((c.tc : Thread Cert.RDxIdeal.nD Cert.RDxIdeal.τ).loc Cert.RDxIdeal.main_arg3)
          ∧ r.2.mem ((c.tc : Thread Cert.RDxIdeal.nD Cert.RDxIdeal.τ).loc Cert.RDxIdeal.main_arg4) = m' ((c.tc : Thread Cert.RDxIdeal.nD Cert.RDxIdeal.τ).loc Cert.RDxIdeal.main_arg4)
          ∧ r.2.mem ((c.tc : Thread Cert.RDxIdeal.nD Cert.RDxIdeal.τ).loc Cert.RDxIdeal.main_arg5) = m' ((c.tc : Thread Cert.RDxIdeal.nD Cert.RDxIdeal.τ).loc Cert.RDxIdeal.main_arg5)
          ∧ r.2.mem ((c.tc : Thread Cert.RDxIdeal.nD Cert.RDxIdeal.τ).loc Cert.RDxIdeal.main_arg6) = m' ((c.tc : Thread Cert.RDxIdeal.nD Cert.RDxIdeal.τ).loc Cert.RDxIdeal.main_arg6)
          ∧ r.2.mem ((c.tc : Thread Cert.RDxIdeal.nD Cert.RDxIdeal.τ).loc Cert.RDxIdeal.main_arg7) = m' ((c.tc : Thread Cert.RDxIdeal.nD Cert.RDxIdeal.τ).loc Cert.RDxIdeal.main_arg7)
          ∧ r.2.mem ((c.tc : Thread Cert.RDxIdeal.nD Cert.RDxIdeal.τ).loc Cert.RDxIdeal.main_arg8) = m' ((c.tc : Thread Cert.RDxIdeal.nD Cert.RDxIdeal.τ).loc Cert.RDxIdeal.main_arg8)
          ∧ r.2.mem ((c.tc : Thread Cert.RDxIdeal.nD Cert.RDxIdeal.τ).loc Cert.RDxIdeal.main_arg9) = m' ((c.tc : Thread Cert.RDxIdeal.nD Cert.RDxIdeal.τ).loc Cert.RDxIdeal.main_arg9)
          ∧ r.2.mem ((c.tc : Thread Cert.RDxIdeal.nD Cert.RDxIdeal.τ).loc Cert.RDxIdeal.main_arg10) = m' ((c.tc : Thread Cert.RDxIdeal.nD Cert.RDxIdeal.τ).loc Cert.RDxIdeal.main_arg10)
          ∧ r.2.mem ((c.tc : Thread Cert.RDxIdeal.nD Cert.RDxIdeal.τ).loc Cert.RDxIdeal.main_arg11) = m' ((c.tc : Thread Cert.RDxIdeal.nD Cert.RDxIdeal.τ).loc Cert.RDxIdeal.main_arg11)
          ∧ r.2.mem ((c.tc : Thread Cert.RDxIdeal.nD Cert.RDxIdeal.τ).loc Cert.RDxIdeal.main_arg12) = m' ((c.tc : Thread Cert.RDxIdeal.nD Cert.RDxIdeal.τ).loc Cert.RDxIdeal.main_arg12)
          ∧ r.2.mem ((c.tc : Thread Cert.RDxIdeal.nD Cert.RDxIdeal.τ).loc Cert.RDxIdeal.main_arg13) = m' ((c.tc : Thread Cert.RDxIdeal.nD Cert.RDxIdeal.τ).loc Cert.RDxIdeal.main_arg13))

def Claim : Prop :=
  ∃ (hKOut : Cert.KOut.Facts) (hKOutIdeal : Cert.KOutIdeal.Facts) (hROutIdeal : Cert.ROutIdeal.Facts) (hKQkv : Cert.KQkv.Facts) (hKQkvIdeal : Cert.KQkvIdeal.Facts) (hRQkvIdeal : Cert.RQkvIdeal.Facts) (hKIn : Cert.KIn.Facts) (hKInIdeal : Cert.KInIdeal.Facts) (hRInIdeal : Cert.RInIdeal.Facts) (hKDx : Cert.KDx.Facts) (hKDxIdeal : Cert.KDxIdeal.Facts) (hRDxIdeal : Cert.RDxIdeal.Facts) (hPre_normal_cmax : Cert.Pre_normal_cmax.Facts) (hPre_normal_rmax : Cert.Pre_normal_rmax.Facts),
    quiescent_KOut (hKOut := hKOut)
    ∧ quiescent_KOutIdeal (hKOutIdeal := hKOutIdeal)
    ∧ quiescent_ROutIdeal (hROutIdeal := hROutIdeal)
    ∧ quiescent_KQkv (hKQkv := hKQkv)
    ∧ quiescent_KQkvIdeal (hKQkvIdeal := hKQkvIdeal)
    ∧ quiescent_RQkvIdeal (hRQkvIdeal := hRQkvIdeal)
    ∧ quiescent_KIn (hKIn := hKIn)
    ∧ quiescent_KInIdeal (hKInIdeal := hKInIdeal)
    ∧ quiescent_KInIdeal_pre_normal_cmax (hKInIdeal := hKInIdeal) (hPre_normal_cmax := hPre_normal_cmax)
    ∧ quiescent_RInIdeal (hRInIdeal := hRInIdeal)
    ∧ quiescent_RInIdeal_pre_normal_cmax (hRInIdeal := hRInIdeal) (hPre_normal_cmax := hPre_normal_cmax)
    ∧ quiescent_KDx (hKDx := hKDx)
    ∧ quiescent_KDxIdeal (hKDxIdeal := hKDxIdeal)
    ∧ quiescent_KDxIdeal_pre_normal_rmax (hKDxIdeal := hKDxIdeal) (hPre_normal_rmax := hPre_normal_rmax)
    ∧ quiescent_RDxIdeal (hRDxIdeal := hRDxIdeal)
    ∧ quiescent_RDxIdeal_pre_normal_rmax (hRDxIdeal := hRDxIdeal) (hPre_normal_rmax := hPre_normal_rmax)
    ∧ preserves_KOut_KOutIdeal
    ∧ algebraic_KOutIdeal_ROutIdeal (hKOutIdeal := hKOutIdeal) (hROutIdeal := hROutIdeal)
    ∧ preserves_KQkv_KQkvIdeal
    ∧ algebraic_KQkvIdeal_RQkvIdeal (hKQkvIdeal := hKQkvIdeal) (hRQkvIdeal := hRQkvIdeal)
    ∧ preserves_KIn_KInIdeal
    ∧ algebraic_KInIdeal_RInIdeal_pre_normal_cmax (hKInIdeal := hKInIdeal) (hRInIdeal := hRInIdeal) (hPre_normal_cmax := hPre_normal_cmax)
    ∧ preserves_KDx_KDxIdeal
    ∧ algebraic_KDxIdeal_RDxIdeal_pre_normal_rmax (hKDxIdeal := hKDxIdeal) (hRDxIdeal := hRDxIdeal) (hPre_normal_rmax := hPre_normal_rmax)
-- ==== Pre_normal_cmax.lean ====
abbrev S8x1024x2560 : Shape := ⟨3, ![8, 1024, 2560]⟩
abbrev S8x1024 : Shape := ⟨2, ![8, 1024]⟩
abbrev S8192x10240 : Shape := ⟨2, ![8192, 10240]⟩
abbrev S1x10240 : Shape := ⟨2, ![1, 10240]⟩
abbrev S2560 : Shape := ⟨1, ![2560]⟩
abbrev S_ : Shape := ⟨0, ![]⟩

class Facts : Prop where
  bcast_S_S1x10240 : S_.BroadcastsInDim S1x10240 (![] : Fin 0 → Fin S1x10240.rank)

variable [Facts]

def fn {F : FTy → Type} [FloatOps F] (main_arg0 : FVec F S8x1024x2560 .fp8e4m3) (main_arg1 : FVec F S8x1024 .f32) (main_arg2 : FVec F S8192x10240 .bf16) (main_arg3 : FVec F S1x10240 .f32) (main_arg4 : FVec F S2560 .f32) : IVec S1x10240 1 :=
  let main_cst : FVec F S_ .f32 := constant S_ .f32 0x37924925#32
  let main_v0 : FVec F S1x10240 .f32 := broadcastInDim S1x10240 ![] bcast_S_S1x10240 main_cst
  let main_v1 : FVec F S1x10240 .f32 := mulf main_arg3 main_v0
  let main_cst_0 : FVec F S_ .f32 := constant S_ .f32 0x00000000#32
  let main_v2 : FVec F S1x10240 .f32 := broadcastInDim S1x10240 ![] bcast_S_S1x10240 main_cst_0
  let main_v3 : IVec S1x10240 1 := cmpf .oeq main_arg3 main_v2
  let main_cst_1 : FVec F S_ .f32 := constant S_ .f32 0x00800000#32
  let main_v4 : FVec F S1x10240 .f32 := broadcastInDim S1x10240 ![] bcast_S_S1x10240 main_cst_1
  let main_v5 : IVec S1x10240 1 := cmpf .oge main_v1 main_v4
  let main_cst_2 : FVec F S_ .f32 := constant S_ .f32 0x7E800000#32
  let main_v6 : FVec F S1x10240 .f32 := broadcastInDim S1x10240 ![] bcast_S_S1x10240 main_cst_2
  let main_v7 : IVec S1x10240 1 := cmpf .olt main_v1 main_v6
  let main_v8 : IVec S1x10240 1 := andi main_v5 main_v7
  let main_v9 : IVec S1x10240 1 := ori main_v3 main_v8
  main_v9
-- ==== Pre_normal_rmax.lean ====
abbrev S8192x10240 : Shape := ⟨2, ![8192, 10240]⟩
abbrev S8x1024 : Shape := ⟨2, ![8, 1024]⟩
abbrev S10240 : Shape := ⟨1, ![10240]⟩
abbrev S2560x10240 : Shape := ⟨2, ![2560, 10240]⟩
abbrev S8x1024x3x20x128 : Shape := ⟨5, ![8, 1024, 3, 20, 128]⟩
abbrev S3x20x128 : Shape := ⟨3, ![3, 20, 128]⟩
abbrev S2560x3x20x128 : Shape := ⟨4, ![2560, 3, 20, 128]⟩
abbrev S8x1024x2560 : Shape := ⟨3, ![8, 1024, 2560]⟩
abbrev S2560 : Shape := ⟨1, ![2560]⟩
abbrev S_ : Shape := ⟨0, ![]⟩

class Facts : Prop where
  bcast_S_S8x1024 : S_.BroadcastsInDim S8x1024 (![] : Fin 0 → Fin S8x1024.rank)

variable [Facts]

def fn {F : FTy → Type} [FloatOps F] (main_arg0 : FVec F S8192x10240 .bf16) (main_arg1 : FVec F S8x1024 .f32) (main_arg2 : FVec F S10240 .f32) (main_arg3 : FVec F S2560x10240 .fp8e4m3) (main_arg4 : FVec F S8x1024x3x20x128 .fp8e5m2) (main_arg5 : FVec F S8x1024 .f32) (main_arg6 : FVec F S3x20x128 .f32) (main_arg7 : FVec F S2560x3x20x128 .fp8e4m3) (main_arg8 : FVec F S8x1024x2560 .fp8e5m2) (main_arg9 : FVec F S8x1024 .f32) (main_arg10 : FVec F S8x1024x2560 .fp8e4m3) (main_arg11 : FVec F S8x1024 .f32) (main_arg12 : FVec F S8x1024 .f32) (main_arg13 : FVec F S2560 .f32) : IVec S8x1024 1 :=
  let main_cst : FVec F S_ .f32 := constant S_ .f32 0x37924925#32
  let main_v0 : FVec F S8x1024 .f32 := broadcastInDim S8x1024 ![] bcast_S_S8x1024 main_cst
  let main_v1 : FVec F S8x1024 .f32 := mulf main_arg1 main_v0
  let main_cst_0 : FVec F S_ .f32 := constant S_ .f32 0x00000000#32
  let main_v2 : FVec F S8x1024 .f32 := broadcastInDim S8x1024 ![] bcast_S_S8x1024 main_cst_0
  let main_v3 : IVec S8x1024 1 := cmpf .oeq main_arg1 main_v2
  let main_cst_1 : FVec F S_ .f32 := constant S_ .f32 0x00800000#32
  let main_v4 : FVec F S8x1024 .f32 := broadcastInDim S8x1024 ![] bcast_S_S8x1024 main_cst_1
  let main_v5 : IVec S8x1024 1 := cmpf .oge main_v1 main_v4
  let main_cst_2 : FVec F S_ .f32 := constant S_ .f32 0x7E800000#32
  let main_v6 : FVec F S8x1024 .f32 := broadcastInDim S8x1024 ![] bcast_S_S8x1024 main_cst_2
  let main_v7 : IVec S8x1024 1 := cmpf .olt main_v1 main_v6
  let main_v8 : IVec S8x1024 1 := andi main_v5 main_v7
  let main_v9 : IVec S8x1024 1 := ori main_v3 main_v8
  let main_cst_3 : FVec F S_ .f32 := constant S_ .f32 0x00000000#32
  let main_v10 : FVec F S8x1024 .f32 := broadcastInDim S8x1024 ![] bcast_S_S8x1024 main_cst_3
  let main_v11 : IVec S8x1024 1 := cmpf .oge main_arg5 main_v10
  let main_v12 : IVec S8x1024 1 := andi main_v9 main_v11
  let main_cst_4 : FVec F S_ .f32 := constant S_ .f32 0x7F800000#32
  let main_v13 : FVec F S8x1024 .f32 := broadcastInDim S8x1024 ![] bcast_S_S8x1024 main_cst_4
  let main_v14 : IVec S8x1024 1 := cmpf .olt main_arg5 main_v13
  let main_v15 : IVec S8x1024 1 := andi main_v12 main_v14
  main_v15
-- ==== KOut.lean ====
abbrev S8x1024x10240 : Shape := ⟨3, ![8, 1024, 10240]⟩
abbrev S8x1024 : Shape := ⟨2, ![8, 1024]⟩
abbrev S8x1024x2560 : Shape := ⟨3, ![8, 1024, 2560]⟩
abbrev S8192x10240 : Shape := ⟨2, ![8192, 10240]⟩
abbrev S8192x2560 : Shape := ⟨2, ![8192, 2560]⟩
abbrev S10240x2560 : Shape := ⟨2, ![10240, 2560]⟩
abbrev S512x1024 : Shape := ⟨2, ![512, 1024]⟩
abbrev S512x2560 : Shape := ⟨2, ![512, 2560]⟩
abbrev S1024x2560 : Shape := ⟨2, ![1024, 2560]⟩
abbrev S1x512 : Shape := ⟨2, ![1, 512]⟩
abbrev S1x128 : Shape := ⟨2, ![1, 128]⟩
abbrev S128x128 : Shape := ⟨2, ![128, 128]⟩
abbrev S512x128 : Shape := ⟨2, ![512, 128]⟩

abbrev nBuf : Space → Nat
  | .hbm => 7
  | .vmem => 9
  | .smem => 0
  | _ => 0

abbrev bufTy : (tb : Table) → Fin (tcTables nBuf tb) → BufTy
  | .hbm, ⟨0, _⟩ => ⟨S8x1024x10240, .fp8e4m3⟩
  | .hbm, ⟨1, _⟩ => ⟨S8x1024, .f32⟩
  | .hbm, ⟨2, _⟩ => ⟨S8x1024x2560, .fp8e5m2⟩
  | .hbm, ⟨3, _⟩ => ⟨S8x1024, .f32⟩
  | .hbm, ⟨4, _⟩ => ⟨S8192x10240, .fp8e4m3⟩
  | .hbm, ⟨5, _⟩ => ⟨S8192x2560, .fp8e5m2⟩
  | .hbm, ⟨6, _⟩ => ⟨S10240x2560, .bf16⟩
  | .local _ .vmem, ⟨0, _⟩ => ⟨S512x1024, .fp8e4m3⟩
  | .local _ .vmem, ⟨1, _⟩ => ⟨S512x1024, .fp8e4m3⟩
  | .local _ .vmem, ⟨2, _⟩ => ⟨S8x1024, .f32⟩
  | .local _ .vmem, ⟨3, _⟩ => ⟨S512x2560, .fp8e5m2⟩
  | .local _ .vmem, ⟨4, _⟩ => ⟨S512x2560, .fp8e5m2⟩
  | .local _ .vmem, ⟨5, _⟩ => ⟨S8x1024, .f32⟩
  | .local _ .vmem, ⟨6, _⟩ => ⟨S1024x2560, .bf16⟩
  | .local _ .vmem, ⟨7, _⟩ => ⟨S1024x2560, .bf16⟩
  | .local _ .vmem, ⟨8, _⟩ => ⟨S1024x2560, .f32⟩
  | _, _ => ⟨S8x1024x10240, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![10, 16], ![false, false]⟩

def k0_mult1 (i : grid0.Coords) : BitVec 32 :=
  let arg1 : BitVec 32 := BitVec.ofNat 32 (i 1).val
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg1 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c512_i32 : BitVec 32 := 512#32
  let v30 : BitVec 32 := Scalar.muli v29 c512_i32
  v30
def k0_off1 (i : grid0.Coords) : Fin 2 → Nat :=
  let arg1 : BitVec 32 := BitVec.ofNat 32 (i 1).val
  let c0_i32_1 : BitVec 32 := 0#32
  let v4 : BitVec 1 := Scalar.cmpi .sgt arg1 c0_i32_1
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c2_i32 : BitVec 32 := 2#32
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi arg1 c2_i32
  let c0_i32_5 : BitVec 32 := 0#32
  let v16 : BitVec 1 := Scalar.cmpi .ne v15 c0_i32_5
  let v17 : BitVec 1 := Scalar.andi v14 v16
  let v3 : BitVec 32 := Scalar.divsi arg1 c2_i32
  let c1_i32 : BitVec 32 := 1#32
  let v18 : BitVec 32 := Scalar.subi v3 c1_i32
  let v19 : BitVec 32 := Scalar.select v17 v18 v3
  let v32 : Index := Scalar.indexCast v19
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg1 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c512_i32 : BitVec 32 := 512#32
  let v30 : BitVec 32 := Scalar.muli v29 c512_i32
  let v31 : BitVec 32 := v30
  let v33 : Index := Scalar.indexCast v31
  ![v32.toNat, v33.toNat]
def k0_mult2 (i : grid0.Coords) : BitVec 32 :=
  let arg1 : BitVec 32 := BitVec.ofNat 32 (i 1).val
  let c2_i32_19 : BitVec 32 := 2#32
  let c0_i32_20 : BitVec 32 := 0#32
  let v69 : BitVec 1 := Scalar.cmpi .eq c2_i32_19 c0_i32_20
  let c1_i32_21 : BitVec 32 := 1#32
  let v70 : BitVec 32 := Scalar.select v69 c1_i32_21 c2_i32_19
  let v71 : BitVec 32 := Scalar.remsi arg1 v70
  let c0_i32_23 : BitVec 32 := 0#32
  let v73 : BitVec 1 := Scalar.cmpi .slt v71 c0_i32_23
  let c0_i32_24 : BitVec 32 := 0#32
  let v74 : BitVec 1 := Scalar.cmpi .slt v70 c0_i32_24
  let v75 : BitVec 1 := Scalar.xori v73 v74
  let c0_i32_22 : BitVec 32 := 0#32
  let v72 : BitVec 1 := Scalar.cmpi .ne v71 c0_i32_22
  let v76 : BitVec 1 := Scalar.andi v75 v72
  let v77 : BitVec 32 := Scalar.addi v71 v70
  let v78 : BitVec 32 := Scalar.select v76 v77 v71
  let c512_i32_25 : BitVec 32 := 512#32
  let v79 : BitVec 32 := Scalar.muli v78 c512_i32_25
  v79
def k0_cond2 (i : grid0.Coords) : BitVec 1 :=
  let arg1 : BitVec 32 := BitVec.ofNat 32 (i 1).val
  let c15_i32 : BitVec 32 := 15#32
  let v116 : BitVec 1 := Scalar.cmpi .eq arg1 c15_i32
  let v117 : BitVec 32 := Scalar.extui v116
  let c0_i32_33 : BitVec 32 := 0#32
  let v118 : BitVec 1 := Scalar.cmpi .ne v117 c0_i32_33
  v118

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x2560 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x2560 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ROutIdeal.lean ====
abbrev S8x1024x10240 : Shape := ⟨3, ![8, 1024, 10240]⟩
abbrev S8x1024 : Shape := ⟨2, ![8, 1024]⟩
abbrev S8x1024x2560 : Shape := ⟨3, ![8, 1024, 2560]⟩
abbrev S8192x10240 : Shape := ⟨2, ![8192, 10240]⟩
abbrev S8192x1 : Shape := ⟨2, ![8192, 1]⟩
abbrev S8192x2560 : Shape := ⟨2, ![8192, 2560]⟩
abbrev S10240x2560 : Shape := ⟨2, ![10240, 2560]⟩

abbrev nBuf : Space → Nat
  | .hbm => 9
  | .vmem => 5
  | .smem => 0
  | _ => 0

abbrev bufTy : (tb : Table) → Fin (tcTables nBuf tb) → BufTy
  | .hbm, ⟨0, _⟩ => ⟨S8x1024x10240, .fp8e4m3⟩
  | .hbm, ⟨1, _⟩ => ⟨S8x1024, .f32⟩
  | .hbm, ⟨2, _⟩ => ⟨S8x1024x2560, .fp8e5m2⟩
  | .hbm, ⟨3, _⟩ => ⟨S8x1024, .f32⟩
  | .hbm, ⟨4, _⟩ => ⟨S8192x10240, .fp8e4m3⟩
  | .hbm, ⟨5, _⟩ => ⟨S8192x1, .f32⟩
  | .hbm, ⟨6, _⟩ => ⟨S8192x2560, .fp8e5m2⟩
  | .hbm, ⟨7, _⟩ => ⟨S8192x1, .f32⟩
  | .hbm, ⟨8, _⟩ => ⟨S10240x2560, .bf16⟩
  | .local _ .vmem, ⟨0, _⟩ => ⟨S8192x10240, .fp8e4m3⟩
  | .local _ .vmem, ⟨1, _⟩ => ⟨S8192x1, .f32⟩
  | .local _ .vmem, ⟨2, _⟩ => ⟨S8192x2560, .fp8e5m2⟩
  | .local _ .vmem, ⟨3, _⟩ => ⟨S8192x1, .f32⟩
  | .local _ .vmem, ⟨4, _⟩ => ⟨S10240x2560, .bf16⟩
  | _, _ => ⟨S8x1024x10240, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S8192x10240 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x2560 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10240x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KQkv.lean ====
abbrev S8x1024x2560 : Shape := ⟨3, ![8, 1024, 2560]⟩
abbrev S8x1024 : Shape := ⟨2, ![8, 1024]⟩
abbrev S8x1024x3x20x128 : Shape := ⟨5, ![8, 1024, 3, 20, 128]⟩
abbrev S2560 : Shape := ⟨1, ![2560]⟩
abbrev S8192x2560 : Shape := ⟨2, ![8192, 2560]⟩
abbrev S8192x7680 : Shape := ⟨2, ![8192, 7680]⟩
abbrev S1x2560 : Shape := ⟨2, ![1, 2560]⟩
abbrev S2560x7680 : Shape := ⟨2, ![2560, 7680]⟩
abbrev S512x2560 : Shape := ⟨2, ![512, 2560]⟩
abbrev S512x768 : Shape := ⟨2, ![512, 768]⟩
abbrev S2560x768 : Shape := ⟨2, ![2560, 768]⟩
abbrev S1x512 : Shape := ⟨2, ![1, 512]⟩
abbrev S1x128 : Shape := ⟨2, ![1, 128]⟩
abbrev S128x128 : Shape := ⟨2, ![128, 128]⟩
abbrev S512x128 : Shape := ⟨2, ![512, 128]⟩
abbrev S128x2560 : Shape := ⟨2, ![128, 2560]⟩
abbrev S2560x128 : Shape := ⟨2, ![2560, 128]⟩

abbrev nBuf : Space → Nat
  | .hbm => 9
  | .vmem => 10
  | .smem => 0
  | _ => 0

abbrev bufTy : (tb : Table) → Fin (tcTables nBuf tb) → BufTy
  | .hbm, ⟨0, _⟩ => ⟨S8x1024x2560, .fp8e4m3⟩
  | .hbm, ⟨1, _⟩ => ⟨S8x1024, .f32⟩
  | .hbm, ⟨2, _⟩ => ⟨S8x1024x3x20x128, .fp8e5m2⟩
  | .hbm, ⟨3, _⟩ => ⟨S8x1024, .f32⟩
  | .hbm, ⟨4, _⟩ => ⟨S2560, .f32⟩
  | .hbm, ⟨5, _⟩ => ⟨S8192x2560, .fp8e4m3⟩
  | .hbm, ⟨6, _⟩ => ⟨S8192x7680, .fp8e5m2⟩
  | .hbm, ⟨7, _⟩ => ⟨S1x2560, .f32⟩
  | .hbm, ⟨8, _⟩ => ⟨S2560x7680, .bf16⟩
  | .local _ .vmem, ⟨0, _⟩ => ⟨S512x2560, .fp8e4m3⟩
  | .local _ .vmem, ⟨1, _⟩ => ⟨S512x2560, .fp8e4m3⟩
  | .local _ .vmem, ⟨2, _⟩ => ⟨S8x1024, .f32⟩
  | .local _ .vmem, ⟨3, _⟩ => ⟨S512x768, .fp8e5m2⟩
  | .local _ .vmem, ⟨4, _⟩ => ⟨S512x768, .fp8e5m2⟩
  | .local _ .vmem, ⟨5, _⟩ => ⟨S8x1024, .f32⟩
  | .local _ .vmem, ⟨6, _⟩ => ⟨S1x2560, .f32⟩
  | .local _ .vmem, ⟨7, _⟩ => ⟨S2560x768, .bf16⟩
  | .local _ .vmem, ⟨8, _⟩ => ⟨S2560x768, .bf16⟩
  | .local _ .vmem, ⟨9, _⟩ => ⟨S2560x768, .f32⟩
  | _, _ => ⟨S8x1024x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![10, 16], ![false, false]⟩

def k0_mult1 (i : grid0.Coords) : BitVec 32 :=
  let arg1 : BitVec 32 := BitVec.ofNat 32 (i 1).val
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg1 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c512_i32 : BitVec 32 := 512#32
  let v30 : BitVec 32 := Scalar.muli v29 c512_i32
  v30
def k0_off1 (i : grid0.Coords) : Fin 2 → Nat :=
  let arg1 : BitVec 32 := BitVec.ofNat 32 (i 1).val
  let c0_i32_1 : BitVec 32 := 0#32
  let v4 : BitVec 1 := Scalar.cmpi .sgt arg1 c0_i32_1
  let v5 : BitVec 32 := Scalar.extui v4
  let c0_i32_2 : BitVec 32 := 0#32
  let v6 : BitVec 1 := Scalar.cmpi .slt arg1 c0_i32_2
  let v7 : BitVec 32 := Scalar.extui v6
  let v8 : BitVec 32 := Scalar.subi v5 v7
  let c2_i32 : BitVec 32 := 2#32
  let c0_i32_3 : BitVec 32 := 0#32
  let v9 : BitVec 1 := Scalar.cmpi .sgt c2_i32 c0_i32_3
  let v10 : BitVec 32 := Scalar.extui v9
  let c0_i32_4 : BitVec 32 := 0#32
  let v11 : BitVec 1 := Scalar.cmpi .slt c2_i32 c0_i32_4
  let v12 : BitVec 32 := Scalar.extui v11
  let v13 : BitVec 32 := Scalar.subi v10 v12
  let v14 : BitVec 1 := Scalar.cmpi .ne v8 v13
  let v15 : BitVec 32 := Scalar.remsi arg1 c2_i32
  let c0_i32_5 : BitVec 32 := 0#32
  let v16 : BitVec 1 := Scalar.cmpi .ne v15 c0_i32_5
  let v17 : BitVec 1 := Scalar.andi v14 v16
  let v3 : BitVec 32 := Scalar.divsi arg1 c2_i32
  let c1_i32 : BitVec 32 := 1#32
  let v18 : BitVec 32 := Scalar.subi v3 c1_i32
  let v19 : BitVec 32 := Scalar.select v17 v18 v3
  let v32 : Index := Scalar.indexCast v19
  let c2_i32_6 : BitVec 32 := 2#32
  let c0_i32_7 : BitVec 32 := 0#32
  let v20 : BitVec 1 := Scalar.cmpi .eq c2_i32_6 c0_i32_7
  let c1_i32_8 : BitVec 32 := 1#32
  let v21 : BitVec 32 := Scalar.select v20 c1_i32_8 c2_i32_6
  let v22 : BitVec 32 := Scalar.remsi arg1 v21
  let c0_i32_10 : BitVec 32 := 0#32
  let v24 : BitVec 1 := Scalar.cmpi .slt v22 c0_i32_10
  let c0_i32_11 : BitVec 32 := 0#32
  let v25 : BitVec 1 := Scalar.cmpi .slt v21 c0_i32_11
  let v26 : BitVec 1 := Scalar.xori v24 v25
  let c0_i32_9 : BitVec 32 := 0#32
  let v23 : BitVec 1 := Scalar.cmpi .ne v22 c0_i32_9
  let v27 : BitVec 1 := Scalar.andi v26 v23
  let v28 : BitVec 32 := Scalar.addi v22 v21
  let v29 : BitVec 32 := Scalar.select v27 v28 v22
  let c512_i32 : BitVec 32 := 512#32
  let v30 : BitVec 32 := Scalar.muli v29 c512_i32
  let v31 : BitVec 32 := v30
  let v33 : Index := Scalar.indexCast v31
  ![v32.toNat, v33.toNat]
def k0_mult2 (i : grid0.Coords) : BitVec 32 :=
  let arg1 : BitVec 32 := BitVec.ofNat 32 (i 1).val
  let c2_i32_19 : BitVec 32 := 2#32
  let c0_i32_20 : BitVec 32 := 0#32
  let v69 : BitVec 1 := Scalar.cmpi .eq c2_i32_19 c0_i32_20
  let c1_i32_21 : BitVec 32 := 1#32
  let v70 : BitVec 32 := Scalar.select v69 c1_i32_21 c2_i32_19
  let v71 : BitVec 32 := Scalar.remsi arg1 v70
  let c0_i32_23 : BitVec 32 := 0#32
  let v73 : BitVec 1 := Scalar.cmpi .slt v71 c0_i32_23
  let c0_i32_24 : BitVec 32 := 0#32
  let v74 : BitVec 1 := Scalar.cmpi .slt v70 c0_i32_24
  let v75 : BitVec 1 := Scalar.xori v73 v74
  let c0_i32_22 : BitVec 32 := 0#32
  let v72 : BitVec 1 := Scalar.cmpi .ne v71 c0_i32_22
  let v76 : BitVec 1 := Scalar.andi v75 v72
  let v77 : BitVec 32 := Scalar.addi v71 v70
  let v78 : BitVec 32 := Scalar.select v76 v77 v71
  let c512_i32_25 : BitVec 32 := 512#32
  let v79 : BitVec 32 := Scalar.muli v78 c512_i32_25
  v79
def k0_cond2 (i : grid0.Coords) : BitVec 1 :=
  let arg1 : BitVec 32 := BitVec.ofNat 32 (i 1).val
  let c15_i32 : BitVec 32 := 15#32
  let v116 : BitVec 1 := Scalar.cmpi .eq arg1 c15_i32
  let v117 : BitVec 32 := Scalar.extui v116
  let c0_i32_33 : BitVec 32 := 0#32
  let v118 : BitVec 1 := Scalar.cmpi .ne v117 c0_i32_33
  v118

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2560 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x768 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2560x768 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== RQkvIdeal.lean ====
abbrev S8x1024x2560 : Shape := ⟨3, ![8, 1024, 2560]⟩
abbrev S8x1024 : Shape := ⟨2, ![8, 1024]⟩
abbrev S8x1024x3x20x128 : Shape := ⟨5, ![8, 1024, 3, 20, 128]⟩
abbrev S2560 : Shape := ⟨1, ![2560]⟩
abbrev S8192x2560 : Shape := ⟨2, ![8192, 2560]⟩
abbrev S8192x1 : Shape := ⟨2, ![8192, 1]⟩
abbrev S8192x7680 : Shape := ⟨2, ![8192, 7680]⟩
abbrev S2560x1 : Shape := ⟨2, ![2560, 1]⟩
abbrev S2560x7680 : Shape := ⟨2, ![2560, 7680]⟩

abbrev nBuf : Space → Nat
  | .hbm => 11
  | .vmem => 6
  | .smem => 0
  | _ => 0

abbrev bufTy : (tb : Table) → Fin (tcTables nBuf tb) → BufTy
  | .hbm, ⟨0, _⟩ => ⟨S8x1024x2560, .fp8e4m3⟩
  | .hbm, ⟨1, _⟩ => ⟨S8x1024, .f32⟩
  | .hbm, ⟨2, _⟩ => ⟨S8x1024x3x20x128, .fp8e5m2⟩
  | .hbm, ⟨3, _⟩ => ⟨S8x1024, .f32⟩
  | .hbm, ⟨4, _⟩ => ⟨S2560, .f32⟩
  | .hbm, ⟨5, _⟩ => ⟨S8192x2560, .fp8e4m3⟩
  | .hbm, ⟨6, _⟩ => ⟨S8192x1, .f32⟩
  | .hbm, ⟨7, _⟩ => ⟨S8192x7680, .fp8e5m2⟩
  | .hbm, ⟨8, _⟩ => ⟨S8192x1, .f32⟩
  | .hbm, ⟨9, _⟩ => ⟨S2560x1, .f32⟩
  | .hbm, ⟨10, _⟩ => ⟨S2560x7680, .bf16⟩
  | .local _ .vmem, ⟨0, _⟩ => ⟨S8192x2560, .fp8e4m3⟩
  | .local _ .vmem, ⟨1, _⟩ => ⟨S8192x1, .f32⟩
  | .local _ .vmem, ⟨2, _⟩ => ⟨S8192x7680, .fp8e5m2⟩
  | .local _ .vmem, ⟨3, _⟩ => ⟨S8192x1, .f32⟩
  | .local _ .vmem, ⟨4, _⟩ => ⟨S2560x1, .f32⟩
  | .local _ .vmem, ⟨5, _⟩ => ⟨S2560x7680, .bf16⟩
  | _, _ => ⟨S8x1024x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8192x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x7680 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2560x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2560x7680 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KIn.lean ====
abbrev S8x1024x2560 : Shape := ⟨3, ![8, 1024, 2560]⟩
abbrev S8x1024 : Shape := ⟨2, ![8, 1024]⟩
abbrev S8192x10240 : Shape := ⟨2, ![8192, 10240]⟩
abbrev S1x10240 : Shape := ⟨2, ![1, 10240]⟩
abbrev S2560 : Shape := ⟨1, ![2560]⟩
abbrev S8192x2560 : Shape := ⟨2, ![8192, 2560]⟩
abbrev S1x2560 : Shape := ⟨2, ![1, 2560]⟩
abbrev S2560x10240 : Shape := ⟨2, ![2560, 10240]⟩
abbrev S512x2560 : Shape := ⟨2, ![512, 2560]⟩
abbrev S512x1024 : Shape := ⟨2, ![512, 1024]⟩
abbrev S1x1024 : Shape := ⟨2, ![1, 1024]⟩
abbrev S2560x1024 : Shape := ⟨2, ![2560, 1024]⟩
abbrev S1x512 : Shape := ⟨2, ![1, 512]⟩
abbrev S1x128 : Shape := ⟨2, ![1, 128]⟩
abbrev S128x128 : Shape := ⟨2, ![128, 128]⟩
abbrev S512x128 : Shape := ⟨2, ![512, 128]⟩
abbrev S128x2560 : Shape := ⟨2, ![128, 2560]⟩
abbrev S2560x128 : Shape := ⟨2, ![2560, 128]⟩

abbrev nBuf : Space → Nat
  | .hbm => 10
  | .vmem => 15
  | .smem => 0
  | _ => 0

abbrev bufTy : (tb : Table) → Fin (tcTables nBuf tb) → BufTy
  | .hbm, ⟨0, _⟩ => ⟨S8x1024x2560, .fp8e4m3⟩
  | .hbm, ⟨1, _⟩ => ⟨S8x1024, .f32⟩
  | .hbm, ⟨2, _⟩ => ⟨S8192x10240, .bf16⟩
  | .hbm, ⟨3, _⟩ => ⟨S1x10240, .f32⟩
  | .hbm, ⟨4, _⟩ => ⟨S2560, .f32⟩
  | .hbm, ⟨5, _⟩ => ⟨S8192x2560, .fp8e4m3⟩
  | .hbm, ⟨6, _⟩ => ⟨S1x2560, .f32⟩
  | .hbm, ⟨7, _⟩ => ⟨S2560x10240, .bf16⟩
  | .hbm, ⟨8, _⟩ => ⟨S8192x10240, .fp8e5m2⟩
  | .hbm, ⟨9, _⟩ => ⟨S1x10240, .f32⟩
  | .local _ .vmem, ⟨0, _⟩ => ⟨S512x2560, .fp8e4m3⟩
  | .local _ .vmem, ⟨1, _⟩ => ⟨S512x2560, .fp8e4m3⟩
  | .local _ .vmem, ⟨2, _⟩ => ⟨S8x1024, .f32⟩
  | .local _ .vmem, ⟨3, _⟩ => ⟨S512x1024, .bf16⟩
  | .local _ .vmem, ⟨4, _⟩ => ⟨S512x1024, .bf16⟩
  | .local _ .vmem, ⟨5, _⟩ => ⟨S1x1024, .f32⟩
  | .local _ .vmem, ⟨6, _⟩ => ⟨S1x1024, .f32⟩
  | .local _ .vmem, ⟨7, _⟩ => ⟨S1x2560, .f32⟩
  | .local _ .vmem, ⟨8, _⟩ => ⟨S2560x1024, .bf16⟩
  | .local _ .vmem, ⟨9, _⟩ => ⟨S2560x1024, .bf16⟩
  | .local _ .vmem, ⟨10, _⟩ => ⟨S512x1024, .fp8e5m2⟩
  | .local _ .vmem, ⟨11, _⟩ => ⟨S512x1024, .fp8e5m2⟩
  | .local _ .vmem, ⟨12, _⟩ => ⟨S1x1024, .f32⟩
  | .local _ .vmem, ⟨13, _⟩ => ⟨S1x1024, .f32⟩
  | .local _ .vmem, ⟨14, _⟩ => ⟨S2560x1024, .f32⟩
  | _, _ => ⟨S8x1024x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![10, 16], ![false, false]⟩

def k0_mult1 (i : grid0.Coords) : BitVec 32 :=
  let arg1 : BitVec 32 := BitVec.ofNat 32 (i 1).val
  let c2_i32_25 : BitVec 32 := 2#32
  let c0_i32_26 : BitVec 32 := 0#32
  let v113 : BitVec 1 := Scalar.cmpi .eq c2_i32_25 c0_i32_26
  let c1_i32_27 : BitVec 32 := 1#32
  let v114 : BitVec 32 := Scalar.select v113 c1_i32_27 c2_i32_25
  let v115 : BitVec 32 := Scalar.remsi arg1 v114
  let c0_i32_29 : BitVec 32 := 0#32
  let v117 : BitVec 1 := Scalar.cmpi .slt v115 c0_i32_29
  let c0_i32_30 : BitVec 32 := 0#32
  let v118 : BitVec 1 := Scalar.cmpi .slt v114 c0_i32_30
  let v119 : BitVec 1 := Scalar.xori v117 v118
  let c0_i32_28 : BitVec 32 := 0#32
  let v116 : BitVec 1 := Scalar.cmpi .ne v115 c0_i32_28
  let v120 : BitVec 1 := Scalar.andi v119 v116
  let v121 : BitVec 32 := Scalar.addi v115 v114
  let v122 : BitVec 32 := Scalar.select v120 v121 v115
  let c512_i32 : BitVec 32 := 512#32
  let v123 : BitVec 32 := Scalar.muli v122 c512_i32
  v123
def k0_off1 (i : grid0.Coords) : Fin 2 → Nat :=
  let arg1 : BitVec 32 := BitVec.ofNat 32 (i 1).val
  let c0_i32_19 : BitVec 32 := 0#32
  let v97 : BitVec 1 := Scalar.cmpi .sgt arg1 c0_i32_19
  let v98 : BitVec 32 := Scalar.extui v97
  let c0_i32_20 : BitVec 32 := 0#32
  let v99 : BitVec 1 := Scalar.cmpi .slt arg1 c0_i32_20
  let v100 : BitVec 32 := Scalar.extui v99
  let v101 : BitVec 32 := Scalar.subi v98 v100
  let c2_i32_18 : BitVec 32 := 2#32
  let c0_i32_21 : BitVec 32 := 0#32
  let v102 : BitVec 1 := Scalar.cmpi .sgt c2_i32_18 c0_i32_21
  let v103 : BitVec 32 := Scalar.extui v102
  let c0_i32_22 : BitVec 32 := 0#32
  let v104 : BitVec 1 := Scalar.cmpi .slt c2_i32_18 c0_i32_22
  let v105 : BitVec 32 := Scalar.extui v104
  let v106 : BitVec 32 := Scalar.subi v103 v105
  let v107 : BitVec 1 := Scalar.cmpi .ne v101 v106
  let v108 : BitVec 32 := Scalar.remsi arg1 c2_i32_18
  let c0_i32_23 : BitVec 32 := 0#32
  let v109 : BitVec 1 := Scalar.cmpi .ne v108 c0_i32_23
  let v110 : BitVec 1 := Scalar.andi v107 v109
  let v96 : BitVec 32 := Scalar.divsi arg1 c2_i32_18
  let c1_i32_24 : BitVec 32 := 1#32
  let v111 : BitVec 32 := Scalar.subi v96 c1_i32_24
  let v112 : BitVec 32 := Scalar.select v110 v111 v96
  let v125 : Index := Scalar.indexCast v112
  let c2_i32_25 : BitVec 32 := 2#32
  let c0_i32_26 : BitVec 32 := 0#32
  let v113 : BitVec 1 := Scalar.cmpi .eq c2_i32_25 c0_i32_26
  let c1_i32_27 : BitVec 32 := 1#32
  let v114 : BitVec 32 := Scalar.select v113 c1_i32_27 c2_i32_25
  let v115 : BitVec 32 := Scalar.remsi arg1 v114
  let c0_i32_29 : BitVec 32 := 0#32
  let v117 : BitVec 1 := Scalar.cmpi .slt v115 c0_i32_29
  let c0_i32_30 : BitVec 32 := 0#32
  let v118 : BitVec 1 := Scalar.cmpi .slt v114 c0_i32_30
  let v119 : BitVec 1 := Scalar.xori v117 v118
  let c0_i32_28 : BitVec 32 := 0#32
  let v116 : BitVec 1 := Scalar.cmpi .ne v115 c0_i32_28
  let v120 : BitVec 1 := Scalar.andi v119 v116
  let v121 : BitVec 32 := Scalar.addi v115 v114
  let v122 : BitVec 32 := Scalar.select v120 v121 v115
  let c512_i32 : BitVec 32 := 512#32
  let v123 : BitVec 32 := Scalar.muli v122 c512_i32
  let v124 : BitVec 32 := v123
  let v126 : Index := Scalar.indexCast v124
  ![v125.toNat, v126.toNat]
def k0_cond2 (i : grid0.Coords) : BitVec 1 :=
  let arg1 : BitVec 32 := BitVec.ofNat 32 (i 1).val
  let c15_i32 : BitVec 32 := 15#32
  let v166 : BitVec 1 := Scalar.cmpi .eq arg1 c15_i32
  let v167 : BitVec 32 := Scalar.extui v166
  let c0_i32_42 : BitVec 32 := 0#32
  let v168 : BitVec 1 := Scalar.cmpi .ne v167 c0_i32_42
  v168

def k0_cond1 (i : grid0.Coords) : BitVec 1 :=
  let arg1 : BitVec 32 := BitVec.ofNat 32 (i 1).val
  let c0_i32_14 : BitVec 32 := 0#32
  let v90 : BitVec 1 := Scalar.cmpi .eq arg1 c0_i32_14
  let v91 : BitVec 32 := Scalar.extui v90
  let c0_i32_15 : BitVec 32 := 0#32
  let v92 : BitVec 1 := Scalar.cmpi .ne v91 c0_i32_15
  v92

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2560 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2560x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x1024 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== RInIdeal.lean ====
abbrev S8x1024x2560 : Shape := ⟨3, ![8, 1024, 2560]⟩
abbrev S8x1024 : Shape := ⟨2, ![8, 1024]⟩
abbrev S8192x10240 : Shape := ⟨2, ![8192, 10240]⟩
abbrev S1x10240 : Shape := ⟨2, ![1, 10240]⟩
abbrev S2560 : Shape := ⟨1, ![2560]⟩
abbrev S8192x2560 : Shape := ⟨2, ![8192, 2560]⟩
abbrev S8192x1 : Shape := ⟨2, ![8192, 1]⟩
abbrev S2560x1 : Shape := ⟨2, ![2560, 1]⟩
abbrev S2560x10240 : Shape := ⟨2, ![2560, 10240]⟩

abbrev nBuf : Space → Nat
  | .hbm => 11
  | .vmem => 8
  | .smem => 0
  | _ => 0

abbrev bufTy : (tb : Table) → Fin (tcTables nBuf tb) → BufTy
  | .hbm, ⟨0, _⟩ => ⟨S8x1024x2560, .fp8e4m3⟩
  | .hbm, ⟨1, _⟩ => ⟨S8x1024, .f32⟩
  | .hbm, ⟨2, _⟩ => ⟨S8192x10240, .bf16⟩
  | .hbm, ⟨3, _⟩ => ⟨S1x10240, .f32⟩
  | .hbm, ⟨4, _⟩ => ⟨S2560, .f32⟩
  | .hbm, ⟨5, _⟩ => ⟨S8192x2560, .fp8e4m3⟩
  | .hbm, ⟨6, _⟩ => ⟨S8192x1, .f32⟩
  | .hbm, ⟨7, _⟩ => ⟨S2560x1, .f32⟩
  | .hbm, ⟨8, _⟩ => ⟨S2560x10240, .bf16⟩
  | .hbm, ⟨9, _⟩ => ⟨S8192x10240, .fp8e5m2⟩
  | .hbm, ⟨10, _⟩ => ⟨S1x10240, .f32⟩
  | .local _ .vmem, ⟨0, _⟩ => ⟨S8192x2560, .fp8e4m3⟩
  | .local _ .vmem, ⟨1, _⟩ => ⟨S8192x1, .f32⟩
  | .local _ .vmem, ⟨2, _⟩ => ⟨S8192x10240, .bf16⟩
  | .local _ .vmem, ⟨3, _⟩ => ⟨S1x10240, .f32⟩
  | .local _ .vmem, ⟨4, _⟩ => ⟨S2560x1, .f32⟩
  | .local _ .vmem, ⟨5, _⟩ => ⟨S2560x10240, .bf16⟩
  | .local _ .vmem, ⟨6, _⟩ => ⟨S8192x10240, .fp8e5m2⟩
  | .local _ .vmem, ⟨7, _⟩ => ⟨S1x10240, .f32⟩
  | _, _ => ⟨S8x1024x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S8192x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x10240 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x10240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2560x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2560x10240 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x10240 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x10240 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== KDx.lean ====
abbrev S8192x10240 : Shape := ⟨2, ![8192, 10240]⟩
abbrev S8x1024 : Shape := ⟨2, ![8, 1024]⟩
abbrev S10240 : Shape := ⟨1, ![10240]⟩
abbrev S2560x10240 : Shape := ⟨2, ![2560, 10240]⟩
abbrev S8x1024x3x20x128 : Shape := ⟨5, ![8, 1024, 3, 20, 128]⟩
abbrev S3x20x128 : Shape := ⟨3, ![3, 20, 128]⟩
abbrev S2560x3x20x128 : Shape := ⟨4, ![2560, 3, 20, 128]⟩
abbrev S8x1024x2560 : Shape := ⟨3, ![8, 1024, 2560]⟩
abbrev S2560 : Shape := ⟨1, ![2560]⟩
abbrev S1x10240 : Shape := ⟨2, ![1, 10240]⟩
abbrev S8192x7680 : Shape := ⟨2, ![8192, 7680]⟩
abbrev S1x7680 : Shape := ⟨2, ![1, 7680]⟩
abbrev S2560x7680 : Shape := ⟨2, ![2560, 7680]⟩
abbrev S8192x2560 : Shape := ⟨2, ![8192, 2560]⟩
abbrev S1x2560 : Shape := ⟨2, ![1, 2560]⟩
abbrev S512x1280 : Shape := ⟨2, ![512, 1280]⟩
abbrev S1x1280 : Shape := ⟨2, ![1, 1280]⟩
abbrev S2560x1280 : Shape := ⟨2, ![2560, 1280]⟩
abbrev S512x2560 : Shape := ⟨2, ![512, 2560]⟩
abbrev S512x128 : Shape := ⟨2, ![512, 128]⟩
abbrev S8x2560 : Shape := ⟨2, ![8, 2560]⟩
abbrev S1x512 : Shape := ⟨2, ![1, 512]⟩
abbrev S1x128 : Shape := ⟨2, ![1, 128]⟩
abbrev S128x128 : Shape := ⟨2, ![128, 128]⟩
abbrev S128x2560 : Shape := ⟨2, ![128, 2560]⟩
abbrev S16x8x2560 : Shape := ⟨3, ![16, 8, 2560]⟩
abbrev S128 : Shape := ⟨1, ![128]⟩
abbrev S128x1 : Shape := ⟨2, ![128, 1]⟩

abbrev nBuf : Space → Nat
  | .hbm => 25
  | .vmem => 33
  | .smem => 0
  | _ => 0

abbrev bufTy : (tb : Table) → Fin (tcTables nBuf tb) → BufTy
  | .hbm, ⟨0, _⟩ => ⟨S8192x10240, .bf16⟩
  | .hbm, ⟨1, _⟩ => ⟨S8x1024, .f32⟩
  | .hbm, ⟨2, _⟩ => ⟨S10240, .f32⟩
  | .hbm, ⟨3, _⟩ => ⟨S2560x10240, .fp8e4m3⟩
  | .hbm, ⟨4, _⟩ => ⟨S8x1024x3x20x128, .fp8e5m2⟩
  | .hbm, ⟨5, _⟩ => ⟨S8x1024, .f32⟩
  | .hbm, ⟨6, _⟩ => ⟨S3x20x128, .f32⟩
  | .hbm, ⟨7, _⟩ => ⟨S2560x3x20x128, .fp8e4m3⟩
  | .hbm, ⟨8, _⟩ => ⟨S8x1024x2560, .fp8e5m2⟩
  | .hbm, ⟨9, _⟩ => ⟨S8x1024, .f32⟩
  | .hbm, ⟨10, _⟩ => ⟨S8x1024x2560, .fp8e4m3⟩
  | .hbm, ⟨11, _⟩ => ⟨S8x1024, .f32⟩
  | .hbm, ⟨12, _⟩ => ⟨S8x1024, .f32⟩
  | .hbm, ⟨13, _⟩ => ⟨S2560, .f32⟩
  | .hbm, ⟨14, _⟩ => ⟨S1x10240, .f32⟩
  | .hbm, ⟨15, _⟩ => ⟨S8192x7680, .fp8e5m2⟩
  | .hbm, ⟨16, _⟩ => ⟨S1x7680, .f32⟩
  | .hbm, ⟨17, _⟩ => ⟨S2560x7680, .fp8e4m3⟩
  | .hbm, ⟨18, _⟩ => ⟨S8192x2560, .fp8e5m2⟩
  | .hbm, ⟨19, _⟩ => ⟨S8192x2560, .fp8e4m3⟩
  | .hbm, ⟨20, _⟩ => ⟨S1x2560, .f32⟩
  | .hbm, ⟨21, _⟩ => ⟨S8192x2560, .bf16⟩
  | .hbm, ⟨22, _⟩ => ⟨S8192x10240, .fp8e5m2⟩
  | .hbm, ⟨23, _⟩ => ⟨S8x1024, .f32⟩
  | .hbm, ⟨24, _⟩ => ⟨S1x2560, .f32⟩
  | .local _ .vmem, ⟨0, _⟩ => ⟨S512x1280, .bf16⟩
  | .local _ .vmem, ⟨1, _⟩ => ⟨S512x1280, .bf16⟩
  | .local _ .vmem, ⟨2, _⟩ => ⟨S8x1024, .f32⟩
  | .local _ .vmem, ⟨3, _⟩ => ⟨S1x1280, .f32⟩
  | .local _ .vmem, ⟨4, _⟩ => ⟨S1x1280, .f32⟩
  | .local _ .vmem, ⟨5, _⟩ => ⟨S2560x1280, .fp8e4m3⟩
  | .local _ .vmem, ⟨6, _⟩ => ⟨S2560x1280, .fp8e4m3⟩
  | .local _ .vmem, ⟨7, _⟩ => ⟨S512x1280, .fp8e5m2⟩
  | .local _ .vmem, ⟨8, _⟩ => ⟨S512x1280, .fp8e5m2⟩
  | .local _ .vmem, ⟨9, _⟩ => ⟨S8x1024, .f32⟩
  | .local _ .vmem, ⟨10, _⟩ => ⟨S1x1280, .f32⟩
  | .local _ .vmem, ⟨11, _⟩ => ⟨S1x1280, .f32⟩
  | .local _ .vmem, ⟨12, _⟩ => ⟨S2560x1280, .fp8e4m3⟩
  | .local _ .vmem, ⟨13, _⟩ => ⟨S2560x1280, .fp8e4m3⟩
  | .local _ .vmem, ⟨14, _⟩ => ⟨S512x2560, .fp8e5m2⟩
  | .local _ .vmem, ⟨15, _⟩ => ⟨S512x2560, .fp8e5m2⟩
  | .local _ .vmem, ⟨16, _⟩ => ⟨S8x1024, .f32⟩
  | .local _ .vmem, ⟨17, _⟩ => ⟨S512x2560, .fp8e4m3⟩
  | .local _ .vmem, ⟨18, _⟩ => ⟨S512x2560, .fp8e4m3⟩
  | .local _ .vmem, ⟨19, _⟩ => ⟨S8x1024, .f32⟩
  | .local _ .vmem, ⟨20, _⟩ => ⟨S8x1024, .f32⟩
  | .local _ .vmem, ⟨21, _⟩ => ⟨S1x2560, .f32⟩
  | .local _ .vmem, ⟨22, _⟩ => ⟨S512x2560, .bf16⟩
  | .local _ .vmem, ⟨23, _⟩ => ⟨S512x2560, .bf16⟩
  | .local _ .vmem, ⟨24, _⟩ => ⟨S512x1280, .fp8e5m2⟩
  | .local _ .vmem, ⟨25, _⟩ => ⟨S512x1280, .fp8e5m2⟩
  | .local _ .vmem, ⟨26, _⟩ => ⟨S8x1024, .f32⟩
  | .local _ .vmem, ⟨27, _⟩ => ⟨S1x2560, .f32⟩
  | .local _ .vmem, ⟨28, _⟩ => ⟨S512x2560, .f32⟩
  | .local _ .vmem, ⟨29, _⟩ => ⟨S512x128, .bf16⟩
  | .local _ .vmem, ⟨30, _⟩ => ⟨S512x128, .f32⟩
  | .local _ .vmem, ⟨31, _⟩ => ⟨S512x128, .f32⟩
  | .local _ .vmem, ⟨32, _⟩ => ⟨S8x2560, .f32⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7_0 : Ref sig .tc := ⟨.hbm, 21, rfl⟩
abbrev main_v7_1 : Ref sig .tc := ⟨.hbm, 22, rfl⟩
abbrev main_v7_2 : Ref sig .tc := ⟨.hbm, 23, rfl⟩
abbrev main_v7_3 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg17_0 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_scratch4 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem17_0 : DmaSem sig := 27

abbrev nD : Nat := 1
abbrev τ : Topo := Topo.v7x

variable {F : FTy → Type} [FloatOps F]

abbrev grid0 : Pipeline.Grid := ⟨2, ![16, 14], ![false, false]⟩

def k0_mult1 (i : grid0.Coords) : BitVec 32 :=
  let arg0 : BitVec 32 := BitVec.ofNat 32 (i 0).val
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c512_i32 : BitVec 32 := 512#32
  let v27 : BitVec 32 := Scalar.muli v26 c512_i32
  v27
def k0_cond1 (i : grid0.Coords) : BitVec 1 :=
  let arg1 : BitVec 32 := BitVec.ofNat 32 (i 1).val
  let c0_i32_10 : BitVec 32 := 0#32
  let v29 : BitVec 1 := Scalar.cmpi .eq arg1 c0_i32_10
  let v30 : BitVec 32 := Scalar.extui v29
  let c0_i32_11 : BitVec 32 := 0#32
  let v31 : BitVec 1 := Scalar.cmpi .ne v30 c0_i32_11
  v31

def k0_off1 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v51 : Index := Scalar.indexCast v16
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c512_i32 : BitVec 32 := 512#32
  let v27 : BitVec 32 := Scalar.muli v26 c512_i32
  let v28 : BitVec 32 := v27
  let v52 : Index := Scalar.indexCast v28
  ![v51.toNat, v52.toNat]
def k0_cond5 (i : grid0.Coords) : BitVec 1 :=
  let arg1 : BitVec 32 := BitVec.ofNat 32 (i 1).val
  let c13_i32 : BitVec 32 := 13#32
  let v43 : BitVec 1 := Scalar.cmpi .eq arg1 c13_i32
  let v44 : BitVec 32 := Scalar.extui v43
  let c0_i32_18 : BitVec 32 := 0#32
  let v45 : BitVec 1 := Scalar.cmpi .ne v44 c0_i32_18
  v45

def k0_off2 (i : grid0.Coords) : Fin 2 → Nat :=
  let arg0 : BitVec 32 := BitVec.ofNat 32 (i 0).val
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let v0 : BitVec 32 := Scalar.divsi arg0 c2_i32
  let c1_i32 : BitVec 32 := 1#32
  let v15 : BitVec 32 := Scalar.subi v0 c1_i32
  let v16 : BitVec 32 := Scalar.select v14 v15 v0
  let v55 : Index := Scalar.indexCast v16
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let c0_i32_7 : BitVec 32 := 0#32
  let v20 : BitVec 1 := Scalar.cmpi .ne v19 c0_i32_7
  let v24 : BitVec 1 := Scalar.andi v23 v20
  let v25 : BitVec 32 := Scalar.addi v19 v18
  let v26 : BitVec 32 := Scalar.select v24 v25 v19
  let c512_i32 : BitVec 32 := 512#32
  let v27 : BitVec 32 := Scalar.muli v26 c512_i32
  let v28 : BitVec 32 := v27
  let v56 : Index := Scalar.indexCast v28
  ![v55.toNat, v56.toNat]
def k0_cond3 (i : grid0.Coords) : BitVec 1 :=
  let arg1 : BitVec 32 := BitVec.ofNat 32 (i 1).val
  let c8_i32 : BitVec 32 := 8#32
  let v37 : BitVec 1 := Scalar.cmpi .slt arg1 c8_i32
  let v38 : BitVec 32 := Scalar.extui v37
  let c0_i32_15 : BitVec 32 := 0#32
  let v39 : BitVec 1 := Scalar.cmpi .ne v38 c0_i32_15
  v39

def k0_cond6 (i : grid0.Coords) : BitVec 1 :=
  let arg0 : BitVec 32 := BitVec.ofNat 32 (i 0).val
  let c15_i32 : BitVec 32 := 15#32
  let v46 : BitVec 1 := Scalar.cmpi .eq arg0 c15_i32
  let arg1 : BitVec 32 := BitVec.ofNat 32 (i 1).val
  let c13_i32_19 : BitVec 32 := 13#32
  let v47 : BitVec 1 := Scalar.cmpi .eq arg1 c13_i32_19
  let v48 : BitVec 1 := Scalar.andi v46 v47
  let v49 : BitVec 32 := Scalar.extui v48
  let c0_i32_20 : BitVec 32 := 0#32
  let v50 : BitVec 1 := Scalar.cmpi .ne v49 c0_i32_20
  v50

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  ![arg0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.subi arg1 c8_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2560x1280 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1280 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1280 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2560x1280 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x2560 .fp8e5m2 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x2560 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x2560 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S512x2560 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S512x1280 .fp8e5m2 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 1 → Memref sig .tc .vmem S8x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1x2560 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== RDxIdeal.lean ====
abbrev S8192x10240 : Shape := ⟨2, ![8192, 10240]⟩
abbrev S8x1024 : Shape := ⟨2, ![8, 1024]⟩
abbrev S10240 : Shape := ⟨1, ![10240]⟩
abbrev S2560x10240 : Shape := ⟨2, ![2560, 10240]⟩
abbrev S8x1024x3x20x128 : Shape := ⟨5, ![8, 1024, 3, 20, 128]⟩
abbrev S3x20x128 : Shape := ⟨3, ![3, 20, 128]⟩
abbrev S2560x3x20x128 : Shape := ⟨4, ![2560, 3, 20, 128]⟩
abbrev S8x1024x2560 : Shape := ⟨3, ![8, 1024, 2560]⟩
abbrev S2560 : Shape := ⟨1, ![2560]⟩
abbrev S8192x1 : Shape := ⟨2, ![8192, 1]⟩
abbrev S1x10240 : Shape := ⟨2, ![1, 10240]⟩
abbrev S8192x7680 : Shape := ⟨2, ![8192, 7680]⟩
abbrev S1x7680 : Shape := ⟨2, ![1, 7680]⟩
abbrev S2560x7680 : Shape := ⟨2, ![2560, 7680]⟩
abbrev S8192x2560 : Shape := ⟨2, ![8192, 2560]⟩
abbrev S1x2560 : Shape := ⟨2, ![1, 2560]⟩
abbrev S8192 : Shape := ⟨1, ![8192]⟩

abbrev nBuf : Space → Nat
  | .hbm => 28
  | .vmem => 16
  | .smem => 0
  | _ => 0

abbrev bufTy : (tb : Table) → Fin (tcTables nBuf tb) → BufTy
  | .hbm, ⟨0, _⟩ => ⟨S8192x10240, .bf16⟩
  | .hbm, ⟨1, _⟩ => ⟨S8x1024, .f32⟩
  | .hbm, ⟨2, _⟩ => ⟨S10240, .f32⟩
  | .hbm, ⟨3, _⟩ => ⟨S2560x10240, .fp8e4m3⟩
  | .hbm, ⟨4, _⟩ => ⟨S8x1024x3x20x128, .fp8e5m2⟩
  | .hbm, ⟨5, _⟩ => ⟨S8x1024, .f32⟩
  | .hbm, ⟨6, _⟩ => ⟨S3x20x128, .f32⟩
  | .hbm, ⟨7, _⟩ => ⟨S2560x3x20x128, .fp8e4m3⟩
  | .hbm, ⟨8, _⟩ => ⟨S8x1024x2560, .fp8e5m2⟩
  | .hbm, ⟨9, _⟩ => ⟨S8x1024, .f32⟩
  | .hbm, ⟨10, _⟩ => ⟨S8x1024x2560, .fp8e4m3⟩
  | .hbm, ⟨11, _⟩ => ⟨S8x1024, .f32⟩
  | .hbm, ⟨12, _⟩ => ⟨S8x1024, .f32⟩
  | .hbm, ⟨13, _⟩ => ⟨S2560, .f32⟩
  | .hbm, ⟨14, _⟩ => ⟨S8192x1, .f32⟩
  | .hbm, ⟨15, _⟩ => ⟨S1x10240, .f32⟩
  | .hbm, ⟨16, _⟩ => ⟨S8192x7680, .fp8e5m2⟩
  | .hbm, ⟨17, _⟩ => ⟨S8192x1, .f32⟩
  | .hbm, ⟨18, _⟩ => ⟨S1x7680, .f32⟩
  | .hbm, ⟨19, _⟩ => ⟨S2560x7680, .fp8e4m3⟩
  | .hbm, ⟨20, _⟩ => ⟨S8192x2560, .fp8e5m2⟩
  | .hbm, ⟨21, _⟩ => ⟨S8192x1, .f32⟩
  | .hbm, ⟨22, _⟩ => ⟨S8192x2560, .fp8e4m3⟩
  | .hbm, ⟨23, _⟩ => ⟨S8192x1, .f32⟩
  | .hbm, ⟨24, _⟩ => ⟨S8192x1, .f32⟩
  | .hbm, ⟨25, _⟩ => ⟨S1x2560, .f32⟩
  | .hbm, ⟨26, _⟩ => ⟨S8192x2560, .bf16⟩
  | .hbm, ⟨27, _⟩ => ⟨S8192x10240, .fp8e5m2⟩
  | .local _ .vmem, ⟨0, _⟩ => ⟨S8192x10240, .bf16⟩
  | .local _ .vmem, ⟨1, _⟩ => ⟨S8192x1, .f32⟩
  | .local _ .vmem, ⟨2, _⟩ => ⟨S1x10240, .f32⟩
  | .local _ .vmem, ⟨3, _⟩ => ⟨S2560x10240, .fp8e4m3⟩
  | .local _ .vmem, ⟨4, _⟩ => ⟨S8192x7680, .fp8e5m2⟩
  | .local _ .vmem, ⟨5, _⟩ => ⟨S8192x1, .f32⟩
  | .local _ .vmem, ⟨6, _⟩ => ⟨S1x7680, .f32⟩
  | .local _ .vmem, ⟨7, _⟩ => ⟨S2560x7680, .fp8e4m3⟩
  | .local _ .vmem, ⟨8, _⟩ => ⟨S8192x2560, .fp8e5m2⟩
  | .local _ .vmem, ⟨9, _⟩ => ⟨S8192x1, .f32⟩
  | .local _ .vmem, ⟨10, _⟩ => ⟨S8192x2560, .fp8e4m3⟩
  | .local _ .vmem, ⟨11, _⟩ => ⟨S8192x1, .f32⟩
  | .local _ .vmem, ⟨12, _⟩ => ⟨S8192x1, .f32⟩
  | .local _ .vmem, ⟨13, _⟩ => ⟨S1x2560, .f32⟩
  | .local _ .vmem, ⟨14, _⟩ => ⟨S8192x2560, .bf16⟩
  | .local _ .vmem, ⟨15, _⟩ => ⟨S8192x10240, .fp8e5m2⟩
  | _, _ => ⟨S8192x10240, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12_0 : Ref sig .tc := ⟨.hbm, 26, rfl⟩
abbrev main_v12_1 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S8192x10240 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x10240 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2560x10240 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8192x7680 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x7680 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2560x7680 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8192x2560 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8192x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192x2560 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8192x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8192x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x2560 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8192x2560 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S8192x10240 .fp8e5m2 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Proof.InIdealFrame.Runs.lean ====
/- What the runs of the idealized dw_in kernel share: the launch, the branch conditions and the idle points of each output window in closed form, and the memrefs the body is run on. -/
module

public import proofs.«01_k».proof.Proof.Gen.KInIdeal.Launch
public import proofs.«01_k».proof.Proof.Gen.KInIdeal.Skeleton
public import proofs.«01_k».proof.Proof.Gen.KInIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KInIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `FramePost` read at the argument arrays — a staged input by the library's
    `Dat.arrAt_in`, an array no window stages by the post's second clause, each then by `V_…` — is the frame
    claim's post (`Cert.frame_KInIdeal`, Defs.lean, at any `F`). -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).2 main_arg4 (Pipeline.mem_restRefs_of main_arg4 (by decide) (by decide))).trans (V_main_arg4 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 16) — by arithmetic of the point. -/
theorem hcond0_0 : ∀ t : Fin cfg0.N, cond0_0 (grid0.coords t) ↔ t.val % 16 = 0 :=
  (fun t => by
    have ht : t.val < 160 := Nat.lt_of_lt_of_eq t.isLt N_0
    have e0 : (grid0.coords t 0).val = t.val / 16 % 10 := Pipeline.Grid.coords_val t 0 (by decide) rfl
    have e1 : (grid0.coords t 1).val = t.val / 1 % 16 := Pipeline.Grid.coords_val t 1 (by decide) rfl
    simp only [cond0_0, k0_cond1, e0, e1]
    word_cmp
   : ∀ t : Fin grid0.N, cond0_0 (grid0.coords t) ↔ t.val % 16 = 0)

/-- The condition of the body's `scf.if` 1 (`k0_h2`), from the grid coordinates (the skeleton's scalar
    chain substituted). -/
abbrev cond0_1 (i : grid0.Coords) : Prop := k0_cond2 i = 1#1
/-- It holds at the points ≡ 15 (mod 16) — by arithmetic of the point. -/
theorem hcond0_1 : ∀ t : Fin cfg0.N, cond0_1 (grid0.coords t) ↔ t.val % 16 = 15 :=
  (fun t => by
    have ht : t.val < 160 := Nat.lt_of_lt_of_eq t.isLt N_0
    have e0 : (grid0.coords t 0).val = t.val / 16 % 10 := Pipeline.Grid.coords_val t 0 (by decide) rfl
    have e1 : (grid0.coords t 1).val = t.val / 1 % 16 := Pipeline.Grid.coords_val t 1 (by decide) rfl
    simp only [cond0_1, k0_cond2, e0, e1]
    word_cmp
   : ∀ t : Fin grid0.N, cond0_1 (grid0.coords t) ↔ t.val % 16 = 15)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 6 is never idle (an output stored at every point, under no condition). -/
theorem liveAt0_6 : ∀ t : Fin cfg0.N, cfg0.idle 6 (grid0.coords t) = false := fun _ => rfl
/-- At the points of case A the printed configuration (`Cfg.idle`) calls output 5 idle: the case stores nothing into it. -/
theorem idleAt0_5_A : ∀ t : Fin cfg0.N, cond0_0 (grid0.coords t) → ¬cond0_1 (grid0.coords t) → cfg0.idle 5 (grid0.coords t) = true := by decide +kernel
/-- At the points of case A the pipeline does not write output 5's block back. -/
theorem noFlush0_5_A : ∀ t : Fin cfg0.N, cond0_0 (grid0.coords t) → ¬cond0_1 (grid0.coords t) → (cfg0.win 5).flush t = false := by decide +kernel
/-- At the points of case B the printed configuration (`Cfg.idle`) calls output 5 idle: the case stores nothing into it. -/
theorem idleAt0_5_B : ∀ t : Fin cfg0.N, ¬cond0_0 (grid0.coords t) → ¬cond0_1 (grid0.coords t) → cfg0.idle 5 (grid0.coords t) = true := by decide +kernel
/-- At the points of case B the pipeline does not write output 5's block back. -/
theorem noFlush0_5_B : ∀ t : Fin cfg0.N, ¬cond0_0 (grid0.coords t) → ¬cond0_1 (grid0.coords t) → (cfg0.win 5).flush t = false := by decide +kernel
/-- At the points of case C the printed configuration (`Cfg.idle`) calls output 5 live: the case stores into it. -/
theorem liveAt0_5_C : ∀ t : Fin cfg0.N, ¬cond0_0 (grid0.coords t) → cond0_1 (grid0.coords t) → cfg0.idle 5 (grid0.coords t) = false := by decide +kernel
/-- Whether output 7's buffer is FRESH at each position `1 ‥ N` — holds nothing the body stored since the region's entry or the
    last write-back (written back at the point before, or idle there and fresh before it) —, as a bitmask,
    bit `n` for position `n + 1`; position 0 is fresh. `freshTab0_7_step` checks it against the configuration's own
    step point by point and Lib/Pipeline/TableIdle.lean `Cfg.fresh_tab` makes it `Cfg.fresh` (`fresh0_7_eq`). -/
def freshTab0_7 : ℕ → Bool
  | 0 => true
  | n + 1 => (0x8000800080008000800080008000800080008000 : ℕ).testBit n
theorem freshTab0_7_step : ∀ t : Fin cfg0.N,
    freshTab0_7 (t.val + 1) = ((cfg0.win 7).flush t || (cfg0.idle 7 (cfg0.grid.coords t) && freshTab0_7 t.val)) := by decide +kernel
theorem fresh0_7_eq (t : Fin cfg0.N) : cfg0.fresh 7 t.val = freshTab0_7 t.val :=
  Pipeline.Cfg.fresh_tab cfg0 7 freshTab0_7 rfl freshTab0_7_step t.val (Nat.le_of_lt t.isLt)
/-- At the points of case A the printed configuration (`Cfg.idle`) calls output 7 live: the case stores into it. -/
theorem liveAt0_7_A : ∀ t : Fin cfg0.N, cond0_0 (grid0.coords t) → ¬cond0_1 (grid0.coords t) → cfg0.idle 7 (grid0.coords t) = false := by decide +kernel
/-- At the points of case B the printed configuration (`Cfg.idle`) calls output 7 idle: the case stores nothing into it. -/
theorem idleAt0_7_B : ∀ t : Fin cfg0.N, ¬cond0_0 (grid0.coords t) → ¬cond0_1 (grid0.coords t) → cfg0.idle 7 (grid0.coords t) = true := by decide +kernel
/-- At the points of case B the pipeline does not write output 7's block back. -/
theorem noFlush0_7_B : ∀ t : Fin cfg0.N, ¬cond0_0 (grid0.coords t) → ¬cond0_1 (grid0.coords t) → (cfg0.win 7).flush t = false := by decide +kernel
/-- At the points of case C the body stores nothing into output 7, -/
theorem idleAt0_7_C : ∀ t : Fin cfg0.N, ¬cond0_0 (grid0.coords t) → cond0_1 (grid0.coords t) → cfg0.idle 7 (grid0.coords t) = true := by decide +kernel
/-- and the block is written back there. -/
theorem flushAt0_7_C : ∀ t : Fin cfg0.N, ¬cond0_0 (grid0.coords t) → cond0_1 (grid0.coords t) → (cfg0.win 7).flush t = true := by decide +kernel
/-- At the points of case C, which keeps output 7's prior contents (reads it before covering, or covers it in part), the
    window's buffer is not FRESH: something was stored into it since the region's entry or its last write-back, idle points
    between or not (Lib/Pipeline/TableIdle.lean `Cfg.fresh`, by the table `freshTab0_7`). -/
theorem notFresh0_7_C : ∀ t : Fin cfg0.N, ¬cond0_0 (grid0.coords t) → cond0_1 (grid0.coords t) → cfg0.fresh 7 t.val = false := by
  intro t; rw [fresh0_7_eq t]; revert t; decide +kernel

/-! ## The kernel body on any staging memrefs: a subtype the run finds -/

/-- One staging buffer of output window 5, through which its contents are stated (`View.read_writes_of_cover`: the
    choice does not matter). -/
abbrev VO0_5 : View sig .tc .vmem S2560x1024 .bf16 := (Memref.whole cc0_stg5_0 : Memref sig .tc .vmem S2560x1024 .bf16).view
/-- One staging buffer of output window 6, through which its contents are stated (`View.read_writes_of_cover`: the
    choice does not matter). -/
abbrev VO0_6 : View sig .tc .vmem S512x1024 .fp8e5m2 := (Memref.whole cc0_stg6_0 : Memref sig .tc .vmem S512x1024 .fp8e5m2).view
/-- One staging buffer of output window 7, through which its contents are stated (`View.read_writes_of_cover`: the
    choice does not matter). -/
abbrev VO0_7 : View sig .tc .vmem S1x1024 .f32 := (Memref.whole cc0_stg7_0 : Memref sig .tc .vmem S1x1024 .f32).view
/-- Each window's current staging memref at point `t`, spelled as the pipeline passes it (`bodyAt0`), and its wholeness. -/
abbrev ms0_0 (t : Fin cfg0.N) : Memref sig .tc .vmem S512x2560 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1024 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2560 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2560x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1024 .fp8e5m2 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S2560x1024 .f32 := Memref.whole cc0_scratch0
/-- The scratch `arg10` the kernel carries between points, as a view: what it holds is stated through it. -/
abbrev VS0_0 : View sig .tc .vmem S2560x1024 .f32 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl

end Cert.KInIdeal.Gen

end
-- ==== Proof.InIdealFrame.RunA.lean ====
/- The run of the body of the idealized dw_in kernel in case A of its branches: what each buffer ends with. -/
module

public import proofs.«01_k».proof.Proof.InIdealFrame.Runs

@[expose] public section

-- membership in a rectangle of production extents (`View.cover_of_tiled`): the elaborator's structural look
-- recurses once per coordinate of the long axes
set_option maxRecDepth 16384

noncomputable section

namespace Cert.KInIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 16, … 144: 10 of 160), WITH the
    proof that on whole staging memrefs — the inputs' at their contents, the outputs it leaves idle (5: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S512x2560 .fp8e4m3) (harg2 : arg2.IsWhole) (arg3 : Memref sig .tc .vmem S8x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x2560 .f32) (harg6 : arg6.IsWhole) (arg7 : Memref sig .tc .vmem S2560x1024 .bf16) (harg7 : arg7.IsWhole) (arg8 : Memref sig .tc .vmem S512x1024 .fp8e5m2) (harg8 : arg8.IsWhole) (arg9 : Memref sig .tc .vmem S1x1024 .f32) (harg9 : arg9.IsWhole) (arg10 : Memref sig .tc .vmem S2560x1024 .f32) (harg10 : arg10.IsWhole) (hc0 : cond0_0 i) (hc1 : ¬cond0_1 i)
    (x0 : Vec F S512x2560 .fp8e4m3) (x1 : Vec F S8x1024 .f32) (x2 : Vec F S512x1024 .bf16) (x3 : Vec F S1x1024 .f32) (x4 : Vec F S1x2560 .f32) :
    Σ' (L5 : List (View.Piece (Elt F) S2560x1024 .bf16)), Σ' (L6 : List (View.Piece (Elt F) S512x1024 .fp8e5m2)), Σ' (L7 : List (View.Piece (Elt F) S1x1024 .f32)), { LS0 : List (View.Piece (Elt F) S2560x1024 .f32) //
      ∀ (xi5 : Vec F S2560x1024 .bf16) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0)) -∗ K ⟨⟩))
          ⊢ wp frame (wpE (defs₀ (F := F)) Variants.none c none) E (cc0_dw_in i arg2 harg2 arg3 harg3 arg4 harg4 arg5 harg5 arg6 harg6 arg7 harg7 arg8 harg8 arg9 harg9 arg10 harg10) K } := by
  refine ⟨[], ?_, ?_, ?_, fun xi5 E K => ?run⟩
  case run =>
    simp only [cc0_dw_in_eq_skeleton]; unfold cc0_dw_in_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact HS0

end Cert.KInIdeal.Gen

end
-- ==== Proof.InIdealFrame.RunB.lean ====
/- The run of the body of the idealized dw_in kernel in case B of its branches: what each buffer ends with. -/
module

public import proofs.«01_k».proof.Proof.InIdealFrame.RunA

@[expose] public section

-- membership in a rectangle of production extents (`View.cover_of_tiled`): the elaborator's structural look
-- recurses once per coordinate of the long axes
set_option maxRecDepth 16384

noncomputable section

namespace Cert.KInIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 158: 140 of 160), WITH the
    proof that on whole staging memrefs — the inputs' at their contents, the outputs it leaves idle (5, 7: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S512x2560 .fp8e4m3) (harg2 : arg2.IsWhole) (arg3 : Memref sig .tc .vmem S8x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x2560 .f32) (harg6 : arg6.IsWhole) (arg7 : Memref sig .tc .vmem S2560x1024 .bf16) (harg7 : arg7.IsWhole) (arg8 : Memref sig .tc .vmem S512x1024 .fp8e5m2) (harg8 : arg8.IsWhole) (arg9 : Memref sig .tc .vmem S1x1024 .f32) (harg9 : arg9.IsWhole) (arg10 : Memref sig .tc .vmem S2560x1024 .f32) (harg10 : arg10.IsWhole) (hc0 : ¬cond0_0 i) (hc1 : ¬cond0_1 i)
    (x0 : Vec F S512x2560 .fp8e4m3) (x1 : Vec F S8x1024 .f32) (x2 : Vec F S512x1024 .bf16) (x3 : Vec F S1x1024 .f32) (x4 : Vec F S1x2560 .f32) (xs0 : Vec F S2560x1024 .f32) :
    Σ' (L5 : List (View.Piece (Elt F) S2560x1024 .bf16)), Σ' (L6 : List (View.Piece (Elt F) S512x1024 .fp8e5m2)), Σ' (L7 : List (View.Piece (Elt F) S1x1024 .f32)), { LS0 : List (View.Piece (Elt F) S2560x1024 .f32) //
      ∀ (xi5 : Vec F S2560x1024 .bf16) (xi7 : Vec F S1x1024 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ d, owns (c : Thread nD τ) arg8 fullShare d) ∗ owns (c : Thread nD τ) arg9 fullShare xi7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi5 ∗ (∃ f, arg8.view.loc (c : Thread nD τ) ↦[arg8.view.set]{fullShare} arg8.view.writes (Elt F) f L6) ∗ owns (c : Thread nD τ) arg9 fullShare xi7 ∗ (∃ f, arg10.view.loc (c : Thread nD τ) ↦[arg10.view.set]{fullShare} arg10.view.writes (Elt F) f LS0)) -∗ K ⟨⟩))
          ⊢ wp frame (wpE (defs₀ (F := F)) Variants.none c none) E (cc0_dw_in i arg2 harg2 arg3 harg3 arg4 harg4 arg5 harg5 arg6 harg6 arg7 harg7 arg8 harg8 arg9 harg9 arg10 harg10) K } := by
  refine ⟨[], ?_, [], ?_, fun xi5 xi7 E K => ?run⟩
  case run =>
    simp only [cc0_dw_in_eq_skeleton]; unfold cc0_dw_in_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg9.eq_unread hf7; obtain rfl := harg10.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]
    · iexists _; isplitr; · ipureintro; exact harg9.read_unread _
      iexact H7
    iexists _; iexact HS0

end Cert.KInIdeal.Gen

end
-- ==== Proof.InIdealFrame.RunC.lean ====
/- The run of the body of the idealized dw_in kernel in case C of its branches: what each buffer ends with. -/
module

public import proofs.«01_k».proof.Proof.InIdealFrame.RunB

@[expose] public section

-- membership in a rectangle of production extents (`View.cover_of_tiled`): the elaborator's structural look
-- recurses once per coordinate of the long axes
set_option maxRecDepth 16384

noncomputable section

namespace Cert.KInIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 15, 31, … 159: 10 of 160), WITH the
    proof that on whole staging memrefs — the inputs' at their contents, the outputs it reads before covering (7) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_C (c : Dev nD) (i : grid0.Coords) (arg2 : Memref sig .tc .vmem S512x2560 .fp8e4m3) (harg2 : arg2.IsWhole) (arg3 : Memref sig .tc .vmem S8x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x2560 .f32) (harg6 : arg6.IsWhole) (arg7 : Memref sig .tc .vmem S2560x1024 .bf16) (harg7 : arg7.IsWhole) (arg8 : Memref sig .tc .vmem S512x1024 .fp8e5m2) (harg8 : arg8.IsWhole) (arg9 : Memref sig .tc .vmem S1x1024 .f32) (harg9 : arg9.IsWhole) (arg10 : Memref sig .tc .vmem S2560x1024 .f32) (harg10 : arg10.IsWhole) (hc0 : ¬cond0_0 i) (hc1 : cond0_1 i)
    (x0 : Vec F S512x2560 .fp8e4m3) (x1 : Vec F S8x1024 .f32) (x2 : Vec F S512x1024 .bf16) (x3 : Vec F S1x1024 .f32) (x4 : Vec F S1x2560 .f32) (xo7 : Vec F S1x1024 .f32) (xs0 : Vec F S2560x1024 .f32) :
    Σ' (L5 : List (View.Piece (Elt F) S2560x1024 .bf16)), Σ' (L6 : List (View.Piece (Elt F) S512x1024 .fp8e5m2)), Σ' (L7 : List (View.Piece (Elt F) S1x1024 .f32)), { LS0 : List (View.Piece (Elt F) S2560x1024 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xo7 ∗ owns (c : Thread nD τ) arg10 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xo7 ∗ (∃ f, arg10.view.loc (c : Thread nD τ) ↦[arg10.view.set]{fullShare} arg10.view.writes (Elt F) f LS0)) -∗ K ⟨⟩))
          ⊢ wp frame (wpE (defs₀ (F := F)) Variants.none c none) E (cc0_dw_in i arg2 harg2 arg3 harg3 arg4 harg4 arg5 harg5 arg6 harg6 arg7 harg7 arg8 harg8 arg9 harg9 arg10 harg10) K } := by
  refine ⟨?_, ?_, [], ?_, fun E K => ?run⟩
  case run =>
    simp only [cc0_dw_in_eq_skeleton]; unfold cc0_dw_in_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7; obtain rfl := harg10.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    isplitl [H7]
    · iexists _; isplitr; · ipureintro; exact harg9.read_unread _
      iexact H7
    iexists _; iexact HS0

end Cert.KInIdeal.Gen

end
-- ==== Proof.InIdealFrame.Frame.lean ====
/- The frame of the idealized dw_in kernel: what every output block and scratch holds after each grid point, the body obligation, the run and the frame claim.
   An output stored only at some steps of its block is carried to the step that writes it back. -/
module

public import proofs.«01_k».proof.Proof.InIdealFrame.RunC
public import Idealize.ShloMosaic.Lib.Claim

@[expose] public section

-- membership in a rectangle of production extents (`View.cover_of_tiled`): the elaborator's structural look
-- recurses once per coordinate of the long axes
set_option maxRecDepth 16384

noncomputable section

namespace Cert.KInIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)
/-- Case A stores nothing into output 5 (the window is idle at its points and not written back there):
    no pieces — a placeholder (junk read back) that nothing consults, since at these points the window is neither
    written back nor read at the next point (Lib/Pipeline.lean "Idle points"). -/
def out0_A_5 (c : Dev nD) (i : grid0.Coords) (arg2 : Memref sig .tc .vmem S512x2560 .fp8e4m3) (harg2 : arg2.IsWhole) (arg3 : Memref sig .tc .vmem S8x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x2560 .f32) (harg6 : arg6.IsWhole) (arg7 : Memref sig .tc .vmem S2560x1024 .bf16) (harg7 : arg7.IsWhole) (arg8 : Memref sig .tc .vmem S512x1024 .fp8e5m2) (harg8 : arg8.IsWhole) (arg9 : Memref sig .tc .vmem S1x1024 .f32) (harg9 : arg9.IsWhole) (arg10 : Memref sig .tc .vmem S2560x1024 .f32) (harg10 : arg10.IsWhole) (hc0 : cond0_0 i) (hc1 : ¬cond0_1 i)
    (x0 : Vec F S512x2560 .fp8e4m3) (x1 : Vec F S8x1024 .f32) (x2 : Vec F S512x1024 .bf16) (x3 : Vec F S1x1024 .f32) (x4 : Vec F S1x2560 .f32) : Vec F S2560x1024 .bf16 :=
  VO0_5.read (Elt F) (VO0_5.writes (Elt F) VO0_5.junk (kernelRun0_A c i arg2 harg2 arg3 harg3 arg4 harg4 arg5 harg5 arg6 harg6 arg7 harg7 arg8 harg8 arg9 harg9 arg10 harg10 hc0 hc1 x0 x1 x2 x3 x4).1)

/-- Case A's pieces for output 6 tile its block (1 store of `S512x1024`, checked by the kernel's evaluation: Lib/Ring.lean `Piece.tiledL`, linear in the pieces, through a loop's `@[irreducible]` trip theorem too), so they cover it. -/
theorem cover0_A_6 (c : Dev nD) (i : grid0.Coords) (arg2 : Memref sig .tc .vmem S512x2560 .fp8e4m3) (harg2 : arg2.IsWhole) (arg3 : Memref sig .tc .vmem S8x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x2560 .f32) (harg6 : arg6.IsWhole) (arg7 : Memref sig .tc .vmem S2560x1024 .bf16) (harg7 : arg7.IsWhole) (arg8 : Memref sig .tc .vmem S512x1024 .fp8e5m2) (harg8 : arg8.IsWhole) (arg9 : Memref sig .tc .vmem S1x1024 .f32) (harg9 : arg9.IsWhole) (arg10 : Memref sig .tc .vmem S2560x1024 .f32) (harg10 : arg10.IsWhole) (hc0 : cond0_0 i) (hc1 : ¬cond0_1 i)
    (x0 : Vec F S512x2560 .fp8e4m3) (x1 : Vec F S8x1024 .f32) (x2 : Vec F S512x1024 .bf16) (x3 : Vec F S1x1024 .f32) (x4 : Vec F S1x2560 .f32) (y : S512x1024.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.1 S512x1024.size (by sl_kernel_rfl) y

/-- What case A leaves in output 6's staging buffer: its pieces read back over junk. -/
def out0_A_6 (c : Dev nD) (i : grid0.Coords) (arg2 : Memref sig .tc .vmem S512x2560 .fp8e4m3) (harg2 : arg2.IsWhole) (arg3 : Memref sig .tc .vmem S8x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x2560 .f32) (harg6 : arg6.IsWhole) (arg7 : Memref sig .tc .vmem S2560x1024 .bf16) (harg7 : arg7.IsWhole) (arg8 : Memref sig .tc .vmem S512x1024 .fp8e5m2) (harg8 : arg8.IsWhole) (arg9 : Memref sig .tc .vmem S1x1024 .f32) (harg9 : arg9.IsWhole) (arg10 : Memref sig .tc .vmem S2560x1024 .f32) (harg10 : arg10.IsWhole) (hc0 : cond0_0 i) (hc1 : ¬cond0_1 i)
    (x0 : Vec F S512x2560 .fp8e4m3) (x1 : Vec F S8x1024 .f32) (x2 : Vec F S512x1024 .bf16) (x3 : Vec F S1x1024 .f32) (x4 : Vec F S1x2560 .f32) : Vec F S512x1024 .fp8e5m2 :=
  VO0_6.read (Elt F) (VO0_6.writes (Elt F) VO0_6.junk (kernelRun0_A c i arg2 harg2 arg3 harg3 arg4 harg4 arg5 harg5 arg6 harg6 arg7 harg7 arg8 harg8 arg9 harg9 arg10 harg10 hc0 hc1 x0 x1 x2 x3 x4).2.1)

/-- Case A's pieces for output 7 tile its block (1 store of `S1x1024`, checked by the kernel's evaluation: Lib/Ring.lean `Piece.tiledL`, linear in the pieces, through a loop's `@[irreducible]` trip theorem too), so they cover it. -/
theorem cover0_A_7 (c : Dev nD) (i : grid0.Coords) (arg2 : Memref sig .tc .vmem S512x2560 .fp8e4m3) (harg2 : arg2.IsWhole) (arg3 : Memref sig .tc .vmem S8x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x2560 .f32) (harg6 : arg6.IsWhole) (arg7 : Memref sig .tc .vmem S2560x1024 .bf16) (harg7 : arg7.IsWhole) (arg8 : Memref sig .tc .vmem S512x1024 .fp8e5m2) (harg8 : arg8.IsWhole) (arg9 : Memref sig .tc .vmem S1x1024 .f32) (harg9 : arg9.IsWhole) (arg10 : Memref sig .tc .vmem S2560x1024 .f32) (harg10 : arg10.IsWhole) (hc0 : cond0_0 i) (hc1 : ¬cond0_1 i)
    (x0 : Vec F S512x2560 .fp8e4m3) (x1 : Vec F S8x1024 .f32) (x2 : Vec F S512x1024 .bf16) (x3 : Vec F S1x1024 .f32) (x4 : Vec F S1x2560 .f32) (y : S1x1024.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.2.1 S1x1024.size (by sl_kernel_rfl) y

/-- What case A leaves in output 7's staging buffer: its pieces read back over junk. -/
def out0_A_7 (c : Dev nD) (i : grid0.Coords) (arg2 : Memref sig .tc .vmem S512x2560 .fp8e4m3) (harg2 : arg2.IsWhole) (arg3 : Memref sig .tc .vmem S8x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x2560 .f32) (harg6 : arg6.IsWhole) (arg7 : Memref sig .tc .vmem S2560x1024 .bf16) (harg7 : arg7.IsWhole) (arg8 : Memref sig .tc .vmem S512x1024 .fp8e5m2) (harg8 : arg8.IsWhole) (arg9 : Memref sig .tc .vmem S1x1024 .f32) (harg9 : arg9.IsWhole) (arg10 : Memref sig .tc .vmem S2560x1024 .f32) (harg10 : arg10.IsWhole) (hc0 : cond0_0 i) (hc1 : ¬cond0_1 i)
    (x0 : Vec F S512x2560 .fp8e4m3) (x1 : Vec F S8x1024 .f32) (x2 : Vec F S512x1024 .bf16) (x3 : Vec F S1x1024 .f32) (x4 : Vec F S1x2560 .f32) : Vec F S1x1024 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 hc0 hc1 x0 x1 x2 x3 x4).2.2.1)

/-- Case A's pieces for scratch `arg10`, which the kernel carries between points, cover it: 2 pieces of `S2560x1024` tiling it (Lib/Ring.lean `Piece.tiledL`). -/
theorem scover0_A_0 (c : Dev nD) (i : grid0.Coords) (arg2 : Memref sig .tc .vmem S512x2560 .fp8e4m3) (harg2 : arg2.IsWhole) (arg3 : Memref sig .tc .vmem S8x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x2560 .f32) (harg6 : arg6.IsWhole) (arg7 : Memref sig .tc .vmem S2560x1024 .bf16) (harg7 : arg7.IsWhole) (arg8 : Memref sig .tc .vmem S512x1024 .fp8e5m2) (harg8 : arg8.IsWhole) (arg9 : Memref sig .tc .vmem S1x1024 .f32) (harg9 : arg9.IsWhole) (arg10 : Memref sig .tc .vmem S2560x1024 .f32) (harg10 : arg10.IsWhole) (hc0 : cond0_0 i) (hc1 : ¬cond0_1 i)
    (x0 : Vec F S512x2560 .fp8e4m3) (x1 : Vec F S8x1024 .f32) (x2 : Vec F S512x1024 .bf16) (x3 : Vec F S1x1024 .f32) (x4 : Vec F S1x2560 .f32) (y : S2560x1024.Idx) :
    ∃ pc ∈ (kernelRun0_A c i arg2 harg2 arg3 harg3 arg4 harg4 arg5 harg5 arg6 harg6 arg7 harg7 arg8 harg8 arg9 harg9 arg10 harg10 hc0 hc1 x0 x1 x2 x3 x4).2.2.2.1, y ∈ pc.1.set :=
  View.cover_of_tiledL (kernelRun0_A c i arg2 harg2 arg3 harg3 arg4 harg4 arg5 harg5 arg6 harg6 arg7 harg7 arg8 harg8 arg9 harg9 arg10 harg10 hc0 hc1 x0 x1 x2 x3 x4).2.2.2.1 S2560x1024.size (by sl_kernel_rfl) y

/-- What case A leaves in scratch `arg10`: its pieces read back over junk. -/
def sout0_A_0 (c : Dev nD) (i : grid0.Coords) (arg2 : Memref sig .tc .vmem S512x2560 .fp8e4m3) (harg2 : arg2.IsWhole) (arg3 : Memref sig .tc .vmem S8x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x2560 .f32) (harg6 : arg6.IsWhole) (arg7 : Memref sig .tc .vmem S2560x1024 .bf16) (harg7 : arg7.IsWhole) (arg8 : Memref sig .tc .vmem S512x1024 .fp8e5m2) (harg8 : arg8.IsWhole) (arg9 : Memref sig .tc .vmem S1x1024 .f32) (harg9 : arg9.IsWhole) (arg10 : Memref sig .tc .vmem S2560x1024 .f32) (harg10 : arg10.IsWhole) (hc0 : cond0_0 i) (hc1 : ¬cond0_1 i)
    (x0 : Vec F S512x2560 .fp8e4m3) (x1 : Vec F S8x1024 .f32) (x2 : Vec F S512x1024 .bf16) (x3 : Vec F S1x1024 .f32) (x4 : Vec F S1x2560 .f32) : Vec F S2560x1024 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 hc0 hc1 x0 x1 x2 x3 x4).2.2.2.1)

/-- Case B stores nothing into output 5 (the window is idle at its points and not written back there):
    no pieces — a placeholder (junk read back) that nothing consults, since at these points the window is neither
    written back nor read at the next point (Lib/Pipeline.lean "Idle points"). -/
def out0_B_5 (c : Dev nD) (i : grid0.Coords) (arg2 : Memref sig .tc .vmem S512x2560 .fp8e4m3) (harg2 : arg2.IsWhole) (arg3 : Memref sig .tc .vmem S8x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x2560 .f32) (harg6 : arg6.IsWhole) (arg7 : Memref sig .tc .vmem S2560x1024 .bf16) (harg7 : arg7.IsWhole) (arg8 : Memref sig .tc .vmem S512x1024 .fp8e5m2) (harg8 : arg8.IsWhole) (arg9 : Memref sig .tc .vmem S1x1024 .f32) (harg9 : arg9.IsWhole) (arg10 : Memref sig .tc .vmem S2560x1024 .f32) (harg10 : arg10.IsWhole) (hc0 : ¬cond0_0 i) (hc1 : ¬cond0_1 i)
    (x0 : Vec F S512x2560 .fp8e4m3) (x1 : Vec F S8x1024 .f32) (x2 : Vec F S512x1024 .bf16) (x3 : Vec F S1x1024 .f32) (x4 : Vec F S1x2560 .f32) (xs0 : Vec F S2560x1024 .f32) : Vec F S2560x1024 .bf16 :=
  VO0_5.read (Elt F) (VO0_5.writes (Elt F) VO0_5.junk (kernelRun0_B c i arg2 harg2 arg3 harg3 arg4 harg4 arg5 harg5 arg6 harg6 arg7 harg7 arg8 harg8 arg9 harg9 arg10 harg10 hc0 hc1 x0 x1 x2 x3 x4 xs0).1)

/-- Case B's pieces for output 6 tile its block (1 store of `S512x1024`, checked by the kernel's evaluation: Lib/Ring.lean `Piece.tiledL`, linear in the pieces, through a loop's `@[irreducible]` trip theorem too), so they cover it. -/
theorem cover0_B_6 (c : Dev nD) (i : grid0.Coords) (arg2 : Memref sig .tc .vmem S512x2560 .fp8e4m3) (harg2 : arg2.IsWhole) (arg3 : Memref sig .tc .vmem S8x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x2560 .f32) (harg6 : arg6.IsWhole) (arg7 : Memref sig .tc .vmem S2560x1024 .bf16) (harg7 : arg7.IsWhole) (arg8 : Memref sig .tc .vmem S512x1024 .fp8e5m2) (harg8 : arg8.IsWhole) (arg9 : Memref sig .tc .vmem S1x1024 .f32) (harg9 : arg9.IsWhole) (arg10 : Memref sig .tc .vmem S2560x1024 .f32) (harg10 : arg10.IsWhole) (hc0 : ¬cond0_0 i) (hc1 : ¬cond0_1 i)
    (x0 : Vec F S512x2560 .fp8e4m3) (x1 : Vec F S8x1024 .f32) (x2 : Vec F S512x1024 .bf16) (x3 : Vec F S1x1024 .f32) (x4 : Vec F S1x2560 .f32) (xs0 : Vec F S2560x1024 .f32) (y : S512x1024.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs0).2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs0).2.1 S512x1024.size (by sl_kernel_rfl) y

/-- What case B leaves in output 6's staging buffer: its pieces read back over junk. -/
def out0_B_6 (c : Dev nD) (i : grid0.Coords) (arg2 : Memref sig .tc .vmem S512x2560 .fp8e4m3) (harg2 : arg2.IsWhole) (arg3 : Memref sig .tc .vmem S8x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x2560 .f32) (harg6 : arg6.IsWhole) (arg7 : Memref sig .tc .vmem S2560x1024 .bf16) (harg7 : arg7.IsWhole) (arg8 : Memref sig .tc .vmem S512x1024 .fp8e5m2) (harg8 : arg8.IsWhole) (arg9 : Memref sig .tc .vmem S1x1024 .f32) (harg9 : arg9.IsWhole) (arg10 : Memref sig .tc .vmem S2560x1024 .f32) (harg10 : arg10.IsWhole) (hc0 : ¬cond0_0 i) (hc1 : ¬cond0_1 i)
    (x0 : Vec F S512x2560 .fp8e4m3) (x1 : Vec F S8x1024 .f32) (x2 : Vec F S512x1024 .bf16) (x3 : Vec F S1x1024 .f32) (x4 : Vec F S1x2560 .f32) (xs0 : Vec F S2560x1024 .f32) : Vec F S512x1024 .fp8e5m2 :=
  VO0_6.read (Elt F) (VO0_6.writes (Elt F) VO0_6.junk (kernelRun0_B c i arg2 harg2 arg3 harg3 arg4 harg4 arg5 harg5 arg6 harg6 arg7 harg7 arg8 harg8 arg9 harg9 arg10 harg10 hc0 hc1 x0 x1 x2 x3 x4 xs0).2.1)

/-- Case B stores nothing into output 7 (the window is idle at its points and not written back there) and another
    case keeps its prior contents (reads it before covering, or covers it in part): what its buffer holds after the body is what the
    point before left, CARRIED — an argument of this term alone, which the run does not take (Lib/Pipeline/TableIdle.lean `Dat.before_out_traj`). -/
def out0_B_7 (c : Dev nD) (i : grid0.Coords) (arg2 : Memref sig .tc .vmem S512x2560 .fp8e4m3) (harg2 : arg2.IsWhole) (arg3 : Memref sig .tc .vmem S8x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x2560 .f32) (harg6 : arg6.IsWhole) (arg7 : Memref sig .tc .vmem S2560x1024 .bf16) (harg7 : arg7.IsWhole) (arg8 : Memref sig .tc .vmem S512x1024 .fp8e5m2) (harg8 : arg8.IsWhole) (arg9 : Memref sig .tc .vmem S1x1024 .f32) (harg9 : arg9.IsWhole) (arg10 : Memref sig .tc .vmem S2560x1024 .f32) (harg10 : arg10.IsWhole) (hc0 : ¬cond0_0 i) (hc1 : ¬cond0_1 i)
    (x0 : Vec F S512x2560 .fp8e4m3) (x1 : Vec F S8x1024 .f32) (x2 : Vec F S512x1024 .bf16) (x3 : Vec F S1x1024 .f32) (x4 : Vec F S1x2560 .f32) (xs0 : Vec F S2560x1024 .f32) (xo7 : Vec F S1x1024 .f32) : Vec F S1x1024 .f32 := xo7

/-- Case B's pieces for scratch `arg10`, which the kernel carries between points, cover it: 1 piece of `S2560x1024` tiling it (Lib/Ring.lean `Piece.tiledL`). -/
theorem scover0_B_0 (c : Dev nD) (i : grid0.Coords) (arg2 : Memref sig .tc .vmem S512x2560 .fp8e4m3) (harg2 : arg2.IsWhole) (arg3 : Memref sig .tc .vmem S8x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x2560 .f32) (harg6 : arg6.IsWhole) (arg7 : Memref sig .tc .vmem S2560x1024 .bf16) (harg7 : arg7.IsWhole) (arg8 : Memref sig .tc .vmem S512x1024 .fp8e5m2) (harg8 : arg8.IsWhole) (arg9 : Memref sig .tc .vmem S1x1024 .f32) (harg9 : arg9.IsWhole) (arg10 : Memref sig .tc .vmem S2560x1024 .f32) (harg10 : arg10.IsWhole) (hc0 : ¬cond0_0 i) (hc1 : ¬cond0_1 i)
    (x0 : Vec F S512x2560 .fp8e4m3) (x1 : Vec F S8x1024 .f32) (x2 : Vec F S512x1024 .bf16) (x3 : Vec F S1x1024 .f32) (x4 : Vec F S1x2560 .f32) (xs0 : Vec F S2560x1024 .f32) (y : S2560x1024.Idx) :
    ∃ pc ∈ (kernelRun0_B c i arg2 harg2 arg3 harg3 arg4 harg4 arg5 harg5 arg6 harg6 arg7 harg7 arg8 harg8 arg9 harg9 arg10 harg10 hc0 hc1 x0 x1 x2 x3 x4 xs0).2.2.2.1, y ∈ pc.1.set :=
  View.cover_of_tiledL (kernelRun0_B c i arg2 harg2 arg3 harg3 arg4 harg4 arg5 harg5 arg6 harg6 arg7 harg7 arg8 harg8 arg9 harg9 arg10 harg10 hc0 hc1 x0 x1 x2 x3 x4 xs0).2.2.2.1 S2560x1024.size (by sl_kernel_rfl) y

/-- What case B leaves in scratch `arg10`: its pieces read back over junk. -/
def sout0_B_0 (c : Dev nD) (i : grid0.Coords) (arg2 : Memref sig .tc .vmem S512x2560 .fp8e4m3) (harg2 : arg2.IsWhole) (arg3 : Memref sig .tc .vmem S8x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x2560 .f32) (harg6 : arg6.IsWhole) (arg7 : Memref sig .tc .vmem S2560x1024 .bf16) (harg7 : arg7.IsWhole) (arg8 : Memref sig .tc .vmem S512x1024 .fp8e5m2) (harg8 : arg8.IsWhole) (arg9 : Memref sig .tc .vmem S1x1024 .f32) (harg9 : arg9.IsWhole) (arg10 : Memref sig .tc .vmem S2560x1024 .f32) (harg10 : arg10.IsWhole) (hc0 : ¬cond0_0 i) (hc1 : ¬cond0_1 i)
    (x0 : Vec F S512x2560 .fp8e4m3) (x1 : Vec F S8x1024 .f32) (x2 : Vec F S512x1024 .bf16) (x3 : Vec F S1x1024 .f32) (x4 : Vec F S1x2560 .f32) (xs0 : Vec F S2560x1024 .f32) : Vec F S2560x1024 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 hc0 hc1 x0 x1 x2 x3 x4 xs0).2.2.2.1)

/-- Case C's pieces for output 5 tile its block (1 store of `S2560x1024`, checked by the kernel's evaluation: Lib/Ring.lean `Piece.tiledL`, linear in the pieces, through a loop's `@[irreducible]` trip theorem too), so they cover it. -/
theorem cover0_C_5 (c : Dev nD) (i : grid0.Coords) (arg2 : Memref sig .tc .vmem S512x2560 .fp8e4m3) (harg2 : arg2.IsWhole) (arg3 : Memref sig .tc .vmem S8x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x2560 .f32) (harg6 : arg6.IsWhole) (arg7 : Memref sig .tc .vmem S2560x1024 .bf16) (harg7 : arg7.IsWhole) (arg8 : Memref sig .tc .vmem S512x1024 .fp8e5m2) (harg8 : arg8.IsWhole) (arg9 : Memref sig .tc .vmem S1x1024 .f32) (harg9 : arg9.IsWhole) (arg10 : Memref sig .tc .vmem S2560x1024 .f32) (harg10 : arg10.IsWhole) (hc0 : ¬cond0_0 i) (hc1 : cond0_1 i)
    (x0 : Vec F S512x2560 .fp8e4m3) (x1 : Vec F S8x1024 .f32) (x2 : Vec F S512x1024 .bf16) (x3 : Vec F S1x1024 .f32) (x4 : Vec F S1x2560 .f32) (xo7 : Vec F S1x1024 .f32) (xs0 : Vec F S2560x1024 .f32) (y : S2560x1024.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xo7 xs0).1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xo7 xs0).1 S2560x1024.size (by sl_kernel_rfl) y

/-- What case C leaves in output 5's staging buffer: its pieces read back over junk. -/
def out0_C_5 (c : Dev nD) (i : grid0.Coords) (arg2 : Memref sig .tc .vmem S512x2560 .fp8e4m3) (harg2 : arg2.IsWhole) (arg3 : Memref sig .tc .vmem S8x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x2560 .f32) (harg6 : arg6.IsWhole) (arg7 : Memref sig .tc .vmem S2560x1024 .bf16) (harg7 : arg7.IsWhole) (arg8 : Memref sig .tc .vmem S512x1024 .fp8e5m2) (harg8 : arg8.IsWhole) (arg9 : Memref sig .tc .vmem S1x1024 .f32) (harg9 : arg9.IsWhole) (arg10 : Memref sig .tc .vmem S2560x1024 .f32) (harg10 : arg10.IsWhole) (hc0 : ¬cond0_0 i) (hc1 : cond0_1 i)
    (x0 : Vec F S512x2560 .fp8e4m3) (x1 : Vec F S8x1024 .f32) (x2 : Vec F S512x1024 .bf16) (x3 : Vec F S1x1024 .f32) (x4 : Vec F S1x2560 .f32) (xo7 : Vec F S1x1024 .f32) (xs0 : Vec F S2560x1024 .f32) : Vec F S2560x1024 .bf16 :=
  VO0_5.read (Elt F) (VO0_5.writes (Elt F) VO0_5.junk (kernelRun0_C c i arg2 harg2 arg3 harg3 arg4 harg4 arg5 harg5 arg6 harg6 arg7 harg7 arg8 harg8 arg9 harg9 arg10 harg10 hc0 hc1 x0 x1 x2 x3 x4 xo7 xs0).1)

/-- Case C's pieces for output 6 tile its block (1 store of `S512x1024`, checked by the kernel's evaluation: Lib/Ring.lean `Piece.tiledL`, linear in the pieces, through a loop's `@[irreducible]` trip theorem too), so they cover it. -/
theorem cover0_C_6 (c : Dev nD) (i : grid0.Coords) (arg2 : Memref sig .tc .vmem S512x2560 .fp8e4m3) (harg2 : arg2.IsWhole) (arg3 : Memref sig .tc .vmem S8x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x2560 .f32) (harg6 : arg6.IsWhole) (arg7 : Memref sig .tc .vmem S2560x1024 .bf16) (harg7 : arg7.IsWhole) (arg8 : Memref sig .tc .vmem S512x1024 .fp8e5m2) (harg8 : arg8.IsWhole) (arg9 : Memref sig .tc .vmem S1x1024 .f32) (harg9 : arg9.IsWhole) (arg10 : Memref sig .tc .vmem S2560x1024 .f32) (harg10 : arg10.IsWhole) (hc0 : ¬cond0_0 i) (hc1 : cond0_1 i)
    (x0 : Vec F S512x2560 .fp8e4m3) (x1 : Vec F S8x1024 .f32) (x2 : Vec F S512x1024 .bf16) (x3 : Vec F S1x1024 .f32) (x4 : Vec F S1x2560 .f32) (xo7 : Vec F S1x1024 .f32) (xs0 : Vec F S2560x1024 .f32) (y : S512x1024.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xo7 xs0).2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xo7 xs0).2.1 S512x1024.size (by sl_kernel_rfl) y

/-- What case C leaves in output 6's staging buffer: its pieces read back over junk. -/
def out0_C_6 (c : Dev nD) (i : grid0.Coords) (arg2 : Memref sig .tc .vmem S512x2560 .fp8e4m3) (harg2 : arg2.IsWhole) (arg3 : Memref sig .tc .vmem S8x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x2560 .f32) (harg6 : arg6.IsWhole) (arg7 : Memref sig .tc .vmem S2560x1024 .bf16) (harg7 : arg7.IsWhole) (arg8 : Memref sig .tc .vmem S512x1024 .fp8e5m2) (harg8 : arg8.IsWhole) (arg9 : Memref sig .tc .vmem S1x1024 .f32) (harg9 : arg9.IsWhole) (arg10 : Memref sig .tc .vmem S2560x1024 .f32) (harg10 : arg10.IsWhole) (hc0 : ¬cond0_0 i) (hc1 : cond0_1 i)
    (x0 : Vec F S512x2560 .fp8e4m3) (x1 : Vec F S8x1024 .f32) (x2 : Vec F S512x1024 .bf16) (x3 : Vec F S1x1024 .f32) (x4 : Vec F S1x2560 .f32) (xo7 : Vec F S1x1024 .f32) (xs0 : Vec F S2560x1024 .f32) : Vec F S512x1024 .fp8e5m2 :=
  VO0_6.read (Elt F) (VO0_6.writes (Elt F) VO0_6.junk (kernelRun0_C c i arg2 harg2 arg3 harg3 arg4 harg4 arg5 harg5 arg6 harg6 arg7 harg7 arg8 harg8 arg9 harg9 arg10 harg10 hc0 hc1 x0 x1 x2 x3 x4 xo7 xs0).2.1)

/-- Case C stores nothing into output 7, a live window: its staging buffer holds what the point before left. -/
def out0_C_7 (c : Dev nD) (i : grid0.Coords) (arg2 : Memref sig .tc .vmem S512x2560 .fp8e4m3) (harg2 : arg2.IsWhole) (arg3 : Memref sig .tc .vmem S8x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x2560 .f32) (harg6 : arg6.IsWhole) (arg7 : Memref sig .tc .vmem S2560x1024 .bf16) (harg7 : arg7.IsWhole) (arg8 : Memref sig .tc .vmem S512x1024 .fp8e5m2) (harg8 : arg8.IsWhole) (arg9 : Memref sig .tc .vmem S1x1024 .f32) (harg9 : arg9.IsWhole) (arg10 : Memref sig .tc .vmem S2560x1024 .f32) (harg10 : arg10.IsWhole) (hc0 : ¬cond0_0 i) (hc1 : cond0_1 i)
    (x0 : Vec F S512x2560 .fp8e4m3) (x1 : Vec F S8x1024 .f32) (x2 : Vec F S512x1024 .bf16) (x3 : Vec F S1x1024 .f32) (x4 : Vec F S1x2560 .f32) (xo7 : Vec F S1x1024 .f32) (xs0 : Vec F S2560x1024 .f32) : Vec F S1x1024 .f32 := xo7

/-- Case C's pieces for scratch `arg10`, which the kernel carries between points, cover it: 1 piece of `S2560x1024` tiling it (Lib/Ring.lean `Piece.tiledL`). -/
theorem scover0_C_0 (c : Dev nD) (i : grid0.Coords) (arg2 : Memref sig .tc .vmem S512x2560 .fp8e4m3) (harg2 : arg2.IsWhole) (arg3 : Memref sig .tc .vmem S8x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x2560 .f32) (harg6 : arg6.IsWhole) (arg7 : Memref sig .tc .vmem S2560x1024 .bf16) (harg7 : arg7.IsWhole) (arg8 : Memref sig .tc .vmem S512x1024 .fp8e5m2) (harg8 : arg8.IsWhole) (arg9 : Memref sig .tc .vmem S1x1024 .f32) (harg9 : arg9.IsWhole) (arg10 : Memref sig .tc .vmem S2560x1024 .f32) (harg10 : arg10.IsWhole) (hc0 : ¬cond0_0 i) (hc1 : cond0_1 i)
    (x0 : Vec F S512x2560 .fp8e4m3) (x1 : Vec F S8x1024 .f32) (x2 : Vec F S512x1024 .bf16) (x3 : Vec F S1x1024 .f32) (x4 : Vec F S1x2560 .f32) (xo7 : Vec F S1x1024 .f32) (xs0 : Vec F S2560x1024 .f32) (y : S2560x1024.Idx) :
    ∃ pc ∈ (kernelRun0_C c i arg2 harg2 arg3 harg3 arg4 harg4 arg5 harg5 arg6 harg6 arg7 harg7 arg8 harg8 arg9 harg9 arg10 harg10 hc0 hc1 x0 x1 x2 x3 x4 xo7 xs0).2.2.2.1, y ∈ pc.1.set :=
  View.cover_of_tiledL (kernelRun0_C c i arg2 harg2 arg3 harg3 arg4 harg4 arg5 harg5 arg6 harg6 arg7 harg7 arg8 harg8 arg9 harg9 arg10 harg10 hc0 hc1 x0 x1 x2 x3 x4 xo7 xs0).2.2.2.1 S2560x1024.size (by sl_kernel_rfl) y

/-- What case C leaves in scratch `arg10`: its pieces read back over junk. -/
def sout0_C_0 (c : Dev nD) (i : grid0.Coords) (arg2 : Memref sig .tc .vmem S512x2560 .fp8e4m3) (harg2 : arg2.IsWhole) (arg3 : Memref sig .tc .vmem S8x1024 .f32) (harg3 : arg3.IsWhole) (arg4 : Memref sig .tc .vmem S512x1024 .bf16) (harg4 : arg4.IsWhole) (arg5 : Memref sig .tc .vmem S1x1024 .f32) (harg5 : arg5.IsWhole) (arg6 : Memref sig .tc .vmem S1x2560 .f32) (harg6 : arg6.IsWhole) (arg7 : Memref sig .tc .vmem S2560x1024 .bf16) (harg7 : arg7.IsWhole) (arg8 : Memref sig .tc .vmem S512x1024 .fp8e5m2) (harg8 : arg8.IsWhole) (arg9 : Memref sig .tc .vmem S1x1024 .f32) (harg9 : arg9.IsWhole) (arg10 : Memref sig .tc .vmem S2560x1024 .f32) (harg10 : arg10.IsWhole) (hc0 : ¬cond0_0 i) (hc1 : cond0_1 i)
    (x0 : Vec F S512x2560 .fp8e4m3) (x1 : Vec F S8x1024 .f32) (x2 : Vec F S512x1024 .bf16) (x3 : Vec F S1x1024 .f32) (x4 : Vec F S1x2560 .f32) (xo7 : Vec F S1x1024 .f32) (xs0 : Vec F S2560x1024 .f32) : Vec F S2560x1024 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 hc0 hc1 x0 x1 x2 x3 x4 xo7 xs0).2.2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S2560x1024 .bf16 × Vec F S512x1024 .fp8e5m2 × Vec F S1x1024 .f32 × Vec F S2560x1024 .f32
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩))
  | n + 1, hn =>
    if h0 : (n + 1) % 16 = 0 then
      if h1 : (n + 1) % 16 = 15 then
        False.elim (by have hN : n + 1 < 160 := lt_of_lt_of_eq hn (show cfg0.N = 160 from N_0); omega)
      else
        (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩))
    else
      if h1 : (n + 1) % 16 = 15 then
        (out0_C_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.1 (outsAt0 c n (Nat.lt_of_succ_lt hn)).2.2.2)
      else
        (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2, out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2, out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2 (outsAt0 c n (Nat.lt_of_succ_lt hn)).2.2.1, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2.2.2)

/-- `outsAt0` at a point of case A: that case's contents. -/
theorem outsAt0_A (c : Dev nD) (t : Fin cfg0.N) (h0 : t.val % 16 = 0) (h1 : ¬t.val % 16 = 15) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 16 = 0) (h1 : ¬t.val % 16 = 15) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2, out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2, out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2 (outsAt0 m c (t.val - 1) (Nat.lt_of_le_of_lt (Nat.sub_le _ _) t.isLt)).2.2.1, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 16 = 0) (h1 : t.val % 16 = 15) :
    outsAt0 m c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Output 7's contents CARRY through the points that leave it idle: at such a point, its buffer not fresh, the proof data's
    `after` is the point before's (the case there stores nothing into the window and its term says so; a case that stores
    into it is not idle there by `liveAt0_7_κ`) — the hypothesis of Lib/Pipeline/TableIdle.lean `Dat.before_out_traj`. -/
theorem hcarry0_7 (c : Dev nD) : ∀ (t : Fin cfg0.N) (_ : t.val ≠ 0), cfg0.idle 7 (grid0.coords t) = true → cfg0.fresh 7 t.val = false →
    (dats m 0 c).after 7 t = (dats m 0 c).after 7 ⟨t.val - 1, by omega⟩ := by
  intro t _ hi _
  have hN : t.val < 160 := lt_of_lt_of_eq t.isLt (show cfg0.N = 160 from N_0)
  rw [after0_7, after0_7]
  by_cases h0 : t.val % 16 = 0
  · by_cases h1 : t.val % 16 = 15
    · exfalso; omega
    · rw [liveAt0_7_A t ((hcond0_0 t).mpr h0) (fun h => h1 ((hcond0_1 t).mp h))] at hi
      exact absurd hi Bool.false_ne_true
  · by_cases h1 : t.val % 16 = 15
    · rw [outsAt0_C m c t h0 h1]
      dsimp only
      unfold out0_C_7
      rfl
    · rw [outsAt0_B m c t h0 h1]
      dsimp only
      unfold out0_B_7
      rfl
/-- At a point of case C output 7's current staging buffer holds what the point before left: the buffer is not fresh
    there (`notFresh0_7_C`: stored into since the region's entry or the last write-back, carried through the points that
    leave it idle by `hcarry0_7`; Lib/Pipeline/TableIdle.lean `Dat.before_out_traj`). -/
theorem before0_7_C (c : Dev nD) (t : Fin cfg0.N) (h0 : ¬t.val % 16 = 0) (h1 : t.val % 16 = 15) (d) :
    (dats m 0 c).before 7 t d = (outsAt0 m c (t.val - 1) (Nat.lt_of_le_of_lt (Nat.sub_le _ _) t.isLt)).2.2.1 := by
  rw [Dat.before_out_traj _ 7 rfl (fun _ _ => rfl) (hcarry0_7 m c) t.val t rfl d,
    if_neg (by rw [notFresh0_7_C t (fun h => h0 ((hcond0_0 t).mp h)) ((hcond0_1 t).mpr h1)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  have hN : t.val < 160 := lt_of_lt_of_eq t.isLt (show cfg0.N = 160 from N_0)
  by_cases h0 : t.val % 16 = 0
  · by_cases h1 : t.val % 16 = 15
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_A t ((hcond0_0 t).mpr h0) (fun h => h1 ((hcond0_1 t).mp h))) (noFlush0_5_A t ((hcond0_0 t).mpr h0) (fun h => h1 ((hcond0_1 t).mp h)))]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7_A t ((hcond0_0 t).mpr h0) (fun h => h1 ((hcond0_1 t).mp h))], after0_7]
      by_cases hz : t.val = 0
      · rw [PhiS_castSucc m c t, PhiS_zero m c _ _ hz, PhiA0_eq]
        rw [outsAt0_A m c t h0 h1]
        unfold out0_A_6 out0_A_7 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        iintro ⟨H0, H1, H2, H3, H4, H5, ⟨%e6, H6⟩, ⟨%e7, H7⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _)
        unfold owns; iexists _; isplitr
        swap; · iexact H7
        ipureintro; exact View.read_writes_of_cover _ _ _ _ _ (cover0_A_7 c _ _ _ _ _ _ _ _ _ _ _ _ _ _ _ _ _ _ _ _ _ _ _ _ _ _)
      · rw [PhiS_castSucc m c t, PhiS_pos m c _ _ hz]
        rw [outsAt0_A m c t h0 h1]
        unfold out0_A_6 out0_A_7 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)).2.2.2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexists _; iexact HS0
        iintro ⟨H0, H1, H2, H3, H4, H5, ⟨%e6, H6⟩, ⟨%e7, H7⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]
        · unfold owns; iexists _; isplitr
          swap; · iexact H6
          ipureintro; exact View.read_writes_of_cover _ _ _ _ _ (cover0_A_6 c _ _ _ _ _ _ _ _ _ _ _ _ _ _ _ _ _ _ _ _ _ _ _ _ _ _)
        unfold owns; iexists _; isplitr
        swap; · iexact H7
        ipureintro; exact View.read_writes_of_cover _ _ _ _ _ (cover0_A_7 c _ _ _ _ _ _ _ _ _ _ _ _ _ _ _ _ _ _ _ _ _ _ _ _ _ _)
  · by_cases h1 : t.val % 16 = 15
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5_C t (fun h => h0 ((hcond0_0 t).mp h)) ((hcond0_1 t).mpr h1)], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [idleAt0_7_C t (fun h => h0 ((hcond0_0 t).mp h)) ((hcond0_1 t).mpr h1), flushAt0_7_C t (fun h => h0 ((hcond0_0 t).mp h)) ((hcond0_1 t).mpr h1)], after0_7]
      by_cases hz : t.val = 0
      · exfalso; have hN : t.val < 160 := lt_of_lt_of_eq t.isLt (show cfg0.N = 160 from N_0); omega
      · rw [PhiS_castSucc m c t, PhiS_pos m c _ _ hz]
        rw [outsAt0_C m c t h0 h1]
        simp only [before0_7_C m c t h0 h1]
        unfold out0_C_5 out0_C_6 out0_C_7 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) _ _).2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexact H7
        isplitl [HS0]; · iexact HS0
        iintro ⟨H0, H1, H2, H3, H4, ⟨%e5, H5⟩, ⟨%e6, H6⟩, H7, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]
        · unfold owns; iexists _; isplitr
          swap; · iexact H5
          ipureintro; exact View.read_writes_of_cover _ _ _ _ _ (cover0_C_5 c _ _ _ _ _ _ _ _ _ _ _ _ _ _ _ _ _ _ _ _ _ _ _ _ _ _ _ _)
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _)
        iexact H7
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [Dat.leavesExact_idle (dats m 0 c) 5 t (idleAt0_5_B t (fun h => h0 ((hcond0_0 t).mp h)) (fun h => h1 ((hcond0_1 t).mp h))) (noFlush0_5_B t (fun h => h0 ((hcond0_0 t).mp h)) (fun h => h1 ((hcond0_1 t).mp h)))]
      rw [show (dats m 0 c).leavesExact 6 t = owns (c : Thread nD τ) (ms0_6 t) fullShare ((dats m 0 c).after 6 t) from by
      unfold Dat.leavesExact; rw [liveAt0_6 t], after0_6]
      rw [Dat.leavesExact_idle (dats m 0 c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      by_cases hz : t.val = 0
      · exfalso; have hN : t.val < 160 := lt_of_lt_of_eq t.isLt (show cfg0.N = 160 from N_0); omega
      · rw [PhiS_castSucc m c t, PhiS_pos m c _ _ hz]
        rw [outsAt0_B m c t h0 h1]
        unfold out0_B_6 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) _).2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexact H7
        isplitl [HS0]; · iexact HS0
        iintro ⟨H0, H1, H2, H3, H4, H5, ⟨%e6, H6⟩, H7, ⟨%es0, HS0⟩⟩
        isplitl [HS0 Hg]
        · isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexists _; iexact H5
        isplitl [H6]
        · unfold owns; iexists _; isplitr
          swap; · iexact H6
          ipureintro; exact View.read_writes_of_cover _ _ _ _ _ (cover0_B_6 c _ _ _ _ _ _ _ _ _ _ _ _ _ _ _ _ _ _ _ _ _ _ _ _ _ _ _)
        iexists _; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 160 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- THE FRAME: `Cert.quiescent_KInIdeal`'s statement (Defs.lean) at any `F` — Proof.lean cites it at `Bits`:
    `theorem Cert.Proof.claim : Cert.Claim := ⟨Cert.KInIdeal.Gen.facts, fun m ρ _ => Cert.KInIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KInIdeal.Gen

end
-- ==== Proof.InShare.lean ====
/- The dw_in kernel and its idealization are one program, as no rewrite was asked for: the same statements over the same arrays, printed
   under two names. Here the two body tables are equal, so the frame proved of one is the frame of the other. -/
module

public import proofs.«01_k».proof.Defs
public import proofs.«01_k».proof.Proof.Gen.KIn
public import proofs.«01_k».proof.Proof.InIdealFrame.Frame
public import Idealize.ShloMosaic.Adequacy
public import Idealize.ShloMosaic.Init

@[expose] public section

noncomputable section

namespace Cert.InShare

open Idealize.ShloMosaic Idealize.SL.Sem
variable {F : FTy → Type} [FloatOps F]

/-- The kernel functions are equal. -/
theorem body_eq : Cert.KIn.cc0_dw_in (F := F) = Cert.KInIdeal.cc0_dw_in (F := F) := rfl

/-- So are the tables of kernel bodies, label by label, -/
theorem bodies_eq : Cert.KIn.defs₀ (F := F) = Cert.KInIdeal.defs₀ (F := F) := by
  unfold Cert.KIn.defs₀ Cert.KInIdeal.defs₀
  congr 1
  funext l a
  rcases l with ⟨_ | n, h⟩
  · exact congrFun (congrFun (congrFun (congrFun (congrFun (congrFun (congrFun (congrFun (congrFun (congrFun (congrFun (congrFun (congrFun (congrFun (congrFun (congrFun (congrFun (congrFun (congrFun (body_eq (F := F)) _) _) _) _) _) _) _) _) _) _) _) _) _) _) _) _) _) _) _
  · exact absurd h (Nat.not_lt.2 (Nat.le_add_left _ _))

/-- and the tables with each call's pipeline added. -/
theorem defs_eq : Cert.KIn.defs (F := F) = Cert.KInIdeal.defs (F := F) :=
  congrArg (Pipeline.defs (Cert.KInIdeal.pcfgs (F := F))) (bodies_eq (F := F))

/-- The frame of the dw_in kernel. -/
theorem frame : Cert.quiescent_KIn := by
  intro m ρ _
  have h := Cert.KInIdeal.Gen.frame (F := Bits) m ρ
  rw [← defs_eq] at h
  exact h

end Cert.InShare

end
-- ==== Proof.InIdealFrame.Value.lean ====
/- The arrays the idealized dw_in kernel leaves: each output array as the blocks written back, and the run stated over them. -/
module

public import proofs.«01_k».proof.Proof.InIdealFrame.Frame
public import Idealize.ShloMosaic.Lib.Pipeline.Value

@[expose] public section

noncomputable section

namespace Cert.KInIdeal.Value

open Cert.KInIdeal Cert.KInIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the run's contents for that window after the body (`Gen.outsAt0`: its component 0), read through the window's block. -/
theorem flushed5 (c : Dev nD) (t : Fin cfg0.N) :
    (dats m 0 c).flushed 5 t = (cfg0.win 5).cut (grid0.coords t) ((outsAt0 m c t.val t.isLt).1) := by
  show (cfg0.win 5).cut (grid0.coords t) ((dats m 0 c).after 5 t) = _
  rw [after0_5]

/-- An index that no flushing point's block covers keeps output window 5's array contents at region entry. -/
theorem entry5 (c : Dev nD) (i : S2560x10240.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the run's contents for that window after the body (`Gen.outsAt0`: its component 1), read through the window's block. -/
theorem flushed6 (c : Dev nD) (t : Fin cfg0.N) :
    (dats m 0 c).flushed 6 t = (cfg0.win 6).cut (grid0.coords t) ((outsAt0 m c t.val t.isLt).2.1) := by
  show (cfg0.win 6).cut (grid0.coords t) ((dats m 0 c).after 6 t) = _
  rw [after0_6]

/-- The index map sends distinct grid points to distinct block indices (decided over the 160 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S8192x10240.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`Gen.outsAt0`: its component 2), read through the window's block. -/
theorem flushed7 (c : Dev nD) (t : Fin cfg0.N) :
    (dats m 0 c).flushed 7 t = (cfg0.win 7).cut (grid0.coords t) ((outsAt0 m c t.val t.isLt).2.2.1) := by
  show (cfg0.win 7).cut (grid0.coords t) ((dats m 0 c).after 7 t) = _
  rw [after0_7]

/-- An index that no flushing point's block covers keeps output window 7's array contents at region entry. -/
theorem entry7 (c : Dev nD) (i : S1x10240.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v2_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v2_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v2_2) = (dats m 0 c).arrAt 7 cfg0.N :=
  (h c).1 7

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v2_0) = (dats m 0 c).arrAt 5 cfg0.N
      ∧ r.2.mem ((c : Thread nD τ).loc main_v2_1) = (dats m 0 c).arrAt 6 cfg0.N
      ∧ r.2.mem ((c : Thread nD τ).loc main_v2_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      kept_main_arg0 m r h c,
      kept_main_arg1 m r h c,
      kept_main_arg2 m r h c,
      kept_main_arg3 m r h c,
      kept_main_arg4 m r h c⟩)
    (run_main m ρ)

/-! ## Carried scratch 0: what each point leaves in it, and its fold -/

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S2560x1024 .bf16 × Vec F S512x1024 .fp8e5m2 × Vec F S1x1024 .f32 × Vec F S2560x1024 .f32 :=
  ((VO0_5.read (Elt F) VO0_5.junk, VO0_6.read (Elt F) VO0_6.junk, VO0_7.read (Elt F) VO0_7.junk, VS0_0.read (Elt F) VS0_0.junk) : Vec F S2560x1024 .bf16 × Vec F S512x1024 .fp8e5m2 × Vec F S1x1024 .f32 × Vec F S2560x1024 .f32)

/-- THE STEP: what point `n` leaves in the named outputs and the carried scratch (`Gen.outsAt0`'s tuple), over what the
    point before left (`acc`) — `Gen.outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S2560x1024 .bf16 × Vec F S512x1024 .fp8e5m2 × Vec F S1x1024 .f32 × Vec F S2560x1024 .f32) : Vec F S2560x1024 .bf16 × Vec F S512x1024 .fp8e5m2 × Vec F S1x1024 .f32 × Vec F S2560x1024 .f32 :=
  if h0 : n % 16 = 0 then
    if h1 : n % 16 = 15 then
      False.elim (by have hN : n < 160 := lt_of_lt_of_eq hb (show cfg0.N = 160 from N_0); omega)
    else
      (out0_A_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), out0_A_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), out0_A_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)))
  else
    if h1 : n % 16 = 15 then
      (out0_C_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.1 acc.2.2.2, out0_C_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.1 acc.2.2.2, out0_C_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.1 acc.2.2.2, sout0_C_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.1 acc.2.2.2)
    else
      (out0_B_5 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2, out0_B_6 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2, out0_B_7 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2 acc.2.2.1, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) scM0_0 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) acc.2.2.2)

/-- `stAt0` at a point of case A: that case's contents. -/
theorem stAt0_A (c : Dev nD) (t : Fin cfg0.N) (acc : Vec F S2560x1024 .bf16 × Vec F S512x1024 .fp8e5m2 × Vec F S1x1024 .f32 × Vec F S2560x1024 .f32) (h0 : t.val % 16 = 0) (h1 : ¬t.val % 16 = 15) :
    stAt0 m c t.val t.isLt acc = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t)) :=
  (dif_pos h0).trans ((dif_neg h1).trans rfl)

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (fun h => by (try dsimp only at h); omega)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 160 from N_0)
  have e := Pipeline.eq_accAt_of_mod (fun n h => outsAt0 m c n h) 160 (fun n h => stAt0 m c n h junk0) (stAt0 m c)
    (fun n h _ => by
      have hN := lt_of_lt_of_eq h (show cfg0.N = 160 from N_0)
      obtain rfl : n = 0 := by omega
      exact outsAt0_zero m c h)
    (fun n h _ => outsAt0_succ m c n h)
    (by decide) n hn (by have := Nat.div_add_mod n 160; omega)
  have hd : n / 160 = 0 := Nat.div_eq_of_lt hN
  have hm : n % 160 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 5 -/

/-- The block of the array that holds index `i`, numbered in the order the points write the blocks back (one every 16 points),
    `i`'s place in it, and the point that writes it back (the last of its 16). -/
abbrev run5Of (i : S2560x10240.Idx) : ℕ := 10 * ((i 0).val / 2560 - 0) + 1 * ((i 1).val / 1024 - 0)
set_option backward.proofsInPublic true in
abbrev loc5Of (i : S2560x10240.Idx) : S2560x1024.Idx := fun a => match a with
  | ⟨0, _⟩ => ⟨(i 0).val % 2560, Nat.mod_lt _ (by decide)⟩
  | ⟨1, _⟩ => ⟨(i 1).val % 1024, Nat.mod_lt _ (by decide)⟩
abbrev pt5Of (i : S2560x10240.Idx) : ℕ := 16 * run5Of i + 15

/-- WHAT THE ARRAY ENDS HOLDING at index `i` inside the box the flushing blocks fill: output 5's component of the carried
    state's fold at the point that writes `i`'s block back, at `i`'s place in the block. `G5` states the array's contents
    only inside the box. -/
def G5 (c : Dev nD) : Buf (Elt F) ((c : Thread nD τ).loc main_v2_0) := fun i =>
  if h : pt5Of i < cfg0.N then
    (Pipeline.accAt (fun n h => stAt0 m c n h junk0) (stAt0 m c) 0 (pt5Of i) (by omega)).1 (loc5Of i)
  else V m c (Pipeline.arrRef spec0 5) i

/-- The printed index map, decided over the grid: output window 5's block indices stay in the box, and the block number
    read off them is the point's (`t / 16`). -/
theorem idx_facts5 : ∀ t : Fin cfg0.N, 0 ≤ win0_5.index t (0 : Fin 2) ∧ win0_5.index t (0 : Fin 2) ≤ 0
    ∧ 0 ≤ win0_5.index t (1 : Fin 2) ∧ win0_5.index t (1 : Fin 2) ≤ 9
    ∧ 10 * (win0_5.index t (0 : Fin 2) - 0) + 1 * (win0_5.index t (1 : Fin 2) - 0) = t.val / 16 :=
  (by decide +kernel : ∀ t : Fin grid0.N, _)

/-- Every block of the box is SOME flushing point's: `onto5Pt`, the point that writes back the block at place `q` of the box (the last point of its run). -/
abbrev onto5Pt (q0 : Fin 1) (q1 : Fin 10) : Fin grid0.N :=
  ⟨16 * (10 * q0.val + 1 * q1.val) + 15, lt_of_lt_of_eq (by omega) N_0.symm⟩
theorem idx_onto5 : ∀ (q0 : Fin 1) (q1 : Fin 10), ∃ t : Fin cfg0.N, (cfg0.win 5).flush t = true ∧ win0_5.index t = ![q0.val + 0, q1.val + 0] :=
  fun q0 q1 => ⟨onto5Pt q0 q1, (by decide +kernel : ∀ (q0 : Fin 1) (q1 : Fin 10), win0_5.flush (onto5Pt q0 q1) = true ∧ win0_5.index (onto5Pt q0 q1) = ![q0.val + 0, q1.val + 0]) q0 q1⟩

/-- WHAT A FLUSHING POINT `t` WRITES BACK is block `t` of `G5`: output 5's component of the fold up to `t`. -/
theorem flushed5_eq (c : Dev nD) (t : Fin cfg0.N) (hf : (cfg0.win 5).flush t = true) :
    (dats m 0 c).flushed 5 t = ((cfg0.win 5).blk t).view.read (Elt F) (G5 m c) := by
  show (cfg0.win 5).cut (grid0.coords t) ((dats m 0 c).after 5 t) = _
  rw [after0_5, outsAt0_sweep]
  have hm : t.val % 16 = 15 := (flush0_5 t).mp hf
  obtain ⟨e0, e1, e2⟩ := idx_facts5 t
  funext y
  have hy0 : (y 0).val < 2560 := (y 0).isLt
  have hy1 : (y 1).val < 1024 := (y 1).isLt
  have hb0 : (((cfg0.win 5).blk t).view.emb y 0).val = win0_5.index t (0 : Fin 2) * 2560 + 1 * (y 0).val := rfl
  have hb1 : (((cfg0.win 5).blk t).view.emb y 1).val = win0_5.index t (1 : Fin 2) * 1024 + 1 * (y 1).val := rfl
  have hr : run5Of (((cfg0.win 5).blk t).view.emb y) = t.val / 16 := by
    show 10 * ((((cfg0.win 5).blk t).view.emb y 0).val / 2560 - 0) + 1 * ((((cfg0.win 5).blk t).view.emb y 1).val / 1024 - 0) = _
    rw [hb0, hb1]
    rw [show (win0_5.index t (0 : Fin 2) * 2560 + 1 * (y 0).val) / 2560 = win0_5.index t (0 : Fin 2) from by omega]; rw [show (win0_5.index t (1 : Fin 2) * 1024 + 1 * (y 1).val) / 1024 = win0_5.index t (1 : Fin 2) from by omega]
    omega
  have hl : loc5Of (((cfg0.win 5).blk t).view.emb y) = (cfg0.win 5).xinj (grid0.coords t) y := by
    funext a; apply Fin.ext
    match a with
    | ⟨0, _⟩ => show (((cfg0.win 5).blk t).view.emb y 0).val % 2560 = (y 0).val; rw [hb0]; omega
    | ⟨1, _⟩ => show (((cfg0.win 5).blk t).view.emb y 1).val % 1024 = (y 1).val; rw [hb1]; omega
  have hp : pt5Of (((cfg0.win 5).blk t).view.emb y) = t.val := by
    show 16 * run5Of (((cfg0.win 5).blk t).view.emb y) + 15 = _
    rw [hr]; have := Nat.div_add_mod t.val 16; omega
  show (Pipeline.accAt (fun n h => stAt0 m c n h junk0) (stAt0 m c) 0 t.val _).1 ((cfg0.win 5).xinj (grid0.coords t) y) = G5 m c (((cfg0.win 5).blk t).view.emb y)
  unfold G5
  rw [dif_pos (by rw [hp]; exact t.isLt), hl, fold0_congr m c _ _ _ _ hp.symm]

/-- An index of the array is in point `t`'s block iff each coordinate is in the block's range on its axis. -/
theorem mem_blk5 (t : Fin cfg0.N) (i : S2560x10240.Idx) :
    i ∈ ((cfg0.win 5).blk t).view.set ↔ ∀ a : Fin 2, win0_5.index t a * S2560x1024.size a ≤ (i a).val ∧ (i a).val < win0_5.index t a * S2560x1024.size a + S2560x1024.size a := by
  show i ∈ ((View.whole main_v2_0).slice (win0_5.rect t)).set ↔ _
  rw [View.set_slice_whole, Rect.mem_set_unit]
  exact Iff.rfl

/-- THE COVERED INDICES: in some flushing point's block iff inside the box those blocks fill. -/
theorem covered_iff5 (i : S2560x10240.Idx) :
    (∃ t : Fin cfg0.N, (cfg0.win 5).flush t = true ∧ i ∈ ((cfg0.win 5).blk t).view.set) ↔ 0 ≤ (i 0).val ∧ (i 0).val < 2560 ∧ 0 ≤ (i 1).val ∧ (i 1).val < 10240 := by
  constructor
  · rintro ⟨t, -, hi⟩
    rw [mem_blk5] at hi
    have b0 : win0_5.index t (0 : Fin 2) * 2560 ≤ (i 0).val ∧ (i 0).val < win0_5.index t (0 : Fin 2) * 2560 + 2560 := hi 0
    have b1 : win0_5.index t (1 : Fin 2) * 1024 ≤ (i 1).val ∧ (i 1).val < win0_5.index t (1 : Fin 2) * 1024 + 1024 := hi 1
    obtain ⟨e0, e1, e2⟩ := idx_facts5 t
    omega
  · intro h
    have hi0 : (i 0).val < 2560 := (i 0).isLt
    have hi1 : (i 1).val < 10240 := (i 1).isLt
    obtain ⟨t, hft, ht⟩ := idx_onto5 ⟨(i 0).val / 2560 - 0, by omega⟩ ⟨(i 1).val / 1024 - 0, by omega⟩
    have q0 : win0_5.index t (0 : Fin 2) = (i 0).val / 2560 - 0 + 0 := congrFun ht 0
    have q1 : win0_5.index t (1 : Fin 2) = (i 1).val / 1024 - 0 + 0 := congrFun ht 1
    refine ⟨t, hft, ?_⟩
    rw [mem_blk5]
    intro a
    match a with
    | ⟨0, _⟩ => show win0_5.index t (0 : Fin 2) * 2560 ≤ (i 0).val ∧ (i 0).val < win0_5.index t (0 : Fin 2) * 2560 + 2560; omega
    | ⟨1, _⟩ => show win0_5.index t (1 : Fin 2) * 1024 ≤ (i 1).val ∧ (i 1).val < win0_5.index t (1 : Fin 2) * 1024 + 1024; omega

/-- THE ARRAY after the run: `G5` (the flushing blocks tile it). -/
theorem final5 (c : Dev nD) : (dats m 0 c).arrAt 5 cfg0.N = G5 m c :=
  (dats m 0 c).arrAt_eq_of_cover 5 _ (fun t hf => flushed5_eq m c t hf) (fun i => (covered_iff5 i).2 (by
    have h0 : (i 0).val < 2560 := (i 0).isLt; have h1 : (i 1).val < 10240 := (i 1).isLt; omega))

/-! ## Output window 6 -/

/-- The block of the array that holds index `i`, numbered in the order the points write the blocks back (one per point),
    `i`'s place in it, and the point that writes it back. -/
abbrev run6Of (i : S8192x10240.Idx) : ℕ := 1 * ((i 0).val / 512 - 0) + 16 * ((i 1).val / 1024 - 0)
set_option backward.proofsInPublic true in
abbrev loc6Of (i : S8192x10240.Idx) : S512x1024.Idx := fun a => match a with
  | ⟨0, _⟩ => ⟨(i 0).val % 512, Nat.mod_lt _ (by decide)⟩
  | ⟨1, _⟩ => ⟨(i 1).val % 1024, Nat.mod_lt _ (by decide)⟩
abbrev pt6Of (i : S8192x10240.Idx) : ℕ := run6Of i

/-- WHAT THE ARRAY ENDS HOLDING at index `i` inside the box the flushing blocks fill: output 6's component of the carried
    state's fold at the point that writes `i`'s block back, at `i`'s place in the block. `G6` states the array's contents
    only inside the box. -/
def G6 (c : Dev nD) : Buf (Elt F) ((c : Thread nD τ).loc main_v2_1) := fun i =>
  if h : pt6Of i < cfg0.N then
    (Pipeline.accAt (fun n h => stAt0 m c n h junk0) (stAt0 m c) 0 (pt6Of i) (by omega)).2.1 (loc6Of i)
  else V m c (Pipeline.arrRef spec0 6) i

/-- The printed index map, decided over the grid: output window 6's block indices stay in the box, and the block number
    read off them is the point's (`t`). -/
theorem idx_facts6 : ∀ t : Fin cfg0.N, 0 ≤ win0_6.index t (0 : Fin 2) ∧ win0_6.index t (0 : Fin 2) ≤ 15
    ∧ 0 ≤ win0_6.index t (1 : Fin 2) ∧ win0_6.index t (1 : Fin 2) ≤ 9
    ∧ 1 * (win0_6.index t (0 : Fin 2) - 0) + 16 * (win0_6.index t (1 : Fin 2) - 0) = t.val :=
  (by decide +kernel : ∀ t : Fin grid0.N, _)

/-- Every block of the box is SOME flushing point's: `onto6Pt`, the point that writes back the block at place `q` of the box. -/
abbrev onto6Pt (q0 : Fin 16) (q1 : Fin 10) : Fin grid0.N :=
  ⟨1 * q0.val + 16 * q1.val, lt_of_lt_of_eq (by omega) N_0.symm⟩
theorem idx_onto6 : ∀ (q0 : Fin 16) (q1 : Fin 10), ∃ t : Fin cfg0.N, (cfg0.win 6).flush t = true ∧ win0_6.index t = ![q0.val + 0, q1.val + 0] :=
  fun q0 q1 => ⟨onto6Pt q0 q1, (by decide +kernel : ∀ (q0 : Fin 16) (q1 : Fin 10), win0_6.flush (onto6Pt q0 q1) = true ∧ win0_6.index (onto6Pt q0 q1) = ![q0.val + 0, q1.val + 0]) q0 q1⟩

/-- WHAT A FLUSHING POINT `t` WRITES BACK is block `t` of `G6`: output 6's component of the fold up to `t`. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6, outsAt0_sweep]
  obtain ⟨e0, e1, e2⟩ := idx_facts6 t
  funext y
  have hy0 : (y 0).val < 512 := (y 0).isLt
  have hy1 : (y 1).val < 1024 := (y 1).isLt
  have hb0 : (((cfg0.win 6).blk t).view.emb y 0).val = win0_6.index t (0 : Fin 2) * 512 + 1 * (y 0).val := rfl
  have hb1 : (((cfg0.win 6).blk t).view.emb y 1).val = win0_6.index t (1 : Fin 2) * 1024 + 1 * (y 1).val := rfl
  have hr : run6Of (((cfg0.win 6).blk t).view.emb y) = t.val := by
    show 1 * ((((cfg0.win 6).blk t).view.emb y 0).val / 512 - 0) + 16 * ((((cfg0.win 6).blk t).view.emb y 1).val / 1024 - 0) = _
    rw [hb0, hb1]
    rw [show (win0_6.index t (0 : Fin 2) * 512 + 1 * (y 0).val) / 512 = win0_6.index t (0 : Fin 2) from by omega]; rw [show (win0_6.index t (1 : Fin 2) * 1024 + 1 * (y 1).val) / 1024 = win0_6.index t (1 : Fin 2) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 512 = (y 0).val; rw [hb0]; omega
    | ⟨1, _⟩ => show (((cfg0.win 6).blk t).view.emb y 1).val % 1024 = (y 1).val; rw [hb1]; omega
  have hp : pt6Of (((cfg0.win 6).blk t).view.emb y) = t.val := by
    exact hr
  show (Pipeline.accAt (fun n h => stAt0 m c n h junk0) (stAt0 m c) 0 t.val _).2.1 ((cfg0.win 6).xinj (grid0.coords t) y) = G6 m c (((cfg0.win 6).blk t).view.emb y)
  unfold G6
  rw [dif_pos (by rw [hp]; exact t.isLt), hl, fold0_congr m c _ _ _ _ hp.symm]

/-- An index of the array is in point `t`'s block iff each coordinate is in the block's range on its axis. -/
theorem mem_blk6 (t : Fin cfg0.N) (i : S8192x10240.Idx) :
    i ∈ ((cfg0.win 6).blk t).view.set ↔ ∀ a : Fin 2, win0_6.index t a * S512x1024.size a ≤ (i a).val ∧ (i a).val < win0_6.index t a * S512x1024.size a + S512x1024.size a := by
  show i ∈ ((View.whole main_v2_1).slice (win0_6.rect t)).set ↔ _
  rw [View.set_slice_whole, Rect.mem_set_unit]
  exact Iff.rfl

/-- THE COVERED INDICES: in some flushing point's block iff inside the box those blocks fill. -/
theorem covered_iff6 (i : S8192x10240.Idx) :
    (∃ t : Fin cfg0.N, (cfg0.win 6).flush t = true ∧ i ∈ ((cfg0.win 6).blk t).view.set) ↔ 0 ≤ (i 0).val ∧ (i 0).val < 8192 ∧ 0 ≤ (i 1).val ∧ (i 1).val < 10240 := by
  constructor
  · rintro ⟨t, -, hi⟩
    rw [mem_blk6] at hi
    have b0 : win0_6.index t (0 : Fin 2) * 512 ≤ (i 0).val ∧ (i 0).val < win0_6.index t (0 : Fin 2) * 512 + 512 := hi 0
    have b1 : win0_6.index t (1 : Fin 2) * 1024 ≤ (i 1).val ∧ (i 1).val < win0_6.index t (1 : Fin 2) * 1024 + 1024 := hi 1
    obtain ⟨e0, e1, e2⟩ := idx_facts6 t
    omega
  · intro h
    have hi0 : (i 0).val < 8192 := (i 0).isLt
    have hi1 : (i 1).val < 10240 := (i 1).isLt
    obtain ⟨t, hft, ht⟩ := idx_onto6 ⟨(i 0).val / 512 - 0, by omega⟩ ⟨(i 1).val / 1024 - 0, by omega⟩
    have q0 : win0_6.index t (0 : Fin 2) = (i 0).val / 512 - 0 + 0 := congrFun ht 0
    have q1 : win0_6.index t (1 : Fin 2) = (i 1).val / 1024 - 0 + 0 := congrFun ht 1
    refine ⟨t, hft, ?_⟩
    rw [mem_blk6]
    intro a
    match a with
    | ⟨0, _⟩ => show win0_6.index t (0 : Fin 2) * 512 ≤ (i 0).val ∧ (i 0).val < win0_6.index t (0 : Fin 2) * 512 + 512; omega
    | ⟨1, _⟩ => show win0_6.index t (1 : Fin 2) * 1024 ≤ (i 1).val ∧ (i 1).val < win0_6.index t (1 : Fin 2) * 1024 + 1024; omega

/-- THE ARRAY after the run: `G6` (the flushing blocks tile it). -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 8192 := (i 0).isLt; have h1 : (i 1).val < 10240 := (i 1).isLt; omega))

/-! ## Output window 7 -/

/-- The block of the array that holds index `i`, numbered in the order the points write the blocks back (one every 16 points),
    `i`'s place in it, and the point that writes it back (the last of its 16). -/
abbrev run7Of (i : S1x10240.Idx) : ℕ := 10 * ((i 0).val / 1 - 0) + 1 * ((i 1).val / 1024 - 0)
set_option backward.proofsInPublic true in
abbrev loc7Of (i : S1x10240.Idx) : S1x1024.Idx := fun a => match a with
  | ⟨0, _⟩ => ⟨(i 0).val % 1, Nat.mod_lt _ (by decide)⟩
  | ⟨1, _⟩ => ⟨(i 1).val % 1024, Nat.mod_lt _ (by decide)⟩
abbrev pt7Of (i : S1x10240.Idx) : ℕ := 16 * run7Of i + 15

/-- WHAT THE ARRAY ENDS HOLDING at index `i` inside the box the flushing blocks fill: output 7's component of the carried
    state's fold at the point that writes `i`'s block back, at `i`'s place in the block. `G7` states the array's contents
    only inside the box. -/
def G7 (c : Dev nD) : Buf (Elt F) ((c : Thread nD τ).loc main_v2_2) := fun i =>
  if h : pt7Of i < cfg0.N then
    (Pipeline.accAt (fun n h => stAt0 m c n h junk0) (stAt0 m c) 0 (pt7Of i) (by omega)).2.2.1 (loc7Of i)
  else V m c (Pipeline.arrRef spec0 7) i

/-- The printed index map, decided over the grid: output window 7's block indices stay in the box, and the block number
    read off them is the point's (`t / 16`). -/
theorem idx_facts7 : ∀ t : Fin cfg0.N, 0 ≤ win0_7.index t (0 : Fin 2) ∧ win0_7.index t (0 : Fin 2) ≤ 0
    ∧ 0 ≤ win0_7.index t (1 : Fin 2) ∧ win0_7.index t (1 : Fin 2) ≤ 9
    ∧ 10 * (win0_7.index t (0 : Fin 2) - 0) + 1 * (win0_7.index t (1 : Fin 2) - 0) = t.val / 16 :=
  (by decide +kernel : ∀ t : Fin grid0.N, _)

/-- Every block of the box is SOME flushing point's: `onto7Pt`, the point that writes back the block at place `q` of the box (the last point of its run). -/
abbrev onto7Pt (q0 : Fin 1) (q1 : Fin 10) : Fin grid0.N :=
  ⟨16 * (10 * q0.val + 1 * q1.val) + 15, lt_of_lt_of_eq (by omega) N_0.symm⟩
theorem idx_onto7 : ∀ (q0 : Fin 1) (q1 : Fin 10), ∃ t : Fin cfg0.N, (cfg0.win 7).flush t = true ∧ win0_7.index t = ![q0.val + 0, q1.val + 0] :=
  fun q0 q1 => ⟨onto7Pt q0 q1, (by decide +kernel : ∀ (q0 : Fin 1) (q1 : Fin 10), win0_7.flush (onto7Pt q0 q1) = true ∧ win0_7.index (onto7Pt q0 q1) = ![q0.val + 0, q1.val + 0]) q0 q1⟩

/-- WHAT A FLUSHING POINT `t` WRITES BACK is block `t` of `G7`: output 7's component of the fold up to `t`. -/
theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7, outsAt0_sweep]
  have hm : t.val % 16 = 15 := (flush0_7 t).mp hf
  obtain ⟨e0, e1, e2⟩ := idx_facts7 t
  funext y
  have hy0 : (y 0).val < 1 := (y 0).isLt
  have hy1 : (y 1).val < 1024 := (y 1).isLt
  have hb0 : (((cfg0.win 7).blk t).view.emb y 0).val = win0_7.index t (0 : Fin 2) * 1 + 1 * (y 0).val := rfl
  have hb1 : (((cfg0.win 7).blk t).view.emb y 1).val = win0_7.index t (1 : Fin 2) * 1024 + 1 * (y 1).val := rfl
  have hr : run7Of (((cfg0.win 7).blk t).view.emb y) = t.val / 16 := by
    show 10 * ((((cfg0.win 7).blk t).view.emb y 0).val / 1 - 0) + 1 * ((((cfg0.win 7).blk t).view.emb y 1).val / 1024 - 0) = _
    rw [hb0, hb1]
    rw [show (win0_7.index t (0 : Fin 2) * 1 + 1 * (y 0).val) / 1 = win0_7.index t (0 : Fin 2) from by omega]; rw [show (win0_7.index t (1 : Fin 2) * 1024 + 1 * (y 1).val) / 1024 = win0_7.index t (1 : Fin 2) from by omega]
    omega
  have hl : loc7Of (((cfg0.win 7).blk t).view.emb y) = (cfg0.win 7).xinj (grid0.coords t) y := by
    funext a; apply Fin.ext
    match a with
    | ⟨0, _⟩ => show (((cfg0.win 7).blk t).view.emb y 0).val % 1 = (y 0).val; rw [hb0]; omega
    | ⟨1, _⟩ => show (((cfg0.win 7).blk t).view.emb y 1).val % 1024 = (y 1).val; rw [hb1]; omega
  have hp : pt7Of (((cfg0.win 7).blk t).view.emb y) = t.val := by
    show 16 * run7Of (((cfg0.win 7).blk t).view.emb y) + 15 = _
    rw [hr]; have := Nat.div_add_mod t.val 16; omega
  show (Pipeline.accAt (fun n h => stAt0 m c n h junk0) (stAt0 m c) 0 t.val _).2.2.1 ((cfg0.win 7).xinj (grid0.coords t) y) = G7 m c (((cfg0.win 7).blk t).view.emb y)
  unfold G7
  rw [dif_pos (by rw [hp]; exact t.isLt), hl, fold0_congr m c _ _ _ _ hp.symm]

/-- An index of the array is in point `t`'s block iff each coordinate is in the block's range on its axis. -/
theorem mem_blk7 (t : Fin cfg0.N) (i : S1x10240.Idx) :
    i ∈ ((cfg0.win 7).blk t).view.set ↔ ∀ a : Fin 2, win0_7.index t a * S1x1024.size a ≤ (i a).val ∧ (i a).val < win0_7.index t a * S1x1024.size a + S1x1024.size a := by
  show i ∈ ((View.whole main_v2_2).slice (win0_7.rect t)).set ↔ _
  rw [View.set_slice_whole, Rect.mem_set_unit]
  exact Iff.rfl

/-- THE COVERED INDICES: in some flushing point's block iff inside the box those blocks fill. -/
theorem covered_iff7 (i : S1x10240.Idx) :
    (∃ t : Fin cfg0.N, (cfg0.win 7).flush t = true ∧ i ∈ ((cfg0.win 7).blk t).view.set) ↔ 0 ≤ (i 0).val ∧ (i 0).val < 1 ∧ 0 ≤ (i 1).val ∧ (i 1).val < 10240 := by
  constructor
  · rintro ⟨t, -, hi⟩
    rw [mem_blk7] at hi
    have b0 : win0_7.index t (0 : Fin 2) * 1 ≤ (i 0).val ∧ (i 0).val < win0_7.index t (0 : Fin 2) * 1 + 1 := hi 0
    have b1 : win0_7.index t (1 : Fin 2) * 1024 ≤ (i 1).val ∧ (i 1).val < win0_7.index t (1 : Fin 2) * 1024 + 1024 := hi 1
    obtain ⟨e0, e1, e2⟩ := idx_facts7 t
    omega
  · intro h
    have hi0 : (i 0).val < 1 := (i 0).isLt
    have hi1 : (i 1).val < 10240 := (i 1).isLt
    obtain ⟨t, hft, ht⟩ := idx_onto7 ⟨(i 0).val / 1 - 0, by omega⟩ ⟨(i 1).val / 1024 - 0, by omega⟩
    have q0 : win0_7.index t (0 : Fin 2) = (i 0).val / 1 - 0 + 0 := congrFun ht 0
    have q1 : win0_7.index t (1 : Fin 2) = (i 1).val / 1024 - 0 + 0 := congrFun ht 1
    refine ⟨t, hft, ?_⟩
    rw [mem_blk7]
    intro a
    match a with
    | ⟨0, _⟩ => show win0_7.index t (0 : Fin 2) * 1 ≤ (i 0).val ∧ (i 0).val < win0_7.index t (0 : Fin 2) * 1 + 1; omega
    | ⟨1, _⟩ => show win0_7.index t (1 : Fin 2) * 1024 ≤ (i 1).val ∧ (i 1).val < win0_7.index t (1 : Fin 2) * 1024 + 1024; omega

/-- THE ARRAY after the run: `G7` (the flushing blocks tile it). -/
theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 1 := (i 0).isLt; have h1 : (i 1).val < 10240 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v2_0) = G5 m c
      ∧ r.2.mem ((c : Thread nD τ).loc main_v2_1) = G6 m c
      ∧ r.2.mem ((c : Thread nD τ).loc main_v2_2) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(post5 m r h c).trans (final5 m c),
      (post6 m r h c).trans (final6 m c),
      (post7 m r h c).trans (final7 m c),
      kept_main_arg0 m r h c,
      kept_main_arg1 m r h c,
      kept_main_arg2 m r h c,
      kept_main_arg3 m r h c,
      kept_main_arg4 m r h c⟩)
    (run_main m ρ)

end Cert.KInIdeal.Value

end
-- ==== Proof.Scales.lean ====
/-
  Hand-written, untrusted. Two layout facts every kernel here uses, at any element type: a row of 512 scales turned into a column of 512
  scales (one copy in each of 128 lanes), and that 128-lane column laid side by side until it is as wide as the block it scales.
-/
module

public import Idealize.ShloMosaic.Lib.Pointwise
public import Idealize.ShloMosaic.Lib.Pipeline.Value

@[expose] public section

set_option maxRecDepth 16384

noncomputable section

namespace Cert.Scales

open Idealize.ShloMosaic

variable {α : Type}

/-- 128 numbers of a row, from position `o` on, copied to 128 rows and transposed: a square whose rows are constant. -/
def square (o : ℕ) (v : (⟨2, ![1, 512]⟩ : Shape).Idx → α) (h : (⟨2, ![1, 512]⟩ : Shape).Slices ![0, o] ⟨2, ![1, 128]⟩) :
    (⟨2, ![128, 128]⟩ : Shape).Idx → α :=
  transpose ⟨2, ![128, 128]⟩ [1, 0]
    (broadcastTo ⟨2, ![128, 128]⟩
      (shapeCast ⟨2, ![1, 128]⟩ (extractStridedSlice ⟨2, ![1, 128]⟩ ![0, o] v h) (by decide)) (by decide)) (by decide)

/-- A row of 512 numbers as a column of 512 numbers, one copy in each of 128 lanes: four such squares stacked. -/
def col (v : (⟨2, ![1, 512]⟩ : Shape).Idx → α) : (⟨2, ![512, 128]⟩ : Shape).Idx → α :=
  concatenate ⟨2, ![512, 128]⟩ 0
    [⟨⟨2, ![128, 128]⟩, square 0 v (by decide)⟩, ⟨⟨2, ![128, 128]⟩, square 128 v (by decide)⟩,
     ⟨⟨2, ![128, 128]⟩, square 256 v (by decide)⟩, ⟨⟨2, ![128, 128]⟩, square 384 v (by decide)⟩]
    (show Shape.Concatenates [(⟨2, ![128, 128]⟩ : Shape), ⟨2, ![128, 128]⟩, ⟨2, ![128, 128]⟩, ⟨2, ![128, 128]⟩] ⟨2, ![512, 128]⟩ 0 by decide)

/-- Row `k` of the square is the row's entry `o + k`. -/
theorem square_apply (o : ℕ) (ho : o + 128 ≤ 512) (v : (⟨2, ![1, 512]⟩ : Shape).Idx → α)
    (h : (⟨2, ![1, 512]⟩ : Shape).Slices ![0, o] ⟨2, ![1, 128]⟩) (k l : Fin 128) :
    square o v h (ix2 k l) = v (ix2 0 ⟨o + k.val, by omega⟩) := by
  unfold square
  rw [shapeCast_self]
  pointwise

/-- Row `k` of the column is the row's entry `k`, in every lane. -/
theorem col_apply (v : (⟨2, ![1, 512]⟩ : Shape).Idx → α) (k : Fin 512) (l : Fin 128) : col v (ix2 k l) = v (ix2 0 k) := by
  have hk := k.isLt
  unfold col
  pointwise
  split_ifs
  all_goals
    rw [square_apply _ (by decide)]
    refine congrArg v (congrArg (ix2 0) (Fin.ext ?_))
    simp only
    omega

/-- `N` copies of a 128-lane column laid side by side: entry `(k, r)` is the column's entry `(k, r mod 128)`. -/
theorem laneTile_apply {K R : ℕ} (N : ℕ) (x : (⟨2, ![K, 128]⟩ : Shape).Idx → α)
    (h : Shape.Concatenates ((List.replicate N (⟨⟨2, ![K, 128]⟩, x⟩ : (s : Shape) × (s.Idx → α))).map (·.1)) ⟨2, ![K, R]⟩ 1)
    (k : Fin K) (r : Fin R) :
    concatenate ⟨2, ![K, R]⟩ 1 (List.replicate N (⟨⟨2, ![K, 128]⟩, x⟩ : (s : Shape) × (s.Idx → α))) h (ix2 k r)
      = x (ix2 k ⟨r.val % 128, Nat.mod_lt _ (by decide)⟩) := by
  refine concatenate_replicate_apply (s₁ := ⟨2, ![K, 128]⟩) (t := ⟨2, ![K, R]⟩) 1 N x h rfl _ _ rfl fun b hb => ?_
  match b with
  | ⟨0, _⟩ => rfl
  | ⟨1, _⟩ => exact absurd rfl hb

end Cert.Scales

end
-- ==== Proof.OutKernel.lean ====
/-
  Hand-written, untrusted. What the weight-gradient kernel `dw_out` computes, read over the extended reals: one grid point's addend, the
  accumulator after each point of a sweep, and the result array as a sum over the sixteen token blocks.
-/
module

public import proofs.«01_k».proof.Proof.Scales
public import proofs.«01_k».proof.Proof.Gen.KOutIdeal.Value
public import Idealize.ShloMosaic.Lib.StableHlo.Run
public import Idealize.ShloMosaic.Lib.Tactic

@[expose] public section

set_option maxRecDepth 16384

noncomputable section

namespace Cert.OutKernel

open Cert.KOutIdeal Cert.KOutIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- The row of 512 scales that grid point `i` loads from a whole scale array. -/
abbrev row {F : FTy → Type} (i : grid0.Coords) (x : Vec F S8x1024 .f32) : Vec F S1x512 .f32 :=
  View.ld x (Rect.unit (s := S8x1024) (k0_off1 i) S1x512.size (k0_off1_inb i))

/-- One step of the accumulator: what the body stores back, from the accumulator it found and the point's blocks. -/
abbrev step {F : FTy → Type} [FloatOps F] (i : grid0.Coords) (x0 : Vec F S512x1024 .fp8e4m3) (x1 : Vec F S8x1024 .f32)
    (x2 : Vec F S512x2560 .fp8e5m2) (x3 : Vec F S8x1024 .f32) (acc : Vec F S1024x2560 .f32) : Vec F S1024x2560 .f32 :=
  k0_pay1 (k0_pay6 (row i x1) (k0_pay4 (row i x1)) (k0_pay5 (row i x1))) (row i x3) (k0_pay7 (row i x3)) x0 acc x2

section Cases
variable {F : FTy → Type} [FloatOps F]

/-- In the middle of a sweep the body leaves one step over the accumulator it found. -/
theorem sout_B (c : Dev nD) (i : grid0.Coords) (a2 : Memref sig .tc .vmem S512x1024 .fp8e4m3) (h2 : a2.IsWhole)
    (a3 : Memref sig .tc .vmem S8x1024 .f32) (h3 : a3.IsWhole) (a4 : Memref sig .tc .vmem S512x2560 .fp8e5m2) (h4 : a4.IsWhole)
    (a5 : Memref sig .tc .vmem S8x1024 .f32) (h5 : a5.IsWhole) (a6 : Memref sig .tc .vmem S1024x2560 .bf16) (h6 : a6.IsWhole)
    (a7 : Memref sig .tc .vmem S1024x2560 .f32) (h7 : a7.IsWhole) (hc0 : ¬cond0_0 i) (hc1 : ¬cond0_1 i)
    (x0 : Vec F S512x1024 .fp8e4m3) (x1 : Vec F S8x1024 .f32) (x2 : Vec F S512x2560 .fp8e5m2) (x3 : Vec F S8x1024 .f32)
    (xs0 : Vec F S1024x2560 .f32) :
    sout0_B_0 c i a2 h2 a3 h3 a4 h4 a5 h5 a6 h6 a7 h7 hc0 hc1 x0 x1 x2 x3 xs0 = step i x0 x1 x2 x3 xs0 := by
  unfold sout0_B_0
  rw [View.read_writes_eq_canon _ _ _ (scover0_B_0 c i a2 h2 a3 h3 a4 h4 a5 h5 a6 h6 a7 h7 hc0 hc1 x0 x1 x2 x3 xs0)]
  unfold kernelRun0_B
  dsimp only
  sl_unfold_words
  rw [View.canon_unit_zero (S := S1024x2560) hz]
  simp only [View.readAt_eq_ld, h2.read_unread, h3.read_unread, h4.read_unread, h5.read_unread, h7.read_unread,
    View.ld_unit_zero (S := S512x1024) hz, View.ld_unit_zero (S := S1024x2560) hz, View.ld_unit_zero (S := S512x2560) hz]
  rfl

/-- At the last point of a sweep the body leaves one step over the accumulator it found. -/
theorem sout_C (c : Dev nD) (i : grid0.Coords) (a2 : Memref sig .tc .vmem S512x1024 .fp8e4m3) (h2 : a2.IsWhole)
    (a3 : Memref sig .tc .vmem S8x1024 .f32) (h3 : a3.IsWhole) (a4 : Memref sig .tc .vmem S512x2560 .fp8e5m2) (h4 : a4.IsWhole)
    (a5 : Memref sig .tc .vmem S8x1024 .f32) (h5 : a5.IsWhole) (a6 : Memref sig .tc .vmem S1024x2560 .bf16) (h6 : a6.IsWhole)
    (a7 : Memref sig .tc .vmem S1024x2560 .f32) (h7 : a7.IsWhole) (hc0 : ¬cond0_0 i) (hc1 : cond0_1 i)
    (x0 : Vec F S512x1024 .fp8e4m3) (x1 : Vec F S8x1024 .f32) (x2 : Vec F S512x2560 .fp8e5m2) (x3 : Vec F S8x1024 .f32)
    (xs0 : Vec F S1024x2560 .f32) :
    sout0_C_0 c i a2 h2 a3 h3 a4 h4 a5 h5 a6 h6 a7 h7 hc0 hc1 x0 x1 x2 x3 xs0 = step i x0 x1 x2 x3 xs0 := by
  unfold sout0_C_0
  rw [View.read_writes_eq_canon _ _ _ (scover0_C_0 c i a2 h2 a3 h3 a4 h4 a5 h5 a6 h6 a7 h7 hc0 hc1 x0 x1 x2 x3 xs0)]
  unfold kernelRun0_C
  dsimp only
  sl_unfold_words
  rw [View.canon_unit_zero (S := S1024x2560) hz]
  simp only [View.readAt_eq_ld, h2.read_unread, h3.read_unread, h4.read_unread, h5.read_unread, h7.read_unread,
    View.ld_unit_zero (S := S512x1024) hz, View.ld_unit_zero (S := S1024x2560) hz, View.ld_unit_zero (S := S512x2560) hz]
  rfl

/-- At the first point of a sweep the body leaves one step over the zero block. -/
theorem sout_A (c : Dev nD) (i : grid0.Coords) (a2 : Memref sig .tc .vmem S512x1024 .fp8e4m3) (h2 : a2.IsWhole)
    (a3 : Memref sig .tc .vmem S8x1024 .f32) (h3 : a3.IsWhole) (a4 : Memref sig .tc .vmem S512x2560 .fp8e5m2) (h4 : a4.IsWhole)
    (a5 : Memref sig .tc .vmem S8x1024 .f32) (h5 : a5.IsWhole) (a6 : Memref sig .tc .vmem S1024x2560 .bf16) (h6 : a6.IsWhole)
    (a7 : Memref sig .tc .vmem S1024x2560 .f32) (h7 : a7.IsWhole) (hc0 : cond0_0 i) (hc1 : ¬cond0_1 i)
    (x0 : Vec F S512x1024 .fp8e4m3) (x1 : Vec F S8x1024 .f32) (x2 : Vec F S512x2560 .fp8e5m2) (x3 : Vec F S8x1024 .f32) :
    sout0_A_0 c i a2 h2 a3 h3 a4 h4 a5 h5 a6 h6 a7 h7 hc0 hc1 x0 x1 x2 x3 = step i x0 x1 x2 x3 k0_pay3 := by
  unfold sout0_A_0
  rw [View.read_writes_eq_canon _ _ _ (scover0_A_0 c i a2 h2 a3 h3 a4 h4 a5 h5 a6 h6 a7 h7 hc0 hc1 x0 x1 x2 x3)]
  unfold kernelRun0_A
  dsimp only
  sl_unfold_words
  rw [View.canon_cons_unit_zero (S := S1024x2560) hz]
  simp only [View.readAt_eq_ld, h2.read_unread, h3.read_unread, h4.read_unread, h5.read_unread, View.readCov_unit_zero (S := S1024x2560) _ hz,
    View.ld_unit_zero (S := S512x1024) hz, View.ld_unit_zero (S := S512x2560) hz]
  rfl

/-- At the last point of a sweep the block written back is the final accumulator, rounded to bf16. -/
theorem out_C (c : Dev nD) (i : grid0.Coords) (a2 : Memref sig .tc .vmem S512x1024 .fp8e4m3) (h2 : a2.IsWhole)
    (a3 : Memref sig .tc .vmem S8x1024 .f32) (h3 : a3.IsWhole) (a4 : Memref sig .tc .vmem S512x2560 .fp8e5m2) (h4 : a4.IsWhole)
    (a5 : Memref sig .tc .vmem S8x1024 .f32) (h5 : a5.IsWhole) (a6 : Memref sig .tc .vmem S1024x2560 .bf16) (h6 : a6.IsWhole)
    (a7 : Memref sig .tc .vmem S1024x2560 .f32) (h7 : a7.IsWhole) (hc0 : ¬cond0_0 i) (hc1 : cond0_1 i)
    (x0 : Vec F S512x1024 .fp8e4m3) (x1 : Vec F S8x1024 .f32) (x2 : Vec F S512x2560 .fp8e5m2) (x3 : Vec F S8x1024 .f32)
    (xs0 : Vec F S1024x2560 .f32) :
    out0_C_4 c i a2 h2 a3 h3 a4 h4 a5 h5 a6 h6 a7 h7 hc0 hc1 x0 x1 x2 x3 xs0 = k0_pay2 (step i x0 x1 x2 x3 xs0) := by
  unfold out0_C_4
  rw [View.read_writes_eq_canon _ _ _ (cover0_C_4 c i a2 h2 a3 h3 a4 h4 a5 h5 a6 h6 a7 h7 hc0 hc1 x0 x1 x2 x3 xs0)]
  unfold kernelRun0_C
  dsimp only
  sl_unfold_words
  rw [View.canon_unit_zero (S := S1024x2560) hz]
  simp only [View.readAt_eq_ld, h2.read_unread, h3.read_unread, h4.read_unread, h5.read_unread, h7.read_unread,
    View.readCov_unit_zero (S := S1024x2560) _ hz,
    View.ld_unit_zero (S := S512x1024) hz, View.ld_unit_zero (S := S1024x2560) hz, View.ld_unit_zero (S := S512x2560) hz]
  rfl

end Cases

/-! ## One step at an index, over the extended reals -/

/-- The column of scale products laid side by side until it is as wide as the left block. -/
def tiled (x : FVec Ideal S512x128 .bf16) : FVec Ideal S512x1024 .bf16 :=
  concatenate S512x1024 1 [⟨S512x128, x⟩, ⟨S512x128, x⟩, ⟨S512x128, x⟩, ⟨S512x128, x⟩, ⟨S512x128, x⟩, ⟨S512x128, x⟩, ⟨S512x128, x⟩,
    ⟨S512x128, x⟩] concatenates_S512x128_S512x128_S512x128_S512x128_S512x128_S512x128_S512x128_S512x128_S512x1024_d1

theorem tiled_apply (x : FVec Ideal S512x128 .bf16) (k : Fin 512) (r : Fin 1024) :
    tiled x (ix2 k r) = x (ix2 k ⟨r.val % 128, Nat.mod_lt _ (by decide)⟩) :=
  Scales.laneTile_apply 8 x
    concatenates_S512x128_S512x128_S512x128_S512x128_S512x128_S512x128_S512x128_S512x128_S512x1024_d1 k r

/-- The step's payload, its two scale columns named. -/
theorem pay_eq (u v : Vec Ideal S1x512 .f32) (x0 : Vec Ideal S512x1024 .fp8e4m3) (x2 : Vec Ideal S512x2560 .fp8e5m2)
    (acc : Vec Ideal S1024x2560 .f32) :
    k0_pay1 (k0_pay6 u (k0_pay4 u) (k0_pay5 u)) v (k0_pay7 v) x0 acc x2
      = shapeCast S1024x2560 (addf acc (matmul dot_S512x1024_S512x2560_S1024x2560_0_0_1_1_n_n none
          (mulf (extf .bf16 (shapeCast S512x1024 x0 shapeCasts_S512x1024_S512x1024) bitsLt_fp8e4m3_bf16 : FVec Ideal S512x1024 .bf16)
            (tiled (truncf .bf16 (mulf (Scales.col u : FVec Ideal S512x128 .f32) (Scales.col v)) bitsLt_bf16_f32)))
          (shapeCast S512x2560 x2 shapeCasts_S512x2560_S512x2560 : FVec Ideal S512x2560 .fp8e5m2)
          (constant S1024x2560 .f32 0x00000000#32))) shapeCasts_S1024x2560_S1024x2560 :=
  rfl

/-- One step adds, at entry `(r, l)`, the 512-token sum of `x0(k, r) · (x1's scale of k · x3's scale of k) · x2(k, l)`. -/
theorem step_apply (i : grid0.Coords) (x0 : Vec Ideal S512x1024 .fp8e4m3) (x1 : Vec Ideal S8x1024 .f32)
    (x2 : Vec Ideal S512x2560 .fp8e5m2) (x3 : Vec Ideal S8x1024 .f32) (acc : Vec Ideal S1024x2560 .f32) (r : Fin 1024) (l : Fin 2560) :
    step i x0 x1 x2 x3 acc (ix2 r l)
      = acc (ix2 r l) + ∑ k : Fin 512, x0 (ix2 k r) * (row i x1 (ix2 0 k) * row i x3 (ix2 0 k)) * x2 (ix2 k l) := by
  unfold step
  generalize row i x1 = u
  generalize row i x3 = v
  rw [pay_eq]
  pointwise [tiled_apply, Scales.col_apply]

end Cert.OutKernel

end
-- ==== Proof.Sums.lean ====
/-
  Hand-written, untrusted. A sum over all tokens as the sum over token blocks of the sums over each block's tokens.
-/
module

public import Idealize.ShloMosaic.Lib.Pipeline.Value

@[expose] public section

noncomputable section

namespace Cert.Sums

/-- A sum over `a · b` terms, taken block by block: `a` blocks of `b` terms. -/
theorem sum_blocks {α : Type*} [AddCommMonoid α] {N : ℕ} (a b : ℕ) (hN : N = a * b) (f : Fin N → α) :
    ∑ s ∈ Finset.range a, ∑ k : Fin b, (if hs : s < a then f ⟨s * b + k.val, by
        subst hN
        exact Nat.lt_of_lt_of_le (by rw [Nat.succ_mul]; omega) (Nat.mul_le_mul_right b (Nat.succ_le_of_lt hs))⟩ else 0) = ∑ t, f t := by
  subst hN
  rw [Finset.sum_range, ← finProdFinEquiv.sum_comp f, Fintype.sum_prod_type]
  refine Finset.sum_congr rfl fun s _ => Finset.sum_congr rfl fun k _ => ?_
  rw [dif_pos s.isLt]
  congr 1
  apply Fin.ext
  show s.val * b + k.val = k.val + b * s.val
  rw [Nat.mul_comm, Nat.add_comm]

end Cert.Sums

end
-- ==== Proof.OutSweep.lean ====
/-
  Hand-written, untrusted. The result array of `dw_out` over the extended reals: the accumulator after each point of a sweep, and the array
  after the run, as sums over token blocks of the argument arrays.
-/
module

public import proofs.«01_k».proof.Proof.OutKernel
public import proofs.«01_k».proof.Proof.Sums

@[expose] public section

set_option maxRecDepth 16384

noncomputable section

namespace Cert.OutKernel

open Cert.KOutIdeal Cert.KOutIdeal.Gen Idealize.ShloMosaic Idealize.ShloMosaic.TcCoe Idealize.SL.Sem
open Idealize.ShloMosaic.Pipeline (Dat)

/-- The block indices of the two operands at grid point `t`, and where its scale row starts. -/
theorem idx0 : ∀ t : Fin cfg0.N, win0_0.index t (0 : Fin 2) = t.val % 16 ∧ win0_0.index t (1 : Fin 2) = t.val / 16 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem idx2 : ∀ t : Fin cfg0.N, win0_2.index t (0 : Fin 2) = t.val % 16 ∧ win0_2.index t (1 : Fin 2) = 0 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem off1 : ∀ t : Fin cfg0.N, k0_off1 (grid0.coords t) (0 : Fin 2) = t.val % 16 / 2 ∧
    k0_off1 (grid0.coords t) (1 : Fin 2) = t.val % 2 * 512 :=
  (by decide +kernel : ∀ t : Fin grid0.N, _)

variable (m : (ℓ : Loc nD τ sig) → Buf (Elt Ideal) ℓ) (c : Dev nD)

/-- The two operands flattened to one row per token, and the two scale arrays. -/
abbrev A : Vec Ideal S8192x10240 .fp8e4m3 :=
  shapeCast S8192x10240 (m ((c : Thread nD τ).loc main_arg0)) shapeCasts_S8x1024x10240_S8192x10240
abbrev As : Vec Ideal S8x1024 .f32 := m ((c : Thread nD τ).loc main_arg1)
abbrev B : Vec Ideal S8192x2560 .fp8e5m2 :=
  shapeCast S8192x2560 (m ((c : Thread nD τ).loc main_arg2)) shapeCasts_S8x1024x2560_S8192x2560
abbrev Bs : Vec Ideal S8x1024 .f32 := m ((c : Thread nD τ).loc main_arg3)

theorem V_v0 : V m c main_v0 = A m c := by
  unfold_abbrev_sides
  after_results
  rfl

theorem V_v1 : V m c main_v1 = B m c := by
  unfold_abbrev_sides
  after_results
  rfl

/-- The left operand's block at point `t`: 512 tokens of the point's token block, 1024 columns of its column block. -/
theorem iblk0_apply (t : Fin cfg0.N) (k : Fin 512) (r : Fin 1024) :
    (iblk m c 0 t : Vec Ideal S512x1024 .fp8e4m3) (ix2 k r)
      = A m c (ix2 ⟨t.val % 16 * 512 + k.val, by omega⟩ ⟨t.val / 16 * 1024 + r.val, by
          have := lt_of_lt_of_eq t.isLt (show cfg0.N = 160 from N_0); omega⟩) := by
  unfold iblk
  rw [View.read_apply]
  show V m c main_v0 _ = _
  rw [V_v0]
  congr 1
  funext a
  apply Fin.ext
  match a with
  | ⟨0, _⟩ => show win0_0.index t 0 * 512 + 1 * k.val = t.val % 16 * 512 + k.val; rw [(idx0 t).1]; omega
  | ⟨1, _⟩ => show win0_0.index t 1 * 1024 + 1 * r.val = t.val / 16 * 1024 + r.val; rw [(idx0 t).2]; omega

/-- The right operand's block at point `t`: 512 tokens of the point's token block, every column. -/
theorem iblk2_apply (t : Fin cfg0.N) (k : Fin 512) (l : Fin 2560) :
    (iblk m c 2 t : Vec Ideal S512x2560 .fp8e5m2) (ix2 k l) = B m c (ix2 ⟨t.val % 16 * 512 + k.val, by omega⟩ l) := by
  unfold iblk
  rw [View.read_apply]
  show V m c main_v1 _ = _
  rw [V_v1]
  congr 1
  funext a
  apply Fin.ext
  match a with
  | ⟨0, _⟩ => show win0_2.index t 0 * 512 + 1 * k.val = t.val % 16 * 512 + k.val; rw [(idx2 t).1]; omega
  | ⟨1, _⟩ => show win0_2.index t 1 * 2560 + 1 * l.val = l.val; rw [(idx2 t).2]; omega

/-- A scale window's block at any point is the whole scale array. -/
theorem iblk1_eq (t : Fin cfg0.N) : (iblk m c 1 t : Vec Ideal S8x1024 .f32) = As m c := by
  funext j
  unfold iblk
  rw [View.read_apply]
  show V m c main_arg1 _ = _
  rw [V_main_arg1]
  congr 1
  funext a
  apply Fin.ext
  match a with
  | ⟨0, _⟩ => show win0_1.index t 0 * 8 + 1 * (j 0).val = (j 0).val; rw [(idx1 t).1]; omega
  | ⟨1, _⟩ => show win0_1.index t 1 * 1024 + 1 * (j 1).val = (j 1).val; rw [(idx1 t).2]; omega

theorem iblk3_eq (t : Fin cfg0.N) : (iblk m c 3 t : Vec Ideal S8x1024 .f32) = Bs m c := by
  funext j
  unfold iblk
  rw [View.read_apply]
  show V m c main_arg3 _ = _
  rw [V_main_arg3]
  congr 1
  funext a
  apply Fin.ext
  match a with
  | ⟨0, _⟩ => show win0_3.index t 0 * 8 + 1 * (j 0).val = (j 0).val; rw [(idx3 t).1]; omega
  | ⟨1, _⟩ => show win0_3.index t 1 * 1024 + 1 * (j 1).val = (j 1).val; rw [(idx3 t).2]; omega

/-- The scale row loaded at point `t`: its entry `k` is the scale of token `512 · (t mod 16) + k`, the tokens counted row by row. -/
theorem row_apply (t : Fin cfg0.N) (x : Vec Ideal S8x1024 .f32) (k : Fin 512) :
    row (grid0.coords t) x (ix2 0 k)
      = x (ix2 ⟨(t.val % 16 * 512 + k.val) / 1024, by omega⟩ ⟨(t.val % 16 * 512 + k.val) % 1024, by omega⟩) := by
  show x _ = _
  congr 1
  funext a
  apply Fin.ext
  match a with
  | ⟨0, _⟩ =>
    show k0_off1 (grid0.coords t) 0 + 1 * 0 = (t.val % 16 * 512 + k.val) / 1024
    rw [(off1 t).1]; omega
  | ⟨1, _⟩ =>
    show k0_off1 (grid0.coords t) 1 + 1 * k.val = (t.val % 16 * 512 + k.val) % 1024
    rw [(off1 t).2]; omega

/-- One token's contribution to entry `(r, l)` of the result. -/
def term (r : Fin 10240) (l : Fin 2560) (t : Fin 8192) : EReal :=
  A m c (ix2 t r)
    * (As m c (ix2 ⟨t.val / 1024, by omega⟩ ⟨t.val % 1024, by omega⟩) * Bs m c (ix2 ⟨t.val / 1024, by omega⟩ ⟨t.val % 1024, by omega⟩))
    * B m c (ix2 t l)

/-- Point `t` adds the contributions of the 512 tokens of its token block. -/
theorem step_at (t : Fin cfg0.N) (acc : Vec Ideal S1024x2560 .f32) (r : Fin 1024) (l : Fin 2560) :
    step (grid0.coords t) (iblk m c 0 t) (iblk m c 1 t) (iblk m c 2 t) (iblk m c 3 t) acc (ix2 r l)
      = acc (ix2 r l) + ∑ k : Fin 512, term m c ⟨t.val / 16 * 1024 + r.val, by
          have := lt_of_lt_of_eq t.isLt (show cfg0.N = 160 from N_0); omega⟩ l ⟨t.val % 16 * 512 + k.val, by omega⟩ := by
  refine (step_apply (grid0.coords t) _ _ _ _ acc r l).trans (congrArg (acc (ix2 r l) + ·) (Finset.sum_congr rfl fun k _ => ?_))
  rw [iblk0_apply, iblk2_apply, iblk1_eq, iblk3_eq, row_apply, row_apply, term]

/-- The first point of a sweep leaves its step over zero in the accumulator. -/
theorem acc_A (t : Fin cfg0.N) (h0 : t.val % 16 = 0) :
    (outsAt0 m c t.val t.isLt).2 = step (grid0.coords t) (iblk m c 0 t) (iblk m c 1 t) (iblk m c 2 t) (iblk m c 3 t) (k0_pay3 (F := Ideal)) := by
  rw [outsAt0_A m c t h0 (by omega)]
  dsimp only; rw [sout_A]

/-- A later point leaves its step over what the point before left. -/
theorem acc_B (t : Fin cfg0.N) (h0 : t.val % 16 ≠ 0) :
    (outsAt0 m c t.val t.isLt).2 = step (grid0.coords t) (iblk m c 0 t) (iblk m c 1 t) (iblk m c 2 t) (iblk m c 3 t)
      (outsAt0 m c (t.val - 1) (Nat.lt_of_le_of_lt (Nat.sub_le _ _) t.isLt)).2 := by
  by_cases h1 : t.val % 16 = 15
  · rw [outsAt0_C m c t h0 h1]
    dsimp only; rw [sout_C]
  · rw [outsAt0_B m c t h0 h1]
    dsimp only; rw [sout_B]

/-- The last point of a sweep writes its accumulator, rounded, as its output block. -/
theorem out_last (t : Fin cfg0.N) (h0 : t.val % 16 ≠ 0) (h1 : t.val % 16 = 15) :
    (outsAt0 m c t.val t.isLt).1 = k0_pay2 (outsAt0 m c t.val t.isLt).2 := by
  rw [acc_B m c t h0, outsAt0_C m c t h0 h1]
  dsimp only; rw [out_C]

/-- Block `s`'s contribution to entry `(r, l)`: that of its 512 tokens. -/
def block (r : Fin 10240) (l : Fin 2560) (s : ℕ) : EReal :=
  ∑ k : Fin 512, if hs : s < 16 then term m c r l ⟨s * 512 + k.val, by omega⟩ else 0

theorem step_block (t : Fin cfg0.N) (q : Fin 10) (j : ℕ) (hj : j < 16) (ht : t.val = 16 * q.val + j)
    (acc : Vec Ideal S1024x2560 .f32) (r : Fin 1024) (l : Fin 2560) :
    step (grid0.coords t) (iblk m c 0 t) (iblk m c 1 t) (iblk m c 2 t) (iblk m c 3 t) acc (ix2 r l)
      = acc (ix2 r l) + block m c ⟨q.val * 1024 + r.val, by omega⟩ l j := by
  refine (step_at m c t acc r l).trans (congrArg (acc (ix2 r l) + ·) (Finset.sum_congr rfl fun k _ => ?_))
  rw [dif_pos hj]
  congr 1 <;> (apply Fin.ext; dsimp only; omega)

theorem zero_apply (j : S1024x2560.Idx) : (k0_pay3 (F := Ideal)) j = 0 := by
  idx_vars j
  unfold k0_pay3
  pointwise []

/-- The accumulator after point `16 q + j`: the contributions of the first `j + 1` token blocks. -/
theorem sweep (q : Fin 10) (r : Fin 1024) (l : Fin 2560) (j : ℕ) : ∀ (hj : j < 16) (t : Fin cfg0.N) (ht : t.val = 16 * q.val + j),
    (outsAt0 m c t.val t.isLt).2 (ix2 r l) = ∑ s ∈ Finset.range (j + 1), block m c ⟨q.val * 1024 + r.val, by omega⟩ l s := by
  induction j with
  | zero =>
    intro hj t ht
    rw [acc_A m c t (by omega), step_block m c t q 0 hj ht, zero_apply, zero_add, Finset.sum_range_one]
  | succ j ih =>
    intro hj t ht
    rw [acc_B m c t (by omega), step_block m c t q (j + 1) hj ht, Finset.sum_range_succ _ (j + 1)]
    exact congrArg (· + _) (ih (by omega) ⟨t.val - 1, by omega⟩ (by dsimp only; omega))

/-- The rounding to the result's type is the identity over the extended reals. -/
theorem cast_apply (x : Vec Ideal S1024x2560 .f32) (j : S1024x2560.Idx) : k0_pay2 (F := Ideal) x j = x j := by
  idx_vars j
  unfold k0_pay2
  pointwise []

/-- The array after the run: entry `(r, l)` is the sum of every token's contribution. -/
theorem G4_apply (r : Fin 10240) (l : Fin 2560) : Value.G4 m c (ix2 r l) = ∑ t : Fin 8192, term m c r l t := by
  have hN : cfg0.N = 160 := N_0
  have hr : Value.run4Of (ix2 r l) = r.val / 1024 := by
    show 1 * (r.val / 1024 - 0) + 1 * (l.val / 2560 - 0) = _
    have : l.val / 2560 = 0 := Nat.div_eq_of_lt l.isLt
    omega
  have ht : Value.pt4Of (ix2 r l) = 16 * (r.val / 1024) + 15 := by rw [← hr]
  have hlt : Value.pt4Of (ix2 r l) < cfg0.N := by rw [ht, hN]; omega
  unfold Value.G4
  rw [dif_pos hlt, ← Value.outsAt0_sweep m c (Value.pt4Of (ix2 r l)) hlt]
  have h15 : Value.pt4Of (ix2 r l) % 16 = 15 := by omega
  rw [out_last m c ⟨Value.pt4Of (ix2 r l), hlt⟩ (by dsimp only; omega) h15, cast_apply]
  have hl : Value.loc4Of (ix2 r l) = ix2 ⟨r.val % 1024, Nat.mod_lt _ (by decide)⟩ l := by
    funext a
    apply Fin.ext
    match a with
    | ⟨0, _⟩ => rfl
    | ⟨1, _⟩ => exact Nat.mod_eq_of_lt l.isLt
  rw [hl, sweep m c ⟨r.val / 1024, by omega⟩ _ l 15 (by omega) ⟨Value.pt4Of (ix2 r l), hlt⟩ ht]
  have hrr : (⟨r.val / 1024 * 1024 + r.val % 1024, by omega⟩ : Fin 10240) = r := Fin.ext (by dsimp only; omega)
  dsimp only
  rw [hrr]
  exact Sums.sum_blocks 16 512 rfl (term m c r l)

end Cert.OutKernel

end
-- ==== Proof.OutReference.lean ====
/-
  Hand-written, untrusted. The reference for `dw_out`: its one block is the whole of each array, so its result array is its payload of the
  argument arrays, and entry `(r, l)` is the sum over tokens of the product of the two dequantised operands.
-/
module

public import proofs.«01_k».proof.Proof.Gen.ROutIdeal.Value
public import Idealize.ShloMosaic.Lib.StableHlo.Run
public import Idealize.ShloMosaic.Lib.Affine
public import Idealize.ShloMosaic.Lib.Pointwise

@[expose] public section

set_option maxRecDepth 16384

noncomputable section

namespace Cert.OutReference

open Cert.ROutIdeal Cert.ROutIdeal.Gen Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

/-- The operands flattened to one row per token, the scales to one entry per token. -/
abbrev A : Vec Ideal S8192x10240 .fp8e4m3 :=
  shapeCast S8192x10240 (m ((c : Thread nD τ).loc main_arg0)) shapeCasts_S8x1024x10240_S8192x10240
abbrev As : Vec Ideal S8192x1 .f32 := shapeCast S8192x1 (m ((c : Thread nD τ).loc main_arg1)) shapeCasts_S8x1024_S8192x1
abbrev B : Vec Ideal S8192x2560 .fp8e5m2 :=
  shapeCast S8192x2560 (m ((c : Thread nD τ).loc main_arg2)) shapeCasts_S8x1024x2560_S8192x2560
abbrev Bs : Vec Ideal S8192x1 .f32 := shapeCast S8192x1 (m ((c : Thread nD τ).loc main_arg3)) shapeCasts_S8x1024_S8192x1

theorem V_v0 : V m c main_v0 = A m c := by
  unfold_abbrev_sides
  after_results
  rfl

theorem V_v1 : V m c main_v1 = As m c := by
  unfold_abbrev_sides
  after_results
  rfl

theorem V_v2 : V m c main_v2 = B m c := by
  unfold_abbrev_sides
  after_results
  rfl

theorem V_v3 : V m c main_v3 = Bs m c := by
  unfold_abbrev_sides
  after_results
  rfl

/-- The one grid point. -/
def t₀ : Fin cfg0.N := ⟨0, by decide⟩

theorem iblk0_eq : (iblk m c 0 t₀ : Vec Ideal S8192x10240 .fp8e4m3) = A m c := by
  have hz : (fun a => (win0_0.index t₀) a * main_v0.ty.shape.size a) = fun _ => 0 := funext fun a => by fin_cases a <;> decide
  unfold iblk
  exact (Memref.read_access_unit_zero (Elt Ideal) main_v0 hz (fun a => by fin_cases a <;> decide) _).trans (V_v0 m c)

theorem iblk1_eq : (iblk m c 1 t₀ : Vec Ideal S8192x1 .f32) = As m c := by
  have hz : (fun a => (win0_1.index t₀) a * main_v1.ty.shape.size a) = fun _ => 0 := funext fun a => by fin_cases a <;> decide
  unfold iblk
  exact (Memref.read_access_unit_zero (Elt Ideal) main_v1 hz (fun a => by fin_cases a <;> decide) _).trans (V_v1 m c)

theorem iblk2_eq : (iblk m c 2 t₀ : Vec Ideal S8192x2560 .fp8e5m2) = B m c := by
  have hz : (fun a => (win0_2.index t₀) a * main_v2.ty.shape.size a) = fun _ => 0 := funext fun a => by fin_cases a <;> decide
  unfold iblk
  exact (Memref.read_access_unit_zero (Elt Ideal) main_v2 hz (fun a => by fin_cases a <;> decide) _).trans (V_v2 m c)

theorem iblk3_eq : (iblk m c 3 t₀ : Vec Ideal S8192x1 .f32) = Bs m c := by
  have hz : (fun a => (win0_3.index t₀) a * main_v3.ty.shape.size a) = fun _ => 0 := funext fun a => by fin_cases a <;> decide
  unfold iblk
  exact (Memref.read_access_unit_zero (Elt Ideal) main_v3 hz (fun a => by fin_cases a <;> decide) _).trans (V_v3 m c)

/-- The whole-buffer loads read the buffers and the one covering store leaves its payload. -/
theorem out_eq (x0 : Vec Ideal S8192x10240 .fp8e4m3) (x1 : Vec Ideal S8192x1 .f32) (x2 : Vec Ideal S8192x2560 .fp8e5m2)
    (x3 : Vec Ideal S8192x1 .f32) : out0_4 x0 x1 x2 x3 = k0_pay1 x0 x1 x2 x3 := by
  have hz : (![0, 0] : Fin 2 → Nat) = fun _ => 0 := funext fun a => by fin_cases a <;> rfl
  unfold out0_4
  rw [View.canon_unit_zero (S := S10240x2560) hz, View.ld_unit_zero (S := S8192x10240) hz, View.ld_unit_zero (S := S8192x1) hz,
    View.ld_unit_zero (S := S8192x2560) hz, View.ld_unit_zero (S := S8192x1) hz]

/-- The result array after the run holds the payload of the flattened argument arrays. -/
theorem final_value : (dats m 0 c).arrAt 4 cfg0.N = k0_pay1 (A m c) (As m c) (B m c) (Bs m c) := by
  have ho := Value.blocks4 m c t₀ (by decide)
  have hz : (fun a => (win0_4.index t₀) a * main_v4.ty.shape.size a) = fun _ => 0 := funext fun a => by fin_cases a <;> decide
  rw [show ((cfg0.win 4).blk t₀).view.read (Elt Ideal) ((dats m 0 c).arrAt 4 cfg0.N) = (dats m 0 c).arrAt 4 cfg0.N from
    Memref.read_access_unit_zero (Elt Ideal) main_v4 hz (fun a => by fin_cases a <;> decide) _] at ho
  rw [ho]
  show (cfg0.win 4).cut _ ((dats m 0 c).after 4 t₀) = _
  rw [after0_4, out_eq, iblk0_eq, iblk1_eq, iblk2_eq, iblk3_eq]
  rfl

/-- The payload at entry `(r, l)`: the sum over tokens of the product of the dequantised operands. -/
theorem pay_apply (x0 : Vec Ideal S8192x10240 .fp8e4m3) (x1 : Vec Ideal S8192x1 .f32) (x2 : Vec Ideal S8192x2560 .fp8e5m2)
    (x3 : Vec Ideal S8192x1 .f32) (r : Fin 10240) (l : Fin 2560) :
    k0_pay1 x0 x1 x2 x3 (ix2 r l) = ∑ t : Fin 8192, x0 (ix2 t r) * x1 (ix2 t 0) * (x2 (ix2 t l) * x3 (ix2 t 0)) := by
  unfold k0_pay1
  pointwise []

/-- A scale flattened to one entry per token is the scale array's entry for that token's row and place. -/
theorem scale_apply (x : Vec Ideal S8x1024 .f32) (t : Fin 8192) :
    shapeCast S8192x1 x shapeCasts_S8x1024_S8192x1 (ix2 t 0)
      = x (ix2 ⟨t.val / 1024, by omega⟩ ⟨t.val % 1024, by omega⟩) := by
  pointwise []

end Cert.OutReference

end
-- ==== Proof.OutEq.lean ====
/-
  Hand-written, untrusted. The claims about `dw_out`: the kernel's array after the run is the reference's.
-/
module

public import proofs.«01_k».proof.Defs
public import proofs.«01_k».proof.Proof.OutSweep
public import proofs.«01_k».proof.Proof.OutReference

@[expose] public section

set_option maxRecDepth 16384

noncomputable section

namespace Cert.OutEq

open Idealize.ShloMosaic Idealize.ShloMosaic.TcCoe Idealize.SL.Sem

/-- On equal arguments the two arrays agree: the scales move from the middle of each product onto its two operands. -/
theorem value_eq (m : (ℓ : Loc KOutIdeal.nD KOutIdeal.τ KOutIdeal.sig) → Buf (Elt Ideal) ℓ) (c : Dev KOutIdeal.nD) :
    ROutIdeal.Gen.k0_pay1
        (shapeCast ROutIdeal.S8192x10240 (m ((c.tc : Thread KOutIdeal.nD KOutIdeal.τ).loc KOutIdeal.main_arg0))
          ROutIdeal.Gen.shapeCasts_S8x1024x10240_S8192x10240)
        (shapeCast ROutIdeal.S8192x1 (m ((c.tc : Thread KOutIdeal.nD KOutIdeal.τ).loc KOutIdeal.main_arg1))
          ROutIdeal.Gen.shapeCasts_S8x1024_S8192x1)
        (shapeCast ROutIdeal.S8192x2560 (m ((c.tc : Thread KOutIdeal.nD KOutIdeal.τ).loc KOutIdeal.main_arg2))
          ROutIdeal.Gen.shapeCasts_S8x1024x2560_S8192x2560)
        (shapeCast ROutIdeal.S8192x1 (m ((c.tc : Thread KOutIdeal.nD KOutIdeal.τ).loc KOutIdeal.main_arg3))
          ROutIdeal.Gen.shapeCasts_S8x1024_S8192x1)
      = KOutIdeal.Value.G4 m c := by
  funext j
  rw [eq_ix2 j]
  refine Eq.trans ?_ (OutKernel.G4_apply m c (j 0) (j 1)).symm
  refine (OutReference.pay_apply _ _ _ _ (j 0) (j 1)).trans (Finset.sum_congr rfl fun t _ => ?_)
  rw [OutReference.scale_apply, OutReference.scale_apply]
  unfold OutKernel.term
  rw [mul_assoc, mul_assoc, mul_assoc]
  refine congrArg₂ (· * ·) rfl ?_
  exact congrArg₂ (· * ·) rfl (mul_comm _ _)

/-- The kernel's result array is the reference's, on equal arguments. -/
theorem algebraic : algebraic_KOutIdeal_ROutIdeal := by
  intro m g m' g' _ hargs
  refine ⟨fun c => KOutIdeal.Value.G4 m c, KOutIdeal.Value.run m g, ?_⟩
  refine (θ_run ROutIdeal.defs _ _).mono (fun r h c => ?_) (ROutIdeal.Value.run_blocks m' g')
  obtain ⟨hv, h0, h1, h2, h3⟩ := h c
  refine ⟨(hv.trans (OutReference.final_value m' c)).trans ?_, h0, h1, h2, h3⟩
  obtain ⟨e0, e1, e2, e3⟩ := hargs c
  refine Eq.trans ?_ (value_eq m c)
  unfold OutReference.A OutReference.As OutReference.B OutReference.Bs
  rw [e0, e1, e2, e3]

end Cert.OutEq

end
-- ==== Proof.QkvKernel.lean ====
/-
  Hand-written, untrusted. What the weight-gradient kernel `dw_qkv` computes, read over the extended reals: one grid point's addend, the
  accumulator after each point of a sweep, and the result array as a sum over the sixteen token blocks.
-/
module

public import proofs.«01_k».proof.Proof.Scales
public import proofs.«01_k».proof.Proof.Gen.KQkvIdeal.Value
public import Idealize.ShloMosaic.Lib.StableHlo.Run
public import Idealize.ShloMosaic.Lib.Tactic

@[expose] public section

set_option maxRecDepth 16384

noncomputable section

namespace Cert.QkvKernel

open Cert.KQkvIdeal Cert.KQkvIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- The row of 512 scales that grid point `i` loads from a whole scale array. -/
abbrev row {F : FTy → Type} (i : grid0.Coords) (x : Vec F S8x1024 .f32) : Vec F S1x512 .f32 :=
  View.ld x (Rect.unit (s := S8x1024) (k0_off1 i) S1x512.size (k0_off1_inb i))

/-- One step of the accumulator: what the body stores back, from the accumulator it found and the point's blocks. -/
abbrev step {F : FTy → Type} [FloatOps F] (i : grid0.Coords) (x0 : Vec F S512x2560 .fp8e4m3) (x1 : Vec F S8x1024 .f32)
    (x2 : Vec F S512x768 .fp8e5m2) (x3 : Vec F S8x1024 .f32) (acc : Vec F S2560x768 .f32) : Vec F S2560x768 .f32 :=
  k0_pay1 (k0_pay6 (row i x1) (k0_pay4 (row i x1)) (k0_pay5 (row i x1))) (row i x3) (k0_pay7 (row i x3)) x0 acc x2

section Cases
variable {F : FTy → Type} [FloatOps F]

/-- In the middle of a sweep the body leaves one step over the accumulator it found. -/
theorem sout_B (c : Dev nD) (i : grid0.Coords) (a2 : Memref sig .tc .vmem S512x2560 .fp8e4m3) (h2 : a2.IsWhole)
    (a3 : Memref sig .tc .vmem S8x1024 .f32) (h3 : a3.IsWhole) (a4 : Memref sig .tc .vmem S512x768 .fp8e5m2) (h4 : a4.IsWhole)
    (a5 : Memref sig .tc .vmem S8x1024 .f32) (h5 : a5.IsWhole) (a6 : Memref sig .tc .vmem S1x2560 .f32) (h6 : a6.IsWhole)
    (a7 : Memref sig .tc .vmem S2560x768 .bf16) (h7 : a7.IsWhole) (a8 : Memref sig .tc .vmem S2560x768 .f32) (h8 : a8.IsWhole)
    (hc0 : ¬cond0_0 i) (hc1 : ¬cond0_1 i)
    (x0 : Vec F S512x2560 .fp8e4m3) (x1 : Vec F S8x1024 .f32) (x2 : Vec F S512x768 .fp8e5m2) (x3 : Vec F S8x1024 .f32) (x4 : Vec F S1x2560 .f32)
    (xs0 : Vec F S2560x768 .f32) :
    sout0_B_0 c i a2 h2 a3 h3 a4 h4 a5 h5 a6 h6 a7 h7 a8 h8 hc0 hc1 x0 x1 x2 x3 x4 xs0 = step i x0 x1 x2 x3 xs0 := by
  unfold sout0_B_0
  rw [View.read_writes_eq_canon _ _ _ (scover0_B_0 c i a2 h2 a3 h3 a4 h4 a5 h5 a6 h6 a7 h7 a8 h8 hc0 hc1 x0 x1 x2 x3 x4 xs0)]
  unfold kernelRun0_B
  dsimp only
  sl_unfold_words
  rw [View.canon_unit_zero (S := S2560x768) hz]
  simp only [View.readAt_eq_ld, h2.read_unread, h3.read_unread, h4.read_unread, h5.read_unread, h6.read_unread, h8.read_unread,
    View.ld_unit_zero (S := S512x2560) hz, View.ld_unit_zero (S := S2560x768) hz, View.ld_unit_zero (S := S512x768) hz, View.ld_unit_zero (S := S1x2560) hz]
  rfl

/-- At the last point of a sweep the body leaves one step over the accumulator it found. -/
theorem sout_C (c : Dev nD) (i : grid0.Coords) (a2 : Memref sig .tc .vmem S512x2560 .fp8e4m3) (h2 : a2.IsWhole)
    (a3 : Memref sig .tc .vmem S8x1024 .f32) (h3 : a3.IsWhole) (a4 : Memref sig .tc .vmem S512x768 .fp8e5m2) (h4 : a4.IsWhole)
    (a5 : Memref sig .tc .vmem S8x1024 .f32) (h5 : a5.IsWhole) (a6 : Memref sig .tc .vmem S1x2560 .f32) (h6 : a6.IsWhole)
    (a7 : Memref sig .tc .vmem S2560x768 .bf16) (h7 : a7.IsWhole) (a8 : Memref sig .tc .vmem S2560x768 .f32) (h8 : a8.IsWhole)
    (hc0 : ¬cond0_0 i) (hc1 : cond0_1 i)
    (x0 : Vec F S512x2560 .fp8e4m3) (x1 : Vec F S8x1024 .f32) (x2 : Vec F S512x768 .fp8e5m2) (x3 : Vec F S8x1024 .f32) (x4 : Vec F S1x2560 .f32)
    (xs0 : Vec F S2560x768 .f32) :
    sout0_C_0 c i a2 h2 a3 h3 a4 h4 a5 h5 a6 h6 a7 h7 a8 h8 hc0 hc1 x0 x1 x2 x3 x4 xs0 = step i x0 x1 x2 x3 xs0 := by
  unfold sout0_C_0
  rw [View.read_writes_eq_canon _ _ _ (scover0_C_0 c i a2 h2 a3 h3 a4 h4 a5 h5 a6 h6 a7 h7 a8 h8 hc0 hc1 x0 x1 x2 x3 x4 xs0)]
  unfold kernelRun0_C
  dsimp only
  sl_unfold_words
  rw [View.canon_unit_zero (S := S2560x768) hz]
  simp only [View.readAt_eq_ld, h2.read_unread, h3.read_unread, h4.read_unread, h5.read_unread, h6.read_unread, h8.read_unread,
    View.ld_unit_zero (S := S512x2560) hz, View.ld_unit_zero (S := S2560x768) hz, View.ld_unit_zero (S := S512x768) hz, View.ld_unit_zero (S := S1x2560) hz]
  rfl

/-- At the first point of a sweep the body leaves one step over the zero block. -/
theorem sout_A (c : Dev nD) (i : grid0.Coords) (a2 : Memref sig .tc .vmem S512x2560 .fp8e4m3) (h2 : a2.IsWhole)
    (a3 : Memref sig .tc .vmem S8x1024 .f32) (h3 : a3.IsWhole) (a4 : Memref sig .tc .vmem S512x768 .fp8e5m2) (h4 : a4.IsWhole)
    (a5 : Memref sig .tc .vmem S8x1024 .f32) (h5 : a5.IsWhole) (a6 : Memref sig .tc .vmem S1x2560 .f32) (h6 : a6.IsWhole)
    (a7 : Memref sig .tc .vmem S2560x768 .bf16) (h7 : a7.IsWhole) (a8 : Memref sig .tc .vmem S2560x768 .f32) (h8 : a8.IsWhole)
    (hc0 : cond0_0 i) (hc1 : ¬cond0_1 i)
    (x0 : Vec F S512x2560 .fp8e4m3) (x1 : Vec F S8x1024 .f32) (x2 : Vec F S512x768 .fp8e5m2) (x3 : Vec F S8x1024 .f32) (x4 : Vec F S1x2560 .f32) :
    sout0_A_0 c i a2 h2 a3 h3 a4 h4 a5 h5 a6 h6 a7 h7 a8 h8 hc0 hc1 x0 x1 x2 x3 x4 = step i x0 x1 x2 x3 k0_pay3 := by
  unfold sout0_A_0
  rw [View.read_writes_eq_canon _ _ _ (scover0_A_0 c i a2 h2 a3 h3 a4 h4 a5 h5 a6 h6 a7 h7 a8 h8 hc0 hc1 x0 x1 x2 x3 x4)]
  unfold kernelRun0_A
  dsimp only
  sl_unfold_words
  rw [View.canon_cons_unit_zero (S := S2560x768) hz]
  simp only [View.readAt_eq_ld, h2.read_unread, h3.read_unread, h4.read_unread, h5.read_unread, View.readCov_unit_zero (S := S2560x768) _ hz,
    View.ld_unit_zero (S := S512x2560) hz, View.ld_unit_zero (S := S512x768) hz, View.ld_unit_zero (S := S1x2560) hz]
  rfl

/-- At the last point of a sweep the block written back is the final accumulator, rounded to bf16. -/
theorem out_C (c : Dev nD) (i : grid0.Coords) (a2 : Memref sig .tc .vmem S512x2560 .fp8e4m3) (h2 : a2.IsWhole)
    (a3 : Memref sig .tc .vmem S8x1024 .f32) (h3 : a3.IsWhole) (a4 : Memref sig .tc .vmem S512x768 .fp8e5m2) (h4 : a4.IsWhole)
    (a5 : Memref sig .tc .vmem S8x1024 .f32) (h5 : a5.IsWhole) (a6 : Memref sig .tc .vmem S1x2560 .f32) (h6 : a6.IsWhole)
    (a7 : Memref sig .tc .vmem S2560x768 .bf16) (h7 : a7.IsWhole) (a8 : Memref sig .tc .vmem S2560x768 .f32) (h8 : a8.IsWhole)
    (hc0 : ¬cond0_0 i) (hc1 : cond0_1 i)
    (x0 : Vec F S512x2560 .fp8e4m3) (x1 : Vec F S8x1024 .f32) (x2 : Vec F S512x768 .fp8e5m2) (x3 : Vec F S8x1024 .f32) (x4 : Vec F S1x2560 .f32)
    (xs0 : Vec F S2560x768 .f32) :
    out0_C_5 c i a2 h2 a3 h3 a4 h4 a5 h5 a6 h6 a7 h7 a8 h8 hc0 hc1 x0 x1 x2 x3 x4 xs0 = k0_pay2 x4 (step i x0 x1 x2 x3 xs0) := by
  unfold out0_C_5
  rw [View.read_writes_eq_canon _ _ _ (cover0_C_5 c i a2 h2 a3 h3 a4 h4 a5 h5 a6 h6 a7 h7 a8 h8 hc0 hc1 x0 x1 x2 x3 x4 xs0)]
  unfold kernelRun0_C
  dsimp only
  sl_unfold_words
  rw [View.canon_unit_zero (S := S2560x768) hz]
  simp only [View.readAt_eq_ld, h2.read_unread, h3.read_unread, h4.read_unread, h5.read_unread, h6.read_unread, h8.read_unread,
    View.readCov_unit_zero (S := S2560x768) _ hz,
    View.ld_unit_zero (S := S512x2560) hz, View.ld_unit_zero (S := S2560x768) hz, View.ld_unit_zero (S := S512x768) hz, View.ld_unit_zero (S := S1x2560) hz]
  rfl

end Cases

/-! ## One step at an index, over the extended reals -/

/-- The column of scale products laid side by side until it is as wide as the left block. -/
def tiled (x : FVec Ideal S512x128 .bf16) : FVec Ideal S512x2560 .bf16 :=
  concatenate S512x2560 1 (List.replicate 20 ⟨S512x128, x⟩) concatenates_S512x128_S512x128_S512x128_S512x128_S512x128_S512x128_S512x128_S512x128_S512x128_S512x128_S512x128_S512x128_S512x128_S512x128_S512x128_S512x128_S512x128_S512x128_S512x128_S512x128_S512x2560_d1

theorem tiled_apply (x : FVec Ideal S512x128 .bf16) (k : Fin 512) (r : Fin 2560) :
    tiled x (ix2 k r) = x (ix2 k ⟨r.val % 128, Nat.mod_lt _ (by decide)⟩) :=
  Scales.laneTile_apply 20 x concatenates_S512x128_S512x128_S512x128_S512x128_S512x128_S512x128_S512x128_S512x128_S512x128_S512x128_S512x128_S512x128_S512x128_S512x128_S512x128_S512x128_S512x128_S512x128_S512x128_S512x128_S512x2560_d1 k r

/-- The step's payload, its two scale columns named. -/
theorem pay_eq (u v : Vec Ideal S1x512 .f32) (x0 : Vec Ideal S512x2560 .fp8e4m3) (x2 : Vec Ideal S512x768 .fp8e5m2)
    (acc : Vec Ideal S2560x768 .f32) :
    k0_pay1 (k0_pay6 u (k0_pay4 u) (k0_pay5 u)) v (k0_pay7 v) x0 acc x2
      = shapeCast S2560x768 (addf acc (matmul dot_S512x2560_S512x768_S2560x768_0_0_1_1_n_n none
          (mulf (extf .bf16 (shapeCast S512x2560 x0 shapeCasts_S512x2560_S512x2560) bitsLt_fp8e4m3_bf16 : FVec Ideal S512x2560 .bf16)
            (tiled (truncf .bf16 (mulf (Scales.col u : FVec Ideal S512x128 .f32) (Scales.col v)) bitsLt_bf16_f32)))
          (shapeCast S512x768 x2 shapeCasts_S512x768_S512x768 : FVec Ideal S512x768 .fp8e5m2)
          (constant S2560x768 .f32 0x00000000#32))) shapeCasts_S2560x768_S2560x768 :=
  rfl

/-- One step adds, at entry `(r, l)`, the 512-token sum of `x0(k, r) · (x1's scale of k · x3's scale of k) · x2(k, l)`. -/
theorem step_apply (i : grid0.Coords) (x0 : Vec Ideal S512x2560 .fp8e4m3) (x1 : Vec Ideal S8x1024 .f32)
    (x2 : Vec Ideal S512x768 .fp8e5m2) (x3 : Vec Ideal S8x1024 .f32) (acc : Vec Ideal S2560x768 .f32) (r : Fin 2560) (l : Fin 768) :
    step i x0 x1 x2 x3 acc (ix2 r l)
      = acc (ix2 r l) + ∑ k : Fin 512, x0 (ix2 k r) * (row i x1 (ix2 0 k) * row i x3 (ix2 0 k)) * x2 (ix2 k l) := by
  unfold step
  generalize row i x1 = u
  generalize row i x3 = v
  rw [pay_eq]
  pointwise [tiled_apply, Scales.col_apply]

end Cert.QkvKernel

end
-- ==== Proof.QkvSweep.lean ====
/-
  Hand-written, untrusted. The result array of `dw_qkv` over the extended reals: the accumulator after each point of a sweep, and the array
  after the run, as sums over token blocks of the argument arrays.
-/
module

public import proofs.«01_k».proof.Proof.QkvKernel
public import proofs.«01_k».proof.Proof.Sums

@[expose] public section

set_option maxRecDepth 16384

noncomputable section

namespace Cert.QkvKernel

open Cert.KQkvIdeal Cert.KQkvIdeal.Gen Idealize.ShloMosaic Idealize.ShloMosaic.TcCoe Idealize.SL.Sem
open Idealize.ShloMosaic.Pipeline (Dat)

/-- The block indices of the two operands at grid point `t`, and where its scale row starts. -/
theorem idx0 : ∀ t : Fin cfg0.N, win0_0.index t (0 : Fin 2) = t.val % 16 ∧ win0_0.index t (1 : Fin 2) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem idx2 : ∀ t : Fin cfg0.N, win0_2.index t (0 : Fin 2) = t.val % 16 ∧ win0_2.index t (1 : Fin 2) = t.val / 16 :=
  (by decide +kernel : ∀ t : Fin grid0.N, _)

theorem idx3 : ∀ t : Fin cfg0.N, win0_3.index t (0 : Fin 2) = 0 ∧ win0_3.index t (1 : Fin 2) = 0 :=
  (by decide +kernel : ∀ t : Fin grid0.N, _)

theorem idx4 : ∀ t : Fin cfg0.N, win0_4.index t (0 : Fin 2) = 0 ∧ win0_4.index t (1 : Fin 2) = 0 :=
  (by decide +kernel : ∀ t : Fin grid0.N, _)

theorem off1 : ∀ t : Fin cfg0.N, k0_off1 (grid0.coords t) (0 : Fin 2) = t.val % 16 / 2 ∧
    k0_off1 (grid0.coords t) (1 : Fin 2) = t.val % 2 * 512 :=
  (by decide +kernel : ∀ t : Fin grid0.N, _)

variable (m : (ℓ : Loc nD τ sig) → Buf (Elt Ideal) ℓ) (c : Dev nD)

/-- The two operands flattened to one row per token, and the two scale arrays. -/
abbrev A : Vec Ideal S8192x2560 .fp8e4m3 :=
  shapeCast S8192x2560 (m ((c : Thread nD τ).loc main_arg0)) shapeCasts_S8x1024x2560_S8192x2560
abbrev As : Vec Ideal S8x1024 .f32 := m ((c : Thread nD τ).loc main_arg1)
abbrev B : Vec Ideal S8192x7680 .fp8e5m2 :=
  shapeCast S8192x7680 (m ((c : Thread nD τ).loc main_arg2)) shapeCasts_S8x1024x3x20x128_S8192x7680
abbrev Bs : Vec Ideal S8x1024 .f32 := m ((c : Thread nD τ).loc main_arg3)

/-- The row of weights `gamma`. -/
abbrev Gm : Vec Ideal S1x2560 .f32 := shapeCast S1x2560 (m ((c : Thread nD τ).loc main_arg4)) shapeCasts_S2560_S1x2560

theorem V_v0 : V m c main_v0 = A m c := by
  unfold_abbrev_sides
  after_results
  rfl

theorem V_v1 : V m c main_v1 = B m c := by
  unfold_abbrev_sides
  after_results
  rfl

theorem V_v2 : V m c main_v2 = Gm m c := by
  unfold_abbrev_sides
  after_results
  rfl

/-- The left operand's block at point `t`: 512 tokens of the point's token block, every column. -/
theorem iblk0_apply (t : Fin cfg0.N) (k : Fin 512) (r : Fin 2560) :
    (iblk m c 0 t : Vec Ideal S512x2560 .fp8e4m3) (ix2 k r)
      = A m c (ix2 ⟨t.val % 16 * 512 + k.val, by omega⟩ r) := by
  unfold iblk
  rw [View.read_apply]
  show V m c main_v0 _ = _
  rw [V_v0]
  congr 1
  funext a
  apply Fin.ext
  match a with
  | ⟨0, _⟩ => show win0_0.index t 0 * 512 + 1 * k.val = t.val % 16 * 512 + k.val; rw [(idx0 t).1]; omega
  | ⟨1, _⟩ => show win0_0.index t 1 * 2560 + 1 * r.val = r.val; rw [(idx0 t).2]; omega

/-- The right operand's block at point `t`: 512 tokens of the point's token block, 768 columns of its column block. -/
theorem iblk2_apply (t : Fin cfg0.N) (k : Fin 512) (l : Fin 768) :
    (iblk m c 2 t : Vec Ideal S512x768 .fp8e5m2) (ix2 k l) = B m c (ix2 ⟨t.val % 16 * 512 + k.val, by omega⟩
      ⟨t.val / 16 * 768 + l.val, by have := lt_of_lt_of_eq t.isLt (show cfg0.N = 160 from N_0); omega⟩) := by
  unfold iblk
  rw [View.read_apply]
  show V m c main_v1 _ = _
  rw [V_v1]
  congr 1
  funext a
  apply Fin.ext
  match a with
  | ⟨0, _⟩ => show win0_2.index t 0 * 512 + 1 * k.val = t.val % 16 * 512 + k.val; rw [(idx2 t).1]; omega
  | ⟨1, _⟩ => show win0_2.index t 1 * 768 + 1 * l.val = t.val / 16 * 768 + l.val; rw [(idx2 t).2]; omega

/-- A scale window's block at any point is the whole scale array. -/
theorem iblk1_eq (t : Fin cfg0.N) : (iblk m c 1 t : Vec Ideal S8x1024 .f32) = As m c := by
  funext j
  unfold iblk
  rw [View.read_apply]
  show V m c main_arg1 _ = _
  rw [V_main_arg1]
  congr 1
  funext a
  apply Fin.ext
  match a with
  | ⟨0, _⟩ => show win0_1.index t 0 * 8 + 1 * (j 0).val = (j 0).val; rw [(idx1 t).1]; omega
  | ⟨1, _⟩ => show win0_1.index t 1 * 1024 + 1 * (j 1).val = (j 1).val; rw [(idx1 t).2]; omega

theorem iblk3_eq (t : Fin cfg0.N) : (iblk m c 3 t : Vec Ideal S8x1024 .f32) = Bs m c := by
  funext j
  unfold iblk
  rw [View.read_apply]
  show V m c main_arg3 _ = _
  rw [V_main_arg3]
  congr 1
  funext a
  apply Fin.ext
  match a with
  | ⟨0, _⟩ => show win0_3.index t 0 * 8 + 1 * (j 0).val = (j 0).val; rw [(idx3 t).1]; omega
  | ⟨1, _⟩ => show win0_3.index t 1 * 1024 + 1 * (j 1).val = (j 1).val; rw [(idx3 t).2]; omega

/-- The window of `gamma` holds the whole row at any point. -/
theorem iblk4_eq (t : Fin cfg0.N) : (iblk m c 4 t : Vec Ideal S1x2560 .f32) = Gm m c := by
  funext j
  unfold iblk
  rw [View.read_apply]
  show V m c main_v2 _ = _
  rw [V_v2]
  congr 1
  funext a
  apply Fin.ext
  match a with
  | ⟨0, _⟩ => show win0_4.index t 0 * 1 + 1 * (j 0).val = (j 0).val; rw [(idx4 t).1]; omega
  | ⟨1, _⟩ => show win0_4.index t 1 * 2560 + 1 * (j 1).val = (j 1).val; rw [(idx4 t).2]; omega

/-- The scale row loaded at point `t`: its entry `k` is the scale of token `512 · (t mod 16) + k`, the tokens counted row by row. -/
theorem row_apply (t : Fin cfg0.N) (x : Vec Ideal S8x1024 .f32) (k : Fin 512) :
    row (grid0.coords t) x (ix2 0 k)
      = x (ix2 ⟨(t.val % 16 * 512 + k.val) / 1024, by omega⟩ ⟨(t.val % 16 * 512 + k.val) % 1024, by omega⟩) := by
  show x _ = _
  congr 1
  funext a
  apply Fin.ext
  match a with
  | ⟨0, _⟩ =>
    show k0_off1 (grid0.coords t) 0 + 1 * 0 = (t.val % 16 * 512 + k.val) / 1024
    rw [(off1 t).1]; omega
  | ⟨1, _⟩ =>
    show k0_off1 (grid0.coords t) 1 + 1 * k.val = (t.val % 16 * 512 + k.val) % 1024
    rw [(off1 t).2]; omega

/-- One token's contribution to entry `(r, l)` of the result. -/
def term (r : Fin 2560) (l : Fin 7680) (t : Fin 8192) : EReal :=
  A m c (ix2 t r)
    * (As m c (ix2 ⟨t.val / 1024, by omega⟩ ⟨t.val % 1024, by omega⟩) * Bs m c (ix2 ⟨t.val / 1024, by omega⟩ ⟨t.val % 1024, by omega⟩))
    * B m c (ix2 t l)

/-- Point `t` adds the contributions of the 512 tokens of its token block. -/
theorem step_at (t : Fin cfg0.N) (acc : Vec Ideal S2560x768 .f32) (r : Fin 2560) (l : Fin 768) :
    step (grid0.coords t) (iblk m c 0 t) (iblk m c 1 t) (iblk m c 2 t) (iblk m c 3 t) acc (ix2 r l)
      = acc (ix2 r l) + ∑ k : Fin 512, term m c r ⟨t.val / 16 * 768 + l.val, by
          have := lt_of_lt_of_eq t.isLt (show cfg0.N = 160 from N_0); omega⟩ ⟨t.val % 16 * 512 + k.val, by omega⟩ := by
  refine (step_apply (grid0.coords t) _ _ _ _ acc r l).trans (congrArg (acc (ix2 r l) + ·) (Finset.sum_congr rfl fun k _ => ?_))
  rw [iblk0_apply, iblk2_apply, iblk1_eq, iblk3_eq, row_apply, row_apply, term]

/-- The first point of a sweep leaves its step over zero in the accumulator. -/
theorem acc_A (t : Fin cfg0.N) (h0 : t.val % 16 = 0) :
    (outsAt0 m c t.val t.isLt).2 = step (grid0.coords t) (iblk m c 0 t) (iblk m c 1 t) (iblk m c 2 t) (iblk m c 3 t) (k0_pay3 (F := Ideal)) := by
  rw [outsAt0_A m c t h0 (by omega)]
  dsimp only; rw [sout_A]

/-- A later point leaves its step over what the point before left. -/
theorem acc_B (t : Fin cfg0.N) (h0 : t.val % 16 ≠ 0) :
    (outsAt0 m c t.val t.isLt).2 = step (grid0.coords t) (iblk m c 0 t) (iblk m c 1 t) (iblk m c 2 t) (iblk m c 3 t)
      (outsAt0 m c (t.val - 1) (Nat.lt_of_le_of_lt (Nat.sub_le _ _) t.isLt)).2 := by
  by_cases h1 : t.val % 16 = 15
  · rw [outsAt0_C m c t h0 h1]
    dsimp only; rw [sout_C]
  · rw [outsAt0_B m c t h0 h1]
    dsimp only; rw [sout_B]

/-- The last point of a sweep writes its accumulator, rounded, as its output block. -/
theorem out_last (t : Fin cfg0.N) (h0 : t.val % 16 ≠ 0) (h1 : t.val % 16 = 15) :
    (outsAt0 m c t.val t.isLt).1 = k0_pay2 (iblk m c 4 t) (outsAt0 m c t.val t.isLt).2 := by
  rw [acc_B m c t h0, outsAt0_C m c t h0 h1]
  dsimp only; rw [out_C]

/-- Block `s`'s contribution to entry `(r, l)`: that of its 512 tokens. -/
def block (r : Fin 2560) (l : Fin 7680) (s : ℕ) : EReal :=
  ∑ k : Fin 512, if hs : s < 16 then term m c r l ⟨s * 512 + k.val, by omega⟩ else 0

theorem step_block (t : Fin cfg0.N) (q : Fin 10) (j : ℕ) (hj : j < 16) (ht : t.val = 16 * q.val + j)
    (acc : Vec Ideal S2560x768 .f32) (r : Fin 2560) (l : Fin 768) :
    step (grid0.coords t) (iblk m c 0 t) (iblk m c 1 t) (iblk m c 2 t) (iblk m c 3 t) acc (ix2 r l)
      = acc (ix2 r l) + block m c r ⟨q.val * 768 + l.val, by omega⟩ j := by
  refine (step_at m c t acc r l).trans (congrArg (acc (ix2 r l) + ·) (Finset.sum_congr rfl fun k _ => ?_))
  rw [dif_pos hj]
  congr 1 <;> (apply Fin.ext; dsimp only; omega)

theorem zero_apply (j : S2560x768.Idx) : (k0_pay3 (F := Ideal)) j = 0 := by
  idx_vars j
  unfold k0_pay3
  pointwise []

/-- The accumulator after point `16 q + j`: the contributions of the first `j + 1` token blocks. -/
theorem sweep (q : Fin 10) (r : Fin 2560) (l : Fin 768) (j : ℕ) : ∀ (hj : j < 16) (t : Fin cfg0.N) (ht : t.val = 16 * q.val + j),
    (outsAt0 m c t.val t.isLt).2 (ix2 r l) = ∑ s ∈ Finset.range (j + 1), block m c r ⟨q.val * 768 + l.val, by omega⟩ s := by
  induction j with
  | zero =>
    intro hj t ht
    rw [acc_A m c t (by omega), step_block m c t q 0 hj ht, zero_apply, zero_add, Finset.sum_range_one]
  | succ j ih =>
    intro hj t ht
    rw [acc_B m c t (by omega), step_block m c t q (j + 1) hj ht, Finset.sum_range_succ _ (j + 1)]
    exact congrArg (· + _) (ih (by omega) ⟨t.val - 1, by omega⟩ (by dsimp only; omega))

/-- The row of `gamma` turned to a column and laid side by side until it is as wide as the output block. -/
def gammaTile (x : FVec Ideal S2560x128 .f32) : FVec Ideal S2560x768 .f32 :=
  concatenate S2560x768 1 (List.replicate 6 ⟨S2560x128, x⟩)
    concatenates_S2560x128_S2560x128_S2560x128_S2560x128_S2560x128_S2560x128_S2560x768_d1

theorem gammaTile_apply (x : FVec Ideal S2560x128 .f32) (k : Fin 2560) (r : Fin 768) :
    gammaTile x (ix2 k r) = x (ix2 k ⟨r.val % 128, Nat.mod_lt _ (by decide)⟩) :=
  Scales.laneTile_apply 6 x concatenates_S2560x128_S2560x128_S2560x128_S2560x128_S2560x128_S2560x128_S2560x768_d1 k r

theorem last_eq (g : Vec Ideal S1x2560 .f32) (x : Vec Ideal S2560x768 .f32) :
    k0_pay2 (F := Ideal) g x = truncf .bf16 (mulf (gammaTile (transpose S2560x128 [1, 0]
      (broadcastTo S128x2560 (shapeCast S1x2560 (shapeCast S1x2560 g shapeCasts_S1x2560_S1x2560) shapeCasts_S1x2560_S1x2560)
        broadcasts_S1x2560_S128x2560) transposes_S128x2560_p1_0_S2560x128)) x) bitsLt_bf16_f32 := rfl

/-- The last point scales row `r` of the accumulator by `gamma`'s entry `r`; the rounding is the identity over the extended reals. -/
theorem last_apply (g : Vec Ideal S1x2560 .f32) (x : Vec Ideal S2560x768 .f32) (r : Fin 2560) (l : Fin 768) :
    k0_pay2 (F := Ideal) g x (ix2 r l) = g (ix2 0 r) * x (ix2 r l) := by
  rw [last_eq]
  pointwise [gammaTile_apply]

/-- Entry `r` of the row of `gamma`. -/
theorem gamma_apply (x : Vec Ideal S2560 .f32) (r : Fin 2560) :
    shapeCast S1x2560 x shapeCasts_S2560_S1x2560 (ix2 0 r) = x (ix1 r) := by
  pointwise []

/-- The array after the run: entry `(r, l)` is `gamma r` times the sum of every token's contribution. -/
theorem G5_apply (r : Fin 2560) (l : Fin 7680) :
    Value.G5 m c (ix2 r l) = Gm m c (ix2 0 r) * ∑ t : Fin 8192, term m c r l t := by
  have hN : cfg0.N = 160 := N_0
  have hr : Value.run5Of (ix2 r l) = l.val / 768 := by
    show 10 * (r.val / 2560 - 0) + 1 * (l.val / 768 - 0) = _
    have : r.val / 2560 = 0 := Nat.div_eq_of_lt r.isLt
    omega
  have ht : Value.pt5Of (ix2 r l) = 16 * (l.val / 768) + 15 := by rw [← hr]
  have hlt : Value.pt5Of (ix2 r l) < cfg0.N := by rw [ht, hN]; omega
  unfold Value.G5
  rw [dif_pos hlt, ← Value.outsAt0_sweep m c (Value.pt5Of (ix2 r l)) hlt]
  have h15 : Value.pt5Of (ix2 r l) % 16 = 15 := by omega
  rw [out_last m c ⟨Value.pt5Of (ix2 r l), hlt⟩ (by dsimp only; omega) h15]
  have hl : Value.loc5Of (ix2 r l) = ix2 r ⟨l.val % 768, Nat.mod_lt _ (by decide)⟩ := by
    funext a
    apply Fin.ext
    match a with
    | ⟨0, _⟩ => exact Nat.mod_eq_of_lt r.isLt
    | ⟨1, _⟩ => rfl
  rw [hl, last_apply, iblk4_eq, sweep m c ⟨l.val / 768, by omega⟩ r _ 15 (by omega) ⟨Value.pt5Of (ix2 r l), hlt⟩ ht]
  have hll : (⟨l.val / 768 * 768 + l.val % 768, by omega⟩ : Fin 7680) = l := Fin.ext (by dsimp only; omega)
  dsimp only
  rw [hll]
  exact congrArg (_ * ·) (Sums.sum_blocks 16 512 rfl (term m c r l))

end Cert.QkvKernel

end
-- ==== Proof.QkvReference.lean ====
/-
  Hand-written, untrusted. The reference for `dw_qkv`: its one block is the whole of each array, so its result array is its payload of the
  argument arrays, and entry `(r, l)` is `gamma r` times the sum over tokens of the
  product of the two dequantised operands.
-/
module

public import proofs.«01_k».proof.Proof.Gen.RQkvIdeal.Value
public import Idealize.ShloMosaic.Lib.StableHlo.Run
public import Idealize.ShloMosaic.Lib.Affine
public import Idealize.ShloMosaic.Lib.Pointwise

@[expose] public section

set_option maxRecDepth 16384

noncomputable section

namespace Cert.QkvReference

open Cert.RQkvIdeal Cert.RQkvIdeal.Gen Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

/-- The operands flattened to one row per token, the scales to one entry per token. -/
abbrev A : Vec Ideal S8192x2560 .fp8e4m3 :=
  shapeCast S8192x2560 (m ((c : Thread nD τ).loc main_arg0)) shapeCasts_S8x1024x2560_S8192x2560
abbrev As : Vec Ideal S8192x1 .f32 := shapeCast S8192x1 (m ((c : Thread nD τ).loc main_arg1)) shapeCasts_S8x1024_S8192x1
abbrev B : Vec Ideal S8192x7680 .fp8e5m2 :=
  shapeCast S8192x7680 (m ((c : Thread nD τ).loc main_arg2)) shapeCasts_S8x1024x3x20x128_S8192x7680
abbrev Bs : Vec Ideal S8192x1 .f32 := shapeCast S8192x1 (m ((c : Thread nD τ).loc main_arg3)) shapeCasts_S8x1024_S8192x1

/-- The column of weights `gamma`. -/
abbrev Gm : Vec Ideal S2560x1 .f32 := shapeCast S2560x1 (m ((c : Thread nD τ).loc main_arg4)) shapeCasts_S2560_S2560x1

theorem V_v0 : V m c main_v0 = A m c := by
  unfold_abbrev_sides
  after_results
  rfl

theorem V_v1 : V m c main_v1 = As m c := by
  unfold_abbrev_sides
  after_results
  rfl

theorem V_v2 : V m c main_v2 = B m c := by
  unfold_abbrev_sides
  after_results
  rfl

theorem V_v3 : V m c main_v3 = Bs m c := by
  unfold_abbrev_sides
  after_results
  rfl

theorem V_v4 : V m c main_v4 = Gm m c := by
  unfold_abbrev_sides
  after_results
  rfl

/-- The one grid point. -/
def t₀ : Fin cfg0.N := ⟨0, by decide⟩

theorem iblk0_eq : (iblk m c 0 t₀ : Vec Ideal S8192x2560 .fp8e4m3) = A m c := by
  have hz : (fun a => (win0_0.index t₀) a * main_v0.ty.shape.size a) = fun _ => 0 := funext fun a => by fin_cases a <;> decide
  unfold iblk
  exact (Memref.read_access_unit_zero (Elt Ideal) main_v0 hz (fun a => by fin_cases a <;> decide) _).trans (V_v0 m c)

theorem iblk1_eq : (iblk m c 1 t₀ : Vec Ideal S8192x1 .f32) = As m c := by
  have hz : (fun a => (win0_1.index t₀) a * main_v1.ty.shape.size a) = fun _ => 0 := funext fun a => by fin_cases a <;> decide
  unfold iblk
  exact (Memref.read_access_unit_zero (Elt Ideal) main_v1 hz (fun a => by fin_cases a <;> decide) _).trans (V_v1 m c)

theorem iblk2_eq : (iblk m c 2 t₀ : Vec Ideal S8192x7680 .fp8e5m2) = B m c := by
  have hz : (fun a => (win0_2.index t₀) a * main_v2.ty.shape.size a) = fun _ => 0 := funext fun a => by fin_cases a <;> decide
  unfold iblk
  exact (Memref.read_access_unit_zero (Elt Ideal) main_v2 hz (fun a => by fin_cases a <;> decide) _).trans (V_v2 m c)

theorem iblk3_eq : (iblk m c 3 t₀ : Vec Ideal S8192x1 .f32) = Bs m c := by
  have hz : (fun a => (win0_3.index t₀) a * main_v3.ty.shape.size a) = fun _ => 0 := funext fun a => by fin_cases a <;> decide
  unfold iblk
  exact (Memref.read_access_unit_zero (Elt Ideal) main_v3 hz (fun a => by fin_cases a <;> decide) _).trans (V_v3 m c)

theorem iblk4_eq : (iblk m c 4 t₀ : Vec Ideal S2560x1 .f32) = Gm m c := by
  have hz : (fun a => (win0_4.index t₀) a * main_v4.ty.shape.size a) = fun _ => 0 := funext fun a => by fin_cases a <;> decide
  unfold iblk
  exact (Memref.read_access_unit_zero (Elt Ideal) main_v4 hz (fun a => by fin_cases a <;> decide) _).trans (V_v4 m c)

/-- The whole-buffer loads read the buffers and the one covering store leaves its payload. -/
theorem out_eq (x0 : Vec Ideal S8192x2560 .fp8e4m3) (x1 : Vec Ideal S8192x1 .f32) (x2 : Vec Ideal S8192x7680 .fp8e5m2)
    (x3 : Vec Ideal S8192x1 .f32) (x4 : Vec Ideal S2560x1 .f32) : out0_5 x0 x1 x2 x3 x4 = k0_pay1 x0 x1 x2 x3 x4 := by
  have hz : (![0, 0] : Fin 2 → Nat) = fun _ => 0 := funext fun a => by fin_cases a <;> rfl
  unfold out0_5
  rw [View.canon_unit_zero (S := S2560x7680) hz, View.ld_unit_zero (S := S8192x2560) hz, View.ld_unit_zero (S := S8192x1) hz,
    View.ld_unit_zero (S := S8192x7680) hz, View.ld_unit_zero (S := S8192x1) hz, View.ld_unit_zero (S := S2560x1) hz]

/-- The result array after the run holds the payload of the flattened argument arrays. -/
theorem final_value : (dats m 0 c).arrAt 5 cfg0.N = k0_pay1 (A m c) (As m c) (B m c) (Bs m c) (Gm m c) := by
  have ho := Value.blocks5 m c t₀ (by decide)
  have hz : (fun a => (win0_5.index t₀) a * main_v5.ty.shape.size a) = fun _ => 0 := funext fun a => by fin_cases a <;> decide
  rw [show ((cfg0.win 5).blk t₀).view.read (Elt Ideal) ((dats m 0 c).arrAt 5 cfg0.N) = (dats m 0 c).arrAt 5 cfg0.N from
    Memref.read_access_unit_zero (Elt Ideal) main_v5 hz (fun a => by fin_cases a <;> decide) _] at ho
  rw [ho]
  show (cfg0.win 5).cut _ ((dats m 0 c).after 5 t₀) = _
  rw [after0_5, out_eq, iblk0_eq, iblk1_eq, iblk2_eq, iblk3_eq, iblk4_eq]
  rfl

/-- The payload at entry `(r, l)`: `gamma r` times the sum over tokens of the product of the dequantised operands. -/
theorem pay_apply (x0 : Vec Ideal S8192x2560 .fp8e4m3) (x1 : Vec Ideal S8192x1 .f32) (x2 : Vec Ideal S8192x7680 .fp8e5m2)
    (x3 : Vec Ideal S8192x1 .f32) (x4 : Vec Ideal S2560x1 .f32) (r : Fin 2560) (l : Fin 7680) :
    k0_pay1 x0 x1 x2 x3 x4 (ix2 r l)
      = x4 (ix2 r 0) * ∑ t : Fin 8192, x0 (ix2 t r) * x1 (ix2 t 0) * (x2 (ix2 t l) * x3 (ix2 t 0)) := by
  unfold k0_pay1
  pointwise []

/-- A scale flattened to one entry per token is the scale array's entry for that token's row and place. -/
theorem scale_apply (x : Vec Ideal S8x1024 .f32) (t : Fin 8192) :
    shapeCast S8192x1 x shapeCasts_S8x1024_S8192x1 (ix2 t 0)
      = x (ix2 ⟨t.val / 1024, by omega⟩ ⟨t.val % 1024, by omega⟩) := by
  pointwise []

/-- Entry `r` of the column of `gamma`. -/
theorem gamma_apply (x : Vec Ideal S2560 .f32) (r : Fin 2560) :
    shapeCast S2560x1 x shapeCasts_S2560_S2560x1 (ix2 r 0) = x (ix1 r) := by
  pointwise []

end Cert.QkvReference

end
-- ==== Proof.QkvEq.lean ====
/-
  Hand-written, untrusted. The claims about `dw_qkv`: the kernel's array after the run is the reference's.
-/
module

public import proofs.«01_k».proof.Defs
public import proofs.«01_k».proof.Proof.QkvSweep
public import proofs.«01_k».proof.Proof.QkvReference

@[expose] public section

set_option maxRecDepth 16384

noncomputable section

namespace Cert.QkvEq

open Idealize.ShloMosaic Idealize.ShloMosaic.TcCoe Idealize.SL.Sem

/-- On equal arguments the two arrays agree: the scales move from the middle of each product onto its two operands. -/
theorem value_eq (m : (ℓ : Loc KQkvIdeal.nD KQkvIdeal.τ KQkvIdeal.sig) → Buf (Elt Ideal) ℓ) (c : Dev KQkvIdeal.nD) :
    RQkvIdeal.Gen.k0_pay1
        (shapeCast RQkvIdeal.S8192x2560 (m ((c.tc : Thread KQkvIdeal.nD KQkvIdeal.τ).loc KQkvIdeal.main_arg0))
          RQkvIdeal.Gen.shapeCasts_S8x1024x2560_S8192x2560)
        (shapeCast RQkvIdeal.S8192x1 (m ((c.tc : Thread KQkvIdeal.nD KQkvIdeal.τ).loc KQkvIdeal.main_arg1))
          RQkvIdeal.Gen.shapeCasts_S8x1024_S8192x1)
        (shapeCast RQkvIdeal.S8192x7680 (m ((c.tc : Thread KQkvIdeal.nD KQkvIdeal.τ).loc KQkvIdeal.main_arg2))
          RQkvIdeal.Gen.shapeCasts_S8x1024x3x20x128_S8192x7680)
        (shapeCast RQkvIdeal.S8192x1 (m ((c.tc : Thread KQkvIdeal.nD KQkvIdeal.τ).loc KQkvIdeal.main_arg3))
          RQkvIdeal.Gen.shapeCasts_S8x1024_S8192x1)
        (shapeCast RQkvIdeal.S2560x1 (m ((c.tc : Thread KQkvIdeal.nD KQkvIdeal.τ).loc KQkvIdeal.main_arg4))
          RQkvIdeal.Gen.shapeCasts_S2560_S2560x1)
      = KQkvIdeal.Value.G5 m c := by
  funext j
  rw [eq_ix2 j]
  refine Eq.trans ?_ (QkvKernel.G5_apply m c (j 0) (j 1)).symm
  refine (QkvReference.pay_apply _ _ _ _ _ (j 0) (j 1)).trans ?_
  refine congrArg₂ (· * ·) ((QkvReference.gamma_apply _ (j 0)).trans (QkvKernel.gamma_apply _ (j 0)).symm) (Finset.sum_congr rfl fun t _ => ?_)
  rw [QkvReference.scale_apply, QkvReference.scale_apply]
  unfold QkvKernel.term
  rw [mul_assoc, mul_assoc, mul_assoc]
  refine congrArg₂ (· * ·) rfl ?_
  exact congrArg₂ (· * ·) rfl (mul_comm _ _)

/-- The kernel's result array is the reference's, on equal arguments. -/
theorem algebraic : algebraic_KQkvIdeal_RQkvIdeal := by
  intro m g m' g' _ hargs
  refine ⟨fun c => KQkvIdeal.Value.G5 m c, KQkvIdeal.Value.run m g, ?_⟩
  refine (θ_run RQkvIdeal.defs _ _).mono (fun r h c => ?_) (RQkvIdeal.Value.run_blocks m' g')
  obtain ⟨hv, h0, h1, h2, h3, h4⟩ := h c
  refine ⟨(hv.trans (QkvReference.final_value m' c)).trans ?_, h0, h1, h2, h3, h4⟩
  obtain ⟨e0, e1, e2, e3, e4⟩ := hargs c
  refine Eq.trans ?_ (value_eq m c)
  unfold QkvReference.A QkvReference.As QkvReference.B QkvReference.Bs QkvReference.Gm
  rw [e0, e1, e2, e3, e4]

end Cert.QkvEq

end
-- ==== Proof.Exponent.lean ====
/-
  Hand-written, untrusted. The power-of-two scale of the quantiser. The kernels find the exponent of `amax / qmax` by eight bisection steps,
  each of which compares the quotient with a power of two written as exponent bits; the references take the floor of a logarithm. Over the
  extended reals the two scales are the same number, for every quotient in the range where the bits are those of a normal number.
-/
module

public import Idealize.ShloMosaic.Lib.Pointwise

@[expose] public section

set_option maxRecDepth 16384

noncomputable section

namespace Cert.Exponent

open Idealize.ShloMosaic

/-! ## Powers of two as bits -/

/-- The number whose exponent field is `n` and whose other bits are zero. -/
def pw (n : ℕ) : EReal := Ideal.ofBits .f32 (BitVec.ofNat 32 n <<< 23)

theorem field : ∀ n : Fin 256, (BitVec.ofNat 32 n.val <<< 23).extractLsb' 31 1 = 0#1 ∧
    ((BitVec.ofNat 32 n.val <<< 23).extractLsb' 23 8).toNat = n.val ∧ ((BitVec.ofNat 32 n.val <<< 23).extractLsb' 0 23).toNat = 0 := by
  decide +kernel

theorem two_pow (k : ℤ) : (2 : ℝ) ^ (23 : ℕ) * (2 : ℝ) ^ k = (2 : ℝ) ^ (k + 23) := by
  rw [zpow_add₀ (by norm_num : (2 : ℝ) ≠ 0), mul_comm]
  rfl

/-- A positive normal number with no fraction bits. -/
theorem ieee_normal (b : BitVec 32) (n : ℕ) (ha : b.extractLsb' 31 1 = 0#1) (hb : (b.extractLsb' 23 8).toNat = n)
    (hc : (b.extractLsb' 0 23).toNat = 0) (h1 : n ≠ 0) (h2 : n ≠ 255) :
    Ideal.ieee 8 23 b = (((2 : ℝ) ^ ((n : ℤ) - 127) : ℝ) : EReal) := by
  have e : (2 : ℝ) ^ ((n : ℤ) - 127) = (2 : ℝ) ^ (23 : ℕ) * (2 : ℝ) ^ ((n : ℤ) - 127 - 23) := by
    rw [two_pow, sub_add_cancel]
  rw [e]
  unfold Ideal.ieee
  dsimp only
  rw [hb, hc, show (8 + 23 : ℕ) = 31 from rfl, ha, if_neg (show ¬n = 2 ^ 8 - 1 from h2), if_neg h1]
  norm_num

theorem ieee_top (b : BitVec 32) (ha : b.extractLsb' 31 1 = 0#1) (hb : (b.extractLsb' 23 8).toNat = 255)
    (hc : (b.extractLsb' 0 23).toNat = 0) : Ideal.ieee 8 23 b = ⊤ := by
  unfold Ideal.ieee
  dsimp only
  rw [hb, hc, show (8 + 23 : ℕ) = 31 from rfl, ha, if_pos (by rfl), if_pos rfl]
  rfl

/-- The number is `2^(n-127)` for the fields of normal numbers. -/
theorem pw_eq (n : ℕ) (h1 : 1 ≤ n) (h2 : n ≤ 254) : pw n = (((2 : ℝ) ^ ((n : ℤ) - 127) : ℝ) : EReal) := by
  obtain ⟨ha, hb, hc⟩ := field ⟨n, by omega⟩
  exact ieee_normal _ n ha hb hc (by omega) (by omega)

/-- The field 255 denotes infinity. -/
theorem pw_top : pw 255 = ⊤ := by
  obtain ⟨ha, hb, hc⟩ := field ⟨255, by omega⟩
  exact ieee_top _ ha hb hc

/-- The shift by 23 places that puts a number into the exponent field. -/
theorem shift_eq (x : BitVec 32) : IntOp.shli .vector x 23#32 = x <<< 23 := by
  unfold IntOp.shli
  rw [if_pos (by decide)]
  rfl

theorem bits_eq (n : ℕ) : Ideal.ofBits .f32 (IntOp.shli .vector (BitVec.ofNat 32 n) 23#32) = pw n := by
  rw [shift_eq, pw]

/-! ## Sums of exponents, in 32-bit words -/

theorem add1 (n b : ℕ) (h : n + 2 * b ≤ 256) : (BitVec.ofNat 32 n + 4294967170#32) + BitVec.ofNat 32 (b + 126) = BitVec.ofNat 32 (n + b) := by
  rw [BitVec.add_assoc, Nat.add_comm b, BitVec.ofNat_add, ← BitVec.add_assoc (4294967170#32),
    show (4294967170#32 + BitVec.ofNat 32 126 : BitVec 32) = 0#32 by decide, BitVec.zero_add, ← BitVec.ofNat_add]

theorem add2 (n b : ℕ) : (BitVec.ofNat 32 n + 4294967170#32) + BitVec.ofNat 32 b = BitVec.ofNat 32 (n + b) + 4294967170#32 := by
  rw [BitVec.add_assoc, BitVec.add_comm (4294967170#32), ← BitVec.add_assoc, ← BitVec.ofNat_add]

theorem add3 (n : ℕ) : (BitVec.ofNat 32 n + 4294967170#32) + 127#32 = BitVec.ofNat 32 (n + 1) := by
  rw [BitVec.add_assoc, show (4294967170#32 + 127#32 : BitVec 32) = BitVec.ofNat 32 1 by decide, ← BitVec.ofNat_add]

theorem sub3 (n : ℕ) (h : n ≤ 253) : 127#32 - (BitVec.ofNat 32 n + 4294967170#32) = BitVec.ofNat 32 (253 - n) := by
  have : ∀ n : Fin 254, 127#32 - (BitVec.ofNat 32 n.val + 4294967170#32) = BitVec.ofNat 32 (253 - n.val) := by decide +kernel
  exact this ⟨n, by omega⟩

/-! ## The bisection -/

variable {s : Shape}

/-- One step: if the number is at least the power of two of exponent field `e + p`, `b` is added to the exponent `e`. -/
def step (x : FVec Ideal s .f32) (p b : BitVec 32) (e : IVec s 32) : IVec s 32 :=
  select (cmpf .oge x (bitcastToFloat .f32 (shli (addi e (broadcast s p)) (broadcast s 23#32)))) (addi e (broadcast s b)) e

/-- Eight steps from -126. -/
def bisect (x : FVec Ideal s .f32) : IVec s 32 :=
  step x 127#32 1#32 (step x 128#32 2#32 (step x 130#32 4#32 (step x 134#32 8#32
    (step x 142#32 16#32 (step x 158#32 32#32 (step x 190#32 64#32 (step x 254#32 128#32 (broadcast s 4294967170#32))))))))

/-- One comparison of a step, at one entry. -/
def step1 (x : EReal) (p b e : BitVec 32) : BitVec 32 :=
  Scalar.select (Ideal.cmp .oge x (Ideal.ofBits .f32 (IntOp.shli .vector (e + p) 23#32))) (e + b) e

theorem step_at (x : FVec Ideal s .f32) (p b : BitVec 32) (e : IVec s 32) (i : s.Idx) : step x p b e i = step1 (x i) p b (e i) := rfl

theorem cmp_ge (x y : EReal) (u v : BitVec 32) : Scalar.select (Ideal.cmp .oge x y) u v = if y ≤ x then u else v := by
  unfold Scalar.select Ideal.cmp
  by_cases h : y ≤ x <;> simp [h]

theorem step_apply (x : FVec Ideal s .f32) (e : IVec s 32) (i : s.Idx) (n b : ℕ) (hn : n + 2 * b ≤ 256)
    (he : e i = BitVec.ofNat 32 n + 4294967170#32) :
    step x (BitVec.ofNat 32 (b + 126)) (BitVec.ofNat 32 b) e i
      = BitVec.ofNat 32 (if pw (n + b) ≤ x i then n + b else n) + 4294967170#32 := by
  rw [step_at, he, step1, add1 n b hn, add2, bits_eq, cmp_ge]
  by_cases h : pw (n + b) ≤ x i
  · rw [if_pos h, if_pos h]
  · rw [if_neg h, if_neg h]

/-- The eight steps find the largest exponent field whose power of two is at most the number. -/
theorem bisect_apply (x : FVec Ideal s .f32) (i : s.Idx) (N : ℕ) (hN : N < 256)
    (H : ∀ k, 1 ≤ k → k ≤ 255 → (pw k ≤ x i ↔ k ≤ N)) : bisect x i = BitVec.ofNat 32 N + 4294967170#32 := by
  have key : ∀ (b n : ℕ) (e : IVec s 32), 1 ≤ b → n ≤ N → N < n + 2 * b → n + 2 * b ≤ 256 →
      e i = BitVec.ofNat 32 n + 4294967170#32 → ∃ n', n' ≤ N ∧ N < n' + b ∧ n' + b ≤ 256 ∧
        step x (BitVec.ofNat 32 (b + 126)) (BitVec.ofNat 32 b) e i = BitVec.ofNat 32 n' + 4294967170#32 := by
    intro b n e hb h1 h2 h3 he
    refine ⟨_, ?_, ?_, ?_, step_apply x e i n b h3 he⟩
    all_goals
      by_cases h : n + b ≤ N
      · rw [if_pos ((H (n + b) (by omega) (by omega)).2 h)]; omega
      · rw [if_neg (fun h' => h ((H (n + b) (by omega) (by omega)).1 h'))]; omega
  obtain ⟨n1, a1, b1, c1, e1⟩ := key 128 0 (broadcast s 4294967170#32) (by omega) (by omega) (by omega) (by omega) rfl
  obtain ⟨n2, a2, b2, c2, e2⟩ := key 64 n1 _ (by omega) a1 (by omega) (by omega) e1
  obtain ⟨n3, a3, b3, c3, e3⟩ := key 32 n2 _ (by omega) a2 (by omega) (by omega) e2
  obtain ⟨n4, a4, b4, c4, e4⟩ := key 16 n3 _ (by omega) a3 (by omega) (by omega) e3
  obtain ⟨n5, a5, b5, c5, e5⟩ := key 8 n4 _ (by omega) a4 (by omega) (by omega) e4
  obtain ⟨n6, a6, b6, c6, e6⟩ := key 4 n5 _ (by omega) a5 (by omega) (by omega) e5
  obtain ⟨n7, a7, b7, c7, e7⟩ := key 2 n6 _ (by omega) a6 (by omega) (by omega) e6
  obtain ⟨n8, a8, b8, c8, e8⟩ := key 1 n7 _ (by omega) a7 (by omega) (by omega) e7
  have : n8 = N := by omega
  subst this
  exact e8

/-! ## The two forms of the scale -/

/-- The quotient `amax / qmax` lies where its exponent bits are those of a normal number whose inverse scale is one too. -/
def InRange (v : EReal) : Prop := pw 1 ≤ v ∧ v < pw 253

/-- The floor of the base-two logarithm. -/
def ilog (r : ℝ) : ℤ := ⌊Real.log r / Real.log 2⌋

/-- A power of two is at most a positive number exactly when its exponent is at most the floor of the number's logarithm. -/
theorem zpow_le_iff (k : ℤ) {r : ℝ} (h : 0 < r) : (2 : ℝ) ^ k ≤ r ↔ k ≤ ilog r := by
  have hl2 : 0 < Real.log 2 := Real.log_pos (by norm_num)
  unfold ilog
  rw [Int.le_floor, le_div_iff₀ hl2, ← Real.log_zpow, Real.log_le_log_iff (by positivity) h]

/-- The exponent as the references state it: the floor of the base-two logarithm, plus one. -/
def lg (v : EReal) : ℤ := ilog v.toReal + 1

theorem range_real {v : EReal} (h : InRange v) : ∃ r : ℝ, v = (r : EReal) ∧ 0 < r ∧ (2 : ℝ) ^ (-126 : ℤ) ≤ r ∧ r < (2 : ℝ) ^ (126 : ℤ) := by
  obtain ⟨h1, h2⟩ := h
  rw [pw_eq 1 (by omega) (by omega)] at h1
  rw [pw_eq 253 (by omega) (by omega)] at h2
  induction v with
  | bot => exact absurd h1 (by simp)
  | top => exact absurd h2 (by simp)
  | coe r =>
    rw [EReal.coe_le_coe_iff] at h1
    rw [EReal.coe_lt_coe_iff] at h2
    norm_num only [Nat.cast_one, Nat.cast_ofNat] at h1 h2
    refine ⟨r, rfl, lt_of_lt_of_le (by positivity) h1, ?_, ?_⟩
    · refine le_trans (le_of_eq ?_) h1; norm_num
    · refine lt_of_lt_of_le h2 (le_of_eq ?_); norm_num

theorem lg_bounds {v : EReal} (h : InRange v) : -125 ≤ lg v ∧ lg v ≤ 126 := by
  obtain ⟨r, rfl, h0, h1, h2⟩ := range_real h
  unfold lg
  rw [EReal.toReal_coe]
  have a := (zpow_le_iff _ h0).1 h1
  have b : ¬126 ≤ ilog r := fun h => absurd ((zpow_le_iff 126 h0).2 h) (not_le.2 h2)
  omega

/-- On a number in range the bisection finds the exponent of the reference. -/
theorem bisect_eq (x : FVec Ideal s .f32) (i : s.Idx) (h : InRange (x i)) :
    bisect x i = BitVec.ofNat 32 (lg (x i) + 126).toNat + 4294967170#32 := by
  obtain ⟨hb1, hb2⟩ := lg_bounds h
  apply bisect_apply x i _ (by omega)
  obtain ⟨r, hr, h0, -, -⟩ := range_real h
  intro k h1 h2
  rw [hr] at hb1 hb2 ⊢
  by_cases hk : k = 255
  · subst hk
    rw [pw_top]
    simp
    omega
  · rw [pw_eq k h1 (by omega), EReal.coe_le_coe_iff]
    rw [zpow_le_iff _ h0]
    unfold lg at hb1 hb2 ⊢
    rw [EReal.toReal_coe] at hb1 hb2 ⊢
    omega

/-- `amax · (1/qmax)`. -/
abbrev quot (a : FVec Ideal s .f32) : FVec Ideal s .f32 := mulf a (broadcast s (Scalar.ofBits .f32 0x37924925#32))

/-- The kernels' exponent: that of the quotient, and 0 where `amax` is 0. -/
def expo (a : FVec Ideal s .f32) : IVec s 32 :=
  select (cmpf .oeq a (broadcast s (Scalar.ofBits .f32 0x00000000#32))) (broadcast s 0#32) (bisect (quot a))

/-- The kernels' scale and inverse scale: the bits of the power of two. -/
def scale (a : FVec Ideal s .f32) : FVec Ideal s .f32 :=
  bitcastToFloat .f32 (shli (addi (expo a) (broadcast s 127#32)) (broadcast s 23#32))
def inv (a : FVec Ideal s .f32) : FVec Ideal s .f32 :=
  bitcastToFloat .f32 (shli (subi (broadcast s 127#32) (expo a)) (broadcast s 23#32))

/-- The references' exponent, scale and inverse scale. -/
def rexpo (a : FVec Ideal s .f32) : FVec Ideal s .f32 :=
  select (cmpf .oeq a (broadcast s (Scalar.ofBits .f32 0x00000000#32))) (broadcast s (Scalar.ofBits .f32 0x00000000#32))
    (addf (floor (divf (log (quot a)) (log (broadcast s (Scalar.ofBits .f32 0x40000000#32))))) (broadcast s (Scalar.ofBits .f32 0x3F800000#32)))
def rscale (a : FVec Ideal s .f32) : FVec Ideal s .f32 := exp2 (rexpo a)
def rinv (a : FVec Ideal s .f32) : FVec Ideal s .f32 := exp2 (subf (broadcast s (Scalar.ofBits .f32 0x00000000#32)) (rexpo a))

/-- The constant `1/qmax`. -/
def iq : EReal := Ideal.ofBits .f32 0x37924925#32

/-- What an `amax` must satisfy for the bits of the scale to be those of a normal number. -/
def Ok (v : EReal) : Prop := v = 0 ∨ InRange (v * iq)

/-- The scale, its exponent one number. -/
def ex (v : EReal) : ℤ := if v = 0 then 0 else lg (v * iq)
def sc (v : EReal) : EReal := (((2 : ℝ) ^ ex v : ℝ) : EReal)
def si (v : EReal) : EReal := (((2 : ℝ) ^ (-ex v) : ℝ) : EReal)

theorem ex_bounds {v : EReal} (h : Ok v) : -125 ≤ ex v ∧ ex v ≤ 126 := by
  unfold ex
  split_ifs with h0
  · omega
  · exact lg_bounds (h.resolve_left h0)

theorem zero_bits : Ideal.ofBits .f32 0x00000000#32 = 0 := by simp [Ideal.ofBits, Ideal.ieee]
theorem one_bits : Ideal.ofBits .f32 0x3F800000#32 = 1 := by simp [Ideal.ofBits, Ideal.ieee, -EReal.coe_mul]; norm_num
theorem two_bits : Ideal.ofBits .f32 0x40000000#32 = ((2 : ℝ) : EReal) := by simp [Ideal.ofBits, Ideal.ieee, -EReal.coe_mul]; norm_num

theorem expo_at (a : FVec Ideal s .f32) (i : s.Idx) : expo a i = Scalar.select (Ideal.cmp .oeq (a i) (Ideal.ofBits .f32 0x00000000#32)) 0#32 (bisect (quot a) i) := rfl

theorem cmp_eq {α : Type} (x : EReal) (u v : α) : Scalar.select (Ideal.cmp .oeq x 0) u v = if x = 0 then u else v := by
  unfold Scalar.select Ideal.cmp
  by_cases h : x = 0 <;> simp [h]

theorem quot_at (a : FVec Ideal s .f32) (i : s.Idx) : quot a i = a i * iq := rfl

theorem expo_apply (a : FVec Ideal s .f32) (i : s.Idx) (h : Ok (a i)) :
    expo a i = BitVec.ofNat 32 (ex (a i) + 126).toNat + 4294967170#32 := by
  rw [expo_at, zero_bits, cmp_eq]
  by_cases h0 : a i = 0
  · rw [if_pos h0, show ex (a i) = 0 from if_pos h0]
    decide
  · rw [if_neg h0, show ex (a i) = lg (a i * iq) from if_neg h0]
    exact bisect_eq (quot a) i (h.resolve_left h0)

/-- The exponent at an entry depends on that entry alone. -/
theorem step_congr {s' : Shape} (x : FVec Ideal s .f32) (y : FVec Ideal s' .f32) (i : s.Idx) (j : s'.Idx) (p b : BitVec 32) (e : IVec s 32)
    (e' : IVec s' 32) (h : x i = y j) (he : e i = e' j) : step x p b e i = step y p b e' j := by
  rw [step_at, step_at, h, he]

theorem bisect_congr {s' : Shape} (x : FVec Ideal s .f32) (y : FVec Ideal s' .f32) (i : s.Idx) (j : s'.Idx) (h : x i = y j) :
    bisect x i = bisect y j := by
  unfold bisect
  iterate 8 refine step_congr _ _ _ _ _ _ _ _ h ?_
  rfl

theorem expo_congr {s' : Shape} (x : FVec Ideal s .f32) (y : FVec Ideal s' .f32) (i : s.Idx) (j : s'.Idx) (h : x i = y j) :
    expo x i = expo y j := by
  rw [expo_at, expo_at, bisect_congr (quot x) (quot y) i j (by rw [quot_at, quot_at, h]), h]

theorem scale_at (a : FVec Ideal s .f32) (i : s.Idx) : scale a i = Ideal.ofBits .f32 (IntOp.shli .vector (expo a i + 127#32) 23#32) := rfl
theorem inv_at (a : FVec Ideal s .f32) (i : s.Idx) : inv a i = Ideal.ofBits .f32 (IntOp.shli .vector (127#32 - expo a i) 23#32) := rfl

theorem scale_apply (a : FVec Ideal s .f32) (i : s.Idx) (h : Ok (a i)) : scale a i = sc (a i) := by
  obtain ⟨h1, h2⟩ := ex_bounds h
  rw [scale_at, expo_apply a i h, add3, bits_eq, pw_eq _ (by omega) (by omega), sc,
    show (((ex (a i) + 126).toNat + 1 : ℕ) : ℤ) - 127 = ex (a i) by omega]

theorem inv_apply (a : FVec Ideal s .f32) (i : s.Idx) (h : Ok (a i)) : inv a i = si (a i) := by
  obtain ⟨h1, h2⟩ := ex_bounds h
  rw [inv_at, expo_apply a i h, sub3 _ (by omega), bits_eq, pw_eq _ (by omega) (by omega), si,
    show ((253 - (ex (a i) + 126).toNat : ℕ) : ℤ) - 127 = -ex (a i) by omega]

theorem lo_bits : Ideal.ofBits .f32 0x00800000#32 = pw 1 := by
  rw [pw, show (0x00800000#32 : BitVec 32) = BitVec.ofNat 32 1 <<< 23 by decide]
theorem hi_bits : Ideal.ofBits .f32 0x7E800000#32 = pw 253 := by
  rw [pw, show (0x7E800000#32 : BitVec 32) = BitVec.ofNat 32 253 <<< 23 by decide]

/-- The condition written with comparisons of numbers. -/
theorem ok_of_bits (v : EReal)
    (h : IntOp.ori (Ideal.cmp .oeq v 0)
      (IntOp.andi (Ideal.cmp .oge (v * iq) (Ideal.ofBits .f32 0x00800000#32)) (Ideal.cmp .olt (v * iq) (Ideal.ofBits .f32 0x7E800000#32))) = 1#1) :
    Ok v := by
  rw [lo_bits, hi_bits] at h
  unfold Ideal.cmp at h
  dsimp only at h
  by_cases h0 : v = 0
  · exact Or.inl h0
  by_cases h1 : pw 1 ≤ v * iq
  · by_cases h2 : v * iq < pw 253
    · exact Or.inr ⟨h1, h2⟩
    · rw [decide_eq_false h0, decide_eq_false h2, decide_eq_true h1] at h
      exact absurd h (by decide)
  · rw [decide_eq_false h0, decide_eq_false h1] at h
    by_cases h2 : v * iq < pw 253
    · rw [decide_eq_true h2] at h
      exact absurd h (by decide)
    · rw [decide_eq_false h2] at h
      exact absurd h (by decide)

theorem rexpo_at (a : FVec Ideal s .f32) (i : s.Idx) :
    rexpo a i = Scalar.select (Ideal.cmp .oeq (a i) (Ideal.ofBits .f32 0x00000000#32)) (Ideal.ofBits .f32 0x00000000#32)
      (Ideal.liftRound Int.floor (Ideal.div (Ideal.log (a i * iq)) (Ideal.log (Ideal.ofBits .f32 0x40000000#32)))
        + Ideal.ofBits .f32 0x3F800000#32) := rfl

theorem rexpo_apply (a : FVec Ideal s .f32) (i : s.Idx) (h : Ok (a i)) : rexpo a i = ((ex (a i) : ℝ) : EReal) := by
  rw [rexpo_at, zero_bits, one_bits, two_bits, cmp_eq]
  by_cases h0 : a i = 0
  · rw [if_pos h0, show ex (a i) = 0 from if_pos h0]
    simp
  · rw [if_neg h0, show ex (a i) = lg (a i * iq) from if_neg h0]
    obtain ⟨r, hr, hr0, -, -⟩ := range_real (h.resolve_left h0)
    have hl2 : Real.log 2 ≠ 0 := by have := Real.log_pos (by norm_num : (1 : ℝ) < 2); exact ne_of_gt this
    have e2 : Ideal.log (r : EReal) = (Real.log r : EReal) := by
      show (if r ≤ 0 then ⊥ else (Real.log r : EReal)) = _
      rw [if_neg (not_le.2 hr0)]
    have e3 : Ideal.log ((2 : ℝ) : EReal) = (Real.log 2 : EReal) := by
      show (if (2 : ℝ) ≤ 0 then ⊥ else (Real.log 2 : EReal)) = _
      rw [if_neg (by norm_num)]
    have e4 : Ideal.div (Real.log r : EReal) (Real.log 2 : EReal) = ((Real.log r / Real.log 2 : ℝ) : EReal) := by
      unfold Ideal.div
      rw [if_neg (by exact_mod_cast hl2), div_eq_mul_inv, EReal.coe_mul, EReal.coe_inv]
    have e5 : Int.floor (Real.log r / Real.log 2) = ilog r := rfl
    rw [hr, e2, e3, e4]
    have e6 : ∀ q : ℝ, Ideal.liftRound Int.floor (q : EReal) = (((Int.floor q : ℤ) : ℝ) : EReal) := fun _ => rfl
    rw [e6, e5, lg, EReal.toReal_coe]
    push_cast
    rfl

theorem rscale_at (a : FVec Ideal s .f32) (i : s.Idx) : rscale a i = Ideal.exp2 (rexpo a i) := rfl
theorem rinv_at (a : FVec Ideal s .f32) (i : s.Idx) : rinv a i = Ideal.exp2 (Ideal.ofBits .f32 0x00000000#32 - rexpo a i) := rfl

theorem exp2_int (n : ℤ) : Ideal.exp2 (((n : ℤ) : ℝ) : EReal) = (((2 : ℝ) ^ n : ℝ) : EReal) :=
  congrArg (fun r : ℝ => (r : EReal)) (Real.rpow_intCast 2 n)

theorem rscale_apply (a : FVec Ideal s .f32) (i : s.Idx) (h : Ok (a i)) : rscale a i = sc (a i) := by
  rw [rscale_at, rexpo_apply a i h, exp2_int, sc]

theorem rinv_apply (a : FVec Ideal s .f32) (i : s.Idx) (h : Ok (a i)) : rinv a i = si (a i) := by
  rw [rinv_at, rexpo_apply a i h, zero_bits, zero_sub, ← EReal.coe_neg, ← Int.cast_neg, exp2_int, si]

end Cert.Exponent

end
-- ==== Proof.InKernel.lean ====
/-
  Hand-written, untrusted. What the weight-gradient kernel `dw_in` computes at one grid point, at any float instance and over the extended
  reals: the quantised block of the upstream gradient, the column scale, and the accumulator's addend.
-/
module

public import proofs.«01_k».proof.Proof.Scales
public import proofs.«01_k».proof.Proof.Exponent
public import proofs.«01_k».proof.Proof.InIdealFrame.Value
public import Idealize.ShloMosaic.Lib.StableHlo.Run
public import Idealize.ShloMosaic.Lib.Tactic

@[expose] public section

set_option maxRecDepth 16384

noncomputable section

namespace Cert.InKernel

open Cert.KInIdeal Cert.KInIdeal.Gen Idealize.ShloMosaic Idealize.ShloMosaic.TcCoe Idealize.SL.Sem
open Idealize.ShloMosaic.Pipeline (Dat)

theorem hz : (![0, 0] : Fin 2 → Nat) = fun _ => 0 := funext fun a => by fin_cases a <;> rfl

/-- The row of 512 scales that grid point `i` loads from the whole scale array. -/
abbrev row {F : FTy → Type} (i : grid0.Coords) (x : Vec F S8x1024 .f32) : Vec F S1x512 .f32 :=
  View.ld x (Rect.unit (s := S8x1024) (k0_off1 i) S1x512.size (k0_off1_inb i))

/-- The column scale and its inverse, from the block of column maxima. -/
abbrev scl {F : FTy → Type} [FloatOps F] (x3 : Vec F S1x1024 .f32) : FVec F S1x1024 .f32 :=
  k0_pay5 x3 (k0_pay1 x3) (k0_pay2 x3) k0_pay3
abbrev isc {F : FTy → Type} [FloatOps F] (x3 : Vec F S1x1024 .f32) : FVec F S1x1024 .f32 :=
  k0_pay6 (k0_pay4 x3 (k0_pay1 x3) (k0_pay2 x3) k0_pay3) 127#32

/-- One step of the accumulator: what the body stores back, from the accumulator it found and the point's blocks. -/
abbrev step {F : FTy → Type} [FloatOps F] (i : grid0.Coords) (x0 : Vec F S512x2560 .fp8e4m3) (x1 : Vec F S8x1024 .f32)
    (x2 : Vec F S512x1024 .bf16) (x3 : Vec F S1x1024 .f32) (acc : Vec F S2560x1024 .f32) : Vec F S2560x1024 .f32 :=
  k0_pay10 (isc x3) (k0_pay8 x0) (row i x1) x2 acc

section Cases
variable {F : FTy → Type} [FloatOps F]

/-- In the middle of a sweep the body leaves one step over the accumulator it found. -/
theorem sout_B (c : Dev nD) (i : grid0.Coords) (a2 : Memref sig .tc .vmem S512x2560 .fp8e4m3) (h2 : a2.IsWhole)
    (a3 : Memref sig .tc .vmem S8x1024 .f32) (h3 : a3.IsWhole) (a4 : Memref sig .tc .vmem S512x1024 .bf16) (h4 : a4.IsWhole)
    (a5 : Memref sig .tc .vmem S1x1024 .f32) (h5 : a5.IsWhole) (a6 : Memref sig .tc .vmem S1x2560 .f32) (h6 : a6.IsWhole)
    (a7 : Memref sig .tc .vmem S2560x1024 .bf16) (h7 : a7.IsWhole) (a8 : Memref sig .tc .vmem S512x1024 .fp8e5m2) (h8 : a8.IsWhole)
    (a9 : Memref sig .tc .vmem S1x1024 .f32) (h9 : a9.IsWhole) (a10 : Memref sig .tc .vmem S2560x1024 .f32) (h10 : a10.IsWhole)
    (hc0 : ¬cond0_0 i) (hc1 : ¬cond0_1 i)
    (x0 : Vec F S512x2560 .fp8e4m3) (x1 : Vec F S8x1024 .f32) (x2 : Vec F S512x1024 .bf16) (x3 : Vec F S1x1024 .f32) (x4 : Vec F S1x2560 .f32)
    (xs0 : Vec F S2560x1024 .f32) :
    sout0_B_0 c i a2 h2 a3 h3 a4 h4 a5 h5 a6 h6 a7 h7 a8 h8 a9 h9 a10 h10 hc0 hc1 x0 x1 x2 x3 x4 xs0 = step i x0 x1 x2 x3 xs0 := by
  unfold sout0_B_0
  rw [View.read_writes_eq_canon _ _ _ (scover0_B_0 c i a2 h2 a3 h3 a4 h4 a5 h5 a6 h6 a7 h7 a8 h8 a9 h9 a10 h10 hc0 hc1 x0 x1 x2 x3 x4 xs0)]
  unfold kernelRun0_B
  dsimp only
  sl_unfold_words
  rw [View.canon_unit_zero (S := S2560x1024) hz]
  simp only [View.readAt_eq_ld, h2.read_unread, h3.read_unread, h4.read_unread, h5.read_unread, h6.read_unread, h10.read_unread, View.readCov_unit_zero (S := S2560x1024) _ hz,
    View.ld_unit_zero (S := S512x2560) hz, View.ld_unit_zero (S := S512x1024) hz, View.ld_unit_zero (S := S2560x1024) hz, View.ld_unit_zero (S := S1x1024) hz, View.ld_unit_zero (S := S1x2560) hz]
  rfl

/-- At the last point of a sweep the body leaves one step over the accumulator it found. -/
theorem sout_C (c : Dev nD) (i : grid0.Coords) (a2 : Memref sig .tc .vmem S512x2560 .fp8e4m3) (h2 : a2.IsWhole)
    (a3 : Memref sig .tc .vmem S8x1024 .f32) (h3 : a3.IsWhole) (a4 : Memref sig .tc .vmem S512x1024 .bf16) (h4 : a4.IsWhole)
    (a5 : Memref sig .tc .vmem S1x1024 .f32) (h5 : a5.IsWhole) (a6 : Memref sig .tc .vmem S1x2560 .f32) (h6 : a6.IsWhole)
    (a7 : Memref sig .tc .vmem S2560x1024 .bf16) (h7 : a7.IsWhole) (a8 : Memref sig .tc .vmem S512x1024 .fp8e5m2) (h8 : a8.IsWhole)
    (a9 : Memref sig .tc .vmem S1x1024 .f32) (h9 : a9.IsWhole) (a10 : Memref sig .tc .vmem S2560x1024 .f32) (h10 : a10.IsWhole)
    (hc0 : ¬cond0_0 i) (hc1 : cond0_1 i)
    (x0 : Vec F S512x2560 .fp8e4m3) (x1 : Vec F S8x1024 .f32) (x2 : Vec F S512x1024 .bf16) (x3 : Vec F S1x1024 .f32) (x4 : Vec F S1x2560 .f32)
    (xo7 : Vec F S1x1024 .f32) (xs0 : Vec F S2560x1024 .f32) :
    sout0_C_0 c i a2 h2 a3 h3 a4 h4 a5 h5 a6 h6 a7 h7 a8 h8 a9 h9 a10 h10 hc0 hc1 x0 x1 x2 x3 x4 xo7 xs0 = step i x0 x1 x2 x3 xs0 := by
  unfold sout0_C_0
  rw [View.read_writes_eq_canon _ _ _ (scover0_C_0 c i a2 h2 a3 h3 a4 h4 a5 h5 a6 h6 a7 h7 a8 h8 a9 h9 a10 h10 hc0 hc1 x0 x1 x2 x3 x4 xo7 xs0)]
  unfold kernelRun0_C
  dsimp only
  sl_unfold_words
  rw [View.canon_unit_zero (S := S2560x1024) hz]
  simp only [View.readAt_eq_ld, h2.read_unread, h3.read_unread, h4.read_unread, h5.read_unread, h6.read_unread, h10.read_unread, View.readCov_unit_zero (S := S2560x1024) _ hz,
    View.ld_unit_zero (S := S512x2560) hz, View.ld_unit_zero (S := S512x1024) hz, View.ld_unit_zero (S := S2560x1024) hz, View.ld_unit_zero (S := S1x1024) hz, View.ld_unit_zero (S := S1x2560) hz]
  rfl

/-- At the first point of a sweep the body leaves one step over the zero block. -/
theorem sout_A (c : Dev nD) (i : grid0.Coords) (a2 : Memref sig .tc .vmem S512x2560 .fp8e4m3) (h2 : a2.IsWhole)
    (a3 : Memref sig .tc .vmem S8x1024 .f32) (h3 : a3.IsWhole) (a4 : Memref sig .tc .vmem S512x1024 .bf16) (h4 : a4.IsWhole)
    (a5 : Memref sig .tc .vmem S1x1024 .f32) (h5 : a5.IsWhole) (a6 : Memref sig .tc .vmem S1x2560 .f32) (h6 : a6.IsWhole)
    (a7 : Memref sig .tc .vmem S2560x1024 .bf16) (h7 : a7.IsWhole) (a8 : Memref sig .tc .vmem S512x1024 .fp8e5m2) (h8 : a8.IsWhole)
    (a9 : Memref sig .tc .vmem S1x1024 .f32) (h9 : a9.IsWhole) (a10 : Memref sig .tc .vmem S2560x1024 .f32) (h10 : a10.IsWhole)
    (hc0 : cond0_0 i) (hc1 : ¬cond0_1 i)
    (x0 : Vec F S512x2560 .fp8e4m3) (x1 : Vec F S8x1024 .f32) (x2 : Vec F S512x1024 .bf16) (x3 : Vec F S1x1024 .f32) (x4 : Vec F S1x2560 .f32) :
    sout0_A_0 c i a2 h2 a3 h3 a4 h4 a5 h5 a6 h6 a7 h7 a8 h8 a9 h9 a10 h10 hc0 hc1 x0 x1 x2 x3 x4 = step i x0 x1 x2 x3 k0_pay7 := by
  unfold sout0_A_0
  rw [View.read_writes_eq_canon _ _ _ (scover0_A_0 c i a2 h2 a3 h3 a4 h4 a5 h5 a6 h6 a7 h7 a8 h8 a9 h9 a10 h10 hc0 hc1 x0 x1 x2 x3 x4)]
  unfold kernelRun0_A
  dsimp only
  sl_unfold_words
  rw [View.canon_cons_unit_zero (S := S2560x1024) hz]
  simp only [View.readAt_eq_ld, h2.read_unread, h3.read_unread, h4.read_unread, h5.read_unread, h6.read_unread, View.readCov_unit_zero (S := S2560x1024) _ hz,
    View.ld_unit_zero (S := S512x2560) hz, View.ld_unit_zero (S := S512x1024) hz, View.ld_unit_zero (S := S2560x1024) hz, View.ld_unit_zero (S := S1x1024) hz, View.ld_unit_zero (S := S1x2560) hz]
  rfl

/-- At the last point of a sweep the block written back is the final accumulator, scaled and rounded to bf16. -/
theorem out5_C (c : Dev nD) (i : grid0.Coords) (a2 : Memref sig .tc .vmem S512x2560 .fp8e4m3) (h2 : a2.IsWhole)
    (a3 : Memref sig .tc .vmem S8x1024 .f32) (h3 : a3.IsWhole) (a4 : Memref sig .tc .vmem S512x1024 .bf16) (h4 : a4.IsWhole)
    (a5 : Memref sig .tc .vmem S1x1024 .f32) (h5 : a5.IsWhole) (a6 : Memref sig .tc .vmem S1x2560 .f32) (h6 : a6.IsWhole)
    (a7 : Memref sig .tc .vmem S2560x1024 .bf16) (h7 : a7.IsWhole) (a8 : Memref sig .tc .vmem S512x1024 .fp8e5m2) (h8 : a8.IsWhole)
    (a9 : Memref sig .tc .vmem S1x1024 .f32) (h9 : a9.IsWhole) (a10 : Memref sig .tc .vmem S2560x1024 .f32) (h10 : a10.IsWhole)
    (hc0 : ¬cond0_0 i) (hc1 : cond0_1 i)
    (x0 : Vec F S512x2560 .fp8e4m3) (x1 : Vec F S8x1024 .f32) (x2 : Vec F S512x1024 .bf16) (x3 : Vec F S1x1024 .f32) (x4 : Vec F S1x2560 .f32)
    (xo7 : Vec F S1x1024 .f32) (xs0 : Vec F S2560x1024 .f32) :
    out0_C_5 c i a2 h2 a3 h3 a4 h4 a5 h5 a6 h6 a7 h7 a8 h8 a9 h9 a10 h10 hc0 hc1 x0 x1 x2 x3 x4 xo7 xs0 = k0_pay11 (scl x3) x4 (step i x0 x1 x2 x3 xs0) := by
  unfold out0_C_5
  rw [View.read_writes_eq_canon _ _ _ (cover0_C_5 c i a2 h2 a3 h3 a4 h4 a5 h5 a6 h6 a7 h7 a8 h8 a9 h9 a10 h10 hc0 hc1 x0 x1 x2 x3 x4 xo7 xs0)]
  unfold kernelRun0_C
  dsimp only
  sl_unfold_words
  rw [View.canon_unit_zero (S := S2560x1024) hz]
  simp only [View.readAt_eq_ld, h2.read_unread, h3.read_unread, h4.read_unread, h5.read_unread, h6.read_unread, h10.read_unread, View.readCov_unit_zero (S := S2560x1024) _ hz,
    View.ld_unit_zero (S := S512x2560) hz, View.ld_unit_zero (S := S512x1024) hz, View.ld_unit_zero (S := S2560x1024) hz, View.ld_unit_zero (S := S1x1024) hz, View.ld_unit_zero (S := S1x2560) hz]
  rfl

/-- The block of codes written at a point of case A. -/
theorem out6_A (c : Dev nD) (i : grid0.Coords) (a2 : Memref sig .tc .vmem S512x2560 .fp8e4m3) (h2 : a2.IsWhole)
    (a3 : Memref sig .tc .vmem S8x1024 .f32) (h3 : a3.IsWhole) (a4 : Memref sig .tc .vmem S512x1024 .bf16) (h4 : a4.IsWhole)
    (a5 : Memref sig .tc .vmem S1x1024 .f32) (h5 : a5.IsWhole) (a6 : Memref sig .tc .vmem S1x2560 .f32) (h6 : a6.IsWhole)
    (a7 : Memref sig .tc .vmem S2560x1024 .bf16) (h7 : a7.IsWhole) (a8 : Memref sig .tc .vmem S512x1024 .fp8e5m2) (h8 : a8.IsWhole)
    (a9 : Memref sig .tc .vmem S1x1024 .f32) (h9 : a9.IsWhole) (a10 : Memref sig .tc .vmem S2560x1024 .f32) (h10 : a10.IsWhole)
    (hc0 : cond0_0 i) (hc1 : ¬cond0_1 i)
    (x0 : Vec F S512x2560 .fp8e4m3) (x1 : Vec F S8x1024 .f32) (x2 : Vec F S512x1024 .bf16) (x3 : Vec F S1x1024 .f32) (x4 : Vec F S1x2560 .f32) :
    out0_A_6 c i a2 h2 a3 h3 a4 h4 a5 h5 a6 h6 a7 h7 a8 h8 a9 h9 a10 h10 hc0 hc1 x0 x1 x2 x3 x4 = k0_pay9 (isc x3) x2 := by
  unfold out0_A_6
  rw [View.read_writes_eq_canon _ _ _ (cover0_A_6 c i a2 h2 a3 h3 a4 h4 a5 h5 a6 h6 a7 h7 a8 h8 a9 h9 a10 h10 hc0 hc1 x0 x1 x2 x3 x4)]
  unfold kernelRun0_A
  dsimp only
  sl_unfold_words
  rw [View.canon_unit_zero (S := S512x1024) hz]
  simp only [View.readAt_eq_ld, h2.read_unread, h3.read_unread, h4.read_unread, h5.read_unread, h6.read_unread, View.readCov_unit_zero (S := S2560x1024) _ hz,
    View.ld_unit_zero (S := S512x2560) hz, View.ld_unit_zero (S := S512x1024) hz, View.ld_unit_zero (S := S2560x1024) hz, View.ld_unit_zero (S := S1x1024) hz, View.ld_unit_zero (S := S1x2560) hz]

/-- The block of codes written at a point of case B. -/
theorem out6_B (c : Dev nD) (i : grid0.Coords) (a2 : Memref sig .tc .vmem S512x2560 .fp8e4m3) (h2 : a2.IsWhole)
    (a3 : Memref sig .tc .vmem S8x1024 .f32) (h3 : a3.IsWhole) (a4 : Memref sig .tc .vmem S512x1024 .bf16) (h4 : a4.IsWhole)
    (a5 : Memref sig .tc .vmem S1x1024 .f32) (h5 : a5.IsWhole) (a6 : Memref sig .tc .vmem S1x2560 .f32) (h6 : a6.IsWhole)
    (a7 : Memref sig .tc .vmem S2560x1024 .bf16) (h7 : a7.IsWhole) (a8 : Memref sig .tc .vmem S512x1024 .fp8e5m2) (h8 : a8.IsWhole)
    (a9 : Memref sig .tc .vmem S1x1024 .f32) (h9 : a9.IsWhole) (a10 : Memref sig .tc .vmem S2560x1024 .f32) (h10 : a10.IsWhole)
    (hc0 : ¬cond0_0 i) (hc1 : ¬cond0_1 i)
    (x0 : Vec F S512x2560 .fp8e4m3) (x1 : Vec F S8x1024 .f32) (x2 : Vec F S512x1024 .bf16) (x3 : Vec F S1x1024 .f32) (x4 : Vec F S1x2560 .f32)
    (xs0 : Vec F S2560x1024 .f32) :
    out0_B_6 c i a2 h2 a3 h3 a4 h4 a5 h5 a6 h6 a7 h7 a8 h8 a9 h9 a10 h10 hc0 hc1 x0 x1 x2 x3 x4 xs0 = k0_pay9 (isc x3) x2 := by
  unfold out0_B_6
  rw [View.read_writes_eq_canon _ _ _ (cover0_B_6 c i a2 h2 a3 h3 a4 h4 a5 h5 a6 h6 a7 h7 a8 h8 a9 h9 a10 h10 hc0 hc1 x0 x1 x2 x3 x4 xs0)]
  unfold kernelRun0_B
  dsimp only
  sl_unfold_words
  rw [View.canon_unit_zero (S := S512x1024) hz]
  simp only [View.readAt_eq_ld, h2.read_unread, h3.read_unread, h4.read_unread, h5.read_unread, h6.read_unread, h10.read_unread, View.readCov_unit_zero (S := S2560x1024) _ hz,
    View.ld_unit_zero (S := S512x2560) hz, View.ld_unit_zero (S := S512x1024) hz, View.ld_unit_zero (S := S2560x1024) hz, View.ld_unit_zero (S := S1x1024) hz, View.ld_unit_zero (S := S1x2560) hz]

/-- The block of codes written at a point of case C. -/
theorem out6_C (c : Dev nD) (i : grid0.Coords) (a2 : Memref sig .tc .vmem S512x2560 .fp8e4m3) (h2 : a2.IsWhole)
    (a3 : Memref sig .tc .vmem S8x1024 .f32) (h3 : a3.IsWhole) (a4 : Memref sig .tc .vmem S512x1024 .bf16) (h4 : a4.IsWhole)
    (a5 : Memref sig .tc .vmem S1x1024 .f32) (h5 : a5.IsWhole) (a6 : Memref sig .tc .vmem S1x2560 .f32) (h6 : a6.IsWhole)
    (a7 : Memref sig .tc .vmem S2560x1024 .bf16) (h7 : a7.IsWhole) (a8 : Memref sig .tc .vmem S512x1024 .fp8e5m2) (h8 : a8.IsWhole)
    (a9 : Memref sig .tc .vmem S1x1024 .f32) (h9 : a9.IsWhole) (a10 : Memref sig .tc .vmem S2560x1024 .f32) (h10 : a10.IsWhole)
    (hc0 : ¬cond0_0 i) (hc1 : cond0_1 i)
    (x0 : Vec F S512x2560 .fp8e4m3) (x1 : Vec F S8x1024 .f32) (x2 : Vec F S512x1024 .bf16) (x3 : Vec F S1x1024 .f32) (x4 : Vec F S1x2560 .f32)
    (xo7 : Vec F S1x1024 .f32) (xs0 : Vec F S2560x1024 .f32) :
    out0_C_6 c i a2 h2 a3 h3 a4 h4 a5 h5 a6 h6 a7 h7 a8 h8 a9 h9 a10 h10 hc0 hc1 x0 x1 x2 x3 x4 xo7 xs0 = k0_pay9 (isc x3) x2 := by
  unfold out0_C_6
  rw [View.read_writes_eq_canon _ _ _ (cover0_C_6 c i a2 h2 a3 h3 a4 h4 a5 h5 a6 h6 a7 h7 a8 h8 a9 h9 a10 h10 hc0 hc1 x0 x1 x2 x3 x4 xo7 xs0)]
  unfold kernelRun0_C
  dsimp only
  sl_unfold_words
  rw [View.canon_unit_zero (S := S512x1024) hz]
  simp only [View.readAt_eq_ld, h2.read_unread, h3.read_unread, h4.read_unread, h5.read_unread, h6.read_unread, h10.read_unread, View.readCov_unit_zero (S := S2560x1024) _ hz,
    View.ld_unit_zero (S := S512x2560) hz, View.ld_unit_zero (S := S512x1024) hz, View.ld_unit_zero (S := S2560x1024) hz, View.ld_unit_zero (S := S1x1024) hz, View.ld_unit_zero (S := S1x2560) hz]

/-- The column scale is written at the first point of a sweep. -/
theorem out7_A (c : Dev nD) (i : grid0.Coords) (a2 : Memref sig .tc .vmem S512x2560 .fp8e4m3) (h2 : a2.IsWhole)
    (a3 : Memref sig .tc .vmem S8x1024 .f32) (h3 : a3.IsWhole) (a4 : Memref sig .tc .vmem S512x1024 .bf16) (h4 : a4.IsWhole)
    (a5 : Memref sig .tc .vmem S1x1024 .f32) (h5 : a5.IsWhole) (a6 : Memref sig .tc .vmem S1x2560 .f32) (h6 : a6.IsWhole)
    (a7 : Memref sig .tc .vmem S2560x1024 .bf16) (h7 : a7.IsWhole) (a8 : Memref sig .tc .vmem S512x1024 .fp8e5m2) (h8 : a8.IsWhole)
    (a9 : Memref sig .tc .vmem S1x1024 .f32) (h9 : a9.IsWhole) (a10 : Memref sig .tc .vmem S2560x1024 .f32) (h10 : a10.IsWhole)
    (hc0 : cond0_0 i) (hc1 : ¬cond0_1 i)
    (x0 : Vec F S512x2560 .fp8e4m3) (x1 : Vec F S8x1024 .f32) (x2 : Vec F S512x1024 .bf16) (x3 : Vec F S1x1024 .f32) (x4 : Vec F S1x2560 .f32) :
    out0_A_7 c i a2 h2 a3 h3 a4 h4 a5 h5 a6 h6 a7 h7 a8 h8 a9 h9 a10 h10 hc0 hc1 x0 x1 x2 x3 x4 = scl x3 := by
  unfold out0_A_7
  rw [View.read_writes_eq_canon _ _ _ (cover0_A_7 c i a2 h2 a3 h3 a4 h4 a5 h5 a6 h6 a7 h7 a8 h8 a9 h9 a10 h10 hc0 hc1 x0 x1 x2 x3 x4)]
  unfold kernelRun0_A
  dsimp only
  sl_unfold_words
  rw [View.canon_unit_zero (S := S1x1024) hz]
  simp only [View.readAt_eq_ld, h2.read_unread, h3.read_unread, h4.read_unread, h5.read_unread, h6.read_unread, View.readCov_unit_zero (S := S2560x1024) _ hz,
    View.ld_unit_zero (S := S512x2560) hz, View.ld_unit_zero (S := S512x1024) hz, View.ld_unit_zero (S := S2560x1024) hz, View.ld_unit_zero (S := S1x1024) hz, View.ld_unit_zero (S := S1x2560) hz]

end Cases

/-! ## The payloads over the extended reals -/

/-- The kernel's column scale and inverse scale are those of the exponent found by bisection. -/
theorem scl_eq (x3 : Vec Ideal S1x1024 .f32) : scl x3 = Exponent.scale (s := S1x1024) x3 := rfl
theorem isc_eq (x3 : Vec Ideal S1x1024 .f32) : isc x3 = Exponent.inv (s := S1x1024) x3 := rfl

/-- The rounding of a number to a code: clipping at the largest code (the rounding itself is the identity over the extended reals). -/
def clip (x : EReal) : EReal := min (Ideal.ofBits .f32 0x47600000#32) (max (Ideal.ofBits .f32 0xC7600000#32) x)

/-- The codes at an entry: the entry times the inverse scale of its column, clipped. -/
theorem code_apply (u : FVec Ideal S1x1024 .f32) (x2 : Vec Ideal S512x1024 .bf16) (k : Fin 512) (l : Fin 1024) :
    k0_pay9 u x2 (ix2 k l) = clip (x2 (ix2 k l) * u (ix2 0 l)) := by
  unfold k0_pay9 clip
  pointwise []

/-- The column of scales laid side by side until it is as wide as the left block. -/
def tiled (x : FVec Ideal S512x128 .bf16) : FVec Ideal S512x2560 .bf16 :=
  concatenate S512x2560 1 (List.replicate 20 ⟨S512x128, x⟩) concatenates_S512x128_S512x128_S512x128_S512x128_S512x128_S512x128_S512x128_S512x128_S512x128_S512x128_S512x128_S512x128_S512x128_S512x128_S512x128_S512x128_S512x128_S512x128_S512x128_S512x128_S512x2560_d1

theorem tiled_apply (x : FVec Ideal S512x128 .bf16) (k : Fin 512) (r : Fin 2560) :
    tiled x (ix2 k r) = x (ix2 k ⟨r.val % 128, Nat.mod_lt _ (by decide)⟩) :=
  Scales.laneTile_apply 20 x concatenates_S512x128_S512x128_S512x128_S512x128_S512x128_S512x128_S512x128_S512x128_S512x128_S512x128_S512x128_S512x128_S512x128_S512x128_S512x128_S512x128_S512x128_S512x128_S512x128_S512x128_S512x2560_d1 k r

/-- The step's payload, its scale column named. -/
theorem pay_eq (u : FVec Ideal S1x1024 .f32) (v : Vec Ideal S1x512 .f32) (x0 : Vec Ideal S512x2560 .fp8e4m3) (x2 : Vec Ideal S512x1024 .bf16)
    (acc : Vec Ideal S2560x1024 .f32) :
    k0_pay10 u (k0_pay8 x0) v x2 acc
      = shapeCast S2560x1024 (addf acc (matmul dot_S512x2560_S512x1024_S2560x1024_0_0_1_1_n_n none
          (mulf (extf .bf16 (shapeCast S512x2560 x0 shapeCasts_S512x2560_S512x2560) bitsLt_fp8e4m3_bf16 : FVec Ideal S512x2560 .bf16)
            (tiled (truncf .bf16 (Scales.col v : FVec Ideal S512x128 .f32) bitsLt_bf16_f32)))
          (k0_pay9 u x2)
          (constant S2560x1024 .f32 0x00000000#32))) shapeCasts_S2560x1024_S2560x1024 :=
  rfl

/-- One step adds, at entry `(r, l)`, the 512-token sum of `x0(k, r) · (the scale of token k) · code(k, l)`. -/
theorem step_apply (i : grid0.Coords) (x0 : Vec Ideal S512x2560 .fp8e4m3) (x1 : Vec Ideal S8x1024 .f32)
    (x2 : Vec Ideal S512x1024 .bf16) (x3 : Vec Ideal S1x1024 .f32) (acc : Vec Ideal S2560x1024 .f32) (r : Fin 2560) (l : Fin 1024) :
    step i x0 x1 x2 x3 acc (ix2 r l)
      = acc (ix2 r l) + ∑ k : Fin 512, x0 (ix2 k r) * row i x1 (ix2 0 k) * clip (x2 (ix2 k l) * Exponent.inv (s := S1x1024) x3 (ix2 0 l)) := by
  unfold step
  generalize row i x1 = v
  rw [isc_eq, pay_eq]
  generalize Exponent.inv (s := S1x1024) x3 = u
  pointwise [tiled_apply, Scales.col_apply, code_apply]

/-- The row of `gamma` turned to a column and laid side by side until it is as wide as the output block. -/
def gammaTile (x : FVec Ideal S2560x128 .f32) : FVec Ideal S2560x1024 .f32 :=
  concatenate S2560x1024 1 (List.replicate 8 ⟨S2560x128, x⟩)
    concatenates_S2560x128_S2560x128_S2560x128_S2560x128_S2560x128_S2560x128_S2560x128_S2560x128_S2560x1024_d1

theorem gammaTile_apply (x : FVec Ideal S2560x128 .f32) (k : Fin 2560) (r : Fin 1024) :
    gammaTile x (ix2 k r) = x (ix2 k ⟨r.val % 128, Nat.mod_lt _ (by decide)⟩) :=
  Scales.laneTile_apply 8 x concatenates_S2560x128_S2560x128_S2560x128_S2560x128_S2560x128_S2560x128_S2560x128_S2560x128_S2560x1024_d1 k r

theorem last_eq (s : FVec Ideal S1x1024 .f32) (g : Vec Ideal S1x2560 .f32) (x : Vec Ideal S2560x1024 .f32) :
    k0_pay11 (F := Ideal) s g x = truncf .bf16 (mulf (mulf (gammaTile (transpose S2560x128 [1, 0]
      (broadcastTo S128x2560 (shapeCast S1x2560 (shapeCast S1x2560 g shapeCasts_S1x2560_S1x2560) shapeCasts_S1x2560_S1x2560)
        broadcasts_S1x2560_S128x2560) transposes_S128x2560_p1_0_S2560x128))
      (broadcastTo S2560x1024 s broadcasts_S1x1024_S2560x1024)) x) bitsLt_bf16_f32 := rfl

/-- The last point scales entry `(r, l)` of the accumulator by `gamma`'s entry `r` and the scale of column `l`. -/
theorem last_apply (s : FVec Ideal S1x1024 .f32) (g : Vec Ideal S1x2560 .f32) (x : Vec Ideal S2560x1024 .f32) (r : Fin 2560) (l : Fin 1024) :
    k0_pay11 (F := Ideal) s g x (ix2 r l) = g (ix2 0 r) * s (ix2 0 l) * x (ix2 r l) := by
  rw [last_eq]
  pointwise [gammaTile_apply]

end Cert.InKernel

end
-- ==== Proof.InSweep.lean ====
/-
  Hand-written, untrusted. The three result arrays of `dw_in` over the extended reals: the accumulator after each point of a sweep, the
  scales and codes written on the way, and the arrays after the run, as sums over token blocks of the argument arrays.
-/
module

public import proofs.«01_k».proof.Proof.InKernel
public import proofs.«01_k».proof.Proof.Sums

@[expose] public section

set_option maxRecDepth 16384

noncomputable section

namespace Cert.InKernel

open Cert.KInIdeal Cert.KInIdeal.Gen Idealize.ShloMosaic Idealize.ShloMosaic.TcCoe Idealize.SL.Sem
open Idealize.ShloMosaic.Pipeline (Dat)

/-- The block indices of the two operands at grid point `t`, and where its scale row starts. -/
theorem idx0 : ∀ t : Fin cfg0.N, win0_0.index t (0 : Fin 2) = t.val % 16 ∧ win0_0.index t (1 : Fin 2) = 0 :=
  (by decide +kernel : ∀ t : Fin grid0.N, _)

theorem idx1 : ∀ t : Fin cfg0.N, win0_1.index t (0 : Fin 2) = 0 ∧ win0_1.index t (1 : Fin 2) = 0 :=
  (by decide +kernel : ∀ t : Fin grid0.N, _)

theorem idx2 : ∀ t : Fin cfg0.N, win0_2.index t (0 : Fin 2) = t.val % 16 ∧ win0_2.index t (1 : Fin 2) = t.val / 16 :=
  (by decide +kernel : ∀ t : Fin grid0.N, _)

theorem idx3 : ∀ t : Fin cfg0.N, win0_3.index t (0 : Fin 2) = 0 ∧ win0_3.index t (1 : Fin 2) = t.val / 16 :=
  (by decide +kernel : ∀ t : Fin grid0.N, _)

theorem idx4 : ∀ t : Fin cfg0.N, win0_4.index t (0 : Fin 2) = 0 ∧ win0_4.index t (1 : Fin 2) = 0 :=
  (by decide +kernel : ∀ t : Fin grid0.N, _)

theorem off1 : ∀ t : Fin cfg0.N, k0_off1 (grid0.coords t) (0 : Fin 2) = t.val % 16 / 2 ∧
    k0_off1 (grid0.coords t) (1 : Fin 2) = t.val % 2 * 512 :=
  (by decide +kernel : ∀ t : Fin grid0.N, _)

variable (m : (ℓ : Loc nD τ sig) → Buf (Elt Ideal) ℓ) (c : Dev nD)

/-- The left operand flattened to one row per token, its scales, the gradient, and the column maxima. -/
abbrev A : Vec Ideal S8192x2560 .fp8e4m3 :=
  shapeCast S8192x2560 (m ((c : Thread nD τ).loc main_arg0)) shapeCasts_S8x1024x2560_S8192x2560
abbrev As : Vec Ideal S8x1024 .f32 := m ((c : Thread nD τ).loc main_arg1)
abbrev B : Vec Ideal S8192x10240 .bf16 := m ((c : Thread nD τ).loc main_arg2)
abbrev Cm : Vec Ideal S1x10240 .f32 := m ((c : Thread nD τ).loc main_arg3)

/-- The row of weights `gamma`. -/
abbrev Gm : Vec Ideal S1x2560 .f32 := shapeCast S1x2560 (m ((c : Thread nD τ).loc main_arg4)) shapeCasts_S2560_S1x2560

theorem V_v0 : V m c main_v0 = A m c := by
  unfold_abbrev_sides
  after_results
  rfl

theorem V_v1 : V m c main_v1 = Gm m c := by
  unfold_abbrev_sides
  after_results
  rfl

/-- The left operand's block at point `t`: 512 tokens of the point's token block, every column. -/
theorem iblk0_apply (t : Fin cfg0.N) (k : Fin 512) (r : Fin 2560) :
    (iblk m c 0 t : Vec Ideal S512x2560 .fp8e4m3) (ix2 k r)
      = A m c (ix2 ⟨t.val % 16 * 512 + k.val, by omega⟩ r) := by
  unfold iblk
  rw [View.read_apply]
  show V m c main_v0 _ = _
  rw [V_v0]
  congr 1
  funext a
  apply Fin.ext
  match a with
  | ⟨0, _⟩ => show win0_0.index t 0 * 512 + 1 * k.val = t.val % 16 * 512 + k.val; rw [(idx0 t).1]; omega
  | ⟨1, _⟩ => show win0_0.index t 1 * 2560 + 1 * r.val = r.val; rw [(idx0 t).2]; omega

/-- The right operand's block at point `t`: 512 tokens of the point's token block, 1024 columns of its column block. -/
theorem iblk2_apply (t : Fin cfg0.N) (k : Fin 512) (l : Fin 1024) :
    (iblk m c 2 t : Vec Ideal S512x1024 .bf16) (ix2 k l) = B m c (ix2 ⟨t.val % 16 * 512 + k.val, by omega⟩
      ⟨t.val / 16 * 1024 + l.val, by have := lt_of_lt_of_eq t.isLt (show cfg0.N = 160 from N_0); omega⟩) := by
  unfold iblk
  rw [View.read_apply]
  show V m c main_arg2 _ = _
  rw [V_main_arg2]
  congr 1
  funext a
  apply Fin.ext
  match a with
  | ⟨0, _⟩ => show win0_2.index t 0 * 512 + 1 * k.val = t.val % 16 * 512 + k.val; rw [(idx2 t).1]; omega
  | ⟨1, _⟩ => show win0_2.index t 1 * 1024 + 1 * l.val = t.val / 16 * 1024 + l.val; rw [(idx2 t).2]; omega

/-- The scale window's block at any point is the whole scale array. -/
theorem iblk1_eq (t : Fin cfg0.N) : (iblk m c 1 t : Vec Ideal S8x1024 .f32) = As m c := by
  funext j
  unfold iblk
  rw [View.read_apply]
  show V m c main_arg1 _ = _
  rw [V_main_arg1]
  congr 1
  funext a
  apply Fin.ext
  match a with
  | ⟨0, _⟩ => show win0_1.index t 0 * 8 + 1 * (j 0).val = (j 0).val; rw [(idx1 t).1]; omega
  | ⟨1, _⟩ => show win0_1.index t 1 * 1024 + 1 * (j 1).val = (j 1).val; rw [(idx1 t).2]; omega

/-- The block of column maxima at point `t`: 1024 columns of its column block. -/
theorem iblk3_apply (t : Fin cfg0.N) (l : Fin 1024) :
    (iblk m c 3 t : Vec Ideal S1x1024 .f32) (ix2 0 l) = Cm m c (ix2 0
      ⟨t.val / 16 * 1024 + l.val, by have := lt_of_lt_of_eq t.isLt (show cfg0.N = 160 from N_0); omega⟩) := by
  unfold iblk
  rw [View.read_apply]
  show V m c main_arg3 _ = _
  rw [V_main_arg3]
  congr 1
  funext a
  apply Fin.ext
  match a with
  | ⟨0, _⟩ => show win0_3.index t 0 * 1 + 1 * 0 = 0; rw [(idx3 t).1]
  | ⟨1, _⟩ => show win0_3.index t 1 * 1024 + 1 * l.val = t.val / 16 * 1024 + l.val; rw [(idx3 t).2]; omega

/-- The window of `gamma` holds the whole row at any point. -/
theorem iblk4_eq (t : Fin cfg0.N) : (iblk m c 4 t : Vec Ideal S1x2560 .f32) = Gm m c := by
  funext j
  unfold iblk
  rw [View.read_apply]
  show V m c main_v1 _ = _
  rw [V_v1]
  congr 1
  funext a
  apply Fin.ext
  match a with
  | ⟨0, _⟩ => show win0_4.index t 0 * 1 + 1 * (j 0).val = (j 0).val; rw [(idx4 t).1]; omega
  | ⟨1, _⟩ => show win0_4.index t 1 * 2560 + 1 * (j 1).val = (j 1).val; rw [(idx4 t).2]; omega

/-- The scale row loaded at point `t`: its entry `k` is the scale of token `512 · (t mod 16) + k`, the tokens counted row by row. -/
theorem row_apply (t : Fin cfg0.N) (x : Vec Ideal S8x1024 .f32) (k : Fin 512) :
    row (grid0.coords t) x (ix2 0 k)
      = x (ix2 ⟨(t.val % 16 * 512 + k.val) / 1024, by omega⟩ ⟨(t.val % 16 * 512 + k.val) % 1024, by omega⟩) := by
  show x _ = _
  congr 1
  funext a
  apply Fin.ext
  match a with
  | ⟨0, _⟩ =>
    show k0_off1 (grid0.coords t) 0 + 1 * 0 = (t.val % 16 * 512 + k.val) / 1024
    rw [(off1 t).1]; omega
  | ⟨1, _⟩ =>
    show k0_off1 (grid0.coords t) 1 + 1 * k.val = (t.val % 16 * 512 + k.val) % 1024
    rw [(off1 t).2]; omega

/-- The exponent's scale and inverse scale of column `l`, as the kernel computes them from the column maxima. -/
def cscale (l : Fin 10240) : EReal := Exponent.scale (s := S1x10240) (Cm m c) (ix2 0 l)
def cinv (l : Fin 10240) : EReal := Exponent.inv (s := S1x10240) (Cm m c) (ix2 0 l)

/-- The code of token `t` in column `l`. -/
def code (t : Fin 8192) (l : Fin 10240) : EReal := clip (B m c (ix2 t l) * cinv m c l)

/-- One token's contribution to entry `(r, l)` of the result. -/
def term (r : Fin 2560) (l : Fin 10240) (t : Fin 8192) : EReal :=
  A m c (ix2 t r) * As m c (ix2 ⟨t.val / 1024, by omega⟩ ⟨t.val % 1024, by omega⟩) * code m c t l

/-- A scale depends only on its own column's maximum, so the block's scales are the array's. -/
theorem scale_congr {s s' : Shape} (x : FVec Ideal s .f32) (y : FVec Ideal s' .f32) (i : s.Idx) (j : s'.Idx) (h : x i = y j) :
    Exponent.scale x i = Exponent.scale y j := by
  have he : Exponent.expo x i = Exponent.expo y j := Exponent.expo_congr x y i j h
  rw [Exponent.scale_at, Exponent.scale_at, he]

theorem inv_congr {s s' : Shape} (x : FVec Ideal s .f32) (y : FVec Ideal s' .f32) (i : s.Idx) (j : s'.Idx) (h : x i = y j) :
    Exponent.inv x i = Exponent.inv y j := by
  have he : Exponent.expo x i = Exponent.expo y j := Exponent.expo_congr x y i j h
  rw [Exponent.inv_at, Exponent.inv_at, he]

theorem scale_block (t : Fin cfg0.N) (l : Fin 1024) :
    Exponent.scale (s := S1x1024) (iblk m c 3 t : Vec Ideal S1x1024 .f32) (ix2 0 l) = cscale m c ⟨t.val / 16 * 1024 + l.val, by
      have := lt_of_lt_of_eq t.isLt (show cfg0.N = 160 from N_0); omega⟩ :=
  scale_congr _ _ _ _ (iblk3_apply m c t l)

theorem inv_block (t : Fin cfg0.N) (l : Fin 1024) :
    Exponent.inv (s := S1x1024) (iblk m c 3 t : Vec Ideal S1x1024 .f32) (ix2 0 l) = cinv m c ⟨t.val / 16 * 1024 + l.val, by
      have := lt_of_lt_of_eq t.isLt (show cfg0.N = 160 from N_0); omega⟩ :=
  inv_congr _ _ _ _ (iblk3_apply m c t l)

/-- Point `t` adds the contributions of the 512 tokens of its token block. -/
theorem step_at (t : Fin cfg0.N) (acc : Vec Ideal S2560x1024 .f32) (r : Fin 2560) (l : Fin 1024) :
    step (grid0.coords t) (iblk m c 0 t) (iblk m c 1 t) (iblk m c 2 t) (iblk m c 3 t) acc (ix2 r l)
      = acc (ix2 r l) + ∑ k : Fin 512, term m c r ⟨t.val / 16 * 1024 + l.val, by
          have := lt_of_lt_of_eq t.isLt (show cfg0.N = 160 from N_0); omega⟩ ⟨t.val % 16 * 512 + k.val, by omega⟩ := by
  refine (step_apply (grid0.coords t) _ _ _ _ acc r l).trans (congrArg (acc (ix2 r l) + ·) (Finset.sum_congr rfl fun k _ => ?_))
  rw [inv_block, iblk0_apply, iblk2_apply, iblk1_eq, row_apply, term, code]

/-- The first point of a sweep leaves its step over zero in the accumulator. -/
theorem acc_A (t : Fin cfg0.N) (h0 : t.val % 16 = 0) :
    (outsAt0 m c t.val t.isLt).2.2.2 = step (grid0.coords t) (iblk m c 0 t) (iblk m c 1 t) (iblk m c 2 t) (iblk m c 3 t) (k0_pay7 (F := Ideal)) := by
  rw [outsAt0_A m c t h0 (by omega)]
  dsimp only; rw [sout_A]

/-- A later point leaves its step over what the point before left. -/
theorem acc_B (t : Fin cfg0.N) (h0 : t.val % 16 ≠ 0) :
    (outsAt0 m c t.val t.isLt).2.2.2 = step (grid0.coords t) (iblk m c 0 t) (iblk m c 1 t) (iblk m c 2 t) (iblk m c 3 t)
      (outsAt0 m c (t.val - 1) (Nat.lt_of_le_of_lt (Nat.sub_le _ _) t.isLt)).2.2.2 := by
  by_cases h1 : t.val % 16 = 15
  · rw [outsAt0_C m c t h0 h1]
    dsimp only; rw [sout_C]
  · rw [outsAt0_B m c t h0 h1]
    dsimp only; rw [sout_B]

/-- The last point of a sweep writes its accumulator, scaled and rounded, as its output block. -/
theorem out_last (t : Fin cfg0.N) (h0 : t.val % 16 ≠ 0) (h1 : t.val % 16 = 15) :
    (outsAt0 m c t.val t.isLt).1 = k0_pay11 (scl (iblk m c 3 t)) (iblk m c 4 t) (outsAt0 m c t.val t.isLt).2.2.2 := by
  rw [acc_B m c t h0, outsAt0_C m c t h0 h1]
  dsimp only; rw [out5_C]

/-- Every point writes the codes of its block. -/
theorem codes_at (t : Fin cfg0.N) : (outsAt0 m c t.val t.isLt).2.1 = k0_pay9 (isc (iblk m c 3 t)) (iblk m c 2 t) := by
  by_cases h0 : t.val % 16 = 0
  · rw [outsAt0_A m c t h0 (by omega)]
    dsimp only; rw [out6_A]
  · by_cases h1 : t.val % 16 = 15
    · rw [outsAt0_C m c t h0 h1]
      dsimp only; rw [out6_C]
    · rw [outsAt0_B m c t h0 h1]
      dsimp only; rw [out6_B]

/-- The first point of a sweep writes the column scales. -/
theorem scale_A (t : Fin cfg0.N) (h0 : t.val % 16 = 0) : (outsAt0 m c t.val t.isLt).2.2.1 = scl (iblk m c 3 t) := by
  rw [outsAt0_A m c t h0 (by omega)]
  dsimp only; rw [out7_A]

/-- A later point leaves them as they are. -/
theorem scale_B (t : Fin cfg0.N) (h0 : t.val % 16 ≠ 0) : (outsAt0 m c t.val t.isLt).2.2.1
    = (outsAt0 m c (t.val - 1) (Nat.lt_of_le_of_lt (Nat.sub_le _ _) t.isLt)).2.2.1 := by
  by_cases h1 : t.val % 16 = 15
  · rw [outsAt0_C m c t h0 h1]
    dsimp only; unfold out0_C_7; rfl
  · rw [outsAt0_B m c t h0 h1]
    dsimp only; unfold out0_B_7; rfl

/-- So after every point of a sweep the buffer holds the scales of the sweep's columns. -/
theorem scale_sweep (q : Fin 10) (l : Fin 1024) (j : ℕ) : ∀ (hj : j < 16) (t : Fin cfg0.N) (ht : t.val = 16 * q.val + j),
    (outsAt0 m c t.val t.isLt).2.2.1 (ix2 0 l) = cscale m c ⟨q.val * 1024 + l.val, by omega⟩ := by
  induction j with
  | zero =>
    intro hj t ht
    rw [scale_A m c t (by omega), scl_eq, scale_block]
    congr 1
    apply Fin.ext
    dsimp only
    omega
  | succ j ih =>
    intro hj t ht
    rw [scale_B m c t (by omega)]
    exact ih (by omega) ⟨t.val - 1, by omega⟩ (by dsimp only; omega)

/-- Block `s`'s contribution to entry `(r, l)`: that of its 512 tokens. -/
def block (r : Fin 2560) (l : Fin 10240) (s : ℕ) : EReal :=
  ∑ k : Fin 512, if hs : s < 16 then term m c r l ⟨s * 512 + k.val, by omega⟩ else 0

theorem step_block (t : Fin cfg0.N) (q : Fin 10) (j : ℕ) (hj : j < 16) (ht : t.val = 16 * q.val + j)
    (acc : Vec Ideal S2560x1024 .f32) (r : Fin 2560) (l : Fin 1024) :
    step (grid0.coords t) (iblk m c 0 t) (iblk m c 1 t) (iblk m c 2 t) (iblk m c 3 t) acc (ix2 r l)
      = acc (ix2 r l) + block m c r ⟨q.val * 1024 + l.val, by omega⟩ j := by
  refine (step_at m c t acc r l).trans (congrArg (acc (ix2 r l) + ·) (Finset.sum_congr rfl fun k _ => ?_))
  rw [dif_pos hj]
  congr 1 <;> (apply Fin.ext; dsimp only; omega)

theorem zero_apply (j : S2560x1024.Idx) : (k0_pay7 (F := Ideal)) j = 0 := by
  idx_vars j
  unfold k0_pay7
  pointwise []

/-- The accumulator after point `16 q + j`: the contributions of the first `j + 1` token blocks. -/
theorem sweep (q : Fin 10) (r : Fin 2560) (l : Fin 1024) (j : ℕ) : ∀ (hj : j < 16) (t : Fin cfg0.N) (ht : t.val = 16 * q.val + j),
    (outsAt0 m c t.val t.isLt).2.2.2 (ix2 r l) = ∑ s ∈ Finset.range (j + 1), block m c r ⟨q.val * 1024 + l.val, by omega⟩ s := by
  induction j with
  | zero =>
    intro hj t ht
    rw [acc_A m c t (by omega), step_block m c t q 0 hj ht, zero_apply, zero_add, Finset.sum_range_one]
  | succ j ih =>
    intro hj t ht
    rw [acc_B m c t (by omega), step_block m c t q (j + 1) hj ht, Finset.sum_range_succ _ (j + 1)]
    exact congrArg (· + _) (ih (by omega) ⟨t.val - 1, by omega⟩ (by dsimp only; omega))

/-- Entry `r` of the row of `gamma`. -/
theorem gamma_apply (x : Vec Ideal S2560 .f32) (r : Fin 2560) :
    shapeCast S1x2560 x shapeCasts_S2560_S1x2560 (ix2 0 r) = x (ix1 r) := by
  pointwise []

/-- The first array after the run: entry `(r, l)` is `gamma r` times the scale of column `l` times the sum of every token's
    contribution. -/
theorem G5_apply (r : Fin 2560) (l : Fin 10240) :
    Value.G5 m c (ix2 r l) = Gm m c (ix2 0 r) * cscale m c l * ∑ t : Fin 8192, term m c r l t := by
  have hN : cfg0.N = 160 := N_0
  have hr : Value.run5Of (ix2 r l) = l.val / 1024 := by
    show 10 * (r.val / 2560 - 0) + 1 * (l.val / 1024 - 0) = _
    have : r.val / 2560 = 0 := Nat.div_eq_of_lt r.isLt
    omega
  have ht : Value.pt5Of (ix2 r l) = 16 * (l.val / 1024) + 15 := by rw [← hr]
  have hlt : Value.pt5Of (ix2 r l) < cfg0.N := by rw [ht, hN]; omega
  unfold Value.G5
  rw [dif_pos hlt, ← Value.outsAt0_sweep m c (Value.pt5Of (ix2 r l)) hlt]
  have h15 : Value.pt5Of (ix2 r l) % 16 = 15 := by omega
  rw [out_last m c ⟨Value.pt5Of (ix2 r l), hlt⟩ (by dsimp only; omega) h15]
  have hl : Value.loc5Of (ix2 r l) = ix2 r ⟨l.val % 1024, Nat.mod_lt _ (by decide)⟩ := by
    funext a
    apply Fin.ext
    match a with
    | ⟨0, _⟩ => exact Nat.mod_eq_of_lt r.isLt
    | ⟨1, _⟩ => rfl
  rw [hl, last_apply, iblk4_eq, sweep m c ⟨l.val / 1024, by omega⟩ r _ 15 (by omega) ⟨Value.pt5Of (ix2 r l), hlt⟩ ht, scl_eq, scale_block]
  have hll : (⟨l.val / 1024 * 1024 + l.val % 1024, by omega⟩ : Fin 10240) = l := Fin.ext (by dsimp only; omega)
  have hls : (⟨Value.pt5Of (ix2 r l) / 16 * 1024 + l.val % 1024, by omega⟩ : Fin 10240) = l := Fin.ext (by dsimp only; omega)
  dsimp only
  rw [hll, hls]
  exact congrArg (_ * ·) (Sums.sum_blocks 16 512 rfl (term m c r l))

/-- The second array after the run: the codes. -/
theorem G6_apply (t : Fin 8192) (l : Fin 10240) : Value.G6 m c (ix2 t l) = code m c t l := by
  have hN : cfg0.N = 160 := N_0
  have hr : Value.pt6Of (ix2 t l) = t.val / 512 + 16 * (l.val / 1024) := by
    show 1 * (t.val / 512 - 0) + 16 * (l.val / 1024 - 0) = _
    omega
  have hlt : Value.pt6Of (ix2 t l) < cfg0.N := by rw [hr, hN]; omega
  unfold Value.G6
  rw [dif_pos hlt, ← Value.outsAt0_sweep m c (Value.pt6Of (ix2 t l)) hlt, codes_at m c ⟨Value.pt6Of (ix2 t l), hlt⟩]
  have hl : Value.loc6Of (ix2 t l) = ix2 ⟨t.val % 512, Nat.mod_lt _ (by decide)⟩ ⟨l.val % 1024, Nat.mod_lt _ (by decide)⟩ := by
    funext a
    apply Fin.ext
    match a with
    | ⟨0, _⟩ => rfl
    | ⟨1, _⟩ => rfl
  rw [hl, code_apply, isc_eq, inv_block, iblk2_apply, code]
  have hlt' : (⟨Value.pt6Of (ix2 t l) % 16 * 512 + t.val % 512, by omega⟩ : Fin 8192) = t := Fin.ext (by dsimp only; omega)
  have hls : (⟨Value.pt6Of (ix2 t l) / 16 * 1024 + l.val % 1024, by omega⟩ : Fin 10240) = l := Fin.ext (by dsimp only; omega)
  dsimp only
  rw [hlt', hls]

/-- The third array after the run: the column scales. -/
theorem G7_apply (l : Fin 10240) : Value.G7 m c (ix2 0 l) = cscale m c l := by
  have hN : cfg0.N = 160 := N_0
  have hr : Value.run7Of (ix2 0 l) = l.val / 1024 := by
    show 10 * (0 / 1 - 0) + 1 * (l.val / 1024 - 0) = _
    omega
  have ht : Value.pt7Of (ix2 0 l) = 16 * (l.val / 1024) + 15 := by rw [← hr]
  have hlt : Value.pt7Of (ix2 0 l) < cfg0.N := by rw [ht, hN]; omega
  unfold Value.G7
  rw [dif_pos hlt, ← Value.outsAt0_sweep m c (Value.pt7Of (ix2 0 l)) hlt]
  have hl : Value.loc7Of (ix2 0 l) = ix2 0 ⟨l.val % 1024, Nat.mod_lt _ (by decide)⟩ := by
    funext a
    apply Fin.ext
    match a with
    | ⟨0, _⟩ => rfl
    | ⟨1, _⟩ => rfl
  rw [hl]
  refine (scale_sweep m c ⟨l.val / 1024, by omega⟩ ⟨l.val % 1024, Nat.mod_lt _ (by decide)⟩ 15 (by omega) ⟨Value.pt7Of (ix2 0 l), hlt⟩ ht).trans ?_
  congr 1
  apply Fin.ext
  dsimp only
  omega

end Cert.InKernel

end
-- ==== Proof.InReferenceRun.lean ====
/-
  Hand-written, untrusted. The arrays that the reference for `dw_in` leaves, window by window: what its one grid point writes back, the array read
  back, and the run stated over them.
-/
module

public import proofs.«01_k».proof.Proof.Gen.RInIdeal.Frame
public import Idealize.ShloMosaic.Lib.Pipeline.Value

@[expose] public section

noncomputable section

namespace Cert.RInIdeal.Value

open Cert.RInIdeal Cert.RInIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t) (iblk m c 4 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- An index that no flushing point's block covers keeps output window 5's array contents at region entry. -/
theorem entry5 (c : Dev nD) (i : S2560x10240.Idx) (h : ∀ t : Fin cfg0.N, (cfg0.win 5).flush t = true → i ∉ ((cfg0.win 5).blk t).view.set) :
    (dats m 0 c).arrAt 5 cfg0.N i = V m c (Pipeline.arrRef spec0 5) i := by
  rw [(dats m 0 c).arrAt_apply_of_forall_not_mem 5 cfg0.N i (fun t _ hf => h t hf), A_eq]

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S8192x10240.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S1x10240.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v3_0) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v3_1) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v3_2) = (dats m 0 c).arrAt 7 cfg0.N :=
  (h c).1 7

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 5 cfg0.N
      ∧ r.2.mem ((c : Thread nD τ).loc main_v3_1) = (dats m 0 c).arrAt 6 cfg0.N
      ∧ r.2.mem ((c : Thread nD τ).loc main_v3_2) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post5 m r h c,
      post6 m r h c,
      post7 m r h c,
      kept_main_arg0 m r h c,
      kept_main_arg1 m r h c,
      kept_main_arg2 m r h c,
      kept_main_arg3 m r h c,
      kept_main_arg4 m r h c⟩)
    (run_main m ρ)

end Cert.RInIdeal.Value

end
-- ==== Proof.InReference.lean ====
/-
  Hand-written, untrusted. The reference for `dw_in`: its one block is the whole of each array, so its three result arrays are its payloads of
  the argument arrays: the weight gradient, the codes of the upstream gradient, and their column scales.
-/
module

public import proofs.«01_k».proof.Proof.InReferenceRun
public import proofs.«01_k».proof.Proof.Exponent
public import Idealize.ShloMosaic.Lib.StableHlo.Run
public import Idealize.ShloMosaic.Lib.Affine
public import Idealize.ShloMosaic.Lib.Pointwise

@[expose] public section

set_option maxRecDepth 16384

noncomputable section

namespace Cert.InReference

open Cert.RInIdeal Cert.RInIdeal.Gen Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

/-- The left operand flattened to one row per token, its scales to one entry per token; the gradient; the column maxima. -/
abbrev A : Vec Ideal S8192x2560 .fp8e4m3 :=
  shapeCast S8192x2560 (m ((c : Thread nD τ).loc main_arg0)) shapeCasts_S8x1024x2560_S8192x2560
abbrev As : Vec Ideal S8192x1 .f32 := shapeCast S8192x1 (m ((c : Thread nD τ).loc main_arg1)) shapeCasts_S8x1024_S8192x1
abbrev B : Vec Ideal S8192x10240 .bf16 := m ((c : Thread nD τ).loc main_arg2)
abbrev Cm : Vec Ideal S1x10240 .f32 := m ((c : Thread nD τ).loc main_arg3)

/-- The column of weights `gamma`. -/
abbrev Gm : Vec Ideal S2560x1 .f32 := shapeCast S2560x1 (m ((c : Thread nD τ).loc main_arg4)) shapeCasts_S2560_S2560x1

theorem V_v0 : V m c main_v0 = A m c := by
  unfold_abbrev_sides
  after_results
  rfl

theorem V_v1 : V m c main_v1 = As m c := by
  unfold_abbrev_sides
  after_results
  rfl

theorem V_v2 : V m c main_v2 = Gm m c := by
  unfold_abbrev_sides
  after_results
  rfl

/-- The one grid point. -/
def t₀ : Fin cfg0.N := ⟨0, by decide⟩

theorem iblk0_eq : (iblk m c 0 t₀ : Vec Ideal S8192x2560 .fp8e4m3) = A m c := by
  have hz : (fun a => (win0_0.index t₀) a * main_v0.ty.shape.size a) = fun _ => 0 := funext fun a => by fin_cases a <;> decide
  unfold iblk
  exact (Memref.read_access_unit_zero (Elt Ideal) main_v0 hz (fun a => by fin_cases a <;> decide) _).trans (V_v0 m c)

theorem iblk1_eq : (iblk m c 1 t₀ : Vec Ideal S8192x1 .f32) = As m c := by
  have hz : (fun a => (win0_1.index t₀) a * main_v1.ty.shape.size a) = fun _ => 0 := funext fun a => by fin_cases a <;> decide
  unfold iblk
  exact (Memref.read_access_unit_zero (Elt Ideal) main_v1 hz (fun a => by fin_cases a <;> decide) _).trans (V_v1 m c)

theorem iblk2_eq : (iblk m c 2 t₀ : Vec Ideal S8192x10240 .bf16) = B m c := by
  have hz : (fun a => (win0_2.index t₀) a * main_arg2.ty.shape.size a) = fun _ => 0 := funext fun a => by fin_cases a <;> decide
  unfold iblk
  exact (Memref.read_access_unit_zero (Elt Ideal) main_arg2 hz (fun a => by fin_cases a <;> decide) _).trans (V_main_arg2 m c)

theorem iblk3_eq : (iblk m c 3 t₀ : Vec Ideal S1x10240 .f32) = Cm m c := by
  have hz : (fun a => (win0_3.index t₀) a * main_arg3.ty.shape.size a) = fun _ => 0 := funext fun a => by fin_cases a <;> decide
  unfold iblk
  exact (Memref.read_access_unit_zero (Elt Ideal) main_arg3 hz (fun a => by fin_cases a <;> decide) _).trans (V_main_arg3 m c)

theorem iblk4_eq : (iblk m c 4 t₀ : Vec Ideal S2560x1 .f32) = Gm m c := by
  have hz : (fun a => (win0_4.index t₀) a * main_v2.ty.shape.size a) = fun _ => 0 := funext fun a => by fin_cases a <;> decide
  unfold iblk
  exact (Memref.read_access_unit_zero (Elt Ideal) main_v2 hz (fun a => by fin_cases a <;> decide) _).trans (V_v2 m c)

theorem hz : (![0, 0] : Fin 2 → Nat) = fun _ => 0 := funext fun a => by fin_cases a <;> rfl

/-- The weight gradient's payload, from the whole arrays. -/
abbrev pay (x0 : Vec Ideal S8192x2560 .fp8e4m3) (x1 : Vec Ideal S8192x1 .f32) (x2 : Vec Ideal S8192x10240 .bf16)
    (x3 : Vec Ideal S1x10240 .f32) (x4 : Vec Ideal S2560x1 .f32) : Vec Ideal S2560x10240 .bf16 :=
  k0_pay1 (k0_pay5 x0 x1 x3 x2) (k0_pay6 x4) (k0_pay7 x3)

/-- The whole-buffer loads read the buffers and each one covering store leaves its payload. -/
theorem out5_eq (x0 : Vec Ideal S8192x2560 .fp8e4m3) (x1 : Vec Ideal S8192x1 .f32) (x2 : Vec Ideal S8192x10240 .bf16)
    (x3 : Vec Ideal S1x10240 .f32) (x4 : Vec Ideal S2560x1 .f32) : out0_5 x0 x1 x2 x3 x4 = pay x0 x1 x2 x3 x4 := by
  unfold out0_5
  rw [View.canon_unit_zero (S := S2560x10240) hz, View.ld_unit_zero (S := S8192x2560) hz, View.ld_unit_zero (S := S8192x1) hz, View.ld_unit_zero (S := S1x10240) hz, View.ld_unit_zero (S := S8192x10240) hz, View.ld_unit_zero (S := S2560x1) hz]

theorem out6_eq (x0 : Vec Ideal S8192x2560 .fp8e4m3) (x1 : Vec Ideal S8192x1 .f32) (x2 : Vec Ideal S8192x10240 .bf16)
    (x3 : Vec Ideal S1x10240 .f32) (x4 : Vec Ideal S2560x1 .f32) : out0_6 x0 x1 x2 x3 x4 = k0_pay4 x3 x2 := by
  unfold out0_6
  rw [View.canon_unit_zero (S := S8192x10240) hz, View.ld_unit_zero (S := S1x10240) hz, View.ld_unit_zero (S := S8192x10240) hz]

theorem out7_eq (x0 : Vec Ideal S8192x2560 .fp8e4m3) (x1 : Vec Ideal S8192x1 .f32) (x2 : Vec Ideal S8192x10240 .bf16)
    (x3 : Vec Ideal S1x10240 .f32) (x4 : Vec Ideal S2560x1 .f32) : out0_7 x0 x1 x2 x3 x4 = k0_pay3 x3 := by
  unfold out0_7
  rw [View.canon_unit_zero (S := S1x10240) hz, View.ld_unit_zero (S := S1x10240) hz]

/-- The weight gradient after the run. -/
theorem final5 : (dats m 0 c).arrAt 5 cfg0.N = pay (A m c) (As m c) (B m c) (Cm m c) (Gm m c) := by
  have ho := Value.blocks5 m c t₀ (by decide)
  have hz : (fun a => (win0_5.index t₀) a * main_v3_0.ty.shape.size a) = fun _ => 0 := funext fun a => by fin_cases a <;> decide
  rw [show ((cfg0.win 5).blk t₀).view.read (Elt Ideal) ((dats m 0 c).arrAt 5 cfg0.N) = (dats m 0 c).arrAt 5 cfg0.N from
    Memref.read_access_unit_zero (Elt Ideal) main_v3_0 hz (fun a => by fin_cases a <;> decide) _] at ho
  rw [ho]
  show (cfg0.win 5).cut _ ((dats m 0 c).after 5 t₀) = _
  rw [after0_5, out5_eq, iblk0_eq, iblk1_eq, iblk2_eq, iblk3_eq, iblk4_eq]
  rfl

/-- The codes after the run. -/
theorem final6 : (dats m 0 c).arrAt 6 cfg0.N = k0_pay4 (Cm m c) (B m c) := by
  have ho := Value.blocks6 m c t₀ (by decide)
  have hz : (fun a => (win0_6.index t₀) a * main_v3_1.ty.shape.size a) = fun _ => 0 := funext fun a => by fin_cases a <;> decide
  rw [show ((cfg0.win 6).blk t₀).view.read (Elt Ideal) ((dats m 0 c).arrAt 6 cfg0.N) = (dats m 0 c).arrAt 6 cfg0.N from
    Memref.read_access_unit_zero (Elt Ideal) main_v3_1 hz (fun a => by fin_cases a <;> decide) _] at ho
  rw [ho]
  show (cfg0.win 6).cut _ ((dats m 0 c).after 6 t₀) = _
  rw [after0_6, out6_eq, iblk2_eq, iblk3_eq]
  rfl

/-- The column scales after the run. -/
theorem final7 : (dats m 0 c).arrAt 7 cfg0.N = k0_pay3 (Cm m c) := by
  have ho := Value.blocks7 m c t₀ (by decide)
  have hz : (fun a => (win0_7.index t₀) a * main_v3_2.ty.shape.size a) = fun _ => 0 := funext fun a => by fin_cases a <;> decide
  rw [show ((cfg0.win 7).blk t₀).view.read (Elt Ideal) ((dats m 0 c).arrAt 7 cfg0.N) = (dats m 0 c).arrAt 7 cfg0.N from
    Memref.read_access_unit_zero (Elt Ideal) main_v3_2 hz (fun a => by fin_cases a <;> decide) _] at ho
  rw [ho]
  show (cfg0.win 7).cut _ ((dats m 0 c).after 7 t₀) = _
  rw [after0_7, out7_eq, iblk3_eq]
  rfl

/-- The scale and inverse scale are those of the logarithm. -/
theorem scale_eq (x : Vec Ideal S1x10240 .f32) : k0_pay3 x = Exponent.rscale (s := S1x10240) x := rfl

/-- The rounding of a number to a code: clipping at the largest code (the rounding itself is the identity over the extended reals). -/
def clip (x : EReal) : EReal := min (Ideal.ofBits .f32 0x47600000#32) (max (Ideal.ofBits .f32 0xC7600000#32) x)

theorem code_eq (x3 : Vec Ideal S1x10240 .f32) (x2 : Vec Ideal S8192x10240 .bf16) :
    k0_pay4 x3 x2 = truncf .fp8e5m2 (minimumf (broadcast S8192x10240 (Scalar.ofBits .f32 0x47600000#32) : FVec Ideal S8192x10240 .f32)
      (maximumf (broadcast S8192x10240 (Scalar.ofBits .f32 0xC7600000#32))
        (mulf (extf .f32 x2 bitsLt_bf16_f32) (broadcastTo S8192x10240 (Exponent.rinv (s := S1x10240) x3 : FVec Ideal S1x10240 .f32)
          broadcasts_S1x10240_S8192x10240)))) bitsLt_fp8e5m2_f32 := rfl

/-- The codes at an entry: the entry times the inverse scale of its column, clipped. -/
theorem code_apply (x3 : Vec Ideal S1x10240 .f32) (x2 : Vec Ideal S8192x10240 .bf16) (t : Fin 8192) (l : Fin 10240) :
    k0_pay4 x3 x2 (ix2 t l) = clip (x2 (ix2 t l) * Exponent.rinv (s := S1x10240) x3 (ix2 0 l)) := by
  rw [code_eq]
  generalize Exponent.rinv (s := S1x10240) x3 = u
  unfold clip
  pointwise []

/-- The payload at entry `(r, l)`: `gamma r` times the scale of column `l` times the sum over tokens of the dequantised left operand times
    the code. -/
theorem pay_apply (x0 : Vec Ideal S8192x2560 .fp8e4m3) (x1 : Vec Ideal S8192x1 .f32) (x2 : Vec Ideal S8192x10240 .bf16)
    (x3 : Vec Ideal S1x10240 .f32) (x4 : Vec Ideal S2560x1 .f32) (r : Fin 2560) (l : Fin 10240) :
    pay x0 x1 x2 x3 x4 (ix2 r l) = x4 (ix2 r 0) * k0_pay3 x3 (ix2 0 l)
      * ∑ t : Fin 8192, x0 (ix2 t r) * x1 (ix2 t 0) * k0_pay4 x3 x2 (ix2 t l) := by
  unfold pay k0_pay1 k0_pay5 k0_pay6 k0_pay7
  generalize k0_pay3 x3 = u
  generalize k0_pay4 x3 x2 = v
  pointwise []

/-- A scale flattened to one entry per token is the scale array's entry for that token's row and place. -/
theorem scale_apply (x : Vec Ideal S8x1024 .f32) (t : Fin 8192) :
    shapeCast S8192x1 x shapeCasts_S8x1024_S8192x1 (ix2 t 0)
      = x (ix2 ⟨t.val / 1024, by omega⟩ ⟨t.val % 1024, by omega⟩) := by
  pointwise []

/-- Entry `r` of the column of `gamma`. -/
theorem gamma_apply (x : Vec Ideal S2560 .f32) (r : Fin 2560) :
    shapeCast S2560x1 x shapeCasts_S2560_S2560x1 (ix2 r 0) = x (ix1 r) := by
  pointwise []

end Cert.InReference

end
-- ==== Proof.InEq.lean ====
/-
  Hand-written, untrusted. The claims about `dw_in`: on column maxima whose quotients are in range, the kernel's three arrays after the run are
  the reference's.
-/
module

public import proofs.«01_k».proof.Defs
public import proofs.«01_k».proof.Proof.Gen.Pre_normal_cmax
public import proofs.«01_k».proof.Proof.InSweep
public import proofs.«01_k».proof.Proof.InReference

@[expose] public section

set_option maxRecDepth 16384

noncomputable section

namespace Cert.InEq

open Idealize.ShloMosaic Idealize.ShloMosaic.TcCoe Idealize.SL.Sem

/-- What the precondition says of one column maximum: it is zero or its quotient is in range. -/
theorem pre_apply (x : FVec Ideal Pre_normal_cmax.S1x10240 .f32) (y0 y1 y2 y4)
    (h : Pre_normal_cmax.fn (F := Ideal) y0 y1 y2 x y4 = fun _ => 1#1) (l : Fin 10240) : Exponent.Ok (x (ix2 0 l)) := by
  have hy := congrFun h (ix2 0 l)
  have e : Pre_normal_cmax.fn (F := Ideal) y0 y1 y2 x y4 (ix2 0 l)
      = IntOp.ori (Ideal.cmp .oeq (x (ix2 0 l)) (Ideal.ofBits .f32 0x00000000#32))
          (IntOp.andi (Ideal.cmp .oge (x (ix2 0 l) * Exponent.iq) (Ideal.ofBits .f32 0x00800000#32))
            (Ideal.cmp .olt (x (ix2 0 l) * Exponent.iq) (Ideal.ofBits .f32 0x7E800000#32))) := rfl
  rw [e, Exponent.zero_bits] at hy
  exact Exponent.ok_of_bits _ hy

variable (m : (ℓ : Loc KInIdeal.nD KInIdeal.τ KInIdeal.sig) → Buf (Elt Ideal) ℓ) (c : Dev KInIdeal.nD)

/-- Every column maximum is zero or its quotient is in range. -/
def Good : Prop := ∀ l : Fin 10240, Exponent.Ok (InKernel.Cm m c (ix2 0 l))

variable {m c}

theorem good (h : Pre_KInIdeal_normal_cmax m) : Good m c := fun l => pre_apply _ _ _ _ _ (h c) l

/-- The column scales agree. -/
theorem scale_eq (h : Good m c) (l : Fin 10240) : RInIdeal.Gen.k0_pay3 (InKernel.Cm m c) (ix2 0 l) = InKernel.cscale m c l := by
  rw [InReference.scale_eq, Exponent.rscale_apply _ _ (h l)]
  exact (Exponent.scale_apply _ _ (h l)).symm

/-- The codes agree. -/
theorem code_eq (h : Good m c) (t : Fin 8192) (l : Fin 10240) :
    RInIdeal.Gen.k0_pay4 (InKernel.Cm m c) (InKernel.B m c) (ix2 t l) = InKernel.code m c t l := by
  rw [InReference.code_apply, Exponent.rinv_apply _ _ (h l)]
  unfold InKernel.code InKernel.cinv
  rw [Exponent.inv_apply _ _ (h l)]
  rfl

/-- The weight gradients agree. -/
theorem value_eq (h : Good m c) :
    InReference.pay
        (shapeCast RInIdeal.S8192x2560 (m ((c.tc : Thread KInIdeal.nD KInIdeal.τ).loc KInIdeal.main_arg0))
          RInIdeal.Gen.shapeCasts_S8x1024x2560_S8192x2560)
        (shapeCast RInIdeal.S8192x1 (m ((c.tc : Thread KInIdeal.nD KInIdeal.τ).loc KInIdeal.main_arg1))
          RInIdeal.Gen.shapeCasts_S8x1024_S8192x1)
        (InKernel.B m c) (InKernel.Cm m c)
        (shapeCast RInIdeal.S2560x1 (m ((c.tc : Thread KInIdeal.nD KInIdeal.τ).loc KInIdeal.main_arg4))
          RInIdeal.Gen.shapeCasts_S2560_S2560x1)
      = KInIdeal.Value.G5 m c := by
  funext j
  rw [eq_ix2 j]
  refine Eq.trans ?_ (InKernel.G5_apply m c (j 0) (j 1)).symm
  refine (InReference.pay_apply _ _ _ _ _ (j 0) (j 1)).trans ?_
  refine congrArg₂ (· * ·) (congrArg₂ (· * ·) ((InReference.gamma_apply _ (j 0)).trans (InKernel.gamma_apply _ (j 0)).symm) (scale_eq h (j 1)))
    (Finset.sum_congr rfl fun t _ => ?_)
  rw [InReference.scale_apply, code_eq h t (j 1)]
  rfl

theorem codes_eq (h : Good m c) : RInIdeal.Gen.k0_pay4 (InKernel.Cm m c) (InKernel.B m c) = KInIdeal.Value.G6 m c := by
  funext j
  rw [eq_ix2 j]
  exact (code_eq h (j 0) (j 1)).trans (InKernel.G6_apply m c (j 0) (j 1)).symm

theorem scales_eq (h : Good m c) : RInIdeal.Gen.k0_pay3 (InKernel.Cm m c) = KInIdeal.Value.G7 m c := by
  funext j
  have h0 : j = ix2 (0 : Fin 1) (j 1) := by
    refine (eq_ix2 j).trans ?_
    congr 1
    exact Fin.ext (by have : (j 0).val < 1 := (j 0).isLt; show (j 0).val = 0; omega)
  rw [h0]
  exact (scale_eq h (j 1)).trans (InKernel.G7_apply m c (j 1)).symm

/-- The kernel's three result arrays are the reference's, on equal arguments. -/
theorem algebraic : algebraic_KInIdeal_RInIdeal_pre_normal_cmax := by
  intro m g m' g' hpre hargs
  refine ⟨fun c => KInIdeal.Value.G5 m c, fun c => KInIdeal.Value.G6 m c, fun c => KInIdeal.Value.G7 m c, KInIdeal.Value.run m g, ?_⟩
  refine (θ_run RInIdeal.defs _ _).mono (fun r h c => ?_) (RInIdeal.Value.run_blocks m' g')
  obtain ⟨hv, hv1, hv2, h0, h1, h2, h3, h4⟩ := h c
  obtain ⟨e0, e1, e2, e3, e4⟩ := hargs c
  have hg : Good m c := good hpre
  refine ⟨(hv.trans (InReference.final5 m' c)).trans ?_, (hv1.trans (InReference.final6 m' c)).trans ?_,
    (hv2.trans (InReference.final7 m' c)).trans ?_, h0, h1, h2, h3, h4⟩
  · refine Eq.trans ?_ (value_eq hg)
    unfold InReference.A InReference.As InReference.B InReference.Cm InReference.Gm
    rw [e0, e1, e2, e3, e4]
  · refine Eq.trans ?_ (codes_eq hg)
    unfold InReference.B InReference.Cm
    rw [e2, e3]
  · refine Eq.trans ?_ (scales_eq hg)
    unfold InReference.Cm
    rw [e3]

end Cert.InEq

end
-- ==== Proof.DxFrame.Runs.lean ====
/- What the runs of the dx kernel share: the launch, the branch conditions and the idle points of each output window in closed form, and the memrefs the body is run on. -/
module

public import proofs.«01_k».proof.Proof.Gen.KDxIdeal.Launch
public import proofs.«01_k».proof.Proof.Gen.KDxIdeal.Skeleton
public import proofs.«01_k».proof.Proof.Gen.KDxIdeal.Points
public import Idealize.ShloMosaic.Lib.Pipeline.FrameBody
public import Idealize.ShloMosaic.Lib.Pipeline.TableIdle
public import Idealize.ShloMosaic.Lib.Ring
public import Idealize.ShloMosaic.Lib.Tactic
public import Idealize.ShloMosaic.Lib.WordCmp

@[expose] public section

set_option maxRecDepth 16384

noncomputable section

namespace Cert.KDxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The rows of the scales a point reads, in closed form -/

theorem k0_off1_eq : ∀ i : grid0.Coords, k0_off1 i = ![(i 0).val / 2, (i 0).val % 2 * 512] := by decide +kernel
instance closedOff_k0_off1 (i : grid0.Coords) : ClosedOff (k0_off1 i) := ⟨![(i 0).val / 2, (i 0).val % 2 * 512], k0_off1_eq i⟩
theorem k0_off2_eq : ∀ i : grid0.Coords, k0_off2 i = ![(i 0).val / 2, (i 0).val % 2 * 512] := by decide +kernel
instance closedOff_k0_off2 (i : grid0.Coords) : ClosedOff (k0_off2 i) := ⟨![(i 0).val / 2, (i 0).val % 2 * 512], k0_off2_eq i⟩

/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- The program up to the region: the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes an argument: the region finds each as launched. -/
theorem V_kept (c : Dev nD) (b : Ref sig .tc) (hb : b ∈ [main_arg0, main_arg1, main_arg2, main_arg3, main_arg4, main_arg5, main_arg6, main_arg7, main_arg8, main_arg9, main_arg10, main_arg11, main_arg12, main_arg13]) : V m c b = m ((c : Thread nD τ).loc b) := by
  simp only [List.mem_cons, List.not_mem_nil, or_false] at hb
  rcases hb with rfl | rfl | rfl | rfl | rfl | rfl | rfl | rfl | rfl | rfl | rfl | rfl | rfl | rfl <;>
  exact StableHlo.after_of_forall_not_mem (b := Proc.devRef .tc _) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's current staging buffer holds its block at every point, fetched there or not. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

set_option maxHeartbeats 1080000 in
/-- A run that ends with the staged arrays as the pipeline leaves them, and every other array as the region found it, leaves the arguments unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(Pipeline.RDat.FramePost.arr_in h c 0 rfl).trans ((hA c 0).trans (V_kept m c main_arg0 (by simp))),
      (Pipeline.RDat.FramePost.arr_in h c 1 rfl).trans ((hA c 1).trans (V_kept m c main_arg1 (by simp))),
      ((h c).2 main_arg2 (Pipeline.mem_restRefs_of main_arg2 (by decide) (by decide))).trans (V_kept m c main_arg2 (by simp)),
      (Pipeline.RDat.FramePost.arr_in h c 3 rfl).trans ((hA c 3).trans (V_kept m c main_arg3 (by simp))),
      ((h c).2 main_arg4 (Pipeline.mem_restRefs_of main_arg4 (by decide) (by decide))).trans (V_kept m c main_arg4 (by simp)),
      (Pipeline.RDat.FramePost.arr_in h c 5 rfl).trans ((hA c 5).trans (V_kept m c main_arg5 (by simp))),
      ((h c).2 main_arg6 (Pipeline.mem_restRefs_of main_arg6 (by decide) (by decide))).trans (V_kept m c main_arg6 (by simp)),
      ((h c).2 main_arg7 (Pipeline.mem_restRefs_of main_arg7 (by decide) (by decide))).trans (V_kept m c main_arg7 (by simp)),
      ((h c).2 main_arg8 (Pipeline.mem_restRefs_of main_arg8 (by decide) (by decide))).trans (V_kept m c main_arg8 (by simp)),
      (Pipeline.RDat.FramePost.arr_in h c 9 rfl).trans ((hA c 9).trans (V_kept m c main_arg9 (by simp))),
      ((h c).2 main_arg10 (Pipeline.mem_restRefs_of main_arg10 (by decide) (by decide))).trans (V_kept m c main_arg10 (by simp)),
      (Pipeline.RDat.FramePost.arr_in h c 11 rfl).trans ((hA c 11).trans (V_kept m c main_arg11 (by simp))),
      (Pipeline.RDat.FramePost.arr_in h c 12 rfl).trans ((hA c 12).trans (V_kept m c main_arg12 (by simp))),
      ((h c).2 main_arg13 (Pipeline.mem_restRefs_of main_arg13 (by decide) (by decide))).trans (V_kept m c main_arg13 (by simp))⟩) h

/-! ## The body's branch conditions -/

/-- The body's branch condition 0, -/
abbrev cond0_0 (i : grid0.Coords) : Prop := k0_cond1 i = 1#1
/-- which holds at the points ≡ 0 (mod 14). -/
theorem hcond0_0 : ∀ t : Fin cfg0.N, cond0_0 (grid0.coords t) ↔ t.val % 14 = 0 :=
  (fun t => by
    have ht : t.val < 224 := Nat.lt_of_lt_of_eq t.isLt N_0
    have e0 : (grid0.coords t 0).val = t.val / 14 % 16 := Pipeline.Grid.coords_val t 0 (by decide) rfl
    have e1 : (grid0.coords t 1).val = t.val / 1 % 14 := Pipeline.Grid.coords_val t 1 (by decide) rfl
    simp only [cond0_0, k0_cond1, e0, e1]
    word_cmp
   : ∀ t : Fin grid0.N, cond0_0 (grid0.coords t) ↔ t.val % 14 = 0)

/-- The body's branch condition 1, -/
abbrev cond0_1 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- which holds at the first point only. -/
theorem hcond0_1 : ∀ t : Fin cfg0.N, cond0_1 (grid0.coords t) ↔ t.val % 224 = 0 :=
  (fun t => by
    have ht : t.val < 224 := Nat.lt_of_lt_of_eq t.isLt N_0
    have e0 : (grid0.coords t 0).val = t.val / 14 % 16 := Pipeline.Grid.coords_val t 0 (by decide) rfl
    have e1 : (grid0.coords t 1).val = t.val / 1 % 14 := Pipeline.Grid.coords_val t 1 (by decide) rfl
    simp only [cond0_1, e0, e1]
    word_cmp
   : ∀ t : Fin grid0.N, cond0_1 (grid0.coords t) ↔ t.val % 224 = 0)

/-- The body's branch condition 2, -/
abbrev cond0_2 (i : grid0.Coords) : Prop := k0_cond3 i = 1#1
/-- which holds at the points whose coordinates have i1 ≤ 7. -/
theorem hcond0_2 : ∀ t : Fin cfg0.N, cond0_2 (grid0.coords t) ↔ t.val % 14 ≤ 7 :=
  (by decide +kernel : ∀ t : Fin grid0.N, cond0_2 (grid0.coords t) ↔ t.val % 14 ≤ 7)

/-- The body's branch condition 3, -/
abbrev cond0_3 (i : grid0.Coords) : Prop := (Scalar.cmpi .ne (Scalar.extui (Scalar.cmpi .sge (BitVec.ofNat 32 (i 1).val) 8#32)) 0#32) = 1#1
/-- which holds at the points whose coordinates have 8 ≤ i1. -/
theorem hcond0_3 : ∀ t : Fin cfg0.N, cond0_3 (grid0.coords t) ↔ 8 ≤ t.val % 14 :=
  (by decide +kernel : ∀ t : Fin grid0.N, cond0_3 (grid0.coords t) ↔ 8 ≤ t.val % 14)

/-- The body's branch condition 4, -/
abbrev cond0_4 (i : grid0.Coords) : Prop := k0_cond5 i = 1#1
/-- which holds at the points ≡ 13 (mod 14). -/
theorem hcond0_4 : ∀ t : Fin cfg0.N, cond0_4 (grid0.coords t) ↔ t.val % 14 = 13 :=
  (fun t => by
    have ht : t.val < 224 := Nat.lt_of_lt_of_eq t.isLt N_0
    have e0 : (grid0.coords t 0).val = t.val / 14 % 16 := Pipeline.Grid.coords_val t 0 (by decide) rfl
    have e1 : (grid0.coords t 1).val = t.val / 1 % 14 := Pipeline.Grid.coords_val t 1 (by decide) rfl
    simp only [cond0_4, k0_cond5, e0, e1]
    word_cmp
   : ∀ t : Fin grid0.N, cond0_4 (grid0.coords t) ↔ t.val % 14 = 13)

/-- The body's branch condition 5, -/
abbrev cond0_5 (i : grid0.Coords) : Prop := k0_cond6 i = 1#1
/-- which holds at the last point only. -/
theorem hcond0_5 : ∀ t : Fin cfg0.N, cond0_5 (grid0.coords t) ↔ t.val % 224 = 223 :=
  (fun t => by
    have ht : t.val < 224 := Nat.lt_of_lt_of_eq t.isLt N_0
    have e0 : (grid0.coords t 0).val = t.val / 14 % 16 := Pipeline.Grid.coords_val t 0 (by decide) rfl
    have e1 : (grid0.coords t 1).val = t.val / 1 % 14 := Pipeline.Grid.coords_val t 1 (by decide) rfl
    simp only [cond0_5, k0_cond6, e0, e1]
    word_cmp
   : ∀ t : Fin grid0.N, cond0_5 (grid0.coords t) ↔ t.val % 224 = 223)

/-! ## Where the windows are idle (the printed configuration's table `Cfg.idle`) -/

/-! The branch conditions of each case of the body, as one proposition. -/

abbrev conds0_A (i : grid0.Coords) : Prop := cond0_0 i ∧ cond0_1 i ∧ cond0_2 i ∧ ¬cond0_3 i ∧ ¬cond0_4 i ∧ ¬cond0_5 i
instance conds0_A.dec (i : grid0.Coords) : Decidable (conds0_A i) :=
  @instDecidableAnd _ _ inferInstance (@instDecidableAnd _ _ inferInstance (@instDecidableAnd _ _ inferInstance (@instDecidableAnd _ _ inferInstance (@instDecidableAnd _ _ inferInstance inferInstance))))
abbrev conds0_B (i : grid0.Coords) : Prop := ¬cond0_0 i ∧ ¬cond0_1 i ∧ cond0_2 i ∧ ¬cond0_3 i ∧ ¬cond0_4 i ∧ ¬cond0_5 i
instance conds0_B.dec (i : grid0.Coords) : Decidable (conds0_B i) :=
  @instDecidableAnd _ _ inferInstance (@instDecidableAnd _ _ inferInstance (@instDecidableAnd _ _ inferInstance (@instDecidableAnd _ _ inferInstance (@instDecidableAnd _ _ inferInstance inferInstance))))
abbrev conds0_C (i : grid0.Coords) : Prop := ¬cond0_0 i ∧ ¬cond0_1 i ∧ ¬cond0_2 i ∧ cond0_3 i ∧ ¬cond0_4 i ∧ ¬cond0_5 i
instance conds0_C.dec (i : grid0.Coords) : Decidable (conds0_C i) :=
  @instDecidableAnd _ _ inferInstance (@instDecidableAnd _ _ inferInstance (@instDecidableAnd _ _ inferInstance (@instDecidableAnd _ _ inferInstance (@instDecidableAnd _ _ inferInstance inferInstance))))
abbrev conds0_D (i : grid0.Coords) : Prop := ¬cond0_0 i ∧ ¬cond0_1 i ∧ ¬cond0_2 i ∧ cond0_3 i ∧ cond0_4 i ∧ ¬cond0_5 i
instance conds0_D.dec (i : grid0.Coords) : Decidable (conds0_D i) :=
  @instDecidableAnd _ _ inferInstance (@instDecidableAnd _ _ inferInstance (@instDecidableAnd _ _ inferInstance (@instDecidableAnd _ _ inferInstance (@instDecidableAnd _ _ inferInstance inferInstance))))
abbrev conds0_E (i : grid0.Coords) : Prop := cond0_0 i ∧ ¬cond0_1 i ∧ cond0_2 i ∧ ¬cond0_3 i ∧ ¬cond0_4 i ∧ ¬cond0_5 i
instance conds0_E.dec (i : grid0.Coords) : Decidable (conds0_E i) :=
  @instDecidableAnd _ _ inferInstance (@instDecidableAnd _ _ inferInstance (@instDecidableAnd _ _ inferInstance (@instDecidableAnd _ _ inferInstance (@instDecidableAnd _ _ inferInstance inferInstance))))
abbrev conds0_F (i : grid0.Coords) : Prop := ¬cond0_0 i ∧ ¬cond0_1 i ∧ ¬cond0_2 i ∧ cond0_3 i ∧ cond0_4 i ∧ cond0_5 i
instance conds0_F.dec (i : grid0.Coords) : Decidable (conds0_F i) :=
  @instDecidableAnd _ _ inferInstance (@instDecidableAnd _ _ inferInstance (@instDecidableAnd _ _ inferInstance (@instDecidableAnd _ _ inferInstance (@instDecidableAnd _ _ inferInstance inferInstance))))
theorem idleAt0_14_A : ∀ t : Fin cfg0.N, conds0_A (grid0.coords t) → cfg0.idle 14 (grid0.coords t) = true := by decide +kernel
theorem noFlush0_14_A : ∀ t : Fin cfg0.N, conds0_A (grid0.coords t) → (cfg0.win 14).flush t = false := by decide +kernel
theorem idleAt0_14_B : ∀ t : Fin cfg0.N, conds0_B (grid0.coords t) → cfg0.idle 14 (grid0.coords t) = true := by decide +kernel
theorem noFlush0_14_B : ∀ t : Fin cfg0.N, conds0_B (grid0.coords t) → (cfg0.win 14).flush t = false := by decide +kernel
theorem idleAt0_14_C : ∀ t : Fin cfg0.N, conds0_C (grid0.coords t) → cfg0.idle 14 (grid0.coords t) = true := by decide +kernel
theorem noFlush0_14_C : ∀ t : Fin cfg0.N, conds0_C (grid0.coords t) → (cfg0.win 14).flush t = false := by decide +kernel
theorem liveAt0_14_D : ∀ t : Fin cfg0.N, conds0_D (grid0.coords t) → cfg0.idle 14 (grid0.coords t) = false := by decide +kernel
theorem idleAt0_14_E : ∀ t : Fin cfg0.N, conds0_E (grid0.coords t) → cfg0.idle 14 (grid0.coords t) = true := by decide +kernel
theorem noFlush0_14_E : ∀ t : Fin cfg0.N, conds0_E (grid0.coords t) → (cfg0.win 14).flush t = false := by decide +kernel
theorem liveAt0_14_F : ∀ t : Fin cfg0.N, conds0_F (grid0.coords t) → cfg0.idle 14 (grid0.coords t) = false := by decide +kernel
/-- Whether the codes' buffer holds nothing stored since the region's entry or the last write-back, after `n + 1` points: bit `n`. -/
def freshTab0_15 : ℕ → Bool
  | 0 => true
  | n + 1 => (0x81fe07f81fe07f81fe07f81fe07f81fe07f81fe07f81fe07f81fe07f : ℕ).testBit n
theorem freshTab0_15_step : ∀ t : Fin cfg0.N,
    freshTab0_15 (t.val + 1) = ((cfg0.win 15).flush t || (cfg0.idle 15 (cfg0.grid.coords t) && freshTab0_15 t.val)) := by decide +kernel
theorem fresh0_15_eq (t : Fin cfg0.N) : cfg0.fresh 15 t.val = freshTab0_15 t.val :=
  Pipeline.Cfg.fresh_tab cfg0 15 freshTab0_15 rfl freshTab0_15_step t.val (Nat.le_of_lt t.isLt)
theorem liveAt0_15_A : ∀ t : Fin cfg0.N, conds0_A (grid0.coords t) → cfg0.idle 15 (grid0.coords t) = false := by decide +kernel
theorem liveAt0_15_B : ∀ t : Fin cfg0.N, conds0_B (grid0.coords t) → cfg0.idle 15 (grid0.coords t) = false := by decide +kernel
theorem idleAt0_15_C : ∀ t : Fin cfg0.N, conds0_C (grid0.coords t) → cfg0.idle 15 (grid0.coords t) = true := by decide +kernel
theorem noFlush0_15_C : ∀ t : Fin cfg0.N, conds0_C (grid0.coords t) → (cfg0.win 15).flush t = false := by decide +kernel
theorem idleAt0_15_D : ∀ t : Fin cfg0.N, conds0_D (grid0.coords t) → cfg0.idle 15 (grid0.coords t) = true := by decide +kernel
theorem flushAt0_15_D : ∀ t : Fin cfg0.N, conds0_D (grid0.coords t) → (cfg0.win 15).flush t = true := by decide +kernel
theorem notFresh0_15_D : ∀ t : Fin cfg0.N, conds0_D (grid0.coords t) → cfg0.fresh 15 t.val = false := by intro t; rw [fresh0_15_eq t]; revert t; decide +kernel
theorem liveAt0_15_E : ∀ t : Fin cfg0.N, conds0_E (grid0.coords t) → cfg0.idle 15 (grid0.coords t) = false := by decide +kernel
theorem idleAt0_15_F : ∀ t : Fin cfg0.N, conds0_F (grid0.coords t) → cfg0.idle 15 (grid0.coords t) = true := by decide +kernel
theorem flushAt0_15_F : ∀ t : Fin cfg0.N, conds0_F (grid0.coords t) → (cfg0.win 15).flush t = true := by decide +kernel
theorem notFresh0_15_F : ∀ t : Fin cfg0.N, conds0_F (grid0.coords t) → cfg0.fresh 15 t.val = false := by intro t; rw [fresh0_15_eq t]; revert t; decide +kernel
theorem idleAt0_17_A : ∀ t : Fin cfg0.N, conds0_A (grid0.coords t) → cfg0.idle 17 (grid0.coords t) = true := by decide +kernel
theorem noFlush0_17_A : ∀ t : Fin cfg0.N, conds0_A (grid0.coords t) → (cfg0.win 17).flush t = false := by decide +kernel
theorem idleAt0_17_B : ∀ t : Fin cfg0.N, conds0_B (grid0.coords t) → cfg0.idle 17 (grid0.coords t) = true := by decide +kernel
theorem noFlush0_17_B : ∀ t : Fin cfg0.N, conds0_B (grid0.coords t) → (cfg0.win 17).flush t = false := by decide +kernel
theorem idleAt0_17_C : ∀ t : Fin cfg0.N, conds0_C (grid0.coords t) → cfg0.idle 17 (grid0.coords t) = true := by decide +kernel
theorem noFlush0_17_C : ∀ t : Fin cfg0.N, conds0_C (grid0.coords t) → (cfg0.win 17).flush t = false := by decide +kernel
theorem idleAt0_17_D : ∀ t : Fin cfg0.N, conds0_D (grid0.coords t) → cfg0.idle 17 (grid0.coords t) = true := by decide +kernel
theorem noFlush0_17_D : ∀ t : Fin cfg0.N, conds0_D (grid0.coords t) → (cfg0.win 17).flush t = false := by decide +kernel
theorem idleAt0_17_E : ∀ t : Fin cfg0.N, conds0_E (grid0.coords t) → cfg0.idle 17 (grid0.coords t) = true := by decide +kernel
theorem noFlush0_17_E : ∀ t : Fin cfg0.N, conds0_E (grid0.coords t) → (cfg0.win 17).flush t = false := by decide +kernel
theorem liveAt0_17_F : ∀ t : Fin cfg0.N, conds0_F (grid0.coords t) → cfg0.idle 17 (grid0.coords t) = false := by decide +kernel

/-! ## The kernel body on any staging memrefs: a subtype the run finds -/

abbrev VO0_14 : View sig .tc .vmem S512x2560 .bf16 := (Memref.whole cc0_stg14_0 : Memref sig .tc .vmem S512x2560 .bf16).view
abbrev VO0_15 : View sig .tc .vmem S512x1280 .fp8e5m2 := (Memref.whole cc0_stg15_0 : Memref sig .tc .vmem S512x1280 .fp8e5m2).view
abbrev VO0_17 : View sig .tc .vmem S1x2560 .f32 := (Memref.whole cc0_stg17_0 : Memref sig .tc .vmem S1x2560 .f32).view
/-- Each window's current staging memref at point `t`, spelled as the pipeline passes it (`bodyAt0`), and its wholeness. -/
abbrev ms0_0 (t : Fin cfg0.N) : Memref sig .tc .vmem S512x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1280 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2560x1280 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1280 .fp8e5m2 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S8x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1280 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S2560x1280 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x2560 .fp8e5m2 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8x1024 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x2560 .fp8e4m3 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S8x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S8x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x2560 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S512x2560 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S512x1280 .fp8e5m2 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S8x1024 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x2560 .f32 := win0_17.stage (cfg0.slots t 17)
abbrev hs0_17 (t : Fin cfg0.N) : (ms0_17 t).IsWhole := hstage0_17 ((cfg0.slots t 17).cast nbuf0_17)
/-- The scratch operands: whole scoped buffers of the kernel's own, passed beside the windows. -/
abbrev scM0_0 : Memref sig .tc .vmem S512x2560 .f32 := Memref.whole cc0_scratch0
abbrev scM0_1 : Memref sig .tc .vmem S512x128 .bf16 := Memref.whole cc0_scratch1
abbrev scM0_2 : Memref sig .tc .vmem S512x128 .f32 := Memref.whole cc0_scratch2
abbrev scM0_3 : Memref sig .tc .vmem S512x128 .f32 := Memref.whole cc0_scratch3
abbrev scM0_4 : Memref sig .tc .vmem S8x2560 .f32 := Memref.whole cc0_scratch4
abbrev VS0_0 : View sig .tc .vmem S512x2560 .f32 := scM0_0.view
abbrev VS0_1 : View sig .tc .vmem S512x128 .bf16 := scM0_1.view
abbrev VS0_2 : View sig .tc .vmem S512x128 .f32 := scM0_2.view
abbrev VS0_3 : View sig .tc .vmem S512x128 .f32 := scM0_3.view
abbrev VS0_4 : View sig .tc .vmem S8x2560 .f32 := scM0_4.view

/-- The scratch buffers as memrefs owned at some contents. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KDxIdeal.Gen

end
-- ==== Proof.DxFrame.RunB.lean ====
/- The run of the dx kernel's body in case B of its branches: what each buffer ends with. -/
module

public import proofs.«01_k».proof.Proof.DxFrame.Runs

@[expose] public section

set_option maxRecDepth 16384

noncomputable section

namespace Cert.KDxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords)
  (arg2 : Memref sig .tc .vmem S512x1280 .bf16) (harg2 : arg2.IsWhole) (arg3 : Memref sig .tc .vmem S8x1024 .f32) (harg3 : arg3.IsWhole) (arg4 : Memref sig .tc .vmem S1x1280 .f32) (harg4 : arg4.IsWhole) (arg5 : Memref sig .tc .vmem S2560x1280 .fp8e4m3) (harg5 : arg5.IsWhole) (arg6 : Memref sig .tc .vmem S512x1280 .fp8e5m2) (harg6 : arg6.IsWhole) (arg7 : Memref sig .tc .vmem S8x1024 .f32) (harg7 : arg7.IsWhole) (arg8 : Memref sig .tc .vmem S1x1280 .f32) (harg8 : arg8.IsWhole) (arg9 : Memref sig .tc .vmem S2560x1280 .fp8e4m3) (harg9 : arg9.IsWhole) (arg10 : Memref sig .tc .vmem S512x2560 .fp8e5m2) (harg10 : arg10.IsWhole) (arg11 : Memref sig .tc .vmem S8x1024 .f32) (harg11 : arg11.IsWhole) (arg12 : Memref sig .tc .vmem S512x2560 .fp8e4m3) (harg12 : arg12.IsWhole) (arg13 : Memref sig .tc .vmem S8x1024 .f32) (harg13 : arg13.IsWhole) (arg14 : Memref sig .tc .vmem S8x1024 .f32) (harg14 : arg14.IsWhole) (arg15 : Memref sig .tc .vmem S1x2560 .f32) (harg15 : arg15.IsWhole) (arg16 : Memref sig .tc .vmem S512x2560 .bf16) (harg16 : arg16.IsWhole) (arg17 : Memref sig .tc .vmem S512x1280 .fp8e5m2) (harg17 : arg17.IsWhole) (arg18 : Memref sig .tc .vmem S8x1024 .f32) (harg18 : arg18.IsWhole) (arg19 : Memref sig .tc .vmem S1x2560 .f32) (harg19 : arg19.IsWhole) (arg20 : Memref sig .tc .vmem S512x2560 .f32) (harg20 : arg20.IsWhole) (arg21 : Memref sig .tc .vmem S512x128 .bf16) (harg21 : arg21.IsWhole) (arg22 : Memref sig .tc .vmem S512x128 .f32) (harg22 : arg22.IsWhole) (arg23 : Memref sig .tc .vmem S512x128 .f32) (harg23 : arg23.IsWhole) (arg24 : Memref sig .tc .vmem S8x2560 .f32) (harg24 : arg24.IsWhole)
  (x0 : Vec F S512x1280 .bf16) (x1 : Vec F S8x1024 .f32) (x2 : Vec F S1x1280 .f32) (x3 : Vec F S2560x1280 .fp8e4m3) (x4 : Vec F S512x1280 .fp8e5m2) (x5 : Vec F S8x1024 .f32) (x6 : Vec F S1x1280 .f32) (x7 : Vec F S2560x1280 .fp8e4m3) (x8 : Vec F S512x2560 .fp8e5m2) (x9 : Vec F S8x1024 .f32) (x10 : Vec F S512x2560 .fp8e4m3) (x11 : Vec F S8x1024 .f32) (x12 : Vec F S8x1024 .f32) (x13 : Vec F S1x2560 .f32)

set_option maxHeartbeats 1200000 in
/-- The body at the points of case B: the pieces each output and scratch buffer ends with, and that the body runs from the buffers it is given to those. -/
noncomputable def kernelRun0_B (hc0 : ¬cond0_0 i) (hc1 : ¬cond0_1 i) (hc2 : cond0_2 i) (hc3 : ¬cond0_3 i) (hc4 : ¬cond0_4 i) (hc5 : ¬cond0_5 i)
    (xs0 : Vec F S512x2560 .f32) (xs1 : Vec F S512x128 .bf16) (xs2 : Vec F S512x128 .f32) (xs3 : Vec F S512x128 .f32) (xs4 : Vec F S8x2560 .f32) :
    Σ' (L14 : List (View.Piece (Elt F) S512x2560 .bf16)), Σ' (L15 : List (View.Piece (Elt F) S512x1280 .fp8e5m2)), Σ' (L17 : List (View.Piece (Elt F) S1x2560 .f32)), Σ' (LS0 : List (View.Piece (Elt F) S512x2560 .f32)), Σ' (LS1 : List (View.Piece (Elt F) S512x128 .bf16)), Σ' (LS2 : List (View.Piece (Elt F) S512x128 .f32)), Σ' (LS3 : List (View.Piece (Elt F) S512x128 .f32)), { LS4 : List (View.Piece (Elt F) S8x2560 .f32) //
      ∀ (xi14 : Vec F S512x2560 .bf16) (xi17 : Vec F S1x2560 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ (∃ d, owns (c : Thread nD τ) arg17 fullShare d) ∗ (∃ d, owns (c : Thread nD τ) arg18 fullShare d) ∗ owns (c : Thread nD τ) arg19 fullShare xi17 ∗ owns (c : Thread nD τ) arg20 fullShare xs0 ∗ owns (c : Thread nD τ) arg21 fullShare xs1 ∗ owns (c : Thread nD τ) arg22 fullShare xs2 ∗ owns (c : Thread nD τ) arg23 fullShare xs3 ∗ owns (c : Thread nD τ) arg24 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ (∃ f, arg17.view.loc (c : Thread nD τ) ↦[arg17.view.set]{fullShare} arg17.view.writes (Elt F) f L15) ∗ (∃ d, owns (c : Thread nD τ) arg18 fullShare d) ∗ owns (c : Thread nD τ) arg19 fullShare xi17 ∗ (∃ f, arg20.view.loc (c : Thread nD τ) ↦[arg20.view.set]{fullShare} arg20.view.writes (Elt F) f LS0) ∗ owns (c : Thread nD τ) arg21 fullShare xs1 ∗ owns (c : Thread nD τ) arg22 fullShare xs2 ∗ owns (c : Thread nD τ) arg23 fullShare xs3 ∗ owns (c : Thread nD τ) arg24 fullShare xs4) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨[], ?_, [], ?_, [], [], [], [], fun xi14 xi17 E K => ?run⟩
  case run =>
    simp only [cc0_dx_eq_skeleton]; unfold cc0_dx_skel
    simp only [k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%f17, %hf17, H17⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg19.eq_unread hf17; obtain rfl := harg20.eq_unread hfs0; obtain rfl := harg21.eq_unread hfs1; obtain rfl := harg22.eq_unread hfs2; obtain rfl := harg23.eq_unread hfs3; obtain rfl := harg24.eq_unread hfs4
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [H16]
    · iexists _, _; isplitr; swap; · iexact H16
      ipureintro; rfl
    isplitl [H17]
    · iexists _; isplitr; · ipureintro; exact harg19.read_unread _
      iexact H17
    isplitl [HS0]; · iexists _; iexact HS0
    isplitl [HS1]
    · iexists _; isplitr; · ipureintro; exact harg21.read_unread _
      iexact HS1
    isplitl [HS2]
    · iexists _; isplitr; · ipureintro; exact harg22.read_unread _
      iexact HS2
    isplitl [HS3]
    · iexists _; isplitr; · ipureintro; exact harg23.read_unread _
      iexact HS3
    iexists _; isplitr; · ipureintro; exact harg24.read_unread _
    iexact HS4

end Cert.KDxIdeal.Gen

end
-- ==== Proof.DxFrame.RunC.lean ====
/- The run of the dx kernel's body in case C of its branches: what each buffer ends with. -/
module

public import proofs.«01_k».proof.Proof.DxFrame.Runs

@[expose] public section

set_option maxRecDepth 16384

noncomputable section

namespace Cert.KDxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords)
  (arg2 : Memref sig .tc .vmem S512x1280 .bf16) (harg2 : arg2.IsWhole) (arg3 : Memref sig .tc .vmem S8x1024 .f32) (harg3 : arg3.IsWhole) (arg4 : Memref sig .tc .vmem S1x1280 .f32) (harg4 : arg4.IsWhole) (arg5 : Memref sig .tc .vmem S2560x1280 .fp8e4m3) (harg5 : arg5.IsWhole) (arg6 : Memref sig .tc .vmem S512x1280 .fp8e5m2) (harg6 : arg6.IsWhole) (arg7 : Memref sig .tc .vmem S8x1024 .f32) (harg7 : arg7.IsWhole) (arg8 : Memref sig .tc .vmem S1x1280 .f32) (harg8 : arg8.IsWhole) (arg9 : Memref sig .tc .vmem S2560x1280 .fp8e4m3) (harg9 : arg9.IsWhole) (arg10 : Memref sig .tc .vmem S512x2560 .fp8e5m2) (harg10 : arg10.IsWhole) (arg11 : Memref sig .tc .vmem S8x1024 .f32) (harg11 : arg11.IsWhole) (arg12 : Memref sig .tc .vmem S512x2560 .fp8e4m3) (harg12 : arg12.IsWhole) (arg13 : Memref sig .tc .vmem S8x1024 .f32) (harg13 : arg13.IsWhole) (arg14 : Memref sig .tc .vmem S8x1024 .f32) (harg14 : arg14.IsWhole) (arg15 : Memref sig .tc .vmem S1x2560 .f32) (harg15 : arg15.IsWhole) (arg16 : Memref sig .tc .vmem S512x2560 .bf16) (harg16 : arg16.IsWhole) (arg17 : Memref sig .tc .vmem S512x1280 .fp8e5m2) (harg17 : arg17.IsWhole) (arg18 : Memref sig .tc .vmem S8x1024 .f32) (harg18 : arg18.IsWhole) (arg19 : Memref sig .tc .vmem S1x2560 .f32) (harg19 : arg19.IsWhole) (arg20 : Memref sig .tc .vmem S512x2560 .f32) (harg20 : arg20.IsWhole) (arg21 : Memref sig .tc .vmem S512x128 .bf16) (harg21 : arg21.IsWhole) (arg22 : Memref sig .tc .vmem S512x128 .f32) (harg22 : arg22.IsWhole) (arg23 : Memref sig .tc .vmem S512x128 .f32) (harg23 : arg23.IsWhole) (arg24 : Memref sig .tc .vmem S8x2560 .f32) (harg24 : arg24.IsWhole)
  (x0 : Vec F S512x1280 .bf16) (x1 : Vec F S8x1024 .f32) (x2 : Vec F S1x1280 .f32) (x3 : Vec F S2560x1280 .fp8e4m3) (x4 : Vec F S512x1280 .fp8e5m2) (x5 : Vec F S8x1024 .f32) (x6 : Vec F S1x1280 .f32) (x7 : Vec F S2560x1280 .fp8e4m3) (x8 : Vec F S512x2560 .fp8e5m2) (x9 : Vec F S8x1024 .f32) (x10 : Vec F S512x2560 .fp8e4m3) (x11 : Vec F S8x1024 .f32) (x12 : Vec F S8x1024 .f32) (x13 : Vec F S1x2560 .f32)

set_option maxHeartbeats 1200000 in
/-- The body at the points of case C: the pieces each output and scratch buffer ends with, and that the body runs from the buffers it is given to those. -/
noncomputable def kernelRun0_C (hc0 : ¬cond0_0 i) (hc1 : ¬cond0_1 i) (hc2 : ¬cond0_2 i) (hc3 : cond0_3 i) (hc4 : ¬cond0_4 i) (hc5 : ¬cond0_5 i)
    (xs0 : Vec F S512x2560 .f32) (xs1 : Vec F S512x128 .bf16) (xs2 : Vec F S512x128 .f32) (xs3 : Vec F S512x128 .f32) (xs4 : Vec F S8x2560 .f32) :
    Σ' (L14 : List (View.Piece (Elt F) S512x2560 .bf16)), Σ' (L15 : List (View.Piece (Elt F) S512x1280 .fp8e5m2)), Σ' (L17 : List (View.Piece (Elt F) S1x2560 .f32)), Σ' (LS0 : List (View.Piece (Elt F) S512x2560 .f32)), Σ' (LS1 : List (View.Piece (Elt F) S512x128 .bf16)), Σ' (LS2 : List (View.Piece (Elt F) S512x128 .f32)), Σ' (LS3 : List (View.Piece (Elt F) S512x128 .f32)), { LS4 : List (View.Piece (Elt F) S8x2560 .f32) //
      ∀ (xi14 : Vec F S512x2560 .bf16) (xi15 : Vec F S512x1280 .fp8e5m2) (xi17 : Vec F S1x2560 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare xi15 ∗ (∃ d, owns (c : Thread nD τ) arg18 fullShare d) ∗ owns (c : Thread nD τ) arg19 fullShare xi17 ∗ owns (c : Thread nD τ) arg20 fullShare xs0 ∗ owns (c : Thread nD τ) arg21 fullShare xs1 ∗ owns (c : Thread nD τ) arg22 fullShare xs2 ∗ owns (c : Thread nD τ) arg23 fullShare xs3 ∗ owns (c : Thread nD τ) arg24 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ owns (c : Thread nD τ) arg17 fullShare xi15 ∗ (∃ d, owns (c : Thread nD τ) arg18 fullShare d) ∗ owns (c : Thread nD τ) arg19 fullShare xi17 ∗ (∃ f, arg20.view.loc (c : Thread nD τ) ↦[arg20.view.set]{fullShare} arg20.view.writes (Elt F) f LS0) ∗ owns (c : Thread nD τ) arg21 fullShare xs1 ∗ owns (c : Thread nD τ) arg22 fullShare xs2 ∗ owns (c : Thread nD τ) arg23 fullShare xs3 ∗ owns (c : Thread nD τ) arg24 fullShare xs4) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨[], [], [], ?_, [], [], [], [], fun xi14 xi15 xi17 E K => ?run⟩
  case run =>
    simp only [cc0_dx_eq_skeleton]; unfold cc0_dx_skel
    simp only [k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%f17, %hf17, H17⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg19.eq_unread hf17; obtain rfl := harg20.eq_unread hfs0; obtain rfl := harg21.eq_unread hfs1; obtain rfl := harg22.eq_unread hfs2; obtain rfl := harg23.eq_unread hfs3; obtain rfl := harg24.eq_unread hfs4
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _, _; isplitr; swap; · iexact H16
      ipureintro; rfl
    isplitl [H17]
    · iexists _; isplitr; · ipureintro; exact harg19.read_unread _
      iexact H17
    isplitl [HS0]; · iexists _; iexact HS0
    isplitl [HS1]
    · iexists _; isplitr; · ipureintro; exact harg21.read_unread _
      iexact HS1
    isplitl [HS2]
    · iexists _; isplitr; · ipureintro; exact harg22.read_unread _
      iexact HS2
    isplitl [HS3]
    · iexists _; isplitr; · ipureintro; exact harg23.read_unread _
      iexact HS3
    iexists _; isplitr; · ipureintro; exact harg24.read_unread _
    iexact HS4

end Cert.KDxIdeal.Gen

end
-- ==== Proof.DxFrame.RunA.lean ====
/- The run of the dx kernel's body in case A of its branches: what each buffer ends with. -/
module

public import proofs.«01_k».proof.Proof.DxFrame.Runs

@[expose] public section

set_option maxRecDepth 16384

noncomputable section

namespace Cert.KDxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords)
  (arg2 : Memref sig .tc .vmem S512x1280 .bf16) (harg2 : arg2.IsWhole) (arg3 : Memref sig .tc .vmem S8x1024 .f32) (harg3 : arg3.IsWhole) (arg4 : Memref sig .tc .vmem S1x1280 .f32) (harg4 : arg4.IsWhole) (arg5 : Memref sig .tc .vmem S2560x1280 .fp8e4m3) (harg5 : arg5.IsWhole) (arg6 : Memref sig .tc .vmem S512x1280 .fp8e5m2) (harg6 : arg6.IsWhole) (arg7 : Memref sig .tc .vmem S8x1024 .f32) (harg7 : arg7.IsWhole) (arg8 : Memref sig .tc .vmem S1x1280 .f32) (harg8 : arg8.IsWhole) (arg9 : Memref sig .tc .vmem S2560x1280 .fp8e4m3) (harg9 : arg9.IsWhole) (arg10 : Memref sig .tc .vmem S512x2560 .fp8e5m2) (harg10 : arg10.IsWhole) (arg11 : Memref sig .tc .vmem S8x1024 .f32) (harg11 : arg11.IsWhole) (arg12 : Memref sig .tc .vmem S512x2560 .fp8e4m3) (harg12 : arg12.IsWhole) (arg13 : Memref sig .tc .vmem S8x1024 .f32) (harg13 : arg13.IsWhole) (arg14 : Memref sig .tc .vmem S8x1024 .f32) (harg14 : arg14.IsWhole) (arg15 : Memref sig .tc .vmem S1x2560 .f32) (harg15 : arg15.IsWhole) (arg16 : Memref sig .tc .vmem S512x2560 .bf16) (harg16 : arg16.IsWhole) (arg17 : Memref sig .tc .vmem S512x1280 .fp8e5m2) (harg17 : arg17.IsWhole) (arg18 : Memref sig .tc .vmem S8x1024 .f32) (harg18 : arg18.IsWhole) (arg19 : Memref sig .tc .vmem S1x2560 .f32) (harg19 : arg19.IsWhole) (arg20 : Memref sig .tc .vmem S512x2560 .f32) (harg20 : arg20.IsWhole) (arg21 : Memref sig .tc .vmem S512x128 .bf16) (harg21 : arg21.IsWhole) (arg22 : Memref sig .tc .vmem S512x128 .f32) (harg22 : arg22.IsWhole) (arg23 : Memref sig .tc .vmem S512x128 .f32) (harg23 : arg23.IsWhole) (arg24 : Memref sig .tc .vmem S8x2560 .f32) (harg24 : arg24.IsWhole)
  (x0 : Vec F S512x1280 .bf16) (x1 : Vec F S8x1024 .f32) (x2 : Vec F S1x1280 .f32) (x3 : Vec F S2560x1280 .fp8e4m3) (x4 : Vec F S512x1280 .fp8e5m2) (x5 : Vec F S8x1024 .f32) (x6 : Vec F S1x1280 .f32) (x7 : Vec F S2560x1280 .fp8e4m3) (x8 : Vec F S512x2560 .fp8e5m2) (x9 : Vec F S8x1024 .f32) (x10 : Vec F S512x2560 .fp8e4m3) (x11 : Vec F S8x1024 .f32) (x12 : Vec F S8x1024 .f32) (x13 : Vec F S1x2560 .f32)

set_option maxHeartbeats 1200000 in
/-- The body at the points of case A: the pieces each output and scratch buffer ends with, and that the body runs from the buffers it is given to those. -/
noncomputable def kernelRun0_A (hc0 : cond0_0 i) (hc1 : cond0_1 i) (hc2 : cond0_2 i) (hc3 : ¬cond0_3 i) (hc4 : ¬cond0_4 i) (hc5 : ¬cond0_5 i)
    :
    Σ' (L14 : List (View.Piece (Elt F) S512x2560 .bf16)), Σ' (L15 : List (View.Piece (Elt F) S512x1280 .fp8e5m2)), Σ' (L17 : List (View.Piece (Elt F) S1x2560 .f32)), Σ' (LS0 : List (View.Piece (Elt F) S512x2560 .f32)), Σ' (LS1 : List (View.Piece (Elt F) S512x128 .bf16)), Σ' (LS2 : List (View.Piece (Elt F) S512x128 .f32)), Σ' (LS3 : List (View.Piece (Elt F) S512x128 .f32)), { LS4 : List (View.Piece (Elt F) S8x2560 .f32) //
      ∀ (xi14 : Vec F S512x2560 .bf16) (xi17 : Vec F S1x2560 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ (∃ d, owns (c : Thread nD τ) arg17 fullShare d) ∗ (∃ d, owns (c : Thread nD τ) arg18 fullShare d) ∗ owns (c : Thread nD τ) arg19 fullShare xi17 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ (∃ f, arg17.view.loc (c : Thread nD τ) ↦[arg17.view.set]{fullShare} arg17.view.writes (Elt F) f L15) ∗ (∃ d, owns (c : Thread nD τ) arg18 fullShare d) ∗ owns (c : Thread nD τ) arg19 fullShare xi17 ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LS2) ∗ (∃ f, arg23.view.loc (c : Thread nD τ) ↦[arg23.view.set]{fullShare} arg23.view.writes (Elt F) f LS3) ∗ (∃ f, arg24.view.loc (c : Thread nD τ) ↦[arg24.view.set]{fullShare} arg24.view.writes (Elt F) f LS4)) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨[], ?_, [], ?_, ?_, ?_, ?_, ?_, fun xi14 xi17 E K => ?run⟩
  case run =>
    simp only [cc0_dx_eq_skeleton]; unfold cc0_dx_skel
    simp only [k0_part9_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%f17, %hf17, H17⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg19.eq_unread hf17
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [H16]
    · iexists _, _; isplitr; swap; · iexact H16
      ipureintro; rfl
    isplitl [H17]
    · iexists _; isplitr; · ipureintro; exact harg19.read_unread _
      iexact H17
    isplitl [HS0]; · iexists _; iexact HS0
    isplitl [HS1]; · iexists _; iexact HS1
    isplitl [HS2]; · iexists _; iexact HS2
    isplitl [HS3]; · iexists _; iexact HS3
    iexists _; iexact HS4

end Cert.KDxIdeal.Gen

end
-- ==== Proof.DxFrame.RunE.lean ====
/- The run of the dx kernel's body in case E of its branches: what each buffer ends with. -/
module

public import proofs.«01_k».proof.Proof.DxFrame.RunA

@[expose] public section

set_option maxRecDepth 16384

noncomputable section

namespace Cert.KDxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords)
  (arg2 : Memref sig .tc .vmem S512x1280 .bf16) (harg2 : arg2.IsWhole) (arg3 : Memref sig .tc .vmem S8x1024 .f32) (harg3 : arg3.IsWhole) (arg4 : Memref sig .tc .vmem S1x1280 .f32) (harg4 : arg4.IsWhole) (arg5 : Memref sig .tc .vmem S2560x1280 .fp8e4m3) (harg5 : arg5.IsWhole) (arg6 : Memref sig .tc .vmem S512x1280 .fp8e5m2) (harg6 : arg6.IsWhole) (arg7 : Memref sig .tc .vmem S8x1024 .f32) (harg7 : arg7.IsWhole) (arg8 : Memref sig .tc .vmem S1x1280 .f32) (harg8 : arg8.IsWhole) (arg9 : Memref sig .tc .vmem S2560x1280 .fp8e4m3) (harg9 : arg9.IsWhole) (arg10 : Memref sig .tc .vmem S512x2560 .fp8e5m2) (harg10 : arg10.IsWhole) (arg11 : Memref sig .tc .vmem S8x1024 .f32) (harg11 : arg11.IsWhole) (arg12 : Memref sig .tc .vmem S512x2560 .fp8e4m3) (harg12 : arg12.IsWhole) (arg13 : Memref sig .tc .vmem S8x1024 .f32) (harg13 : arg13.IsWhole) (arg14 : Memref sig .tc .vmem S8x1024 .f32) (harg14 : arg14.IsWhole) (arg15 : Memref sig .tc .vmem S1x2560 .f32) (harg15 : arg15.IsWhole) (arg16 : Memref sig .tc .vmem S512x2560 .bf16) (harg16 : arg16.IsWhole) (arg17 : Memref sig .tc .vmem S512x1280 .fp8e5m2) (harg17 : arg17.IsWhole) (arg18 : Memref sig .tc .vmem S8x1024 .f32) (harg18 : arg18.IsWhole) (arg19 : Memref sig .tc .vmem S1x2560 .f32) (harg19 : arg19.IsWhole) (arg20 : Memref sig .tc .vmem S512x2560 .f32) (harg20 : arg20.IsWhole) (arg21 : Memref sig .tc .vmem S512x128 .bf16) (harg21 : arg21.IsWhole) (arg22 : Memref sig .tc .vmem S512x128 .f32) (harg22 : arg22.IsWhole) (arg23 : Memref sig .tc .vmem S512x128 .f32) (harg23 : arg23.IsWhole) (arg24 : Memref sig .tc .vmem S8x2560 .f32) (harg24 : arg24.IsWhole)
  (x0 : Vec F S512x1280 .bf16) (x1 : Vec F S8x1024 .f32) (x2 : Vec F S1x1280 .f32) (x3 : Vec F S2560x1280 .fp8e4m3) (x4 : Vec F S512x1280 .fp8e5m2) (x5 : Vec F S8x1024 .f32) (x6 : Vec F S1x1280 .f32) (x7 : Vec F S2560x1280 .fp8e4m3) (x8 : Vec F S512x2560 .fp8e5m2) (x9 : Vec F S8x1024 .f32) (x10 : Vec F S512x2560 .fp8e4m3) (x11 : Vec F S8x1024 .f32) (x12 : Vec F S8x1024 .f32) (x13 : Vec F S1x2560 .f32)

set_option maxHeartbeats 1200000 in
/-- The body at the points of case E: the pieces each output and scratch buffer ends with, and that the body runs from the buffers it is given to those. -/
noncomputable def kernelRun0_E (hc0 : cond0_0 i) (hc1 : ¬cond0_1 i) (hc2 : cond0_2 i) (hc3 : ¬cond0_3 i) (hc4 : ¬cond0_4 i) (hc5 : ¬cond0_5 i)
    (xs4 : Vec F S8x2560 .f32) :
    Σ' (L14 : List (View.Piece (Elt F) S512x2560 .bf16)), Σ' (L15 : List (View.Piece (Elt F) S512x1280 .fp8e5m2)), Σ' (L17 : List (View.Piece (Elt F) S1x2560 .f32)), Σ' (LS0 : List (View.Piece (Elt F) S512x2560 .f32)), Σ' (LS1 : List (View.Piece (Elt F) S512x128 .bf16)), Σ' (LS2 : List (View.Piece (Elt F) S512x128 .f32)), Σ' (LS3 : List (View.Piece (Elt F) S512x128 .f32)), { LS4 : List (View.Piece (Elt F) S8x2560 .f32) //
      ∀ (xi14 : Vec F S512x2560 .bf16) (xi17 : Vec F S1x2560 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ (∃ d, owns (c : Thread nD τ) arg17 fullShare d) ∗ (∃ d, owns (c : Thread nD τ) arg18 fullShare d) ∗ owns (c : Thread nD τ) arg19 fullShare xi17 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare xi14 ∗ (∃ f, arg17.view.loc (c : Thread nD τ) ↦[arg17.view.set]{fullShare} arg17.view.writes (Elt F) f L15) ∗ (∃ d, owns (c : Thread nD τ) arg18 fullShare d) ∗ owns (c : Thread nD τ) arg19 fullShare xi17 ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LS2) ∗ (∃ f, arg23.view.loc (c : Thread nD τ) ↦[arg23.view.set]{fullShare} arg23.view.writes (Elt F) f LS3) ∗ owns (c : Thread nD τ) arg24 fullShare xs4) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨[], ?_, [], ?_, ?_, ?_, ?_, [], fun xi14 xi17 E K => ?run⟩
  case run =>
    simp only [cc0_dx_eq_skeleton]; unfold cc0_dx_skel
    simp only [k0_part9_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%f17, %hf17, H17⟩, ⟨%ds0, %fs0, -, HS0⟩, ⟨%ds1, %fs1, -, HS1⟩, ⟨%ds2, %fs2, -, HS2⟩, ⟨%ds3, %fs3, -, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg19.eq_unread hf17; obtain rfl := harg24.eq_unread hfs4
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [H16]
    · iexists _, _; isplitr; swap; · iexact H16
      ipureintro; rfl
    isplitl [H17]
    · iexists _; isplitr; · ipureintro; exact harg19.read_unread _
      iexact H17
    isplitl [HS0]; · iexists _; iexact HS0
    isplitl [HS1]; · iexists _; iexact HS1
    isplitl [HS2]; · iexists _; iexact HS2
    isplitl [HS3]; · iexists _; iexact HS3
    iexists _; isplitr; · ipureintro; exact harg24.read_unread _
    iexact HS4

end Cert.KDxIdeal.Gen

end
-- ==== Proof.DxFrame.RunD.lean ====
/- The run of the dx kernel's body in case D of its branches: what each buffer ends with. -/
module

public import proofs.«01_k».proof.Proof.DxFrame.Runs

@[expose] public section

set_option maxRecDepth 16384

noncomputable section

namespace Cert.KDxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords)
  (arg2 : Memref sig .tc .vmem S512x1280 .bf16) (harg2 : arg2.IsWhole) (arg3 : Memref sig .tc .vmem S8x1024 .f32) (harg3 : arg3.IsWhole) (arg4 : Memref sig .tc .vmem S1x1280 .f32) (harg4 : arg4.IsWhole) (arg5 : Memref sig .tc .vmem S2560x1280 .fp8e4m3) (harg5 : arg5.IsWhole) (arg6 : Memref sig .tc .vmem S512x1280 .fp8e5m2) (harg6 : arg6.IsWhole) (arg7 : Memref sig .tc .vmem S8x1024 .f32) (harg7 : arg7.IsWhole) (arg8 : Memref sig .tc .vmem S1x1280 .f32) (harg8 : arg8.IsWhole) (arg9 : Memref sig .tc .vmem S2560x1280 .fp8e4m3) (harg9 : arg9.IsWhole) (arg10 : Memref sig .tc .vmem S512x2560 .fp8e5m2) (harg10 : arg10.IsWhole) (arg11 : Memref sig .tc .vmem S8x1024 .f32) (harg11 : arg11.IsWhole) (arg12 : Memref sig .tc .vmem S512x2560 .fp8e4m3) (harg12 : arg12.IsWhole) (arg13 : Memref sig .tc .vmem S8x1024 .f32) (harg13 : arg13.IsWhole) (arg14 : Memref sig .tc .vmem S8x1024 .f32) (harg14 : arg14.IsWhole) (arg15 : Memref sig .tc .vmem S1x2560 .f32) (harg15 : arg15.IsWhole) (arg16 : Memref sig .tc .vmem S512x2560 .bf16) (harg16 : arg16.IsWhole) (arg17 : Memref sig .tc .vmem S512x1280 .fp8e5m2) (harg17 : arg17.IsWhole) (arg18 : Memref sig .tc .vmem S8x1024 .f32) (harg18 : arg18.IsWhole) (arg19 : Memref sig .tc .vmem S1x2560 .f32) (harg19 : arg19.IsWhole) (arg20 : Memref sig .tc .vmem S512x2560 .f32) (harg20 : arg20.IsWhole) (arg21 : Memref sig .tc .vmem S512x128 .bf16) (harg21 : arg21.IsWhole) (arg22 : Memref sig .tc .vmem S512x128 .f32) (harg22 : arg22.IsWhole) (arg23 : Memref sig .tc .vmem S512x128 .f32) (harg23 : arg23.IsWhole) (arg24 : Memref sig .tc .vmem S8x2560 .f32) (harg24 : arg24.IsWhole)
  (x0 : Vec F S512x1280 .bf16) (x1 : Vec F S8x1024 .f32) (x2 : Vec F S1x1280 .f32) (x3 : Vec F S2560x1280 .fp8e4m3) (x4 : Vec F S512x1280 .fp8e5m2) (x5 : Vec F S8x1024 .f32) (x6 : Vec F S1x1280 .f32) (x7 : Vec F S2560x1280 .fp8e4m3) (x8 : Vec F S512x2560 .fp8e5m2) (x9 : Vec F S8x1024 .f32) (x10 : Vec F S512x2560 .fp8e4m3) (x11 : Vec F S8x1024 .f32) (x12 : Vec F S8x1024 .f32) (x13 : Vec F S1x2560 .f32)

set_option maxHeartbeats 1200000 in
/-- The body at the points of case D: the pieces each output and scratch buffer ends with, and that the body runs from the buffers it is given to those. -/
noncomputable def kernelRun0_D (hc0 : ¬cond0_0 i) (hc1 : ¬cond0_1 i) (hc2 : ¬cond0_2 i) (hc3 : cond0_3 i) (hc4 : cond0_4 i) (hc5 : ¬cond0_5 i)
    (xo15 : Vec F S512x1280 .fp8e5m2) (xs0 : Vec F S512x2560 .f32) (xs1 : Vec F S512x128 .bf16) (xs2 : Vec F S512x128 .f32) (xs3 : Vec F S512x128 .f32) (xs4 : Vec F S8x2560 .f32) :
    Σ' (L14 : List (View.Piece (Elt F) S512x2560 .bf16)), Σ' (L15 : List (View.Piece (Elt F) S512x1280 .fp8e5m2)), Σ' (L17 : List (View.Piece (Elt F) S1x2560 .f32)), Σ' (LS0 : List (View.Piece (Elt F) S512x2560 .f32)), Σ' (LS1 : List (View.Piece (Elt F) S512x128 .bf16)), Σ' (LS2 : List (View.Piece (Elt F) S512x128 .f32)), Σ' (LS3 : List (View.Piece (Elt F) S512x128 .f32)), { LS4 : List (View.Piece (Elt F) S8x2560 .f32) //
      ∀ (xi17 : Vec F S1x2560 .f32) (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ owns (c : Thread nD τ) arg17 fullShare xo15 ∗ (∃ d, owns (c : Thread nD τ) arg18 fullShare d) ∗ owns (c : Thread nD τ) arg19 fullShare xi17 ∗ owns (c : Thread nD τ) arg20 fullShare xs0 ∗ owns (c : Thread nD τ) arg21 fullShare xs1 ∗ owns (c : Thread nD τ) arg22 fullShare xs2 ∗ owns (c : Thread nD τ) arg23 fullShare xs3 ∗ owns (c : Thread nD τ) arg24 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ owns (c : Thread nD τ) arg17 fullShare xo15 ∗ (∃ d, owns (c : Thread nD τ) arg18 fullShare d) ∗ owns (c : Thread nD τ) arg19 fullShare xi17 ∗ (∃ f, arg20.view.loc (c : Thread nD τ) ↦[arg20.view.set]{fullShare} arg20.view.writes (Elt F) f LS0) ∗ owns (c : Thread nD τ) arg21 fullShare xs1 ∗ owns (c : Thread nD τ) arg22 fullShare xs2 ∗ owns (c : Thread nD τ) arg23 fullShare xs3 ∗ (∃ f, arg24.view.loc (c : Thread nD τ) ↦[arg24.view.set]{fullShare} arg24.view.writes (Elt F) f LS4)) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, [], [], ?_, [], [], [], ?_, fun xi17 E K => ?run⟩
  case run =>
    simp only [cc0_dx_eq_skeleton]; unfold cc0_dx_skel
    simp only [k0_part9_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%d16, %f16, -, H16⟩, ⟨%f17, %hf17, H17⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg17.eq_unread hf15; obtain rfl := harg19.eq_unread hf17; obtain rfl := harg20.eq_unread hfs0; obtain rfl := harg21.eq_unread hfs1; obtain rfl := harg22.eq_unread hfs2; obtain rfl := harg23.eq_unread hfs3; obtain rfl := harg24.eq_unread hfs4
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]
    · iexists _; isplitr; · ipureintro; exact harg17.read_unread _
      iexact H15
    isplitl [H16]
    · iexists _, _; isplitr; swap; · iexact H16
      ipureintro; rfl
    isplitl [H17]
    · iexists _; isplitr; · ipureintro; exact harg19.read_unread _
      iexact H17
    isplitl [HS0]; · iexists _; iexact HS0
    isplitl [HS1]
    · iexists _; isplitr; · ipureintro; exact harg21.read_unread _
      iexact HS1
    isplitl [HS2]
    · iexists _; isplitr; · ipureintro; exact harg22.read_unread _
      iexact HS2
    isplitl [HS3]
    · iexists _; isplitr; · ipureintro; exact harg23.read_unread _
      iexact HS3
    iexists _; iexact HS4

end Cert.KDxIdeal.Gen

end
-- ==== Proof.DxFrame.RunF.lean ====
/- The run of the dx kernel's body in case F of its branches: what each buffer ends with. -/
module

public import proofs.«01_k».proof.Proof.DxFrame.RunD

@[expose] public section

set_option maxRecDepth 16384

noncomputable section

namespace Cert.KDxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (c : Dev nD) (i : grid0.Coords)
  (arg2 : Memref sig .tc .vmem S512x1280 .bf16) (harg2 : arg2.IsWhole) (arg3 : Memref sig .tc .vmem S8x1024 .f32) (harg3 : arg3.IsWhole) (arg4 : Memref sig .tc .vmem S1x1280 .f32) (harg4 : arg4.IsWhole) (arg5 : Memref sig .tc .vmem S2560x1280 .fp8e4m3) (harg5 : arg5.IsWhole) (arg6 : Memref sig .tc .vmem S512x1280 .fp8e5m2) (harg6 : arg6.IsWhole) (arg7 : Memref sig .tc .vmem S8x1024 .f32) (harg7 : arg7.IsWhole) (arg8 : Memref sig .tc .vmem S1x1280 .f32) (harg8 : arg8.IsWhole) (arg9 : Memref sig .tc .vmem S2560x1280 .fp8e4m3) (harg9 : arg9.IsWhole) (arg10 : Memref sig .tc .vmem S512x2560 .fp8e5m2) (harg10 : arg10.IsWhole) (arg11 : Memref sig .tc .vmem S8x1024 .f32) (harg11 : arg11.IsWhole) (arg12 : Memref sig .tc .vmem S512x2560 .fp8e4m3) (harg12 : arg12.IsWhole) (arg13 : Memref sig .tc .vmem S8x1024 .f32) (harg13 : arg13.IsWhole) (arg14 : Memref sig .tc .vmem S8x1024 .f32) (harg14 : arg14.IsWhole) (arg15 : Memref sig .tc .vmem S1x2560 .f32) (harg15 : arg15.IsWhole) (arg16 : Memref sig .tc .vmem S512x2560 .bf16) (harg16 : arg16.IsWhole) (arg17 : Memref sig .tc .vmem S512x1280 .fp8e5m2) (harg17 : arg17.IsWhole) (arg18 : Memref sig .tc .vmem S8x1024 .f32) (harg18 : arg18.IsWhole) (arg19 : Memref sig .tc .vmem S1x2560 .f32) (harg19 : arg19.IsWhole) (arg20 : Memref sig .tc .vmem S512x2560 .f32) (harg20 : arg20.IsWhole) (arg21 : Memref sig .tc .vmem S512x128 .bf16) (harg21 : arg21.IsWhole) (arg22 : Memref sig .tc .vmem S512x128 .f32) (harg22 : arg22.IsWhole) (arg23 : Memref sig .tc .vmem S512x128 .f32) (harg23 : arg23.IsWhole) (arg24 : Memref sig .tc .vmem S8x2560 .f32) (harg24 : arg24.IsWhole)
  (x0 : Vec F S512x1280 .bf16) (x1 : Vec F S8x1024 .f32) (x2 : Vec F S1x1280 .f32) (x3 : Vec F S2560x1280 .fp8e4m3) (x4 : Vec F S512x1280 .fp8e5m2) (x5 : Vec F S8x1024 .f32) (x6 : Vec F S1x1280 .f32) (x7 : Vec F S2560x1280 .fp8e4m3) (x8 : Vec F S512x2560 .fp8e5m2) (x9 : Vec F S8x1024 .f32) (x10 : Vec F S512x2560 .fp8e4m3) (x11 : Vec F S8x1024 .f32) (x12 : Vec F S8x1024 .f32) (x13 : Vec F S1x2560 .f32)

set_option maxHeartbeats 1200000 in
/-- The body at the points of case F: the pieces each output and scratch buffer ends with, and that the body runs from the buffers it is given to those. -/
noncomputable def kernelRun0_F (hc0 : ¬cond0_0 i) (hc1 : ¬cond0_1 i) (hc2 : ¬cond0_2 i) (hc3 : cond0_3 i) (hc4 : cond0_4 i) (hc5 : cond0_5 i)
    (xo15 : Vec F S512x1280 .fp8e5m2) (xs0 : Vec F S512x2560 .f32) (xs1 : Vec F S512x128 .bf16) (xs2 : Vec F S512x128 .f32) (xs3 : Vec F S512x128 .f32) (xs4 : Vec F S8x2560 .f32) :
    Σ' (L14 : List (View.Piece (Elt F) S512x2560 .bf16)), Σ' (L15 : List (View.Piece (Elt F) S512x1280 .fp8e5m2)), Σ' (L17 : List (View.Piece (Elt F) S1x2560 .f32)), Σ' (LS0 : List (View.Piece (Elt F) S512x2560 .f32)), Σ' (LS1 : List (View.Piece (Elt F) S512x128 .bf16)), Σ' (LS2 : List (View.Piece (Elt F) S512x128 .f32)), Σ' (LS3 : List (View.Piece (Elt F) S512x128 .f32)), { LS4 : List (View.Piece (Elt F) S8x2560 .f32) //
      ∀ (E : Set ℕ) (K : PUnit → sProp (MT nD τ sig Unit (Elt F) ℕ (UR sig nD τ) ℕ)),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ d, owns (c : Thread nD τ) arg16 fullShare d) ∗ owns (c : Thread nD τ) arg17 fullShare xo15 ∗ (∃ d, owns (c : Thread nD τ) arg18 fullShare d) ∗ (∃ d, owns (c : Thread nD τ) arg19 fullShare d) ∗ owns (c : Thread nD τ) arg20 fullShare xs0 ∗ owns (c : Thread nD τ) arg21 fullShare xs1 ∗ owns (c : Thread nD τ) arg22 fullShare xs2 ∗ owns (c : Thread nD τ) arg23 fullShare xs3 ∗ owns (c : Thread nD τ) arg24 fullShare xs4
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ (∃ f, arg16.view.loc (c : Thread nD τ) ↦[arg16.view.set]{fullShare} arg16.view.writes (Elt F) f L14) ∗ owns (c : Thread nD τ) arg17 fullShare xo15 ∗ (∃ d, owns (c : Thread nD τ) arg18 fullShare d) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f LS0) ∗ owns (c : Thread nD τ) arg21 fullShare xs1 ∗ owns (c : Thread nD τ) arg22 fullShare xs2 ∗ owns (c : Thread nD τ) arg23 fullShare xs3 ∗ (∃ f, arg24.view.loc (c : Thread nD τ) ↦[arg24.view.set]{fullShare} arg24.view.writes (Elt F) f LS4)) -∗ K ⟨⟩))
          ⊢ wp frame (wpE (defs₀ (F := F)) Variants.none c none) E (cc0_dx i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, [], ?_, ?_, [], [], [], ?_, fun E K => ?run⟩
  case run =>
    simp only [cc0_dx_eq_skeleton]; unfold cc0_dx_skel
    simp only [k0_part9_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%f15, %hf15, H15⟩, ⟨%d16, %f16, -, H16⟩, ⟨%d17, %f17, -, H17⟩, ⟨%fs0, %hfs0, HS0⟩, ⟨%fs1, %hfs1, HS1⟩, ⟨%fs2, %hfs2, HS2⟩, ⟨%fs3, %hfs3, HS3⟩, ⟨%fs4, %hfs4, HS4⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg17.eq_unread hf15; obtain rfl := harg20.eq_unread hfs0; obtain rfl := harg21.eq_unread hfs1; obtain rfl := harg22.eq_unread hfs2; obtain rfl := harg23.eq_unread hfs3; obtain rfl := harg24.eq_unread hfs4
    sl_exec (disch := first | sl_exact hc0 | sl_exact hc1 | sl_exact hc2 | sl_exact hc3 | sl_exact hc4 | sl_exact hc5)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]; · iexists _; iexact H14
    isplitl [H15]
    · iexists _; isplitr; · ipureintro; exact harg17.read_unread _
      iexact H15
    isplitl [H16]
    · iexists _, _; isplitr; swap; · iexact H16
      ipureintro; rfl
    isplitl [H17]; · iexists _; iexact H17
    isplitl [HS0]; · iexists _; iexact HS0
    isplitl [HS1]
    · iexists _; isplitr; · ipureintro; exact harg21.read_unread _
      iexact HS1
    isplitl [HS2]
    · iexists _; isplitr; · ipureintro; exact harg22.read_unread _
      iexact HS2
    isplitl [HS3]
    · iexists _; isplitr; · ipureintro; exact harg23.read_unread _
      iexact HS3
    iexists _; iexact HS4

end Cert.KDxIdeal.Gen

end
-- ==== Proof.DxFrame.Frame.lean ====
/- The frame of the dx kernel: what every output block and scratch buffer holds after each grid point, the body obligation, the run and the frame claim. -/
module

public import proofs.«01_k».proof.Proof.DxFrame.RunB
public import proofs.«01_k».proof.Proof.DxFrame.RunC
public import proofs.«01_k».proof.Proof.DxFrame.RunE
public import proofs.«01_k».proof.Proof.DxFrame.RunF
public import Idealize.ShloMosaic.Lib.Claim

@[expose] public section

set_option maxRecDepth 16384

noncomputable section

namespace Cert.KDxIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

section States

/-- What the output blocks and the scratch buffers hold: dx, its codes and dgamma, then the sum, the quantiser's inverse, the two scales and the sum for dgamma. -/
abbrev St (F : FTy → Type) : Type := Vec F S512x2560 .bf16 × Vec F S512x1280 .fp8e5m2 × Vec F S1x2560 .f32 × Vec F S512x2560 .f32 × Vec F S512x128 .bf16 × Vec F S512x128 .f32 × Vec F S512x128 .f32 × Vec F S8x2560 .f32

/-- The state before the first point, where nothing is known. -/
def st0 : St F := (VO0_14.read (Elt F) VO0_14.junk, VO0_15.read (Elt F) VO0_15.junk, VO0_17.read (Elt F) VO0_17.junk, VS0_0.read (Elt F) VS0_0.junk, VS0_1.read (Elt F) VS0_1.junk, VS0_2.read (Elt F) VS0_2.junk, VS0_3.read (Elt F) VS0_3.junk, VS0_4.read (Elt F) VS0_4.junk)

variable (c : Dev nD) (t : Fin cfg0.N)

/-! ### Case A -/

/-- The run of case A at point `t`, from the state `p` the point before left. -/
abbrev kR_A (h : conds0_A (grid0.coords t)) (p : St F) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) h.1 h.2.1 h.2.2.1 h.2.2.2.1 h.2.2.2.2.1 h.2.2.2.2.2

theorem cover_A_15 (h : conds0_A (grid0.coords t)) (p : St F) (y : S512x1280.Idx) : ∃ pc ∈ (kR_A m c t h p).2.1, y ∈ pc.1.set :=
  View.cover_of_tiledL (kR_A m c t h p).2.1 S512x1280.size (by sl_kernel_rfl) y
def out_A_15 (h : conds0_A (grid0.coords t)) (p : St F) : Vec F S512x1280 .fp8e5m2 :=
  VO0_15.read (Elt F) (VO0_15.writes (Elt F) VO0_15.junk (kR_A m c t h p).2.1)
theorem cover_A_s0 (h : conds0_A (grid0.coords t)) (p : St F) (y : S512x2560.Idx) : ∃ pc ∈ (kR_A m c t h p).2.2.2.1, y ∈ pc.1.set :=
  View.cover_of_tiledL (kR_A m c t h p).2.2.2.1 S512x2560.size (by sl_kernel_rfl) y
def out_A_s0 (h : conds0_A (grid0.coords t)) (p : St F) : Vec F S512x2560 .f32 :=
  VS0_0.read (Elt F) (VS0_0.writes (Elt F) VS0_0.junk (kR_A m c t h p).2.2.2.1)
theorem cover_A_s1 (h : conds0_A (grid0.coords t)) (p : St F) (y : S512x128.Idx) : ∃ pc ∈ (kR_A m c t h p).2.2.2.2.1, y ∈ pc.1.set :=
  View.cover_of_tiledL (kR_A m c t h p).2.2.2.2.1 S512x128.size (by sl_kernel_rfl) y
def out_A_s1 (h : conds0_A (grid0.coords t)) (p : St F) : Vec F S512x128 .bf16 :=
  VS0_1.read (Elt F) (VS0_1.writes (Elt F) VS0_1.junk (kR_A m c t h p).2.2.2.2.1)
theorem cover_A_s2 (h : conds0_A (grid0.coords t)) (p : St F) (y : S512x128.Idx) : ∃ pc ∈ (kR_A m c t h p).2.2.2.2.2.1, y ∈ pc.1.set :=
  View.cover_of_tiledL (kR_A m c t h p).2.2.2.2.2.1 S512x128.size (by sl_kernel_rfl) y
def out_A_s2 (h : conds0_A (grid0.coords t)) (p : St F) : Vec F S512x128 .f32 :=
  VS0_2.read (Elt F) (VS0_2.writes (Elt F) VS0_2.junk (kR_A m c t h p).2.2.2.2.2.1)
theorem cover_A_s3 (h : conds0_A (grid0.coords t)) (p : St F) (y : S512x128.Idx) : ∃ pc ∈ (kR_A m c t h p).2.2.2.2.2.2.1, y ∈ pc.1.set :=
  View.cover_of_tiledL (kR_A m c t h p).2.2.2.2.2.2.1 S512x128.size (by sl_kernel_rfl) y
def out_A_s3 (h : conds0_A (grid0.coords t)) (p : St F) : Vec F S512x128 .f32 :=
  VS0_3.read (Elt F) (VS0_3.writes (Elt F) VS0_3.junk (kR_A m c t h p).2.2.2.2.2.2.1)
theorem cover_A_s4 (h : conds0_A (grid0.coords t)) (p : St F) (y : S8x2560.Idx) : ∃ pc ∈ (kR_A m c t h p).2.2.2.2.2.2.2.1, y ∈ pc.1.set :=
  View.cover_of_tiledL (kR_A m c t h p).2.2.2.2.2.2.2.1 S8x2560.size (by sl_kernel_rfl) y
def out_A_s4 (h : conds0_A (grid0.coords t)) (p : St F) : Vec F S8x2560 .f32 :=
  VS0_4.read (Elt F) (VS0_4.writes (Elt F) VS0_4.junk (kR_A m c t h p).2.2.2.2.2.2.2.1)
/-- The state after a point of case A. -/
def tup_A (h : conds0_A (grid0.coords t)) (p : St F) : St F :=
  (p.1, out_A_15 m c t h p, p.2.2.1, out_A_s0 m c t h p, out_A_s1 m c t h p, out_A_s2 m c t h p, out_A_s3 m c t h p, out_A_s4 m c t h p)

/-! ### Case B -/

/-- The run of case B at point `t`, from the state `p` the point before left. -/
abbrev kR_B (h : conds0_B (grid0.coords t)) (p : St F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) h.1 h.2.1 h.2.2.1 h.2.2.2.1 h.2.2.2.2.1 h.2.2.2.2.2 p.2.2.2.1 p.2.2.2.2.1 p.2.2.2.2.2.1 p.2.2.2.2.2.2.1 p.2.2.2.2.2.2.2

theorem cover_B_15 (h : conds0_B (grid0.coords t)) (p : St F) (y : S512x1280.Idx) : ∃ pc ∈ (kR_B m c t h p).2.1, y ∈ pc.1.set :=
  View.cover_of_tiledL (kR_B m c t h p).2.1 S512x1280.size (by sl_kernel_rfl) y
def out_B_15 (h : conds0_B (grid0.coords t)) (p : St F) : Vec F S512x1280 .fp8e5m2 :=
  VO0_15.read (Elt F) (VO0_15.writes (Elt F) VO0_15.junk (kR_B m c t h p).2.1)
theorem cover_B_s0 (h : conds0_B (grid0.coords t)) (p : St F) (y : S512x2560.Idx) : ∃ pc ∈ (kR_B m c t h p).2.2.2.1, y ∈ pc.1.set :=
  View.cover_of_tiledL (kR_B m c t h p).2.2.2.1 S512x2560.size (by sl_kernel_rfl) y
def out_B_s0 (h : conds0_B (grid0.coords t)) (p : St F) : Vec F S512x2560 .f32 :=
  VS0_0.read (Elt F) (VS0_0.writes (Elt F) VS0_0.junk (kR_B m c t h p).2.2.2.1)
/-- The state after a point of case B. -/
def tup_B (h : conds0_B (grid0.coords t)) (p : St F) : St F :=
  (p.1, out_B_15 m c t h p, p.2.2.1, out_B_s0 m c t h p, p.2.2.2.2.1, p.2.2.2.2.2.1, p.2.2.2.2.2.2.1, p.2.2.2.2.2.2.2)

/-! ### Case C -/

/-- The run of case C at point `t`, from the state `p` the point before left. -/
abbrev kR_C (h : conds0_C (grid0.coords t)) (p : St F) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) h.1 h.2.1 h.2.2.1 h.2.2.2.1 h.2.2.2.2.1 h.2.2.2.2.2 p.2.2.2.1 p.2.2.2.2.1 p.2.2.2.2.2.1 p.2.2.2.2.2.2.1 p.2.2.2.2.2.2.2

theorem cover_C_s0 (h : conds0_C (grid0.coords t)) (p : St F) (y : S512x2560.Idx) : ∃ pc ∈ (kR_C m c t h p).2.2.2.1, y ∈ pc.1.set :=
  View.cover_of_tiledL (kR_C m c t h p).2.2.2.1 S512x2560.size (by sl_kernel_rfl) y
def out_C_s0 (h : conds0_C (grid0.coords t)) (p : St F) : Vec F S512x2560 .f32 :=
  VS0_0.read (Elt F) (VS0_0.writes (Elt F) VS0_0.junk (kR_C m c t h p).2.2.2.1)
/-- The state after a point of case C. -/
def tup_C (h : conds0_C (grid0.coords t)) (p : St F) : St F :=
  (p.1, p.2.1, p.2.2.1, out_C_s0 m c t h p, p.2.2.2.2.1, p.2.2.2.2.2.1, p.2.2.2.2.2.2.1, p.2.2.2.2.2.2.2)

/-! ### Case D -/

/-- The run of case D at point `t`, from the state `p` the point before left. -/
abbrev kR_D (h : conds0_D (grid0.coords t)) (p : St F) :=
  kernelRun0_D c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) h.1 h.2.1 h.2.2.1 h.2.2.2.1 h.2.2.2.2.1 h.2.2.2.2.2 p.2.1 p.2.2.2.1 p.2.2.2.2.1 p.2.2.2.2.2.1 p.2.2.2.2.2.2.1 p.2.2.2.2.2.2.2

theorem cover_D_14 (h : conds0_D (grid0.coords t)) (p : St F) (y : S512x2560.Idx) : ∃ pc ∈ (kR_D m c t h p).1, y ∈ pc.1.set :=
  View.cover_of_tiledL (kR_D m c t h p).1 S128x2560.size (by sl_kernel_rfl) y
def out_D_14 (h : conds0_D (grid0.coords t)) (p : St F) : Vec F S512x2560 .bf16 :=
  VO0_14.read (Elt F) (VO0_14.writes (Elt F) VO0_14.junk (kR_D m c t h p).1)
theorem cover_D_s0 (h : conds0_D (grid0.coords t)) (p : St F) (y : S512x2560.Idx) : ∃ pc ∈ (kR_D m c t h p).2.2.2.1, y ∈ pc.1.set :=
  View.cover_of_tiledL (kR_D m c t h p).2.2.2.1 S512x2560.size (by sl_kernel_rfl) y
def out_D_s0 (h : conds0_D (grid0.coords t)) (p : St F) : Vec F S512x2560 .f32 :=
  VS0_0.read (Elt F) (VS0_0.writes (Elt F) VS0_0.junk (kR_D m c t h p).2.2.2.1)
theorem cover_D_s4 (h : conds0_D (grid0.coords t)) (p : St F) (y : S8x2560.Idx) : ∃ pc ∈ (kR_D m c t h p).2.2.2.2.2.2.2.1, y ∈ pc.1.set :=
  View.cover_of_tiledL (kR_D m c t h p).2.2.2.2.2.2.2.1 S8x2560.size (by sl_kernel_rfl) y
def out_D_s4 (h : conds0_D (grid0.coords t)) (p : St F) : Vec F S8x2560 .f32 :=
  VS0_4.read (Elt F) (VS0_4.writes (Elt F) VS0_4.junk (kR_D m c t h p).2.2.2.2.2.2.2.1)
/-- The state after a point of case D. -/
def tup_D (h : conds0_D (grid0.coords t)) (p : St F) : St F :=
  (out_D_14 m c t h p, p.2.1, p.2.2.1, out_D_s0 m c t h p, p.2.2.2.2.1, p.2.2.2.2.2.1, p.2.2.2.2.2.2.1, out_D_s4 m c t h p)

/-! ### Case E -/

/-- The run of case E at point `t`, from the state `p` the point before left. -/
abbrev kR_E (h : conds0_E (grid0.coords t)) (p : St F) :=
  kernelRun0_E c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) h.1 h.2.1 h.2.2.1 h.2.2.2.1 h.2.2.2.2.1 h.2.2.2.2.2 p.2.2.2.2.2.2.2

theorem cover_E_15 (h : conds0_E (grid0.coords t)) (p : St F) (y : S512x1280.Idx) : ∃ pc ∈ (kR_E m c t h p).2.1, y ∈ pc.1.set :=
  View.cover_of_tiledL (kR_E m c t h p).2.1 S512x1280.size (by sl_kernel_rfl) y
def out_E_15 (h : conds0_E (grid0.coords t)) (p : St F) : Vec F S512x1280 .fp8e5m2 :=
  VO0_15.read (Elt F) (VO0_15.writes (Elt F) VO0_15.junk (kR_E m c t h p).2.1)
theorem cover_E_s0 (h : conds0_E (grid0.coords t)) (p : St F) (y : S512x2560.Idx) : ∃ pc ∈ (kR_E m c t h p).2.2.2.1, y ∈ pc.1.set :=
  View.cover_of_tiledL (kR_E m c t h p).2.2.2.1 S512x2560.size (by sl_kernel_rfl) y
def out_E_s0 (h : conds0_E (grid0.coords t)) (p : St F) : Vec F S512x2560 .f32 :=
  VS0_0.read (Elt F) (VS0_0.writes (Elt F) VS0_0.junk (kR_E m c t h p).2.2.2.1)
theorem cover_E_s1 (h : conds0_E (grid0.coords t)) (p : St F) (y : S512x128.Idx) : ∃ pc ∈ (kR_E m c t h p).2.2.2.2.1, y ∈ pc.1.set :=
  View.cover_of_tiledL (kR_E m c t h p).2.2.2.2.1 S512x128.size (by sl_kernel_rfl) y
def out_E_s1 (h : conds0_E (grid0.coords t)) (p : St F) : Vec F S512x128 .bf16 :=
  VS0_1.read (Elt F) (VS0_1.writes (Elt F) VS0_1.junk (kR_E m c t h p).2.2.2.2.1)
theorem cover_E_s2 (h : conds0_E (grid0.coords t)) (p : St F) (y : S512x128.Idx) : ∃ pc ∈ (kR_E m c t h p).2.2.2.2.2.1, y ∈ pc.1.set :=
  View.cover_of_tiledL (kR_E m c t h p).2.2.2.2.2.1 S512x128.size (by sl_kernel_rfl) y
def out_E_s2 (h : conds0_E (grid0.coords t)) (p : St F) : Vec F S512x128 .f32 :=
  VS0_2.read (Elt F) (VS0_2.writes (Elt F) VS0_2.junk (kR_E m c t h p).2.2.2.2.2.1)
theorem cover_E_s3 (h : conds0_E (grid0.coords t)) (p : St F) (y : S512x128.Idx) : ∃ pc ∈ (kR_E m c t h p).2.2.2.2.2.2.1, y ∈ pc.1.set :=
  View.cover_of_tiledL (kR_E m c t h p).2.2.2.2.2.2.1 S512x128.size (by sl_kernel_rfl) y
def out_E_s3 (h : conds0_E (grid0.coords t)) (p : St F) : Vec F S512x128 .f32 :=
  VS0_3.read (Elt F) (VS0_3.writes (Elt F) VS0_3.junk (kR_E m c t h p).2.2.2.2.2.2.1)
/-- The state after a point of case E. -/
def tup_E (h : conds0_E (grid0.coords t)) (p : St F) : St F :=
  (p.1, out_E_15 m c t h p, p.2.2.1, out_E_s0 m c t h p, out_E_s1 m c t h p, out_E_s2 m c t h p, out_E_s3 m c t h p, p.2.2.2.2.2.2.2)

/-! ### Case F -/

/-- The run of case F at point `t`, from the state `p` the point before left. -/
abbrev kR_F (h : conds0_F (grid0.coords t)) (p : St F) :=
  kernelRun0_F c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) scM0_0 (Memref.isWhole_whole _) scM0_1 (Memref.isWhole_whole _) scM0_2 (Memref.isWhole_whole _) scM0_3 (Memref.isWhole_whole _) scM0_4 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) h.1 h.2.1 h.2.2.1 h.2.2.2.1 h.2.2.2.2.1 h.2.2.2.2.2 p.2.1 p.2.2.2.1 p.2.2.2.2.1 p.2.2.2.2.2.1 p.2.2.2.2.2.2.1 p.2.2.2.2.2.2.2

theorem cover_F_14 (h : conds0_F (grid0.coords t)) (p : St F) (y : S512x2560.Idx) : ∃ pc ∈ (kR_F m c t h p).1, y ∈ pc.1.set :=
  View.cover_of_tiledL (kR_F m c t h p).1 S128x2560.size (by sl_kernel_rfl) y
def out_F_14 (h : conds0_F (grid0.coords t)) (p : St F) : Vec F S512x2560 .bf16 :=
  VO0_14.read (Elt F) (VO0_14.writes (Elt F) VO0_14.junk (kR_F m c t h p).1)
theorem cover_F_17 (h : conds0_F (grid0.coords t)) (p : St F) (y : S1x2560.Idx) : ∃ pc ∈ (kR_F m c t h p).2.2.1, y ∈ pc.1.set :=
  View.cover_of_tiledL (kR_F m c t h p).2.2.1 S1x2560.size (by sl_kernel_rfl) y
def out_F_17 (h : conds0_F (grid0.coords t)) (p : St F) : Vec F S1x2560 .f32 :=
  VO0_17.read (Elt F) (VO0_17.writes (Elt F) VO0_17.junk (kR_F m c t h p).2.2.1)
theorem cover_F_s0 (h : conds0_F (grid0.coords t)) (p : St F) (y : S512x2560.Idx) : ∃ pc ∈ (kR_F m c t h p).2.2.2.1, y ∈ pc.1.set :=
  View.cover_of_tiledL (kR_F m c t h p).2.2.2.1 S512x2560.size (by sl_kernel_rfl) y
def out_F_s0 (h : conds0_F (grid0.coords t)) (p : St F) : Vec F S512x2560 .f32 :=
  VS0_0.read (Elt F) (VS0_0.writes (Elt F) VS0_0.junk (kR_F m c t h p).2.2.2.1)
theorem cover_F_s4 (h : conds0_F (grid0.coords t)) (p : St F) (y : S8x2560.Idx) : ∃ pc ∈ (kR_F m c t h p).2.2.2.2.2.2.2.1, y ∈ pc.1.set :=
  View.cover_of_tiledL (kR_F m c t h p).2.2.2.2.2.2.2.1 S8x2560.size (by sl_kernel_rfl) y
def out_F_s4 (h : conds0_F (grid0.coords t)) (p : St F) : Vec F S8x2560 .f32 :=
  VS0_4.read (Elt F) (VS0_4.writes (Elt F) VS0_4.junk (kR_F m c t h p).2.2.2.2.2.2.2.1)
/-- The state after a point of case F. -/
def tup_F (h : conds0_F (grid0.coords t)) (p : St F) : St F :=
  (out_F_14 m c t h p, p.2.1, out_F_17 m c t h p, out_F_s0 m c t h p, p.2.2.2.2.1, p.2.2.2.2.2.1, p.2.2.2.2.2.2.1, out_F_s4 m c t h p)

/-! ## What the buffers hold after each point -/

/-- One point: the case its branch conditions select. -/
def stepAt (p : St F) : St F :=
  if h : conds0_A (grid0.coords t) then tup_A m c t h p else
  if h : conds0_B (grid0.coords t) then tup_B m c t h p else
  if h : conds0_C (grid0.coords t) then tup_C m c t h p else
  if h : conds0_D (grid0.coords t) then tup_D m c t h p else
  if h : conds0_E (grid0.coords t) then tup_E m c t h p else
  if h : conds0_F (grid0.coords t) then tup_F m c t h p else
  p

/-- What the buffers hold after point `n`. -/
def outsAt0 (c : Dev nD) : (n : ℕ) → n < cfg0.N → St F
  | 0, hn => stepAt m c ⟨0, hn⟩ st0
  | n + 1, hn => stepAt m c ⟨n + 1, hn⟩ (outsAt0 c n (Nat.lt_of_succ_lt hn))

theorem outsAt0_zero (hz : t.val = 0) : outsAt0 m c t.val t.isLt = stepAt m c t st0 := by
  obtain ⟨n, hn⟩ := t
  cases n with
  | zero => rfl
  | succ n => exact absurd hz (Nat.succ_ne_zero n)

theorem outsAt0_pos (hz : t.val ≠ 0) :
    outsAt0 m c t.val t.isLt = stepAt m c t (outsAt0 m c (t.val - 1) (Nat.lt_of_le_of_lt (Nat.sub_le _ _) t.isLt)) := by
  obtain ⟨n, hn⟩ := t
  cases n with
  | zero => exact absurd rfl hz
  | succ n => rfl

theorem stepAt_A (h : conds0_A (grid0.coords t)) (p : St F) : stepAt m c t p = tup_A m c t h p :=
  dif_pos h
theorem stepAt_B (h : conds0_B (grid0.coords t)) (p : St F) : stepAt m c t p = tup_B m c t h p :=
  (dif_neg fun h' => absurd h'.1 h.1).trans (dif_pos h)
theorem stepAt_C (h : conds0_C (grid0.coords t)) (p : St F) : stepAt m c t p = tup_C m c t h p :=
  (dif_neg fun h' => absurd h'.1 h.1).trans ((dif_neg fun h' => absurd h'.2.2.1 h.2.2.1).trans (dif_pos h))
theorem stepAt_D (h : conds0_D (grid0.coords t)) (p : St F) : stepAt m c t p = tup_D m c t h p :=
  (dif_neg fun h' => absurd h'.1 h.1).trans ((dif_neg fun h' => absurd h'.2.2.1 h.2.2.1).trans ((dif_neg fun h' => absurd h.2.2.2.2.1 h'.2.2.2.2.1).trans (dif_pos h)))
theorem stepAt_E (h : conds0_E (grid0.coords t)) (p : St F) : stepAt m c t p = tup_E m c t h p :=
  (dif_neg fun h' => absurd h'.2.1 h.2.1).trans ((dif_neg fun h' => absurd h.1 h'.1).trans ((dif_neg fun h' => absurd h.1 h'.1).trans ((dif_neg fun h' => absurd h.1 h'.1).trans (dif_pos h))))
theorem stepAt_F (h : conds0_F (grid0.coords t)) (p : St F) : stepAt m c t p = tup_F m c t h p :=
  (dif_neg fun h' => absurd h'.1 h.1).trans ((dif_neg fun h' => absurd h'.2.2.1 h.2.2.1).trans ((dif_neg fun h' => absurd h.2.2.2.2.1 h'.2.2.2.2.1).trans ((dif_neg fun h' => absurd h.2.2.2.2.2 h'.2.2.2.2.2).trans ((dif_neg fun h' => absurd h'.1 h.1).trans (dif_pos h)))))

/-- A point past the first of its sweep, or past the first sweep, is not the first point. -/
theorem ne_zero (h : ¬cond0_1 (grid0.coords t)) : t.val ≠ 0 :=
  fun hz => h ((hcond0_1 t).mpr (by rw [hz]))

/-- Every point is in one of the six cases. -/
theorem cases0 : conds0_A (grid0.coords t) ∨ conds0_B (grid0.coords t) ∨ conds0_C (grid0.coords t) ∨ conds0_D (grid0.coords t) ∨ conds0_E (grid0.coords t) ∨ conds0_F (grid0.coords t) := by
  have hN : t.val < 224 := lt_of_lt_of_eq t.isLt (show cfg0.N = 224 from N_0)
  simp only [conds0_A, conds0_B, conds0_C, conds0_D, conds0_E, conds0_F, hcond0_0 t, hcond0_1 t, hcond0_2 t, hcond0_3 t, hcond0_4 t, hcond0_5 t]
  omega

end States

/-- The invariant before position `n`: the scratch buffers at what the point before left, at anything before the first. -/
def PhiS (c : Dev nD) : (n : ℕ) → n ≤ cfg0.N → sProp (MT nD τ sig Unit (Elt F) ℕ (UR sig nD τ) ℕ)
  | 0, _ => Pipeline.ΦA spec0 c
  | n + 1, hn => iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2.1) ∗ owns (c : Thread nD τ) scM0_3 fullShare ((outsAt0 m c n hn).2.2.2.2.2.2.1) ∗ owns (c : Thread nD τ) scM0_4 fullShare ((outsAt0 m c n hn).2.2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.1) ∗ owns (c : Thread nD τ) scM0_1 fullShare ((outsAt0 m c n hn).2.2.2.2.1) ∗ owns (c : Thread nD τ) scM0_2 fullShare ((outsAt0 m c n hn).2.2.2.2.2.1) ∗ owns (c : Thread nD τ) scM0_3 fullShare ((outsAt0 m c n hn).2.2.2.2.2.2.1) ∗ owns (c : Thread nD τ) scM0_4 fullShare ((outsAt0 m c n hn).2.2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.1) ∗ owns (c : Thread nD τ) scM0_1 fullShare ((outsAt0 m c (n - 1) (by omega)).2.2.2.2.1) ∗ owns (c : Thread nD τ) scM0_2 fullShare ((outsAt0 m c (n - 1) (by omega)).2.2.2.2.2.1) ∗ owns (c : Thread nD τ) scM0_3 fullShare ((outsAt0 m c (n - 1) (by omega)).2.2.2.2.2.2.1) ∗ owns (c : Thread nD τ) scM0_4 fullShare ((outsAt0 m c (n - 1) (by omega)).2.2.2.2.2.2.2)) ∗ (∃ r, prngReg c r)) := by
  cases n with
  | zero => exact absurd rfl hz
  | succ n => rfl

/-! ## The pipeline's proof data -/

/-- The scales' window, of which nothing is stated. -/
def forgets0 : Fin 18 → Bool := fun w => w.val == 16
theorem forgets0_14 : forgets0 (14 : Fin 18) = false := by decide
theorem forgets0_15 : forgets0 (15 : Fin 18) = false := by decide

/-- The proof data: each input buffer at its block, the outputs at `outsAt0`, the invariant `PhiS`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t.val t.isLt).1
    | ⟨15, _⟩ => (outsAt0 m c t.val t.isLt).2.1
    | ⟨16, h⟩ => Pipeline.Dat.unnamed (cfg := cfg0) ⟨16, h⟩ t
    | ⟨17, _⟩ => (outsAt0 m c t.val t.isLt).2.2.1
    | ⟨_ + 18, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t.val t.isLt).1 := by dsimp only [dats]
theorem after0_15 (c : Dev nD) (t : Fin cfg0.N) : (dats m 0 c).after 15 t = (outsAt0 m c t.val t.isLt).2.1 := by dsimp only [dats]
theorem after0_17 (c : Dev nD) (t : Fin cfg0.N) : (dats m 0 c).after 17 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-- The codes' contents carry through the points that leave them idle. -/
theorem hcarry0_15 (c : Dev nD) : ∀ (t : Fin cfg0.N) (_ : t.val ≠ 0), cfg0.idle 15 (grid0.coords t) = true → cfg0.fresh 15 t.val = false →
    (dats m 0 c).after 15 t = (dats m 0 c).after 15 ⟨t.val - 1, by omega⟩ := by
  intro t hz hi _
  rw [after0_15, after0_15]
  rcases cases0 t with h | h | h | h | h | h
  · rw [liveAt0_15_A t h] at hi; exact absurd hi Bool.false_ne_true
  · rw [liveAt0_15_B t h] at hi; exact absurd hi Bool.false_ne_true
  · rw [outsAt0_pos m c t hz, stepAt_C m c t h]; unfold tup_C; dsimp only
  · rw [outsAt0_pos m c t hz, stepAt_D m c t h]; unfold tup_D; dsimp only
  · rw [liveAt0_15_E t h] at hi; exact absurd hi Bool.false_ne_true
  · rw [outsAt0_pos m c t hz, stepAt_F m c t h]; unfold tup_F; dsimp only

/-- At the points that write the codes' block back without storing into it, it holds what the point before left. -/
theorem before0_15 (c : Dev nD) (t : Fin cfg0.N) (hf : cfg0.fresh 15 t.val = false) (d) :
    (dats m 0 c).before 15 t d = (outsAt0 m c (t.val - 1) (Nat.lt_of_le_of_lt (Nat.sub_le _ _) t.isLt)).2.1 := by
  rw [Dat.before_out_traj _ 15 rfl (fun _ _ => rfl) (hcarry0_15 m c) t.val t rfl d, if_neg (by rw [hf]; exact Bool.false_ne_true)]
  dsimp only [dats]

/-! ## The body obligation -/

/-- What the body is called with at point `t`, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare d)
    ∗ (∃ d, owns (c : Thread nD τ) (ms0_17 t) fullShare ((dats m 0 c).before 17 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (∃ d, owns (c : Thread nD τ) (ms0_16 t) fullShare d)
    ∗ (dats m 0 c).leavesExact 17 t)

theorem leaves0_0 (c : Dev nD) (t : Fin cfg0.N) : (dats m 0 c).leavesExact 0 t = owns (c : Thread nD τ) (ms0_0 t) fullShare (iblk m c 0 t) := by
  rw [← after0_0 m c t]
theorem leaves0_1 (c : Dev nD) (t : Fin cfg0.N) : (dats m 0 c).leavesExact 1 t = owns (c : Thread nD τ) (ms0_1 t) fullShare (iblk m c 1 t) := by
  rw [← after0_1 m c t]
theorem leaves0_2 (c : Dev nD) (t : Fin cfg0.N) : (dats m 0 c).leavesExact 2 t = owns (c : Thread nD τ) (ms0_2 t) fullShare (iblk m c 2 t) := by
  rw [← after0_2 m c t]
theorem leaves0_3 (c : Dev nD) (t : Fin cfg0.N) : (dats m 0 c).leavesExact 3 t = owns (c : Thread nD τ) (ms0_3 t) fullShare (iblk m c 3 t) := by
  rw [← after0_3 m c t]
theorem leaves0_4 (c : Dev nD) (t : Fin cfg0.N) : (dats m 0 c).leavesExact 4 t = owns (c : Thread nD τ) (ms0_4 t) fullShare (iblk m c 4 t) := by
  rw [← after0_4 m c t]
theorem leaves0_5 (c : Dev nD) (t : Fin cfg0.N) : (dats m 0 c).leavesExact 5 t = owns (c : Thread nD τ) (ms0_5 t) fullShare (iblk m c 5 t) := by
  rw [← after0_5 m c t]
theorem leaves0_6 (c : Dev nD) (t : Fin cfg0.N) : (dats m 0 c).leavesExact 6 t = owns (c : Thread nD τ) (ms0_6 t) fullShare (iblk m c 6 t) := by
  rw [← after0_6 m c t]
theorem leaves0_7 (c : Dev nD) (t : Fin cfg0.N) : (dats m 0 c).leavesExact 7 t = owns (c : Thread nD τ) (ms0_7 t) fullShare (iblk m c 7 t) := by
  rw [← after0_7 m c t]
theorem leaves0_8 (c : Dev nD) (t : Fin cfg0.N) : (dats m 0 c).leavesExact 8 t = owns (c : Thread nD τ) (ms0_8 t) fullShare (iblk m c 8 t) := by
  rw [← after0_8 m c t]
theorem leaves0_9 (c : Dev nD) (t : Fin cfg0.N) : (dats m 0 c).leavesExact 9 t = owns (c : Thread nD τ) (ms0_9 t) fullShare (iblk m c 9 t) := by
  rw [← after0_9 m c t]
theorem leaves0_10 (c : Dev nD) (t : Fin cfg0.N) : (dats m 0 c).leavesExact 10 t = owns (c : Thread nD τ) (ms0_10 t) fullShare (iblk m c 10 t) := by
  rw [← after0_10 m c t]
theorem leaves0_11 (c : Dev nD) (t : Fin cfg0.N) : (dats m 0 c).leavesExact 11 t = owns (c : Thread nD τ) (ms0_11 t) fullShare (iblk m c 11 t) := by
  rw [← after0_11 m c t]
theorem leaves0_12 (c : Dev nD) (t : Fin cfg0.N) : (dats m 0 c).leavesExact 12 t = owns (c : Thread nD τ) (ms0_12 t) fullShare (iblk m c 12 t) := by
  rw [← after0_12 m c t]
theorem leaves0_13 (c : Dev nD) (t : Fin cfg0.N) : (dats m 0 c).leavesExact 13 t = owns (c : Thread nD τ) (ms0_13 t) fullShare (iblk m c 13 t) := by
  rw [← after0_13 m c t]

set_option maxHeartbeats 8000000 in
theorem sound_A (c : Dev nD) (t : Fin cfg0.N) (h : conds0_A (grid0.coords t)) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  simp only [leaves0_0, leaves0_1, leaves0_2, leaves0_3, leaves0_4, leaves0_5, leaves0_6, leaves0_7, leaves0_8, leaves0_9, leaves0_10, leaves0_11, leaves0_12, leaves0_13]
  rw [show (dats m 0 c).owesAt () t.succ = (dats m 0 c).owesAt () t.castSucc from rfl]
  rw [show (dats m 0 c).Φ t.succ = PhiS m c (t.val + 1) t.isLt from rfl, PhiS_succ]
  rw [Dat.leavesExact_idle (dats m 0 c) 14 t (idleAt0_14_A t h) (noFlush0_14_A t h)]
  rw [show (dats m 0 c).leavesExact 15 t = owns (c : Thread nD τ) (ms0_15 t) fullShare ((dats m 0 c).after 15 t) from by
    unfold Dat.leavesExact; rw [liveAt0_15_A t h], after0_15]
  rw [Dat.leavesExact_idle (dats m 0 c) 17 t (idleAt0_17_A t h) (noFlush0_17_A t h)]
  have hz : t.val = 0 := by
    have hN : t.val < 224 := lt_of_lt_of_eq t.isLt (show cfg0.N = 224 from N_0)
    have := (hcond0_1 t).mp h.2.1; omega
  rw [PhiS_castSucc m c t, PhiS_zero m c _ _ hz, PhiA0_eq, outsAt0_zero m c t hz, stepAt_A m c t h]
  unfold tup_A out_A_15 out_A_s0 out_A_s1 out_A_s2 out_A_s3 out_A_s4; dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((kR_A m c t h st0).2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexact H17
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, ⟨%e15, H15⟩, H16, H17, ⟨%es0, HS0⟩, ⟨%es1, HS1⟩, ⟨%es2, HS2⟩, ⟨%es3, HS3⟩, ⟨%es4, HS4⟩⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (cover_A_s0 m c t h _)
      isplitl [HS1]
      · unfold owns; iexists _; isplitr
        swap; · iexact HS1
        ipureintro; exact View.read_writes_of_cover _ _ _ _ _ (cover_A_s1 m c t h _)
      isplitl [HS2]
      · unfold owns; iexists _; isplitr
        swap; · iexact HS2
        ipureintro; exact View.read_writes_of_cover _ _ _ _ _ (cover_A_s2 m c t h _)
      isplitl [HS3]
      · unfold owns; iexists _; isplitr
        swap; · iexact HS3
        ipureintro; exact View.read_writes_of_cover _ _ _ _ _ (cover_A_s3 m c t h _)
      unfold owns; iexists _; isplitr
      swap; · iexact HS4
      ipureintro; exact View.read_writes_of_cover _ _ _ _ _ (cover_A_s4 m c t h _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · iexists _; iexact H14
  isplitl [H15]
  · unfold owns; iexists _; isplitr
    swap; · iexact H15
    ipureintro; exact View.read_writes_of_cover _ _ _ _ _ (cover_A_15 m c t h _)
  isplitl [H16]
  · iexact H16
  iexists _; iexact H17

set_option maxHeartbeats 8000000 in
theorem sound_B (c : Dev nD) (t : Fin cfg0.N) (h : conds0_B (grid0.coords t)) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  simp only [leaves0_0, leaves0_1, leaves0_2, leaves0_3, leaves0_4, leaves0_5, leaves0_6, leaves0_7, leaves0_8, leaves0_9, leaves0_10, leaves0_11, leaves0_12, leaves0_13]
  rw [show (dats m 0 c).owesAt () t.succ = (dats m 0 c).owesAt () t.castSucc from rfl]
  rw [show (dats m 0 c).Φ t.succ = PhiS m c (t.val + 1) t.isLt from rfl, PhiS_succ]
  rw [Dat.leavesExact_idle (dats m 0 c) 14 t (idleAt0_14_B t h) (noFlush0_14_B t h)]
  rw [show (dats m 0 c).leavesExact 15 t = owns (c : Thread nD τ) (ms0_15 t) fullShare ((dats m 0 c).after 15 t) from by
    unfold Dat.leavesExact; rw [liveAt0_15_B t h], after0_15]
  rw [Dat.leavesExact_idle (dats m 0 c) 17 t (idleAt0_17_B t h) (noFlush0_17_B t h)]
  rw [PhiS_castSucc m c t, PhiS_pos m c _ _ (ne_zero t h.2.1), outsAt0_pos m c t (ne_zero t h.2.1), stepAt_B m c t h]
  unfold tup_B out_B_15 out_B_s0; dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((kR_B m c t h (outsAt0 m c (t.val - 1) (Nat.lt_of_le_of_lt (Nat.sub_le _ _) t.isLt))).2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexact H17
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, ⟨%e15, H15⟩, H16, H17, ⟨%es0, HS0⟩, HS1, HS2, HS3, HS4⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (cover_B_s0 m c t h _)
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · iexists _; iexact H14
  isplitl [H15]
  · unfold owns; iexists _; isplitr
    swap; · iexact H15
    ipureintro; exact View.read_writes_of_cover _ _ _ _ _ (cover_B_15 m c t h _)
  isplitl [H16]
  · iexact H16
  iexists _; iexact H17

set_option maxHeartbeats 8000000 in
theorem sound_C (c : Dev nD) (t : Fin cfg0.N) (h : conds0_C (grid0.coords t)) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  simp only [leaves0_0, leaves0_1, leaves0_2, leaves0_3, leaves0_4, leaves0_5, leaves0_6, leaves0_7, leaves0_8, leaves0_9, leaves0_10, leaves0_11, leaves0_12, leaves0_13]
  rw [show (dats m 0 c).owesAt () t.succ = (dats m 0 c).owesAt () t.castSucc from rfl]
  rw [show (dats m 0 c).Φ t.succ = PhiS m c (t.val + 1) t.isLt from rfl, PhiS_succ]
  rw [Dat.leavesExact_idle (dats m 0 c) 14 t (idleAt0_14_C t h) (noFlush0_14_C t h)]
  rw [Dat.leavesExact_idle (dats m 0 c) 15 t (idleAt0_15_C t h) (noFlush0_15_C t h)]
  rw [Dat.leavesExact_idle (dats m 0 c) 17 t (idleAt0_17_C t h) (noFlush0_17_C t h)]
  rw [PhiS_castSucc m c t, PhiS_pos m c _ _ (ne_zero t h.2.1), outsAt0_pos m c t (ne_zero t h.2.1), stepAt_C m c t h]
  unfold tup_C out_C_s0; dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((kR_C m c t h (outsAt0 m c (t.val - 1) (Nat.lt_of_le_of_lt (Nat.sub_le _ _) t.isLt))).2.2.2.2.2.2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexact H17
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, H14, H15, H16, H17, ⟨%es0, HS0⟩, HS1, HS2, HS3, HS4⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (cover_C_s0 m c t h _)
      isplitl [HS1]
      · iexact HS1
      isplitl [HS2]
      · iexact HS2
      isplitl [HS3]
      · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · iexists _; iexact H14
  isplitl [H15]
  · iexists _; iexact H15
  isplitl [H16]
  · iexact H16
  iexists _; iexact H17

set_option maxHeartbeats 8000000 in
theorem sound_D (c : Dev nD) (t : Fin cfg0.N) (h : conds0_D (grid0.coords t)) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  simp only [leaves0_0, leaves0_1, leaves0_2, leaves0_3, leaves0_4, leaves0_5, leaves0_6, leaves0_7, leaves0_8, leaves0_9, leaves0_10, leaves0_11, leaves0_12, leaves0_13]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 14 t = owns (c : Thread nD τ) (ms0_14 t) fullShare ((dats m 0 c).after 14 t) from by
    unfold Dat.leavesExact; rw [liveAt0_14_D t h], after0_14]
  rw [show (dats m 0 c).leavesExact 15 t = owns (c : Thread nD τ) (ms0_15 t) fullShare ((dats m 0 c).after 15 t) from by
    unfold Dat.leavesExact; rw [idleAt0_15_D t h, flushAt0_15_D t h], after0_15]
  rw [Dat.leavesExact_idle (dats m 0 c) 17 t (idleAt0_17_D t h) (noFlush0_17_D t h)]
  rw [PhiS_castSucc m c t, PhiS_pos m c _ _ (ne_zero t h.2.1), outsAt0_pos m c t (ne_zero t h.2.1), stepAt_D m c t h]
  simp only [before0_15 m c t (notFresh0_15_D t h)]
  unfold tup_D out_D_14 out_D_s0 out_D_s4; dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((kR_D m c t h (outsAt0 m c (t.val - 1) (Nat.lt_of_le_of_lt (Nat.sub_le _ _) t.isLt))).2.2.2.2.2.2.2.2 _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexact H15
  isplitl [H16]; · iexists _; iexact H16
  isplitl [H17]; · iexact H17
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, ⟨%e14, H14⟩, H15, H16, H17, ⟨%es0, HS0⟩, HS1, HS2, HS3, ⟨%es4, HS4⟩⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (cover_D_s0 m c t h _)
      isplitl [HS1]
      · iexact HS1
      isplitl [HS2]
      · iexact HS2
      isplitl [HS3]
      · iexact HS3
      unfold owns; iexists _; isplitr
      swap; · iexact HS4
      ipureintro; exact View.read_writes_of_cover _ _ _ _ _ (cover_D_s4 m c t h _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact View.read_writes_of_cover _ _ _ _ _ (cover_D_14 m c t h _)
  isplitl [H15]
  · iexact H15
  isplitl [H16]
  · iexact H16
  iexists _; iexact H17

set_option maxHeartbeats 8000000 in
theorem sound_E (c : Dev nD) (t : Fin cfg0.N) (h : conds0_E (grid0.coords t)) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  simp only [leaves0_0, leaves0_1, leaves0_2, leaves0_3, leaves0_4, leaves0_5, leaves0_6, leaves0_7, leaves0_8, leaves0_9, leaves0_10, leaves0_11, leaves0_12, leaves0_13]
  rw [show (dats m 0 c).owesAt () t.succ = (dats m 0 c).owesAt () t.castSucc from rfl]
  rw [show (dats m 0 c).Φ t.succ = PhiS m c (t.val + 1) t.isLt from rfl, PhiS_succ]
  rw [Dat.leavesExact_idle (dats m 0 c) 14 t (idleAt0_14_E t h) (noFlush0_14_E t h)]
  rw [show (dats m 0 c).leavesExact 15 t = owns (c : Thread nD τ) (ms0_15 t) fullShare ((dats m 0 c).after 15 t) from by
    unfold Dat.leavesExact; rw [liveAt0_15_E t h], after0_15]
  rw [Dat.leavesExact_idle (dats m 0 c) 17 t (idleAt0_17_E t h) (noFlush0_17_E t h)]
  rw [PhiS_castSucc m c t, PhiS_pos m c _ _ (ne_zero t h.2.1), outsAt0_pos m c t (ne_zero t h.2.1), stepAt_E m c t h]
  unfold tup_E out_E_15 out_E_s0 out_E_s1 out_E_s2 out_E_s3; dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((kR_E m c t h (outsAt0 m c (t.val - 1) (Nat.lt_of_le_of_lt (Nat.sub_le _ _) t.isLt))).2.2.2.2.2.2.2.2 _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexact H17
  isplitl [HS0]; · iexists _; iexact HS0
  isplitl [HS1]; · iexists _; iexact HS1
  isplitl [HS2]; · iexists _; iexact HS2
  isplitl [HS3]; · iexists _; iexact HS3
  isplitl [HS4]; · iexact HS4
  iintro ⟨H0, H1, H2, H3, H4, H5, H6, H7, H8, H9, H10, H11, H12, H13, H14, ⟨%e15, H15⟩, H16, H17, ⟨%es0, HS0⟩, ⟨%es1, HS1⟩, ⟨%es2, HS2⟩, ⟨%es3, HS3⟩, HS4⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (cover_E_s0 m c t h _)
      isplitl [HS1]
      · unfold owns; iexists _; isplitr
        swap; · iexact HS1
        ipureintro; exact View.read_writes_of_cover _ _ _ _ _ (cover_E_s1 m c t h _)
      isplitl [HS2]
      · unfold owns; iexists _; isplitr
        swap; · iexact HS2
        ipureintro; exact View.read_writes_of_cover _ _ _ _ _ (cover_E_s2 m c t h _)
      isplitl [HS3]
      · unfold owns; iexists _; isplitr
        swap; · iexact HS3
        ipureintro; exact View.read_writes_of_cover _ _ _ _ _ (cover_E_s3 m c t h _)
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · iexists _; iexact H14
  isplitl [H15]
  · unfold owns; iexists _; isplitr
    swap; · iexact H15
    ipureintro; exact View.read_writes_of_cover _ _ _ _ _ (cover_E_15 m c t h _)
  isplitl [H16]
  · iexact H16
  iexists _; iexact H17

set_option maxHeartbeats 8000000 in
theorem sound_F (c : Dev nD) (t : Fin cfg0.N) (h : conds0_F (grid0.coords t)) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  simp only [leaves0_0, leaves0_1, leaves0_2, leaves0_3, leaves0_4, leaves0_5, leaves0_6, leaves0_7, leaves0_8, leaves0_9, leaves0_10, leaves0_11, leaves0_12, leaves0_13]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 14 t = owns (c : Thread nD τ) (ms0_14 t) fullShare ((dats m 0 c).after 14 t) from by
    unfold Dat.leavesExact; rw [liveAt0_14_F t h], after0_14]
  rw [show (dats m 0 c).leavesExact 15 t = owns (c : Thread nD τ) (ms0_15 t) fullShare ((dats m 0 c).after 15 t) from by
    unfold Dat.leavesExact; rw [idleAt0_15_F t h, flushAt0_15_F t h], after0_15]
  rw [show (dats m 0 c).leavesExact 17 t = owns (c : Thread nD τ) (ms0_17 t) fullShare ((dats m 0 c).after 17 t) from by
    unfold Dat.leavesExact; rw [liveAt0_17_F t h], after0_17]
  rw [PhiS_castSucc m c t, PhiS_pos m c _ _ (ne_zero t h.2.1), outsAt0_pos m c t (ne_zero t h.2.1), stepAt_F m c t h]
  simp only [before0_15 m c t (notFresh0_15_F t h)]
  unfold tup_F out_F_14 out_F_17 out_F_s0 out_F_s4; dsimp only
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((kR_F m c t h (outsAt0 m c (t.val - 1) (Nat.lt_of_le_of_lt (Nat.sub_le _ _) t.isLt))).2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexact H15
  isplitl [H16]; · iexists _; iexact H16
  isplitl [H17]; · iexists _; iexact H17
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, H9, H10, H11, H12, H13, ⟨%e14, H14⟩, H15, H16, ⟨%e17, H17⟩, ⟨%es0, HS0⟩, HS1, HS2, HS3, ⟨%es4, HS4⟩⟩
  isplitl [HS0 HS1 HS2 HS3 HS4 Hg]
  · isplitl [HS0 HS1 HS2 HS3 HS4]
    · isplitl [HS0]
      · unfold owns; iexists _; isplitr
        swap; · iexact HS0
        ipureintro; exact View.read_writes_of_cover _ _ _ _ _ (cover_F_s0 m c t h _)
      isplitl [HS1]
      · iexact HS1
      isplitl [HS2]
      · iexact HS2
      isplitl [HS3]
      · iexact HS3
      unfold owns; iexists _; isplitr
      swap; · iexact HS4
      ipureintro; exact View.read_writes_of_cover _ _ _ _ _ (cover_F_s4 m c t h _)
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact View.read_writes_of_cover _ _ _ _ _ (cover_F_14 m c t h _)
  isplitl [H15]
  · iexact H15
  isplitl [H16]
  · iexact H16
  unfold owns; iexists _; isplitr
  swap; · iexact H17
  ipureintro; exact View.read_writes_of_cover _ _ _ _ _ (cover_F_17 m c t h _)

/-- The body at any point. -/
theorem sound_body (c : Dev nD) (t : Fin cfg0.N) :
    bodyPre m c t ⊢ wp frame (wpE (defs₀ (F := F)) Variants.none c none) Set.univ (bodyAt0 t) (fun _ => bodyPost m c t) := by
  rcases cases0 t with h | h | h | h | h | h
  · exact sound_A m c t h
  · exact sound_B m c t h
  · exact sound_C m c t h
  · exact sound_D m c t h
  · exact sound_E m c t h
  · exact sound_F m c t h

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

/-- The same after the last point. -/
theorem hout (c : Dev nD) : (dats m 0 c).Φ (Fin.last cfg0.N) ⊢ Pipeline.ΦA spec0 c :=
  Phi_out m c _ (by rw [Fin.val_last]; have : cfg0.N = 224 := N_0; omega)

/-! ## The run and the frame -/

set_option backward.isDefEq.respectTransparency.types false in
/-- The run: the arrays as the pipeline leaves them, every counter at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The run without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (fun c => (dats m 0 c).toRForget forgets0) (A_eq m) (run_main m ρ)

/-- Every run ends with the argument arrays unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.KDxIdeal.Gen

end
-- ==== Proof.DxShare.lean ====
/- The dx kernel and its idealization are one program, as no rewrite was asked for: the same statements over the same arrays, printed
   under two names. Here the two body tables are equal, so the frame proved of one is the frame of the other. -/
module

public import proofs.«01_k».proof.Defs
public import proofs.«01_k».proof.Proof.Gen.KDx
public import proofs.«01_k».proof.Proof.DxFrame.Frame
public import Idealize.ShloMosaic.Adequacy
public import Idealize.ShloMosaic.Init

@[expose] public section

noncomputable section

namespace Cert.DxShare

open Idealize.ShloMosaic Idealize.SL.Sem
variable {F : FTy → Type} [FloatOps F]

/-- The kernel functions are equal. -/
theorem body_eq : Cert.KDx.cc0_dx (F := F) = Cert.KDxIdeal.cc0_dx (F := F) := rfl

set_option maxHeartbeats 4000000 in
/-- So are the tables of kernel bodies, label by label, -/
theorem bodies_eq : Cert.KDx.defs₀ (F := F) = Cert.KDxIdeal.defs₀ (F := F) := by
  unfold Cert.KDx.defs₀ Cert.KDxIdeal.defs₀
  congr 1
  funext l a
  rcases l with ⟨_ | n, h⟩
  · exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (congrFun (body_eq (F := F)) _) _) _) _) _) _) _) _) _) _) _) _) _) _) _) _) _) _) _) _) _) _) _) _) _) _) _) _) _) _) _) _) _) _) _) _) _) _) _) _) _) _) _) _) _) _) _
  · exact absurd h (Nat.not_lt.2 (Nat.le_add_left _ _))

set_option maxHeartbeats 4000000 in
/-- and the tables with each call's pipeline added. -/
theorem defs_eq : Cert.KDx.defs (F := F) = Cert.KDxIdeal.defs (F := F) :=
  congrArg (Pipeline.defs (Cert.KDxIdeal.pcfgs (F := F))) (bodies_eq (F := F))

set_option maxHeartbeats 4000000 in
/-- The frame of the dx kernel. -/
theorem frame : Cert.quiescent_KDx := by
  intro m ρ _
  have h := Cert.KDxIdeal.Gen.frame (F := Bits) m ρ
  rw [← defs_eq] at h
  exact h

end Cert.DxShare

end
-- ==== Proof.DxPay.lean ====
/-
  Hand-written, untrusted. What the dx kernel computes in one block, over the extended reals: the codes of a block of the upstream gradient,
  the addends of the two products, and the layer norm's derivative on 128 rows.
-/
module

public import proofs.«01_k».proof.Proof.Scales
public import proofs.«01_k».proof.Proof.Exponent
public import proofs.«01_k».proof.Proof.Gen.KDxIdeal.Skeleton
public import Idealize.ShloMosaic.Lib.Tactic

@[expose] public section

set_option maxRecDepth 16384

noncomputable section

namespace Cert.DxKernel

open Cert.KDxIdeal Cert.KDxIdeal.Gen Idealize.ShloMosaic Idealize.ShloMosaic.TcCoe Idealize.SL.Sem

section Any
variable {F : FTy → Type} [FloatOps F]

/-- What the first point of a sweep leaves in the scratch columns, from the rows of maxima and scales it loads: the inverse scale, the scale,
    and the scale of the second product. -/
abbrev inv0 (v : Vec F S1x512 .f32) : FVec F S512x128 .bf16 := k0_pay13 (k0_pay11 v (k0_pay6 v) (k0_pay7 v) (k0_pay8 v) 23#32)
abbrev dsc0 (v : Vec F S1x512 .f32) : FVec F S512x128 .f32 := k0_pay12 (k0_pay10 v (k0_pay6 v) (k0_pay7 v) (k0_pay8 v) 23#32)
abbrev dqs0 (v : Vec F S1x512 .f32) : FVec F S512x128 .f32 := k0_pay38 v (k0_pay14 v)

/-- The four 128-row parts of the dx block. -/
abbrev part0 (a : Vec F S128x2560 .f32) (xh : Vec F S128x2560 .fp8e4m3) (xs : Vec F S1x512 .f32) (g : Vec F S1x2560 .f32)
    (rs : Vec F S1x512 .f32) (dy : Vec F S128x2560 .fp8e5m2) (ds : Vec F S1x512 .f32) : FVec F S128x2560 .bf16 :=
  k0_pay21 (k0_pay15 xh xs) (k0_pay18 a xh xs g) (k0_pay19 rs) (k0_pay20 a g) dy ds
abbrev part1 (a : Vec F S128x2560 .f32) (xh : Vec F S128x2560 .fp8e4m3) (xs : Vec F S1x512 .f32) (g : Vec F S1x2560 .f32)
    (rs : Vec F S1x512 .f32) (dy : Vec F S128x2560 .fp8e5m2) (ds : Vec F S1x512 .f32) : FVec F S128x2560 .bf16 :=
  k0_pay25 a (k0_pay22 xh xs) (k0_pay24 g) rs dy ds
abbrev part2 (a : Vec F S128x2560 .f32) (xh : Vec F S128x2560 .fp8e4m3) (xs : Vec F S1x512 .f32) (g : Vec F S1x2560 .f32)
    (rs : Vec F S1x512 .f32) (dy : Vec F S128x2560 .fp8e5m2) (ds : Vec F S1x512 .f32) : FVec F S128x2560 .bf16 :=
  k0_pay32 (k0_pay30 a (k0_pay26 xh) (k0_pay27 xs) g rs) (k0_pay31 dy) ds
abbrev part3 (a : Vec F S128x2560 .f32) (xh : Vec F S128x2560 .fp8e4m3) (xs : Vec F S1x512 .f32) (g : Vec F S1x2560 .f32)
    (rs : Vec F S1x512 .f32) (dy : Vec F S128x2560 .fp8e5m2) (ds : Vec F S1x512 .f32) : FVec F S128x2560 .bf16 :=
  k0_pay4 (k0_pay33 xh xs) (k0_pay35 a g) (k0_pay36 a g) (k0_pay37 a xh xs g) (Scalar.ofBits .f32 0x39CCCCCD#32) rs dy ds

end Any

theorem dsc0_apply (v : Vec Ideal S1x512 .f32) (k : Fin 512) (l : Fin 128) : dsc0 v (ix2 k l) = Exponent.scale (s := S1x512) v (ix2 0 k) := by
  have e : dsc0 v = shapeCast S512x128 (Scales.col (Exponent.scale (s := S1x512) v)) shapeCasts_S512x128_S512x128 := rfl
  rw [e, shapeCast_self, Scales.col_apply]

theorem inv0_apply (v : Vec Ideal S1x512 .f32) (k : Fin 512) (l : Fin 128) : inv0 v (ix2 k l) = Exponent.inv (s := S1x512) v (ix2 0 k) := by
  have e : inv0 v = shapeCast S512x128 (truncf .bf16 (Scales.col (Exponent.inv (s := S1x512) v) : FVec Ideal S512x128 .f32) bitsLt_bf16_f32 : FVec Ideal S512x128 .bf16)
    shapeCasts_S512x128_S512x128 := rfl
  rw [e, shapeCast_self]
  exact Scales.col_apply _ k l

theorem dqs0_apply (v : Vec Ideal S1x512 .f32) (k : Fin 512) (l : Fin 128) : dqs0 v (ix2 k l) = v (ix2 0 k) := by
  have e : dqs0 v = shapeCast S512x128 (Scales.col v) shapeCasts_S512x128_S512x128 := rfl
  rw [e, shapeCast_self, Scales.col_apply]

/-- The rounding of a number to a code: clipping at the largest code (the rounding itself is the identity over the extended reals). -/
def clip (x : EReal) : EReal := min (Ideal.ofBits .f32 0x47600000#32) (max (Ideal.ofBits .f32 0xC7600000#32) x)

/-- A column of 128 lanes laid side by side as wide as a block of the gradient, and as wide as the result. -/
def wide10 (x : FVec Ideal S512x128 .bf16) : FVec Ideal S512x1280 .bf16 :=
  concatenate S512x1280 1 (List.replicate 10 ⟨S512x128, x⟩) concatenates_S512x128_S512x128_S512x128_S512x128_S512x128_S512x128_S512x128_S512x128_S512x128_S512x128_S512x1280_d1

theorem wide10_apply (x : FVec Ideal S512x128 .bf16) (k : Fin 512) (r : Fin 1280) :
    wide10 x (ix2 k r) = x (ix2 k ⟨r.val % 128, Nat.mod_lt _ (by decide)⟩) :=
  Scales.laneTile_apply 10 x concatenates_S512x128_S512x128_S512x128_S512x128_S512x128_S512x128_S512x128_S512x128_S512x128_S512x128_S512x1280_d1 k r

def wide20 (x : FVec Ideal S512x128 .f32) : FVec Ideal S512x2560 .f32 :=
  concatenate S512x2560 1 (List.replicate 20 ⟨S512x128, x⟩) concatenates_S512x128_S512x128_S512x128_S512x128_S512x128_S512x128_S512x128_S512x128_S512x128_S512x128_S512x128_S512x128_S512x128_S512x128_S512x128_S512x128_S512x128_S512x128_S512x128_S512x128_S512x2560_d1

theorem wide20_apply (x : FVec Ideal S512x128 .f32) (k : Fin 512) (r : Fin 2560) :
    wide20 x (ix2 k r) = x (ix2 k ⟨r.val % 128, Nat.mod_lt _ (by decide)⟩) :=
  Scales.laneTile_apply 20 x concatenates_S512x128_S512x128_S512x128_S512x128_S512x128_S512x128_S512x128_S512x128_S512x128_S512x128_S512x128_S512x128_S512x128_S512x128_S512x128_S512x128_S512x128_S512x128_S512x128_S512x128_S512x2560_d1 k r

theorem codes_eq (x0 : Vec Ideal S512x1280 .bf16) (s1 : Vec Ideal S512x128 .bf16) :
    k0_pay1 x0 s1 = truncf .fp8e5m2 (minimumf (broadcast S512x1280 (Scalar.truncf .bf16 bitsLt_bf16_f32 (Scalar.ofBits .f32 0x47600000#32) : Ideal .bf16) : FVec Ideal S512x1280 .bf16)
      (maximumf (broadcast S512x1280 (Scalar.truncf .bf16 bitsLt_bf16_f32 (Scalar.ofBits .f32 0xC7600000#32))) (mulf x0 (wide10 s1)))) bitsLt_fp8e5m2_bf16 := rfl

/-- The codes at an entry: the entry times the inverse scale of its row, clipped. -/
theorem codes_apply (x0 : Vec Ideal S512x1280 .bf16) (s1 : Vec Ideal S512x128 .bf16) (k : Fin 512) (l : Fin 1280) :
    k0_pay1 x0 s1 (ix2 k l) = clip (x0 (ix2 k l) * s1 (ix2 k ⟨l.val % 128, Nat.mod_lt _ (by decide)⟩)) := by
  rw [codes_eq]
  unfold clip
  pointwise [wide10_apply]

theorem mlp_eq (x0 : Vec Ideal S512x1280 .bf16) (s1 : Vec Ideal S512x128 .bf16) (x2 : Vec Ideal S1x1280 .f32) (acc : Vec Ideal S512x2560 .f32)
    (x3 : Vec Ideal S2560x1280 .fp8e4m3) (s2 : Vec Ideal S512x128 .f32) :
    k0_pay2 x0 s1 x2 acc x3 s2 = shapeCast S512x2560 (addf acc (mulf (matmul (φ₂ := .fp8e4m3) dot_S512x1280_S2560x1280_S512x2560_1_1_0_0_n_n none
      (mulf (extf .bf16 (k0_pay1 x0 s1) bitsLt_fp8e5m2_bf16) (broadcastTo S512x1280
        (truncf .bf16 (shapeCast S1x1280 x2 shapeCasts_S1x1280_S1x1280 : FVec Ideal S1x1280 .f32) bitsLt_bf16_f32 : FVec Ideal S1x1280 .bf16) broadcasts_S1x1280_S512x1280))
      x3 (constant S512x2560 .f32 0x00000000#32)) (wide20 s2))) shapeCasts_S512x2560_S512x2560 := rfl

/-- One block of the first product: the codes times their column scales times the weights, summed over the block's columns and scaled. -/
theorem mlp_apply (x0 : Vec Ideal S512x1280 .bf16) (s1 : Vec Ideal S512x128 .bf16) (x2 : Vec Ideal S1x1280 .f32) (acc : Vec Ideal S512x2560 .f32)
    (x3 : Vec Ideal S2560x1280 .fp8e4m3) (s2 : Vec Ideal S512x128 .f32) (r : Fin 512) (d : Fin 2560) :
    k0_pay2 x0 s1 x2 acc x3 s2 (ix2 r d) = acc (ix2 r d) + (∑ k : Fin 1280, k0_pay1 x0 s1 (ix2 r k) * x2 (ix2 0 k) * x3 (ix2 d k))
      * s2 (ix2 r ⟨d.val % 128, Nat.mod_lt _ (by decide)⟩) := by
  rw [mlp_eq]
  generalize k0_pay1 x0 s1 = u
  pointwise [wide20_apply]

theorem attn_eq (x4 : Vec Ideal S512x1280 .fp8e5m2) (x6 : Vec Ideal S1x1280 .f32) (acc : Vec Ideal S512x2560 .f32)
    (x7 : Vec Ideal S2560x1280 .fp8e4m3) (s3 : Vec Ideal S512x128 .f32) :
    k0_pay3 x4 x6 acc x7 s3 = shapeCast S512x2560 (addf acc (mulf (matmul dot_S512x1280_S2560x1280_S512x2560_1_1_0_0_n_n none
      (mulf (extf .bf16 (shapeCast S512x1280 x4 shapeCasts_S512x1280_S512x1280 : FVec Ideal S512x1280 .fp8e5m2) bitsLt_fp8e5m2_bf16) (broadcastTo S512x1280
        (truncf .bf16 (shapeCast S1x1280 x6 shapeCasts_S1x1280_S1x1280 : FVec Ideal S1x1280 .f32) bitsLt_bf16_f32 : FVec Ideal S1x1280 .bf16) broadcasts_S1x1280_S512x1280))
      (shapeCast S2560x1280 x7 shapeCasts_S2560x1280_S2560x1280 : FVec Ideal S2560x1280 .fp8e4m3) (constant S512x2560 .f32 0x00000000#32)) (wide20 s3)))
      shapeCasts_S512x2560_S512x2560 := rfl

/-- One block of the second product, scaled. -/
theorem attn_apply (x4 : Vec Ideal S512x1280 .fp8e5m2) (x6 : Vec Ideal S1x1280 .f32) (acc : Vec Ideal S512x2560 .f32)
    (x7 : Vec Ideal S2560x1280 .fp8e4m3) (s3 : Vec Ideal S512x128 .f32) (r : Fin 512) (d : Fin 2560) :
    k0_pay3 x4 x6 acc x7 s3 (ix2 r d) = acc (ix2 r d) + (∑ k : Fin 1280, x4 (ix2 r k) * x6 (ix2 0 k) * x7 (ix2 d k))
      * s3 (ix2 r ⟨d.val % 128, Nat.mod_lt _ (by decide)⟩) := by
  rw [attn_eq]
  pointwise [wide20_apply]

theorem zero_apply (r : Fin 512) (d : Fin 2560) : (k0_pay39 (F := Ideal)) (ix2 r d) = 0 := by
  unfold k0_pay39
  pointwise []

/-- 128 entries of a row of 512, from `o` on, as 128 rows of 2560 equal numbers. -/
def lanes (o : ℕ) (v : Vec Ideal S1x512 .f32) (h : S1x512.Slices ![0, o] S1x128) : FVec Ideal S128x2560 .f32 :=
  concatenate S128x2560 1 (List.replicate 20 ⟨S128x128, Scales.square o v h⟩) concatenates_S128x128_S128x128_S128x128_S128x128_S128x128_S128x128_S128x128_S128x128_S128x128_S128x128_S128x128_S128x128_S128x128_S128x128_S128x128_S128x128_S128x128_S128x128_S128x128_S128x128_S128x2560_d1

theorem lanes_apply (o : ℕ) (ho : o + 128 ≤ 512) (v : Vec Ideal S1x512 .f32) (h : S1x512.Slices ![0, o] S1x128) (k : Fin 128) (r : Fin 2560) :
    lanes o v h (ix2 k r) = v (ix2 0 ⟨o + k.val, by omega⟩) :=
  (Scales.laneTile_apply 20 (Scales.square o v h) concatenates_S128x128_S128x128_S128x128_S128x128_S128x128_S128x128_S128x128_S128x128_S128x128_S128x128_S128x128_S128x128_S128x128_S128x128_S128x128_S128x128_S128x128_S128x128_S128x128_S128x128_S128x2560_d1 k r).trans
    (Scales.square_apply o ho v h k _)

/-- The number of columns' reciprocal, rounded. -/
def rD : EReal := Ideal.ofBits .f32 0x39CCCCCD#32

/-- The mean over the columns, as a column. -/
def mean (v : FVec Ideal S128x2560 .f32) : FVec Ideal S128x1 .f32 :=
  mulf (shapeCast S128x1 (multiReduction .add [1] S128 v 0x00000000#32 reduces_S128x2560_S128 (.inl rfl) rfl : FVec Ideal S128 .f32) shapeCasts_S128_S128x1)
    (broadcast S128x1 (Scalar.ofBits .f32 0x39CCCCCD#32))

theorem mean_apply (v : FVec Ideal S128x2560 .f32) (k : Fin 128) : mean v (ix2 k 0) = (∑ j : Fin 2560, v (ix2 k j)) * rD := by
  unfold mean rD
  pointwise []

/-- The derivative of the layer norm and the residual on 128 rows. -/
def ln (xq rq yq : FVec Ideal S128x2560 .f32) (a : Vec Ideal S128x2560 .f32) (xh : Vec Ideal S128x2560 .fp8e4m3) (g : Vec Ideal S1x2560 .f32)
    (dy : Vec Ideal S128x2560 .fp8e5m2) : FVec Ideal S128x2560 .bf16 :=
  let x : FVec Ideal S128x2560 .f32 := mulf (extf .f32 (shapeCast S128x2560 xh shapeCasts_S128x2560_S128x2560 : FVec Ideal S128x2560 .fp8e4m3) bitsLt_fp8e4m3_f32) xq
  let p : FVec Ideal S128x2560 .f32 := mulf a (broadcastTo S128x2560 (shapeCast S1x2560 g shapeCasts_S1x2560_S1x2560 : FVec Ideal S1x2560 .f32) broadcasts_S1x2560_S128x2560)
  truncf .bf16 (addf (mulf (extf .f32 (shapeCast S128x2560 dy shapeCasts_S128x2560_S128x2560 : FVec Ideal S128x2560 .fp8e5m2) bitsLt_fp8e5m2_f32) yq)
    (mulf rq (subf (subf p (broadcastTo S128x2560 (mean p) broadcasts_S128x1_S128x2560))
      (mulf x (broadcastTo S128x2560 (mean (mulf p x)) broadcasts_S128x1_S128x2560))))) bitsLt_bf16_f32

theorem ln_apply (xq rq yq : FVec Ideal S128x2560 .f32) (a : Vec Ideal S128x2560 .f32) (xh : Vec Ideal S128x2560 .fp8e4m3) (g : Vec Ideal S1x2560 .f32)
    (dy : Vec Ideal S128x2560 .fp8e5m2) (k : Fin 128) (d : Fin 2560) :
    ln xq rq yq a xh g dy (ix2 k d) = dy (ix2 k d) * yq (ix2 k d) + rq (ix2 k d) * (a (ix2 k d) * g (ix2 0 d)
      - (∑ j : Fin 2560, a (ix2 k j) * g (ix2 0 j)) * rD
      - xh (ix2 k d) * xq (ix2 k d) * ((∑ j : Fin 2560, a (ix2 k j) * g (ix2 0 j) * (xh (ix2 k j) * xq (ix2 k j))) * rD)) := by
  unfold ln
  pointwise [mean_apply]

section Parts
variable (a : Vec Ideal S128x2560 .f32) (xh : Vec Ideal S128x2560 .fp8e4m3) (xs : Vec Ideal S1x512 .f32) (g : Vec Ideal S1x2560 .f32)
  (rs : Vec Ideal S1x512 .f32) (dy : Vec Ideal S128x2560 .fp8e5m2) (ds : Vec Ideal S1x512 .f32)

theorem part0_eq : part0 a xh xs g rs dy ds = ln (lanes 0 xs slices_S1x512_o0_0_S1x128) (lanes 0 rs slices_S1x512_o0_0_S1x128)
    (lanes 0 ds slices_S1x512_o0_0_S1x128) a xh g dy := rfl
theorem part1_eq : part1 a xh xs g rs dy ds = ln (lanes 128 xs slices_S1x512_o0_128_S1x128) (lanes 128 rs slices_S1x512_o0_128_S1x128)
    (lanes 128 ds slices_S1x512_o0_128_S1x128) a xh g dy := rfl
theorem part2_eq : part2 a xh xs g rs dy ds = ln (lanes 256 xs slices_S1x512_o0_256_S1x128) (lanes 256 rs slices_S1x512_o0_256_S1x128)
    (lanes 256 ds slices_S1x512_o0_256_S1x128) a xh g dy := rfl
theorem part3_eq : part3 a xh xs g rs dy ds = ln (lanes 384 xs slices_S1x512_o0_384_S1x128) (lanes 384 rs slices_S1x512_o0_384_S1x128)
    (lanes 384 ds slices_S1x512_o0_384_S1x128) a xh g dy := rfl

end Parts

end Cert.DxKernel

end
-- ==== Proof.DxPoint.lean ====
/-
  Hand-written, untrusted. What the buffers of the dx kernel hold after a point, case by case, from the point's blocks and what the point before
  left: the block of codes, the accumulator, the three scratch columns, and at the end of a sweep the block of the result.
-/
module

public import proofs.«01_k».proof.Proof.DxPay
public import proofs.«01_k».proof.Proof.DxFrame.Frame
public import Idealize.ShloMosaic.Lib.Pipeline.Value
public import Idealize.ShloMosaic.Lib.Pipeline.ReadBack
public import Idealize.ShloMosaic.Lib.Tactic

@[expose] public section

set_option maxRecDepth 16384

noncomputable section

namespace Cert.DxKernel

open Cert.KDxIdeal Cert.KDxIdeal.Gen Idealize.ShloMosaic Idealize.ShloMosaic.TcCoe Idealize.SL.Sem

theorem hz : (![0, 0] : Fin 2 → Nat) = fun _ => 0 := funext fun a => by fin_cases a <;> rfl
theorem hz' : ∀ a : Fin 2, (![0, 0] : Fin 2 → Nat) a = 0 := fun a => by fin_cases a <;> rfl

theorem inb1 : ∀ (i : grid0.Coords) (a : Fin 2), k0_off1 i a + S1x512.size a ≤ S8x1024.size a := by decide +kernel
theorem inb2 : ∀ (i : grid0.Coords) (a : Fin 2), k0_off2 i a + S1x512.size a ≤ S8x1024.size a := by decide +kernel

/-- The row of 512 scales that grid point `i` loads from an array of scales; the layer norm's rows are loaded likewise. -/
abbrev row1 {F : FTy → Type} (i : grid0.Coords) (x : Vec F S8x1024 .f32) : Vec F S1x512 .f32 :=
  View.ld x (Rect.unit (s := S8x1024) (k0_off1 i) S1x512.size (inb1 i))
abbrev row2 {F : FTy → Type} (i : grid0.Coords) (x : Vec F S8x1024 .f32) : Vec F S1x512 .f32 :=
  View.ld x (Rect.unit (s := S8x1024) (k0_off2 i) S1x512.size (inb2 i))

/-- The four rectangles of 128 rows. -/
abbrev rc (o : ℕ) (h : ∀ a : Fin 2, (![o, 0] : Fin 2 → ℕ) a + S128x2560.size a ≤ S512x2560.size a) : Rect S512x2560 :=
  Rect.unit (s := S512x2560) ![o, 0] S128x2560.size h
theorem in0 : ∀ a : Fin 2, (![0, 0] : Fin 2 → ℕ) a + S128x2560.size a ≤ S512x2560.size a := by decide
theorem in1 : ∀ a : Fin 2, (![128, 0] : Fin 2 → ℕ) a + S128x2560.size a ≤ S512x2560.size a := by decide
theorem in2 : ∀ a : Fin 2, (![256, 0] : Fin 2 → ℕ) a + S128x2560.size a ≤ S512x2560.size a := by decide
theorem in3 : ∀ a : Fin 2, (![384, 0] : Fin 2 → ℕ) a + S128x2560.size a ≤ S512x2560.size a := by decide

/-- The four stores of the dx block, 128 rows each, the last first. -/
abbrev dxL {F : FTy → Type} [FloatOps F] (a : Vec F S512x2560 .f32) (xh : Vec F S512x2560 .fp8e4m3) (xs : Vec F S1x512 .f32) (g : Vec F S1x2560 .f32) (rs : Vec F S1x512 .f32)
    (dy : Vec F S512x2560 .fp8e5m2) (ds : Vec F S1x512 .f32) : List (View.Piece (Elt F) S512x2560 .bf16) :=
  [⟨rc 384 in3, part3 (View.ld a (rc 384 in3)) (View.ld xh (rc 384 in3)) xs g rs (View.ld dy (rc 384 in3)) ds⟩,
   ⟨rc 256 in2, part2 (View.ld a (rc 256 in2)) (View.ld xh (rc 256 in2)) xs g rs (View.ld dy (rc 256 in2)) ds⟩,
   ⟨rc 128 in1, part1 (View.ld a (rc 128 in1)) (View.ld xh (rc 128 in1)) xs g rs (View.ld dy (rc 128 in1)) ds⟩,
   ⟨rc 0 in0, part0 (View.ld a (rc 0 in0)) (View.ld xh (rc 0 in0)) xs g rs (View.ld dy (rc 0 in0)) ds⟩]

variable {F : FTy → Type} [FloatOps F]
variable (m : (ℓ : Loc nD τ sig) → Buf (Elt F) ℓ) (c : Dev nD) (t : Fin cfg0.N)

/-- The inverse scales after the first point of a sweep (case A). -/
theorem out_A_s1_eq (h : conds0_A (grid0.coords t)) (p : St F) : out_A_s1 m c t h p = inv0 (row1 (grid0.coords t) (iblk m c 1 t)) := by
  unfold out_A_s1
  rw [View.read_writes_eq_canon _ _ _ (cover_A_s1 m c t h p)]
  unfold kR_A kernelRun0_A
  dsimp only
  sl_unfold_words
  rw [View.canon_unit_zero (S := S512x128) hz]
  simp only [View.readAt_eq_ld, (hs0_1 t).read_unread, (Memref.isWhole_whole cc0_scratch0).read_unread, (Memref.isWhole_whole cc0_scratch1).read_unread, (Memref.isWhole_whole cc0_scratch2).read_unread, (Memref.isWhole_whole cc0_scratch3).read_unread,
    View.readCov_unit_zero (S := S512x2560) _ hz, View.readCov_unit_zero (S := S512x128) _ hz,
    View.ld_unit_zero (S := S512x1280) hz, View.ld_unit_zero (S := S1x1280) hz, View.ld_unit_zero (S := S2560x1280) hz, View.ld_unit_zero (S := S512x2560) hz, View.ld_unit_zero (S := S512x128) hz, View.ld_unit_zero (S := S1x2560) hz]
  rfl
/-- The scales after it. -/
theorem out_A_s2_eq (h : conds0_A (grid0.coords t)) (p : St F) : out_A_s2 m c t h p = dsc0 (row1 (grid0.coords t) (iblk m c 1 t)) := by
  unfold out_A_s2
  rw [View.read_writes_eq_canon _ _ _ (cover_A_s2 m c t h p)]
  unfold kR_A kernelRun0_A
  dsimp only
  sl_unfold_words
  rw [View.canon_unit_zero (S := S512x128) hz]
  simp only [View.readAt_eq_ld, (hs0_1 t).read_unread, (Memref.isWhole_whole cc0_scratch0).read_unread, (Memref.isWhole_whole cc0_scratch1).read_unread, (Memref.isWhole_whole cc0_scratch2).read_unread, (Memref.isWhole_whole cc0_scratch3).read_unread,
    View.readCov_unit_zero (S := S512x2560) _ hz, View.readCov_unit_zero (S := S512x128) _ hz,
    View.ld_unit_zero (S := S512x1280) hz, View.ld_unit_zero (S := S1x1280) hz, View.ld_unit_zero (S := S2560x1280) hz, View.ld_unit_zero (S := S512x2560) hz, View.ld_unit_zero (S := S512x128) hz, View.ld_unit_zero (S := S1x2560) hz]
  rfl
/-- The scales of the second product after it. -/
theorem out_A_s3_eq (h : conds0_A (grid0.coords t)) (p : St F) : out_A_s3 m c t h p = dqs0 (row1 (grid0.coords t) (iblk m c 5 t)) := by
  unfold out_A_s3
  rw [View.read_writes_eq_canon _ _ _ (cover_A_s3 m c t h p)]
  unfold kR_A kernelRun0_A
  dsimp only
  sl_unfold_words
  rw [View.canon_unit_zero (S := S512x128) hz]
  simp only [View.readAt_eq_ld, (hs0_5 t).read_unread, (Memref.isWhole_whole cc0_scratch0).read_unread, (Memref.isWhole_whole cc0_scratch1).read_unread, (Memref.isWhole_whole cc0_scratch2).read_unread, (Memref.isWhole_whole cc0_scratch3).read_unread,
    View.readCov_unit_zero (S := S512x2560) _ hz, View.readCov_unit_zero (S := S512x128) _ hz,
    View.ld_unit_zero (S := S512x1280) hz, View.ld_unit_zero (S := S1x1280) hz, View.ld_unit_zero (S := S2560x1280) hz, View.ld_unit_zero (S := S512x2560) hz, View.ld_unit_zero (S := S512x128) hz, View.ld_unit_zero (S := S1x2560) hz]
  rfl
/-- The block of codes it writes. -/
theorem out_A_15_eq (h : conds0_A (grid0.coords t)) (p : St F) : out_A_15 m c t h p = k0_pay1 (iblk m c 0 t) (inv0 (row1 (grid0.coords t) (iblk m c 1 t))) := by
  unfold out_A_15
  rw [View.read_writes_eq_canon _ _ _ (cover_A_15 m c t h p)]
  unfold kR_A kernelRun0_A
  dsimp only
  sl_unfold_words
  rw [View.canon_unit_zero (S := S512x1280) hz]
  simp only [View.readAt_eq_ld, (hs0_0 t).read_unread, (hs0_1 t).read_unread, (Memref.isWhole_whole cc0_scratch0).read_unread, (Memref.isWhole_whole cc0_scratch1).read_unread, (Memref.isWhole_whole cc0_scratch2).read_unread, (Memref.isWhole_whole cc0_scratch3).read_unread,
    View.readCov_unit_zero (S := S512x2560) _ hz, View.readCov_unit_zero (S := S512x128) _ hz,
    View.ld_unit_zero (S := S512x1280) hz, View.ld_unit_zero (S := S1x1280) hz, View.ld_unit_zero (S := S2560x1280) hz, View.ld_unit_zero (S := S512x2560) hz, View.ld_unit_zero (S := S512x128) hz, View.ld_unit_zero (S := S1x2560) hz]
  rfl
/-- The accumulator after it: one step of the first product over zero. -/
theorem out_A_s0_eq (h : conds0_A (grid0.coords t)) (p : St F) : out_A_s0 m c t h p = k0_pay2 (iblk m c 0 t) (inv0 (row1 (grid0.coords t) (iblk m c 1 t))) (iblk m c 2 t) k0_pay39 (iblk m c 3 t) (dsc0 (row1 (grid0.coords t) (iblk m c 1 t))) := by
  unfold out_A_s0
  rw [View.read_writes_eq_canon _ _ _ (cover_A_s0 m c t h p)]
  unfold kR_A kernelRun0_A
  dsimp only
  sl_unfold_words
  rw [View.canon_cons_unit_zero (S := S512x2560) hz]
  simp only [View.readAt_eq_ld, (hs0_0 t).read_unread, (hs0_1 t).read_unread, (hs0_2 t).read_unread, (hs0_3 t).read_unread, (Memref.isWhole_whole cc0_scratch0).read_unread, (Memref.isWhole_whole cc0_scratch1).read_unread, (Memref.isWhole_whole cc0_scratch2).read_unread, (Memref.isWhole_whole cc0_scratch3).read_unread,
    View.readCov_unit_zero (S := S512x2560) _ hz, View.readCov_unit_zero (S := S512x128) _ hz,
    View.ld_unit_zero (S := S512x1280) hz, View.ld_unit_zero (S := S1x1280) hz, View.ld_unit_zero (S := S2560x1280) hz, View.ld_unit_zero (S := S512x2560) hz, View.ld_unit_zero (S := S512x128) hz, View.ld_unit_zero (S := S1x2560) hz]
  rfl
/-- The inverse scales after the first point of a sweep (case E). -/
theorem out_E_s1_eq (h : conds0_E (grid0.coords t)) (p : St F) : out_E_s1 m c t h p = inv0 (row1 (grid0.coords t) (iblk m c 1 t)) := by
  unfold out_E_s1
  rw [View.read_writes_eq_canon _ _ _ (cover_E_s1 m c t h p)]
  unfold kR_E kernelRun0_E
  dsimp only
  sl_unfold_words
  rw [View.canon_unit_zero (S := S512x128) hz]
  simp only [View.readAt_eq_ld, (hs0_1 t).read_unread, (Memref.isWhole_whole cc0_scratch0).read_unread, (Memref.isWhole_whole cc0_scratch1).read_unread, (Memref.isWhole_whole cc0_scratch2).read_unread, (Memref.isWhole_whole cc0_scratch3).read_unread,
    View.readCov_unit_zero (S := S512x2560) _ hz, View.readCov_unit_zero (S := S512x128) _ hz,
    View.ld_unit_zero (S := S512x1280) hz, View.ld_unit_zero (S := S1x1280) hz, View.ld_unit_zero (S := S2560x1280) hz, View.ld_unit_zero (S := S512x2560) hz, View.ld_unit_zero (S := S512x128) hz, View.ld_unit_zero (S := S1x2560) hz]
  rfl
/-- The scales after it. -/
theorem out_E_s2_eq (h : conds0_E (grid0.coords t)) (p : St F) : out_E_s2 m c t h p = dsc0 (row1 (grid0.coords t) (iblk m c 1 t)) := by
  unfold out_E_s2
  rw [View.read_writes_eq_canon _ _ _ (cover_E_s2 m c t h p)]
  unfold kR_E kernelRun0_E
  dsimp only
  sl_unfold_words
  rw [View.canon_unit_zero (S := S512x128) hz]
  simp only [View.readAt_eq_ld, (hs0_1 t).read_unread, (Memref.isWhole_whole cc0_scratch0).read_unread, (Memref.isWhole_whole cc0_scratch1).read_unread, (Memref.isWhole_whole cc0_scratch2).read_unread, (Memref.isWhole_whole cc0_scratch3).read_unread,
    View.readCov_unit_zero (S := S512x2560) _ hz, View.readCov_unit_zero (S := S512x128) _ hz,
    View.ld_unit_zero (S := S512x1280) hz, View.ld_unit_zero (S := S1x1280) hz, View.ld_unit_zero (S := S2560x1280) hz, View.ld_unit_zero (S := S512x2560) hz, View.ld_unit_zero (S := S512x128) hz, View.ld_unit_zero (S := S1x2560) hz]
  rfl
/-- The scales of the second product after it. -/
theorem out_E_s3_eq (h : conds0_E (grid0.coords t)) (p : St F) : out_E_s3 m c t h p = dqs0 (row1 (grid0.coords t) (iblk m c 5 t)) := by
  unfold out_E_s3
  rw [View.read_writes_eq_canon _ _ _ (cover_E_s3 m c t h p)]
  unfold kR_E kernelRun0_E
  dsimp only
  sl_unfold_words
  rw [View.canon_unit_zero (S := S512x128) hz]
  simp only [View.readAt_eq_ld, (hs0_5 t).read_unread, (Memref.isWhole_whole cc0_scratch0).read_unread, (Memref.isWhole_whole cc0_scratch1).read_unread, (Memref.isWhole_whole cc0_scratch2).read_unread, (Memref.isWhole_whole cc0_scratch3).read_unread,
    View.readCov_unit_zero (S := S512x2560) _ hz, View.readCov_unit_zero (S := S512x128) _ hz,
    View.ld_unit_zero (S := S512x1280) hz, View.ld_unit_zero (S := S1x1280) hz, View.ld_unit_zero (S := S2560x1280) hz, View.ld_unit_zero (S := S512x2560) hz, View.ld_unit_zero (S := S512x128) hz, View.ld_unit_zero (S := S1x2560) hz]
  rfl
/-- The block of codes it writes. -/
theorem out_E_15_eq (h : conds0_E (grid0.coords t)) (p : St F) : out_E_15 m c t h p = k0_pay1 (iblk m c 0 t) (inv0 (row1 (grid0.coords t) (iblk m c 1 t))) := by
  unfold out_E_15
  rw [View.read_writes_eq_canon _ _ _ (cover_E_15 m c t h p)]
  unfold kR_E kernelRun0_E
  dsimp only
  sl_unfold_words
  rw [View.canon_unit_zero (S := S512x1280) hz]
  simp only [View.readAt_eq_ld, (hs0_0 t).read_unread, (hs0_1 t).read_unread, (Memref.isWhole_whole cc0_scratch0).read_unread, (Memref.isWhole_whole cc0_scratch1).read_unread, (Memref.isWhole_whole cc0_scratch2).read_unread, (Memref.isWhole_whole cc0_scratch3).read_unread,
    View.readCov_unit_zero (S := S512x2560) _ hz, View.readCov_unit_zero (S := S512x128) _ hz,
    View.ld_unit_zero (S := S512x1280) hz, View.ld_unit_zero (S := S1x1280) hz, View.ld_unit_zero (S := S2560x1280) hz, View.ld_unit_zero (S := S512x2560) hz, View.ld_unit_zero (S := S512x128) hz, View.ld_unit_zero (S := S1x2560) hz]
  rfl
/-- The accumulator after it: one step of the first product over zero. -/
theorem out_E_s0_eq (h : conds0_E (grid0.coords t)) (p : St F) : out_E_s0 m c t h p = k0_pay2 (iblk m c 0 t) (inv0 (row1 (grid0.coords t) (iblk m c 1 t))) (iblk m c 2 t) k0_pay39 (iblk m c 3 t) (dsc0 (row1 (grid0.coords t) (iblk m c 1 t))) := by
  unfold out_E_s0
  rw [View.read_writes_eq_canon _ _ _ (cover_E_s0 m c t h p)]
  unfold kR_E kernelRun0_E
  dsimp only
  sl_unfold_words
  rw [View.canon_cons_unit_zero (S := S512x2560) hz]
  simp only [View.readAt_eq_ld, (hs0_0 t).read_unread, (hs0_1 t).read_unread, (hs0_2 t).read_unread, (hs0_3 t).read_unread, (Memref.isWhole_whole cc0_scratch0).read_unread, (Memref.isWhole_whole cc0_scratch1).read_unread, (Memref.isWhole_whole cc0_scratch2).read_unread, (Memref.isWhole_whole cc0_scratch3).read_unread,
    View.readCov_unit_zero (S := S512x2560) _ hz, View.readCov_unit_zero (S := S512x128) _ hz,
    View.ld_unit_zero (S := S512x1280) hz, View.ld_unit_zero (S := S1x1280) hz, View.ld_unit_zero (S := S2560x1280) hz, View.ld_unit_zero (S := S512x2560) hz, View.ld_unit_zero (S := S512x128) hz, View.ld_unit_zero (S := S1x2560) hz]
  rfl
/-- The block of codes a later point of the first product writes. -/
theorem out_B_15_eq (h : conds0_B (grid0.coords t)) (p : St F) : out_B_15 m c t h p = k0_pay1 (iblk m c 0 t) p.2.2.2.2.1 := by
  unfold out_B_15
  rw [View.read_writes_eq_canon _ _ _ (cover_B_15 m c t h p)]
  unfold kR_B kernelRun0_B
  dsimp only
  sl_unfold_words
  rw [View.canon_unit_zero (S := S512x1280) hz]
  simp only [View.readAt_eq_ld, (hs0_0 t).read_unread, (Memref.isWhole_whole cc0_scratch0).read_unread, (Memref.isWhole_whole cc0_scratch1).read_unread, (Memref.isWhole_whole cc0_scratch2).read_unread, (Memref.isWhole_whole cc0_scratch3).read_unread,
    View.readCov_unit_zero (S := S512x2560) _ hz, View.readCov_unit_zero (S := S512x128) _ hz,
    View.ld_unit_zero (S := S512x1280) hz, View.ld_unit_zero (S := S1x1280) hz, View.ld_unit_zero (S := S2560x1280) hz, View.ld_unit_zero (S := S512x2560) hz, View.ld_unit_zero (S := S512x128) hz, View.ld_unit_zero (S := S1x2560) hz]

/-- The accumulator after it. -/
theorem out_B_s0_eq (h : conds0_B (grid0.coords t)) (p : St F) : out_B_s0 m c t h p = k0_pay2 (iblk m c 0 t) p.2.2.2.2.1 (iblk m c 2 t) p.2.2.2.1 (iblk m c 3 t) p.2.2.2.2.2.1 := by
  unfold out_B_s0
  rw [View.read_writes_eq_canon _ _ _ (cover_B_s0 m c t h p)]
  unfold kR_B kernelRun0_B
  dsimp only
  sl_unfold_words
  rw [View.canon_unit_zero (S := S512x2560) hz]
  simp only [View.readAt_eq_ld, (hs0_0 t).read_unread, (hs0_2 t).read_unread, (hs0_3 t).read_unread, (Memref.isWhole_whole cc0_scratch0).read_unread, (Memref.isWhole_whole cc0_scratch1).read_unread, (Memref.isWhole_whole cc0_scratch2).read_unread, (Memref.isWhole_whole cc0_scratch3).read_unread,
    View.readCov_unit_zero (S := S512x2560) _ hz, View.readCov_unit_zero (S := S512x128) _ hz,
    View.ld_unit_zero (S := S512x1280) hz, View.ld_unit_zero (S := S1x1280) hz, View.ld_unit_zero (S := S2560x1280) hz, View.ld_unit_zero (S := S512x2560) hz, View.ld_unit_zero (S := S512x128) hz, View.ld_unit_zero (S := S1x2560) hz]

/-- The accumulator after a point of the second product (case C). -/
theorem out_C_s0_eq (h : conds0_C (grid0.coords t)) (p : St F) : out_C_s0 m c t h p = k0_pay3 (iblk m c 4 t) (iblk m c 6 t) p.2.2.2.1 (iblk m c 7 t) p.2.2.2.2.2.2.1 := by
  unfold out_C_s0
  rw [View.read_writes_eq_canon _ _ _ (cover_C_s0 m c t h p)]
  unfold kR_C kernelRun0_C
  dsimp only
  sl_unfold_words
  rw [View.canon_unit_zero (S := S512x2560) hz]
  simp only [View.readAt_eq_ld, (hs0_4 t).read_unread, (hs0_6 t).read_unread, (hs0_7 t).read_unread, (Memref.isWhole_whole cc0_scratch0).read_unread, (Memref.isWhole_whole cc0_scratch1).read_unread, (Memref.isWhole_whole cc0_scratch2).read_unread, (Memref.isWhole_whole cc0_scratch3).read_unread,
    View.readCov_unit_zero (S := S512x2560) _ hz, View.readCov_unit_zero (S := S512x128) _ hz,
    View.ld_unit_zero (S := S512x1280) hz, View.ld_unit_zero (S := S1x1280) hz, View.ld_unit_zero (S := S2560x1280) hz, View.ld_unit_zero (S := S512x2560) hz, View.ld_unit_zero (S := S512x128) hz, View.ld_unit_zero (S := S1x2560) hz]

/-- The accumulator after a point of the second product (case D). -/
theorem out_D_s0_eq (h : conds0_D (grid0.coords t)) (p : St F) : out_D_s0 m c t h p = k0_pay3 (iblk m c 4 t) (iblk m c 6 t) p.2.2.2.1 (iblk m c 7 t) p.2.2.2.2.2.2.1 := by
  unfold out_D_s0
  rw [View.read_writes_eq_canon _ _ _ (cover_D_s0 m c t h p)]
  unfold kR_D kernelRun0_D
  dsimp only
  sl_unfold_words
  rw [View.canon_unit_zero (S := S512x2560) hz]
  simp only [View.readAt_eq_ld, (hs0_4 t).read_unread, (hs0_6 t).read_unread, (hs0_7 t).read_unread, (Memref.isWhole_whole cc0_scratch0).read_unread, (Memref.isWhole_whole cc0_scratch1).read_unread, (Memref.isWhole_whole cc0_scratch2).read_unread, (Memref.isWhole_whole cc0_scratch3).read_unread,
    View.readCov_unit_zero (S := S512x2560) _ hz, View.readCov_unit_zero (S := S512x128) _ hz,
    View.ld_unit_zero (S := S512x1280) hz, View.ld_unit_zero (S := S1x1280) hz, View.ld_unit_zero (S := S2560x1280) hz, View.ld_unit_zero (S := S512x2560) hz, View.ld_unit_zero (S := S512x128) hz, View.ld_unit_zero (S := S1x2560) hz]

/-- The accumulator after a point of the second product (case F). -/
theorem out_F_s0_eq (h : conds0_F (grid0.coords t)) (p : St F) : out_F_s0 m c t h p = k0_pay3 (iblk m c 4 t) (iblk m c 6 t) p.2.2.2.1 (iblk m c 7 t) p.2.2.2.2.2.2.1 := by
  unfold out_F_s0
  rw [View.read_writes_eq_canon _ _ _ (cover_F_s0 m c t h p)]
  unfold kR_F kernelRun0_F
  dsimp only
  sl_unfold_words
  rw [View.canon_unit_zero (S := S512x2560) hz]
  simp only [View.readAt_eq_ld, (hs0_4 t).read_unread, (hs0_6 t).read_unread, (hs0_7 t).read_unread, (Memref.isWhole_whole cc0_scratch0).read_unread, (Memref.isWhole_whole cc0_scratch1).read_unread, (Memref.isWhole_whole cc0_scratch2).read_unread, (Memref.isWhole_whole cc0_scratch3).read_unread,
    View.readCov_unit_zero (S := S512x2560) _ hz, View.readCov_unit_zero (S := S512x128) _ hz,
    View.ld_unit_zero (S := S512x1280) hz, View.ld_unit_zero (S := S1x1280) hz, View.ld_unit_zero (S := S2560x1280) hz, View.ld_unit_zero (S := S512x2560) hz, View.ld_unit_zero (S := S512x128) hz, View.ld_unit_zero (S := S1x2560) hz]

/-- The block of the result that the last point of a sweep writes (case D). -/
theorem out_D_14_eq (h : conds0_D (grid0.coords t)) (p : St F) : out_D_14 m c t h p
    = View.canon (dxL (k0_pay3 (iblk m c 4 t) (iblk m c 6 t) p.2.2.2.1 (iblk m c 7 t) p.2.2.2.2.2.2.1) (iblk m c 10 t) (row2 (grid0.coords t) (iblk m c 11 t)) (iblk m c 13 t) (row2 (grid0.coords t) (iblk m c 12 t)) (iblk m c 8 t) (row2 (grid0.coords t) (iblk m c 9 t))) := by
  unfold out_D_14
  rw [View.read_writes_eq_canon _ _ _ (cover_D_14 m c t h p)]
  unfold kR_D kernelRun0_D
  dsimp only
  sl_unfold_words
  simp only [View.readAt_eq_ld, (hs0_4 t).read_unread, (hs0_6 t).read_unread, (hs0_7 t).read_unread, (hs0_8 t).read_unread, (hs0_9 t).read_unread, (hs0_10 t).read_unread, (hs0_11 t).read_unread, (hs0_12 t).read_unread, (hs0_13 t).read_unread, (Memref.isWhole_whole cc0_scratch0).read_unread, (Memref.isWhole_whole cc0_scratch1).read_unread, (Memref.isWhole_whole cc0_scratch2).read_unread, (Memref.isWhole_whole cc0_scratch3).read_unread, View.readCov_fill (s := S512x2560) _ _ _ _ _ hz',
    View.ld_unit_zero (S := S512x1280) hz, View.ld_unit_zero (S := S1x1280) hz, View.ld_unit_zero (S := S2560x1280) hz, View.ld_unit_zero (S := S512x2560) hz, View.ld_unit_zero (S := S512x128) hz, View.ld_unit_zero (S := S1x2560) hz]
  rfl

/-- The block of the result that the last point of a sweep writes (case F). -/
theorem out_F_14_eq (h : conds0_F (grid0.coords t)) (p : St F) : out_F_14 m c t h p
    = View.canon (dxL (k0_pay3 (iblk m c 4 t) (iblk m c 6 t) p.2.2.2.1 (iblk m c 7 t) p.2.2.2.2.2.2.1) (iblk m c 10 t) (row2 (grid0.coords t) (iblk m c 11 t)) (iblk m c 13 t) (row2 (grid0.coords t) (iblk m c 12 t)) (iblk m c 8 t) (row2 (grid0.coords t) (iblk m c 9 t))) := by
  unfold out_F_14
  rw [View.read_writes_eq_canon _ _ _ (cover_F_14 m c t h p)]
  unfold kR_F kernelRun0_F
  dsimp only
  sl_unfold_words
  simp only [View.readAt_eq_ld, (hs0_4 t).read_unread, (hs0_6 t).read_unread, (hs0_7 t).read_unread, (hs0_8 t).read_unread, (hs0_9 t).read_unread, (hs0_10 t).read_unread, (hs0_11 t).read_unread, (hs0_12 t).read_unread, (hs0_13 t).read_unread, (Memref.isWhole_whole cc0_scratch0).read_unread, (Memref.isWhole_whole cc0_scratch1).read_unread, (Memref.isWhole_whole cc0_scratch2).read_unread, (Memref.isWhole_whole cc0_scratch3).read_unread, View.readCov_fill (s := S512x2560) _ _ _ _ _ hz',
    View.ld_unit_zero (S := S512x1280) hz, View.ld_unit_zero (S := S1x1280) hz, View.ld_unit_zero (S := S2560x1280) hz, View.ld_unit_zero (S := S512x2560) hz, View.ld_unit_zero (S := S512x128) hz, View.ld_unit_zero (S := S1x2560) hz]
  rfl

end Cert.DxKernel

end
-- ==== Proof.DxStep.lean ====
/-
  Hand-written, untrusted. How the dx kernel's buffers go from point to point along a sweep of 14 points, and the block of the result as one
  function of the accumulator.
-/
module

public import proofs.«01_k».proof.Proof.DxPoint

@[expose] public section

set_option maxRecDepth 16384

noncomputable section

namespace Cert.DxKernel

open Cert.KDxIdeal Cert.KDxIdeal.Gen Idealize.ShloMosaic Idealize.ShloMosaic.TcCoe Idealize.SL.Sem

section Any
variable {F : FTy → Type} [FloatOps F]
variable (m : (ℓ : Loc nD τ sig) → Buf (Elt F) ℓ) (c : Dev nD) (t : Fin cfg0.N)

/-- What the buffers hold after point `t`, and what the point before left. -/
abbrev now : St F := outsAt0 m c t.val t.isLt
abbrev prev : St F := outsAt0 m c (t.val - 1) (Nat.lt_of_le_of_lt (Nat.sub_le _ _) t.isLt)

theorem hlt : t.val < 224 := lt_of_lt_of_eq t.isLt (show cfg0.N = 224 from N_0)

/-- The first point of a sweep fills the scratch columns, writes the first codes and starts the accumulator from zero. -/
theorem first (h0 : t.val % 14 = 0) :
    (now m c t).2.1 = k0_pay1 (iblk m c 0 t) (inv0 (row1 (grid0.coords t) (iblk m c 1 t)))
    ∧ (now m c t).2.2.2.1 = k0_pay2 (iblk m c 0 t) (inv0 (row1 (grid0.coords t) (iblk m c 1 t))) (iblk m c 2 t) k0_pay39 (iblk m c 3 t)
        (dsc0 (row1 (grid0.coords t) (iblk m c 1 t)))
    ∧ (now m c t).2.2.2.2.1 = inv0 (row1 (grid0.coords t) (iblk m c 1 t))
    ∧ (now m c t).2.2.2.2.2.1 = dsc0 (row1 (grid0.coords t) (iblk m c 1 t))
    ∧ (now m c t).2.2.2.2.2.2.1 = dqs0 (row1 (grid0.coords t) (iblk m c 5 t)) := by
  have hN := hlt t
  unfold now
  by_cases hz : t.val = 0
  · have h : conds0_A (grid0.coords t) := by simp only [conds0_A, hcond0_0 t, hcond0_1 t, hcond0_2 t, hcond0_3 t, hcond0_4 t, hcond0_5 t]; omega
    rw [outsAt0_zero m c t hz, stepAt_A m c t h]
    unfold tup_A; dsimp only
    exact ⟨out_A_15_eq m c t h _, out_A_s0_eq m c t h _, out_A_s1_eq m c t h _, out_A_s2_eq m c t h _, out_A_s3_eq m c t h _⟩
  · have h : conds0_E (grid0.coords t) := by simp only [conds0_E, hcond0_0 t, hcond0_1 t, hcond0_2 t, hcond0_3 t, hcond0_4 t, hcond0_5 t]; omega
    rw [outsAt0_pos m c t (by omega), stepAt_E m c t h]
    unfold tup_E; dsimp only
    exact ⟨out_E_15_eq m c t h _, out_E_s0_eq m c t h _, out_E_s1_eq m c t h _, out_E_s2_eq m c t h _, out_E_s3_eq m c t h _⟩

/-- The next seven points each write their codes and add one step of the first product; the scratch columns stay. -/
theorem mid (h0 : t.val % 14 ≠ 0) (h1 : t.val % 14 ≤ 7) :
    (now m c t).2.1 = k0_pay1 (iblk m c 0 t) (prev m c t).2.2.2.2.1
    ∧ (now m c t).2.2.2.1 = k0_pay2 (iblk m c 0 t) (prev m c t).2.2.2.2.1 (iblk m c 2 t) (prev m c t).2.2.2.1 (iblk m c 3 t) (prev m c t).2.2.2.2.2.1
    ∧ (now m c t).2.2.2.2.1 = (prev m c t).2.2.2.2.1
    ∧ (now m c t).2.2.2.2.2.1 = (prev m c t).2.2.2.2.2.1
    ∧ (now m c t).2.2.2.2.2.2.1 = (prev m c t).2.2.2.2.2.2.1 := by
  have hN := hlt t
  unfold now prev
  have h : conds0_B (grid0.coords t) := by simp only [conds0_B, hcond0_0 t, hcond0_1 t, hcond0_2 t, hcond0_3 t, hcond0_4 t, hcond0_5 t]; omega
  rw [outsAt0_pos m c t (by omega), stepAt_B m c t h]
  unfold tup_B; dsimp only
  exact ⟨out_B_15_eq m c t h _, out_B_s0_eq m c t h _, rfl, rfl, rfl⟩

/-- The last six points each add one step of the second product; the codes and the scratch columns stay. -/
theorem late (h1 : 8 ≤ t.val % 14) :
    (now m c t).2.1 = (prev m c t).2.1
    ∧ (now m c t).2.2.2.1 = k0_pay3 (iblk m c 4 t) (iblk m c 6 t) (prev m c t).2.2.2.1 (iblk m c 7 t) (prev m c t).2.2.2.2.2.2.1
    ∧ (now m c t).2.2.2.2.1 = (prev m c t).2.2.2.2.1
    ∧ (now m c t).2.2.2.2.2.1 = (prev m c t).2.2.2.2.2.1
    ∧ (now m c t).2.2.2.2.2.2.1 = (prev m c t).2.2.2.2.2.2.1 := by
  have hN := hlt t
  unfold now prev
  by_cases h13 : t.val % 14 = 13
  · by_cases hl : t.val = 223
    · have h : conds0_F (grid0.coords t) := by simp only [conds0_F, hcond0_0 t, hcond0_1 t, hcond0_2 t, hcond0_3 t, hcond0_4 t, hcond0_5 t]; omega
      rw [outsAt0_pos m c t (by omega), stepAt_F m c t h]
      unfold tup_F; dsimp only
      exact ⟨rfl, out_F_s0_eq m c t h _, rfl, rfl, rfl⟩
    · have h : conds0_D (grid0.coords t) := by simp only [conds0_D, hcond0_0 t, hcond0_1 t, hcond0_2 t, hcond0_3 t, hcond0_4 t, hcond0_5 t]; omega
      rw [outsAt0_pos m c t (by omega), stepAt_D m c t h]
      unfold tup_D; dsimp only
      exact ⟨rfl, out_D_s0_eq m c t h _, rfl, rfl, rfl⟩
  · have h : conds0_C (grid0.coords t) := by simp only [conds0_C, hcond0_0 t, hcond0_1 t, hcond0_2 t, hcond0_3 t, hcond0_4 t, hcond0_5 t]; omega
    rw [outsAt0_pos m c t (by omega), stepAt_C m c t h]
    unfold tup_C; dsimp only
    exact ⟨rfl, out_C_s0_eq m c t h _, rfl, rfl, rfl⟩

/-- The last point of a sweep writes the block of the result from its accumulator. -/
theorem last (h1 : t.val % 14 = 13) :
    (now m c t).1 = View.canon (dxL (now m c t).2.2.2.1 (iblk m c 10 t) (row2 (grid0.coords t) (iblk m c 11 t)) (iblk m c 13 t)
      (row2 (grid0.coords t) (iblk m c 12 t)) (iblk m c 8 t) (row2 (grid0.coords t) (iblk m c 9 t))) := by
  have hN := hlt t
  rw [(late m c t (by omega)).2.1]
  unfold now prev
  by_cases hl : t.val = 223
  · have h : conds0_F (grid0.coords t) := by simp only [conds0_F, hcond0_0 t, hcond0_1 t, hcond0_2 t, hcond0_3 t, hcond0_4 t, hcond0_5 t]; omega
    rw [outsAt0_pos m c t (by omega), stepAt_F m c t h]
    unfold tup_F; dsimp only
    exact out_F_14_eq m c t h _
  · have h : conds0_D (grid0.coords t) := by simp only [conds0_D, hcond0_0 t, hcond0_1 t, hcond0_2 t, hcond0_3 t, hcond0_4 t, hcond0_5 t]; omega
    rw [outsAt0_pos m c t (by omega), stepAt_D m c t h]
    unfold tup_D; dsimp only
    exact out_D_14_eq m c t h _

end Any

/-- The layer norm's derivative and the residual on a block of 512 rows, entry by entry. -/
def lnF (a : Vec Ideal S512x2560 .f32) (xh : Vec Ideal S512x2560 .fp8e4m3) (xs : Vec Ideal S1x512 .f32) (g : Vec Ideal S1x2560 .f32)
    (rs : Vec Ideal S1x512 .f32) (dy : Vec Ideal S512x2560 .fp8e5m2) (ds : Vec Ideal S1x512 .f32) (r : Fin 512) (d : Fin 2560) : EReal :=
  dy (ix2 r d) * ds (ix2 0 r) + rs (ix2 0 r) * (a (ix2 r d) * g (ix2 0 d)
    - (∑ j : Fin 2560, a (ix2 r j) * g (ix2 0 j)) * rD
    - xh (ix2 r d) * xs (ix2 0 r) * ((∑ j : Fin 2560, a (ix2 r j) * g (ix2 0 j) * (xh (ix2 r j) * xs (ix2 0 r))) * rD))

theorem rc_idx (o : ℕ) (ho : o + 128 ≤ 512) (h) (k : Fin 128) (d : Fin 2560) :
    (rc o h).idx (ix2 k d) = ix2 (⟨o + k.val, by omega⟩ : Fin 512) d := by
  funext a
  apply Fin.ext
  match a with
  | ⟨0, _⟩ => show o + 1 * k.val = o + k.val; omega
  | ⟨1, _⟩ => show 0 + 1 * d.val = d.val; omega

section Block
variable (a : Vec Ideal S512x2560 .f32) (xh : Vec Ideal S512x2560 .fp8e4m3) (xs : Vec Ideal S1x512 .f32) (g : Vec Ideal S1x2560 .f32)
  (rs : Vec Ideal S1x512 .f32) (dy : Vec Ideal S512x2560 .fp8e5m2) (ds : Vec Ideal S1x512 .f32)

theorem ln_block (o : ℕ) (ho : o + 128 ≤ 512) (h) (hs : S1x512.Slices ![0, o] S1x128) (k : Fin 128) (d : Fin 2560) :
    ln (lanes o xs hs) (lanes o rs hs) (lanes o ds hs) (View.ld a (rc o h)) (View.ld xh (rc o h)) g (View.ld dy (rc o h)) (ix2 k d)
      = lnF a xh xs g rs dy ds ⟨o + k.val, by omega⟩ d := by
  rw [ln_apply]
  simp only [lanes_apply o ho]
  unfold lnF
  have hx : ∀ (x : Fin 2560), (rc o h).idx (ix2 k x) = ix2 (⟨o + k.val, by omega⟩ : Fin 512) x := rc_idx o ho h k
  simp only [View.ld, hx]

/-- The four stores tile the block. -/
theorem dx_apply (r : Fin 512) (d : Fin 2560) : View.canon (dxL a xh xs g rs dy ds) (ix2 r d) = lnF a xh xs g rs dy ds r d := by
  refine View.canon_apply_of_pieces (Val := Elt Ideal) (S := S512x2560) (e := .bf16) (fun y => lnF a xh xs g rs dy ds (y 0) (y 1)) _ ?_ (ix2 r d) ?_
  · intro p hp x
    have key : ∀ (o : ℕ) (ho : o + 128 ≤ 512) (h) (hs : S1x512.Slices ![0, o] S1x128) (x : S128x2560.Idx),
        ln (lanes o xs hs) (lanes o rs hs) (lanes o ds hs) (View.ld a (rc o h)) (View.ld xh (rc o h)) g (View.ld dy (rc o h)) x
          = lnF a xh xs g rs dy ds ((rc o h).idx x 0) ((rc o h).idx x 1) := by
      intro o ho h hs x
      obtain ⟨k, e, rfl⟩ : ∃ k e, x = ix2 k e := ⟨x 0, x 1, eq_ix2 x⟩
      rw [rc_idx o ho h k e]
      exact ln_block a xh xs g rs dy ds o ho h hs k e
    rcases List.mem_cons.1 hp with rfl | hp
    · exact (congrFun (part3_eq _ _ _ _ _ _ _) x).trans (key 384 (by omega) in3 _ x)
    rcases List.mem_cons.1 hp with rfl | hp
    · exact (congrFun (part2_eq _ _ _ _ _ _ _) x).trans (key 256 (by omega) in2 _ x)
    rcases List.mem_cons.1 hp with rfl | hp
    · exact (congrFun (part1_eq _ _ _ _ _ _ _) x).trans (key 128 (by omega) in1 _ x)
    rcases List.mem_cons.1 hp with rfl | hp
    · exact (congrFun (part0_eq _ _ _ _ _ _ _) x).trans (key 0 (by omega) in0 _ x)
    · exact absurd hp (List.not_mem_nil)
  · have hm : ∀ (o : ℕ) (h), o ≤ r.val → r.val < o + 128 → (ix2 r d : S512x2560.Idx) ∈ (rc o h).set := by
      intro o h h1 h2
      rw [Rect.mem_set_unit]
      intro b
      match b with
      | ⟨0, _⟩ => exact ⟨h1, h2⟩
      | ⟨1, _⟩ => exact ⟨Nat.zero_le _, lt_of_lt_of_eq d.isLt (Nat.zero_add _).symm⟩
    have hr := r.isLt
    rcases (by omega : 384 ≤ r.val ∨ (256 ≤ r.val ∧ r.val < 384) ∨ (128 ≤ r.val ∧ r.val < 256) ∨ r.val < 128) with h | h | h | h
    · exact ⟨_, List.mem_cons_self, hm 384 in3 h (by omega)⟩
    · exact ⟨_, List.mem_cons_of_mem _ List.mem_cons_self, hm 256 in2 h.1 (by omega)⟩
    · exact ⟨_, List.mem_cons_of_mem _ (List.mem_cons_of_mem _ List.mem_cons_self), hm 128 in1 h.1 (by omega)⟩
    · exact ⟨_, List.mem_cons_of_mem _ (List.mem_cons_of_mem _ (List.mem_cons_of_mem _ List.mem_cons_self)), hm 0 in0 (Nat.zero_le _) (by omega)⟩

end Block

end Cert.DxKernel

end
-- ==== Proof.DxSweep.lean ====
/-
  Hand-written, untrusted. The two result arrays of the dx kernel over the extended reals, from the argument arrays: the blocks a point is
  given, the scratch columns and the accumulator along a sweep, and what the points write.
-/
module

public import proofs.«01_k».proof.Proof.DxStep
public import proofs.«01_k».proof.Proof.InKernel
public import proofs.«01_k».proof.Proof.InSweep

@[expose] public section

set_option maxRecDepth 16384

noncomputable section

namespace Cert.DxKernel

open Cert.KDxIdeal Cert.KDxIdeal.Gen Idealize.ShloMosaic Idealize.ShloMosaic.TcCoe Idealize.SL.Sem

/-! ## Where the windows' blocks lie at a grid point -/

theorem idx0 : ∀ t : Fin cfg0.N, win0_0.index t (0 : Fin 2) = t.val / 14 ∧ win0_0.index t (1 : Fin 2) = min (t.val % 14) 7 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = min (t.val % 14) 7 :=
  (by decide +kernel : ∀ t : Fin grid0.N, _)
theorem idx3 : ∀ t : Fin cfg0.N, win0_3.index t (0 : Fin 2) = 0 ∧ win0_3.index t (1 : Fin 2) = min (t.val % 14) 7 :=
  (by decide +kernel : ∀ t : Fin grid0.N, _)
theorem idx4 : ∀ t : Fin cfg0.N, win0_4.index t (0 : Fin 2) = t.val / 14 ∧ win0_4.index t (1 : Fin 2) = t.val % 14 - 8 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = t.val % 14 - 8 :=
  (by decide +kernel : ∀ t : Fin grid0.N, _)
theorem idx7 : ∀ t : Fin cfg0.N, win0_7.index t (0 : Fin 2) = 0 ∧ win0_7.index t (1 : Fin 2) = t.val % 14 - 8 :=
  (by decide +kernel : ∀ t : Fin grid0.N, _)
theorem idx8 : ∀ t : Fin cfg0.N, win0_8.index t (0 : Fin 2) = t.val / 14 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = t.val / 14 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem off1 : ∀ t : Fin cfg0.N, k0_off1 (grid0.coords t) (0 : Fin 2) = t.val / 14 / 2 ∧ k0_off1 (grid0.coords t) (1 : Fin 2) = t.val / 14 % 2 * 512 :=
  (by decide +kernel : ∀ t : Fin grid0.N, _)
theorem off2 : ∀ t : Fin cfg0.N, k0_off2 (grid0.coords t) (0 : Fin 2) = t.val / 14 / 2 ∧ k0_off2 (grid0.coords t) (1 : Fin 2) = t.val / 14 % 2 * 512 :=
  (by decide +kernel : ∀ t : Fin grid0.N, _)

variable (m : (ℓ : Loc nD τ sig) → Buf (Elt Ideal) ℓ) (c : Dev nD)

/-! ## The argument arrays, one row per token, and the blocks of them -/

abbrev K0 : Vec Ideal S8192x10240 .bf16 := m ((c : Thread nD τ).loc main_arg0)
abbrev K1 : Vec Ideal S8x1024 .f32 := m ((c : Thread nD τ).loc main_arg1)
abbrev K2 : Vec Ideal S1x10240 .f32 := shapeCast S1x10240 (m ((c : Thread nD τ).loc main_arg2)) shapeCasts_S10240_S1x10240
abbrev K3 : Vec Ideal S2560x10240 .fp8e4m3 := m ((c : Thread nD τ).loc main_arg3)
abbrev K4 : Vec Ideal S8192x7680 .fp8e5m2 := shapeCast S8192x7680 (m ((c : Thread nD τ).loc main_arg4)) shapeCasts_S8x1024x3x20x128_S8192x7680
abbrev K5 : Vec Ideal S8x1024 .f32 := m ((c : Thread nD τ).loc main_arg5)
abbrev K6 : Vec Ideal S1x7680 .f32 := shapeCast S1x7680 (m ((c : Thread nD τ).loc main_arg6)) shapeCasts_S3x20x128_S1x7680
abbrev K7 : Vec Ideal S2560x7680 .fp8e4m3 := shapeCast S2560x7680 (m ((c : Thread nD τ).loc main_arg7)) shapeCasts_S2560x3x20x128_S2560x7680
abbrev K8 : Vec Ideal S8192x2560 .fp8e5m2 := shapeCast S8192x2560 (m ((c : Thread nD τ).loc main_arg8)) shapeCasts_S8x1024x2560_S8192x2560
abbrev K9 : Vec Ideal S8x1024 .f32 := m ((c : Thread nD τ).loc main_arg9)
abbrev K10 : Vec Ideal S8192x2560 .fp8e4m3 := shapeCast S8192x2560 (m ((c : Thread nD τ).loc main_arg10)) shapeCasts_S8x1024x2560_S8192x2560
abbrev K11 : Vec Ideal S8x1024 .f32 := m ((c : Thread nD τ).loc main_arg11)
abbrev K12 : Vec Ideal S8x1024 .f32 := m ((c : Thread nD τ).loc main_arg12)
abbrev K13 : Vec Ideal S1x2560 .f32 := shapeCast S1x2560 (m ((c : Thread nD τ).loc main_arg13)) shapeCasts_S2560_S1x2560

theorem V_v0 : V m c main_v0 = K2 m c := by
  unfold_abbrev_sides
  after_results
  rfl
theorem V_v1 : V m c main_v1 = K4 m c := by
  unfold_abbrev_sides
  after_results
  rfl
theorem V_v2 : V m c main_v2 = K6 m c := by
  unfold_abbrev_sides
  after_results
  rfl
theorem V_v3 : V m c main_v3 = K7 m c := by
  unfold_abbrev_sides
  after_results
  rfl
theorem V_v4 : V m c main_v4 = K8 m c := by
  unfold_abbrev_sides
  after_results
  rfl
theorem V_v5 : V m c main_v5 = K10 m c := by
  unfold_abbrev_sides
  after_results
  rfl
theorem V_v6 : V m c main_v6 = K13 m c := by
  unfold_abbrev_sides
  after_results
  rfl

/-- The entry of token `T` in an array of scales. -/
abbrev tok (x : Vec Ideal S8x1024 .f32) (T : Fin 8192) : EReal := x (ix2 ⟨T.val / 1024, by omega⟩ ⟨T.val % 1024, by omega⟩)

theorem iblk0_apply (t : Fin cfg0.N) (k : Fin 512) (l : Fin 1280) (T : Fin 8192) (hT : T.val = t.val / 14 * 512 + k.val) (L : Fin 10240) (hL : L.val = (min (t.val % 14) 7) * 1280 + l.val) :
    (iblk m c 0 t : Vec Ideal S512x1280 .bf16) (ix2 k l) = K0 m c (ix2 T L) := by
  unfold iblk
  rw [View.read_apply]
  show V m c main_arg0 _ = _
  rw [V_kept m c main_arg0 (by simp)]
  congr 1
  funext a
  apply Fin.ext
  match a with
  | ⟨0, _⟩ => show win0_0.index t 0 * 512 + 1 * k.val = T.val; rw [(idx0 t).1]; omega
  | ⟨1, _⟩ => show win0_0.index t 1 * 1280 + 1 * l.val = L.val; rw [(idx0 t).2]; omega
theorem iblk1_eq (t : Fin cfg0.N) : (iblk m c 1 t : Vec Ideal S8x1024 .f32) = K1 m c := by
  funext j
  unfold iblk
  rw [View.read_apply]
  show V m c main_arg1 _ = _
  rw [V_kept m c main_arg1 (by simp)]
  congr 1
  funext a
  apply Fin.ext
  match a with
  | ⟨0, _⟩ => show win0_1.index t 0 * 8 + 1 * (j 0).val = (j 0).val; rw [(idx1 t).1]; omega
  | ⟨1, _⟩ => show win0_1.index t 1 * 1024 + 1 * (j 1).val = (j 1).val; rw [(idx1 t).2]; omega
theorem iblk2_apply (t : Fin cfg0.N) (l : Fin 1280) (L : Fin 10240) (hL : L.val = (min (t.val % 14) 7) * 1280 + l.val) :
    (iblk m c 2 t : Vec Ideal S1x1280 .f32) (ix2 0 l) = K2 m c (ix2 0 L) := by
  unfold iblk
  rw [View.read_apply]
  show V m c main_v0 _ = _
  rw [V_v0 m c]
  congr 1
  funext a
  apply Fin.ext
  match a with
  | ⟨0, _⟩ => show win0_2.index t 0 * 1 + 1 * 0 = 0; rw [(idx2 t).1]
  | ⟨1, _⟩ => show win0_2.index t 1 * 1280 + 1 * l.val = L.val; rw [(idx2 t).2]; omega
theorem iblk3_apply (t : Fin cfg0.N) (k : Fin 2560) (l : Fin 1280) (L : Fin 10240) (hL : L.val = (min (t.val % 14) 7) * 1280 + l.val) :
    (iblk m c 3 t : Vec Ideal S2560x1280 .fp8e4m3) (ix2 k l) = K3 m c (ix2 k L) := by
  unfold iblk
  rw [View.read_apply]
  show V m c main_arg3 _ = _
  rw [V_kept m c main_arg3 (by simp)]
  congr 1
  funext a
  apply Fin.ext
  match a with
  | ⟨0, _⟩ => show win0_3.index t 0 * 2560 + 1 * k.val = k.val; rw [(idx3 t).1]; omega
  | ⟨1, _⟩ => show win0_3.index t 1 * 1280 + 1 * l.val = L.val; rw [(idx3 t).2]; omega
theorem iblk4_apply (t : Fin cfg0.N) (k : Fin 512) (l : Fin 1280) (T : Fin 8192) (hT : T.val = t.val / 14 * 512 + k.val) (L : Fin 7680) (hL : L.val = (t.val % 14 - 8) * 1280 + l.val) :
    (iblk m c 4 t : Vec Ideal S512x1280 .fp8e5m2) (ix2 k l) = K4 m c (ix2 T L) := by
  unfold iblk
  rw [View.read_apply]
  show V m c main_v1 _ = _
  rw [V_v1 m c]
  congr 1
  funext a
  apply Fin.ext
  match a with
  | ⟨0, _⟩ => show win0_4.index t 0 * 512 + 1 * k.val = T.val; rw [(idx4 t).1]; omega
  | ⟨1, _⟩ => show win0_4.index t 1 * 1280 + 1 * l.val = L.val; rw [(idx4 t).2]; omega
theorem iblk5_eq (t : Fin cfg0.N) : (iblk m c 5 t : Vec Ideal S8x1024 .f32) = K5 m c := by
  funext j
  unfold iblk
  rw [View.read_apply]
  show V m c main_arg5 _ = _
  rw [V_kept m c main_arg5 (by simp)]
  congr 1
  funext a
  apply Fin.ext
  match a with
  | ⟨0, _⟩ => show win0_5.index t 0 * 8 + 1 * (j 0).val = (j 0).val; rw [(idx5 t).1]; omega
  | ⟨1, _⟩ => show win0_5.index t 1 * 1024 + 1 * (j 1).val = (j 1).val; rw [(idx5 t).2]; omega
theorem iblk6_apply (t : Fin cfg0.N) (l : Fin 1280) (L : Fin 7680) (hL : L.val = (t.val % 14 - 8) * 1280 + l.val) :
    (iblk m c 6 t : Vec Ideal S1x1280 .f32) (ix2 0 l) = K6 m c (ix2 0 L) := by
  unfold iblk
  rw [View.read_apply]
  show V m c main_v2 _ = _
  rw [V_v2 m c]
  congr 1
  funext a
  apply Fin.ext
  match a with
  | ⟨0, _⟩ => show win0_6.index t 0 * 1 + 1 * 0 = 0; rw [(idx6 t).1]
  | ⟨1, _⟩ => show win0_6.index t 1 * 1280 + 1 * l.val = L.val; rw [(idx6 t).2]; omega
theorem iblk7_apply (t : Fin cfg0.N) (k : Fin 2560) (l : Fin 1280) (L : Fin 7680) (hL : L.val = (t.val % 14 - 8) * 1280 + l.val) :
    (iblk m c 7 t : Vec Ideal S2560x1280 .fp8e4m3) (ix2 k l) = K7 m c (ix2 k L) := by
  unfold iblk
  rw [View.read_apply]
  show V m c main_v3 _ = _
  rw [V_v3 m c]
  congr 1
  funext a
  apply Fin.ext
  match a with
  | ⟨0, _⟩ => show win0_7.index t 0 * 2560 + 1 * k.val = k.val; rw [(idx7 t).1]; omega
  | ⟨1, _⟩ => show win0_7.index t 1 * 1280 + 1 * l.val = L.val; rw [(idx7 t).2]; omega
theorem iblk8_apply (t : Fin cfg0.N) (k : Fin 512) (l : Fin 2560) (T : Fin 8192) (hT : T.val = t.val / 14 * 512 + k.val) :
    (iblk m c 8 t : Vec Ideal S512x2560 .fp8e5m2) (ix2 k l) = K8 m c (ix2 T l) := by
  unfold iblk
  rw [View.read_apply]
  show V m c main_v4 _ = _
  rw [V_v4 m c]
  congr 1
  funext a
  apply Fin.ext
  match a with
  | ⟨0, _⟩ => show win0_8.index t 0 * 512 + 1 * k.val = T.val; rw [(idx8 t).1]; omega
  | ⟨1, _⟩ => show win0_8.index t 1 * 2560 + 1 * l.val = l.val; rw [(idx8 t).2]; omega
theorem iblk9_eq (t : Fin cfg0.N) : (iblk m c 9 t : Vec Ideal S8x1024 .f32) = K9 m c := by
  funext j
  unfold iblk
  rw [View.read_apply]
  show V m c main_arg9 _ = _
  rw [V_kept m c main_arg9 (by simp)]
  congr 1
  funext a
  apply Fin.ext
  match a with
  | ⟨0, _⟩ => show win0_9.index t 0 * 8 + 1 * (j 0).val = (j 0).val; rw [(idx9 t).1]; omega
  | ⟨1, _⟩ => show win0_9.index t 1 * 1024 + 1 * (j 1).val = (j 1).val; rw [(idx9 t).2]; omega
theorem iblk10_apply (t : Fin cfg0.N) (k : Fin 512) (l : Fin 2560) (T : Fin 8192) (hT : T.val = t.val / 14 * 512 + k.val) :
    (iblk m c 10 t : Vec Ideal S512x2560 .fp8e4m3) (ix2 k l) = K10 m c (ix2 T l) := by
  unfold iblk
  rw [View.read_apply]
  show V m c main_v5 _ = _
  rw [V_v5 m c]
  congr 1
  funext a
  apply Fin.ext
  match a with
  | ⟨0, _⟩ => show win0_10.index t 0 * 512 + 1 * k.val = T.val; rw [(idx10 t).1]; omega
  | ⟨1, _⟩ => show win0_10.index t 1 * 2560 + 1 * l.val = l.val; rw [(idx10 t).2]; omega
theorem iblk11_eq (t : Fin cfg0.N) : (iblk m c 11 t : Vec Ideal S8x1024 .f32) = K11 m c := by
  funext j
  unfold iblk
  rw [View.read_apply]
  show V m c main_arg11 _ = _
  rw [V_kept m c main_arg11 (by simp)]
  congr 1
  funext a
  apply Fin.ext
  match a with
  | ⟨0, _⟩ => show win0_11.index t 0 * 8 + 1 * (j 0).val = (j 0).val; rw [(idx11 t).1]; omega
  | ⟨1, _⟩ => show win0_11.index t 1 * 1024 + 1 * (j 1).val = (j 1).val; rw [(idx11 t).2]; omega
theorem iblk12_eq (t : Fin cfg0.N) : (iblk m c 12 t : Vec Ideal S8x1024 .f32) = K12 m c := by
  funext j
  unfold iblk
  rw [View.read_apply]
  show V m c main_arg12 _ = _
  rw [V_kept m c main_arg12 (by simp)]
  congr 1
  funext a
  apply Fin.ext
  match a with
  | ⟨0, _⟩ => show win0_12.index t 0 * 8 + 1 * (j 0).val = (j 0).val; rw [(idx12 t).1]; omega
  | ⟨1, _⟩ => show win0_12.index t 1 * 1024 + 1 * (j 1).val = (j 1).val; rw [(idx12 t).2]; omega
theorem iblk13_eq (t : Fin cfg0.N) : (iblk m c 13 t : Vec Ideal S1x2560 .f32) = K13 m c := by
  funext j
  unfold iblk
  rw [View.read_apply]
  show V m c main_v6 _ = _
  rw [V_v6 m c]
  congr 1
  funext a
  apply Fin.ext
  match a with
  | ⟨0, _⟩ => show win0_13.index t 0 * 1 + 1 * (j 0).val = (j 0).val; rw [(idx13 t).1]; omega
  | ⟨1, _⟩ => show win0_13.index t 1 * 2560 + 1 * (j 1).val = (j 1).val; rw [(idx13 t).2]; omega

/-- The row of scales loaded at point `t` is that of the point's 512 tokens. -/
theorem row1_apply (t : Fin cfg0.N) (x : Vec Ideal S8x1024 .f32) (k : Fin 512) (T : Fin 8192) (hT : T.val = t.val / 14 * 512 + k.val) :
    row1 (grid0.coords t) x (ix2 0 k) = tok x T := by
  show x _ = x _
  congr 1
  funext a
  apply Fin.ext
  match a with
  | ⟨0, _⟩ => show k0_off1 (grid0.coords t) 0 + 1 * 0 = T.val / 1024; rw [(off1 t).1]; omega
  | ⟨1, _⟩ => show k0_off1 (grid0.coords t) 1 + 1 * k.val = T.val % 1024; rw [(off1 t).2]; omega

/-- The row of scales loaded at point `t` is that of the point's 512 tokens. -/
theorem row2_apply (t : Fin cfg0.N) (x : Vec Ideal S8x1024 .f32) (k : Fin 512) (T : Fin 8192) (hT : T.val = t.val / 14 * 512 + k.val) :
    row2 (grid0.coords t) x (ix2 0 k) = tok x T := by
  show x _ = x _
  congr 1
  funext a
  apply Fin.ext
  match a with
  | ⟨0, _⟩ => show k0_off2 (grid0.coords t) 0 + 1 * 0 = T.val / 1024; rw [(off2 t).1]; omega
  | ⟨1, _⟩ => show k0_off2 (grid0.coords t) 1 + 1 * k.val = T.val % 1024; rw [(off2 t).2]; omega

/-! ## What a sweep computes -/

/-- The exponent's scale and inverse scale of token `T`. -/
def tscale (T : Fin 8192) : EReal := Exponent.scale (s := S8x1024) (K1 m c) (ix2 ⟨T.val / 1024, by omega⟩ ⟨T.val % 1024, by omega⟩)
def tinv (T : Fin 8192) : EReal := Exponent.inv (s := S8x1024) (K1 m c) (ix2 ⟨T.val / 1024, by omega⟩ ⟨T.val % 1024, by omega⟩)

/-- The code of token `T` in column `L`. -/
def code (T : Fin 8192) (L : Fin 10240) : EReal := clip (K0 m c (ix2 T L) * tinv m c T)

/-- One column's contribution to the two products. -/
def mterm (T : Fin 8192) (d : Fin 2560) (L : Fin 10240) : EReal := code m c T L * K2 m c (ix2 0 L) * K3 m c (ix2 d L)
def aterm (T : Fin 8192) (d : Fin 2560) (L : Fin 7680) : EReal := K4 m c (ix2 T L) * K6 m c (ix2 0 L) * K7 m c (ix2 d L)

/-- A block's contribution. -/
def mblock (T : Fin 8192) (d : Fin 2560) (s : ℕ) : EReal := ∑ k : Fin 1280, if hs : s < 8 then mterm m c T d ⟨s * 1280 + k.val, by omega⟩ else 0
def ablock (T : Fin 8192) (d : Fin 2560) (s : ℕ) : EReal := ∑ k : Fin 1280, if hs : s < 6 then aterm m c T d ⟨s * 1280 + k.val, by omega⟩ else 0

/-- The scratch columns after every point of a sweep: the inverse scales, the scales, and the second product's scales of its tokens. -/
theorem scratch (k : Fin 512) (l : Fin 128) (T : Fin 8192) (j : ℕ) : ∀ (hj : j < 14) (t : Fin cfg0.N) (ht : t.val % 14 = j) (hT : T.val = t.val / 14 * 512 + k.val),
    (now m c t).2.2.2.2.1 (ix2 k l) = tinv m c T ∧ (now m c t).2.2.2.2.2.1 (ix2 k l) = tscale m c T ∧ (now m c t).2.2.2.2.2.2.1 (ix2 k l) = tok (K5 m c) T := by
  induction j with
  | zero =>
    intro hj t ht hT
    obtain ⟨-, -, h1, h2, h3⟩ := first m c t ht
    rw [h1, h2, h3, inv0_apply, dsc0_apply, dqs0_apply, iblk1_eq, iblk5_eq]
    exact ⟨InKernel.inv_congr _ _ _ _ (row1_apply t _ k T hT), InKernel.scale_congr _ _ _ _ (row1_apply t _ k T hT), row1_apply t _ k T hT⟩
  | succ j ih =>
    intro hj t ht hT
    have hp := ih (by omega) ⟨t.val - 1, by omega⟩ (by dsimp only; omega) (by dsimp only; omega)
    by_cases h7 : t.val % 14 ≤ 7
    · obtain ⟨-, -, h1, h2, h3⟩ := mid m c t (by omega) h7
      rw [h1, h2, h3]; exact hp
    · obtain ⟨-, -, h1, h2, h3⟩ := late m c t (by omega)
      rw [h1, h2, h3]; exact hp

/-- The codes of a block, from its rows' inverse scales. -/
theorem code_block (t : Fin cfg0.N) (s1 : Vec Ideal S512x128 .bf16) (k : Fin 512) (l : Fin 1280) (T : Fin 8192) (L : Fin 10240)
    (hT : T.val = t.val / 14 * 512 + k.val) (hL : L.val = min (t.val % 14) 7 * 1280 + l.val) (h1 : ∀ l, s1 (ix2 k l) = tinv m c T) :
    k0_pay1 (iblk m c 0 t) s1 (ix2 k l) = code m c T L := by
  refine (codes_apply (iblk m c 0 t) s1 k l).trans ?_
  rw [h1, iblk0_apply m c t k l T hT L hL, code]

/-- The block of codes after every point. -/
theorem codes (k : Fin 512) (l : Fin 1280) (T : Fin 8192) (L : Fin 10240) (j : ℕ) : ∀ (hj : j < 14) (t : Fin cfg0.N) (ht : t.val % 14 = j)
    (hT : T.val = t.val / 14 * 512 + k.val) (hL : L.val = min (t.val % 14) 7 * 1280 + l.val), (now m c t).2.1 (ix2 k l) = code m c T L := by
  induction j with
  | zero =>
    intro hj t ht hT hL
    obtain ⟨h0, -, h1, -, -⟩ := first m c t ht
    rw [h0, ← h1]
    exact code_block m c t _ k l T L hT hL fun l => (scratch m c k l T 0 hj t ht hT).1
  | succ j ih =>
    intro hj t ht hT hL
    by_cases h7 : t.val % 14 ≤ 7
    · obtain ⟨h0, -, h1, -, -⟩ := mid m c t (by omega) h7
      rw [h0, ← h1]
      exact code_block m c t _ k l T L hT hL fun l => (scratch m c k l T _ hj t ht hT).1
    · rw [(late m c t (by omega)).1]
      exact ih (by omega) ⟨t.val - 1, by omega⟩ (by dsimp only; omega) (by dsimp only; omega) (by dsimp only; omega)

/-- One step of the first product at a point. -/
theorem mstep (t : Fin cfg0.N) (s1 : Vec Ideal S512x128 .bf16) (s2 : Vec Ideal S512x128 .f32) (acc : Vec Ideal S512x2560 .f32) (k : Fin 512) (d : Fin 2560)
    (T : Fin 8192) (hT : T.val = t.val / 14 * 512 + k.val) (j : ℕ) (hj : j < 8) (ht : t.val % 14 = j)
    (h1 : ∀ l, s1 (ix2 k l) = tinv m c T) (h2 : ∀ l, s2 (ix2 k l) = tscale m c T) :
    k0_pay2 (iblk m c 0 t) s1 (iblk m c 2 t) acc (iblk m c 3 t) s2 (ix2 k d) = acc (ix2 k d) + mblock m c T d j * tscale m c T := by
  refine (mlp_apply (iblk m c 0 t) s1 (iblk m c 2 t) acc (iblk m c 3 t) s2 k d).trans ?_
  rw [h2]
  refine congrArg (fun x => acc (ix2 k d) + x * tscale m c T) (Finset.sum_congr rfl fun x _ => ?_)
  have hL : j * 1280 + x.val = min (t.val % 14) 7 * 1280 + x.val := by omega
  rw [dif_pos hj, code_block m c t s1 k x T ⟨j * 1280 + x.val, by omega⟩ hT hL h1, iblk2_apply m c t x ⟨j * 1280 + x.val, by omega⟩ hL,
    iblk3_apply m c t d x ⟨j * 1280 + x.val, by omega⟩ hL, mterm]

/-- One step of the second product at a point. -/
theorem astep (t : Fin cfg0.N) (s3 : Vec Ideal S512x128 .f32) (acc : Vec Ideal S512x2560 .f32) (k : Fin 512) (d : Fin 2560)
    (T : Fin 8192) (hT : T.val = t.val / 14 * 512 + k.val) (j : ℕ) (hj : j < 6) (ht : t.val % 14 = 8 + j) (h3 : ∀ l, s3 (ix2 k l) = tok (K5 m c) T) :
    k0_pay3 (iblk m c 4 t) (iblk m c 6 t) acc (iblk m c 7 t) s3 (ix2 k d) = acc (ix2 k d) + ablock m c T d j * tok (K5 m c) T := by
  refine (attn_apply (iblk m c 4 t) (iblk m c 6 t) acc (iblk m c 7 t) s3 k d).trans ?_
  rw [h3]
  refine congrArg (fun x => acc (ix2 k d) + x * tok (K5 m c) T) (Finset.sum_congr rfl fun x _ => ?_)
  have hL : j * 1280 + x.val = (t.val % 14 - 8) * 1280 + x.val := by omega
  rw [dif_pos hj, iblk4_apply m c t k x T hT ⟨j * 1280 + x.val, by omega⟩ hL, iblk6_apply m c t x ⟨j * 1280 + x.val, by omega⟩ hL,
    iblk7_apply m c t d x ⟨j * 1280 + x.val, by omega⟩ hL, aterm]

/-- The accumulator after the first eight points of a sweep, -/
theorem sweepM (k : Fin 512) (d : Fin 2560) (T : Fin 8192) (j : ℕ) : ∀ (hj : j < 8) (t : Fin cfg0.N) (ht : t.val % 14 = j) (hT : T.val = t.val / 14 * 512 + k.val),
    (now m c t).2.2.2.1 (ix2 k d) = ∑ s ∈ Finset.range (j + 1), mblock m c T d s * tscale m c T := by
  induction j with
  | zero =>
    intro hj t ht hT
    obtain ⟨-, h0, h1, h2, -⟩ := first m c t ht
    rw [h0, ← h1, ← h2, mstep m c t _ _ _ k d T hT 0 hj ht (fun l => (scratch m c k l T 0 (by omega) t ht hT).1)
      (fun l => (scratch m c k l T 0 (by omega) t ht hT).2.1), zero_apply, zero_add, Finset.sum_range_one]
  | succ j ih =>
    intro hj t ht hT
    obtain ⟨-, h0, h1, h2, -⟩ := mid m c t (by omega) (by omega)
    rw [h0, ← h1, ← h2, mstep m c t _ _ _ k d T hT (j + 1) hj ht (fun l => (scratch m c k l T _ (by omega) t ht hT).1)
      (fun l => (scratch m c k l T _ (by omega) t ht hT).2.1), Finset.sum_range_succ _ (j + 1)]
    exact congrArg (· + _) (ih (by omega) ⟨t.val - 1, by omega⟩ (by dsimp only; omega) (by dsimp only; omega))

/-- and after the other six. -/
theorem sweepA (k : Fin 512) (d : Fin 2560) (T : Fin 8192) (j : ℕ) : ∀ (hj : j < 6) (t : Fin cfg0.N) (ht : t.val % 14 = 8 + j) (hT : T.val = t.val / 14 * 512 + k.val),
    (now m c t).2.2.2.1 (ix2 k d) = (∑ s ∈ Finset.range 8, mblock m c T d s * tscale m c T) + ∑ s ∈ Finset.range (j + 1), ablock m c T d s * tok (K5 m c) T := by
  induction j with
  | zero =>
    intro hj t ht hT
    obtain ⟨-, h0, -, -, h3⟩ := late m c t (by omega)
    rw [h0, ← h3, astep m c t _ _ k d T hT 0 hj ht (fun l => (scratch m c k l T _ (by omega) t ht hT).2.2), Finset.sum_range_one]
    exact congrArg (· + _) (sweepM m c k d T 7 (by omega) ⟨t.val - 1, by omega⟩ (by dsimp only; omega) (by dsimp only; omega))
  | succ j ih =>
    intro hj t ht hT
    obtain ⟨-, h0, -, -, h3⟩ := late m c t (by omega)
    rw [h0, ← h3, astep m c t _ _ k d T hT (j + 1) hj ht (fun l => (scratch m c k l T _ (by omega) t ht hT).2.2), Finset.sum_range_succ _ (j + 1), ← add_assoc]
    exact congrArg (· + _) (ih (by omega) ⟨t.val - 1, by omega⟩ (by dsimp only; omega) (by dsimp only; omega))

/-- The accumulator at the end of a sweep, and the entry of the result computed from it. -/
def accT (T : Fin 8192) (d : Fin 2560) : EReal :=
  (∑ s ∈ Finset.range 8, mblock m c T d s * tscale m c T) + ∑ s ∈ Finset.range 6, ablock m c T d s * tok (K5 m c) T
def dxT (T : Fin 8192) (d : Fin 2560) : EReal :=
  K8 m c (ix2 T d) * tok (K9 m c) T + tok (K12 m c) T * (accT m c T d * K13 m c (ix2 0 d)
    - (∑ j : Fin 2560, accT m c T j * K13 m c (ix2 0 j)) * rD
    - K10 m c (ix2 T d) * tok (K11 m c) T * ((∑ j : Fin 2560, accT m c T j * K13 m c (ix2 0 j) * (K10 m c (ix2 T j) * tok (K11 m c) T)) * rD))

/-- The block of the result that the last point of a sweep writes. -/
theorem dx_block (t : Fin cfg0.N) (ht : t.val % 14 = 13) (k : Fin 512) (d : Fin 2560) (T : Fin 8192) (hT : T.val = t.val / 14 * 512 + k.val) :
    (now m c t).1 (ix2 k d) = dxT m c T d := by
  rw [last m c t ht]
  refine (dx_apply _ _ _ _ _ _ _ k d).trans ?_
  unfold lnF dxT
  have ha : ∀ j, (now m c t).2.2.2.1 (ix2 k j) = accT m c T j := fun j => sweepA m c k j T 5 (by omega) t ht hT
  have hx : ∀ j, (iblk m c 10 t : Vec Ideal S512x2560 .fp8e4m3) (ix2 k j) = K10 m c (ix2 T j) := fun j => iblk10_apply m c t k j T hT
  rw [iblk11_eq, iblk12_eq, iblk9_eq, row2_apply t (K9 m c) k T hT, row2_apply t (K12 m c) k T hT, row2_apply t (K11 m c) k T hT]
  simp only [ha, hx, iblk13_eq, iblk8_apply m c t k d T hT]

end Cert.DxKernel

end
-- ==== Proof.DxValue.lean ====
/-
  Hand-written, untrusted. The two result arrays of the dx kernel after a run: every entry is written by the point whose block holds it.
-/
module

public import proofs.«01_k».proof.Proof.DxSweep

@[expose] public section

set_option maxRecDepth 16384

noncomputable section

namespace Cert.DxKernel

open Cert.KDxIdeal Cert.KDxIdeal.Gen Idealize.ShloMosaic Idealize.ShloMosaic.TcCoe Idealize.SL.Sem
open Idealize.ShloMosaic.Pipeline (Dat)

theorem idx14 : ∀ t : Fin cfg0.N, win0_14.index t (0 : Fin 2) = t.val / 14 ∧ win0_14.index t (1 : Fin 2) = 0 :=
  (by decide +kernel : ∀ t : Fin grid0.N, _)
theorem idx15 : ∀ t : Fin cfg0.N, win0_15.index t (0 : Fin 2) = t.val / 14 ∧ win0_15.index t (1 : Fin 2) = min (t.val % 14) 7 :=
  (by decide +kernel : ∀ t : Fin grid0.N, _)

/-- The block of the result is written back at the end of every sweep; a block of codes at each of the first seven points and at the last. -/
theorem flush14 : ∀ t : Fin cfg0.N, (cfg0.win 14).flush t = true ↔ t.val % 14 = 13 := by decide +kernel
theorem flush15 : ∀ t : Fin cfg0.N, t.val % 14 < 7 ∨ t.val % 14 = 13 → (cfg0.win 15).flush t = true := by decide +kernel

variable (m : (ℓ : Loc nD τ sig) → Buf (Elt Ideal) ℓ) (ρ : Dev nD → PrngReg) (c : Dev nD)

/-- The two arrays. -/
def G14 : Buf (Elt Ideal) ((c : Thread nD τ).loc main_v7_0) := fun i => dxT m c (i 0) (i 1)
def G15 : Buf (Elt Ideal) ((c : Thread nD τ).loc main_v7_1) := fun i => code m c (i 0) (i 1)

theorem flushed14_eq (t : Fin cfg0.N) (hf : (cfg0.win 14).flush t = true) :
    (dats m 0 c).flushed 14 t = ((cfg0.win 14).blk t).view.read (Elt Ideal) (G14 m c) := by
  show (cfg0.win 14).cut (grid0.coords t) ((dats m 0 c).after 14 t) = _
  rw [after0_14]
  funext y
  have hx : (cfg0.win 14).xinj (grid0.coords t) y = ix2 (⟨(y 0).val, (y 0).isLt⟩ : Fin 512) (⟨(y 1).val, (y 1).isLt⟩ : Fin 2560) := by
    funext a; apply Fin.ext
    match a with
    | ⟨0, _⟩ => rfl
    | ⟨1, _⟩ => rfl
  have hb0 : (((cfg0.win 14).blk t).view.emb y 0).val = win0_14.index t 0 * 512 + 1 * (y 0).val := rfl
  have hb1 : (((cfg0.win 14).blk t).view.emb y 1).val = win0_14.index t 1 * 2560 + 1 * (y 1).val := rfl
  show (now m c t).1 ((cfg0.win 14).xinj (grid0.coords t) y) = dxT m c (((cfg0.win 14).blk t).view.emb y 0) (((cfg0.win 14).blk t).view.emb y 1)
  rw [hx]
  refine (dx_block m c t ((flush14 t).1 hf) ⟨(y 0).val, (y 0).isLt⟩ ⟨(y 1).val, (y 1).isLt⟩ (((cfg0.win 14).blk t).view.emb y 0) ?_).trans ?_
  · rw [hb0, (idx14 t).1]; dsimp only; omega
  · congr 1
    apply Fin.ext
    rw [hb1, (idx14 t).2]; dsimp only; omega

theorem flushed15_eq (t : Fin cfg0.N) (hf : (cfg0.win 15).flush t = true) :
    (dats m 0 c).flushed 15 t = ((cfg0.win 15).blk t).view.read (Elt Ideal) (G15 m c) := by
  show (cfg0.win 15).cut (grid0.coords t) ((dats m 0 c).after 15 t) = _
  rw [after0_15]
  funext y
  have hx : (cfg0.win 15).xinj (grid0.coords t) y = ix2 (⟨(y 0).val, (y 0).isLt⟩ : Fin 512) (⟨(y 1).val, (y 1).isLt⟩ : Fin 1280) := by
    funext a; apply Fin.ext
    match a with
    | ⟨0, _⟩ => rfl
    | ⟨1, _⟩ => rfl
  have hb0 : (((cfg0.win 15).blk t).view.emb y 0).val = win0_15.index t 0 * 512 + 1 * (y 0).val := rfl
  have hb1 : (((cfg0.win 15).blk t).view.emb y 1).val = win0_15.index t 1 * 1280 + 1 * (y 1).val := rfl
  show (now m c t).2.1 ((cfg0.win 15).xinj (grid0.coords t) y) = code m c (((cfg0.win 15).blk t).view.emb y 0) (((cfg0.win 15).blk t).view.emb y 1)
  rw [hx]
  refine codes m c ⟨(y 0).val, (y 0).isLt⟩ ⟨(y 1).val, (y 1).isLt⟩ _ _ (t.val % 14) (Nat.mod_lt _ (by decide)) t rfl ?_ ?_
  · rw [hb0, (idx15 t).1]; dsimp only; omega
  · rw [hb1, (idx15 t).2]; dsimp only; omega

theorem mem14 (t : Fin cfg0.N) (i : S8192x2560.Idx) : i ∈ ((cfg0.win 14).blk t).view.set
    ↔ ∀ a : Fin 2, win0_14.index t a * S512x2560.size a ≤ (i a).val ∧ (i a).val < win0_14.index t a * S512x2560.size a + S512x2560.size a := by
  show i ∈ ((View.whole main_v7_0).slice (win0_14.rect t)).set ↔ _
  rw [View.set_slice_whole, Rect.mem_set_unit]
  exact Iff.rfl
theorem mem15 (t : Fin cfg0.N) (i : S8192x10240.Idx) : i ∈ ((cfg0.win 15).blk t).view.set
    ↔ ∀ a : Fin 2, win0_15.index t a * S512x1280.size a ≤ (i a).val ∧ (i a).val < win0_15.index t a * S512x1280.size a + S512x1280.size a := by
  show i ∈ ((View.whole main_v7_1).slice (win0_15.rect t)).set ↔ _
  rw [View.set_slice_whole, Rect.mem_set_unit]
  exact Iff.rfl

theorem final14 : (dats m 0 c).arrAt 14 cfg0.N = G14 m c :=
  (dats m 0 c).arrAt_eq_of_cover 14 _ (fun t hf => flushed14_eq m c t hf) (fun i => by
    have h0 : (i 0).val < 8192 := (i 0).isLt
    have h1 : (i 1).val < 2560 := (i 1).isLt
    have hN : cfg0.N = 224 := N_0
    obtain ⟨t, ht⟩ : ∃ t : Fin cfg0.N, t.val = 14 * ((i 0).val / 512) + 13 := ⟨⟨14 * ((i 0).val / 512) + 13, by omega⟩, rfl⟩
    obtain ⟨e0, e1⟩ := idx14 t
    refine ⟨t, (flush14 t).2 (by omega), (mem14 t i).2 fun a => ?_⟩
    match a with
    | ⟨0, _⟩ => show win0_14.index t (0 : Fin 2) * 512 ≤ (i 0).val ∧ (i 0).val < win0_14.index t (0 : Fin 2) * 512 + 512; omega
    | ⟨1, _⟩ => show win0_14.index t (1 : Fin 2) * 2560 ≤ (i 1).val ∧ (i 1).val < win0_14.index t (1 : Fin 2) * 2560 + 2560; omega)

theorem final15 : (dats m 0 c).arrAt 15 cfg0.N = G15 m c :=
  (dats m 0 c).arrAt_eq_of_cover 15 _ (fun t hf => flushed15_eq m c t hf) (fun i => by
    have h0 : (i 0).val < 8192 := (i 0).isLt
    have h1 : (i 1).val < 10240 := (i 1).isLt
    have hN : cfg0.N = 224 := N_0
    obtain ⟨t, ht, hf⟩ : ∃ t : Fin cfg0.N, (t.val / 14 = (i 0).val / 512 ∧ min (t.val % 14) 7 = (i 1).val / 1280) ∧ (t.val % 14 < 7 ∨ t.val % 14 = 13) := by
      by_cases h7 : (i 1).val / 1280 = 7
      · exact ⟨⟨14 * ((i 0).val / 512) + 13, by omega⟩, by dsimp only; omega, by dsimp only; omega⟩
      · exact ⟨⟨14 * ((i 0).val / 512) + (i 1).val / 1280, by omega⟩, by dsimp only; omega, by dsimp only; omega⟩
    obtain ⟨e0, e1⟩ := idx15 t
    refine ⟨t, flush15 t hf, (mem15 t i).2 fun a => ?_⟩
    match a with
    | ⟨0, _⟩ => show win0_15.index t (0 : Fin 2) * 512 ≤ (i 0).val ∧ (i 0).val < win0_15.index t (0 : Fin 2) * 512 + 512; omega
    | ⟨1, _⟩ => show win0_15.index t (1 : Fin 2) * 1280 ≤ (i 1).val ∧ (i 1).val < win0_15.index t (1 : Fin 2) * 1280 + 1280; omega)

/-- What the run leaves in an output array whose contents are followed. -/
theorem post (r : PUnit × MemSt nD τ sig (Elt Ideal)) (h : Pipeline.RDat.FramePost (cfgs 0) (fun c => (dats m 0 c).toRForget forgets0) (V m) r)
    (c : Dev nD) (w : Fin 18) (hw : forgets0 w = false) : r.2.mem ((cfg0.spec w).arr.view.loc (c : Thread nD τ)) = (dats m 0 c).arrAt w cfg0.N :=
  ((dats m 0 c).toRForget_arrAt_iff hw _ _).mp ((h c).1 w)

theorem run_arrays : θ_run defs (onTc (τ := τ) (main (F := Ideal))) ⟨m, fun _ => 0, ρ⟩ fun r => ∀ c : Dev nD,
    r.2.mem ((c : Thread nD τ).loc main_v7_0) = G14 m c ∧ r.2.mem ((c : Thread nD τ).loc main_v7_1) = G15 m c :=
  (θ_run defs _ _).mono (fun r h c => ⟨(post m r h c 14 forgets0_14).trans (final14 m c), (post m r h c 15 forgets0_15).trans (final15 m c)⟩) (run_main m ρ)

end Cert.DxKernel

end
-- ==== Proof.DxReferenceRun.lean ====
/-
  Hand-written, untrusted. The arrays that the reference for `dx` leaves: what its one grid point writes back, each array read back, and the run
  stated over them.
-/
module

public import proofs.«01_k».proof.Proof.Gen.RDxIdeal.Frame
public import Idealize.ShloMosaic.Lib.Pipeline.Value

@[expose] public section

noncomputable section

namespace Cert.RDxIdeal.Value

open Cert.RDxIdeal Cert.RDxIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- The index map sends distinct grid points to distinct block indices (decided over the 1 point). -/
theorem idx_inj14 : ∀ t t' : Fin cfg0.N, win0_14.index t = win0_14.index t' → t = t' :=
  (by decide +kernel : ∀ t t' : Fin grid0.N, win0_14.index t = win0_14.index t' → t = t')

/-- So two flushing points' blocks share no array index (Lib/Pipeline/Cells.lean `Window.disjoint_blk`). -/
theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (idx_inj14 t t' h)

/-- BLOCK `t` OF THE FINAL ARRAY, read back through the window, is what point `t` wrote back (`flushed14`), for every
    point that writes back: no other point's block meets it. -/
theorem blocks14 (c : Dev nD) (t : Fin cfg0.N) (hf : (cfg0.win 14).flush t = true) :
    ((cfg0.win 14).blk t).view.read (Elt F) ((dats m 0 c).arrAt 14 cfg0.N) = (dats m 0 c).flushed 14 t :=
  (dats m 0 c).read_blk_arrAt_eq_flushed 14 disjoint14 cfg0.N t t.isLt hf

/-- The index map sends distinct grid points to distinct block indices (decided over the 1 point). -/
theorem idx_inj15 : ∀ t t' : Fin cfg0.N, win0_15.index t = win0_15.index t' → t = t' :=
  (by decide +kernel : ∀ t t' : Fin grid0.N, win0_15.index t = win0_15.index t' → t = t')

/-- So two flushing points' blocks share no array index (Lib/Pipeline/Cells.lean `Window.disjoint_blk`). -/
theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (idx_inj15 t t' h)

/-- BLOCK `t` OF THE FINAL ARRAY, read back through the window, is what point `t` wrote back (`flushed15`), for every
    point that writes back: no other point's block meets it. -/
theorem blocks15 (c : Dev nD) (t : Fin cfg0.N) (hf : (cfg0.win 15).flush t = true) :
    ((cfg0.win 15).blk t).view.read (Elt F) ((dats m 0 c).arrAt 15 cfg0.N) = (dats m 0 c).flushed 15 t :=
  (dats m 0 c).read_blk_arrAt_eq_flushed 15 disjoint15 cfg0.N t t.isLt hf

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v12_0) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v12_1) = (dats m 0 c).arrAt 15 cfg0.N :=
  (h c).1 15

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v12_0) = (dats m 0 c).arrAt 14 cfg0.N
      ∧ r.2.mem ((c : Thread nD τ).loc main_v12_1) = (dats m 0 c).arrAt 15 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨post14 m r h c,
      post15 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c⟩)
    (run_main m ρ)

end Cert.RDxIdeal.Value

end
-- ==== Proof.DxReference.lean ====
/-
  Hand-written, untrusted. The reference for `dx`: its one block is the whole of each array, so its two result arrays are its payloads of the
  argument arrays: the input gradient and the codes of the upstream gradient.
-/
module

public import proofs.«01_k».proof.Proof.DxReferenceRun
public import proofs.«01_k».proof.Proof.Exponent
public import Idealize.ShloMosaic.Lib.StableHlo.Run
public import Idealize.ShloMosaic.Lib.Affine
public import Idealize.ShloMosaic.Lib.Pointwise

@[expose] public section

set_option maxRecDepth 16384

noncomputable section

namespace Cert.DxReference

open Cert.RDxIdeal Cert.RDxIdeal.Gen Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg) (c : Dev nD)

/-- The fourteen operands of the call, each the argument array reshaped. -/
abbrev X0 : Vec Ideal S8192x10240 .bf16 := m ((c : Thread nD τ).loc main_arg0)
abbrev X1 : Vec Ideal S8192x1 .f32 := shapeCast S8192x1 (m ((c : Thread nD τ).loc main_arg1)) shapeCasts_S8x1024_S8192x1
abbrev X2 : Vec Ideal S1x10240 .f32 := shapeCast S1x10240 (m ((c : Thread nD τ).loc main_arg2)) shapeCasts_S10240_S1x10240
abbrev X3 : Vec Ideal S2560x10240 .fp8e4m3 := m ((c : Thread nD τ).loc main_arg3)
abbrev X4 : Vec Ideal S8192x7680 .fp8e5m2 := shapeCast S8192x7680 (m ((c : Thread nD τ).loc main_arg4)) shapeCasts_S8x1024x3x20x128_S8192x7680
abbrev X5 : Vec Ideal S8192x1 .f32 := shapeCast S8192x1 (m ((c : Thread nD τ).loc main_arg5)) shapeCasts_S8x1024_S8192x1
abbrev X6 : Vec Ideal S1x7680 .f32 := shapeCast S1x7680 (m ((c : Thread nD τ).loc main_arg6)) shapeCasts_S3x20x128_S1x7680
abbrev X7 : Vec Ideal S2560x7680 .fp8e4m3 := shapeCast S2560x7680 (m ((c : Thread nD τ).loc main_arg7)) shapeCasts_S2560x3x20x128_S2560x7680
abbrev X8 : Vec Ideal S8192x2560 .fp8e5m2 := shapeCast S8192x2560 (m ((c : Thread nD τ).loc main_arg8)) shapeCasts_S8x1024x2560_S8192x2560
abbrev X9 : Vec Ideal S8192x1 .f32 := shapeCast S8192x1 (m ((c : Thread nD τ).loc main_arg9)) shapeCasts_S8x1024_S8192x1
abbrev X10 : Vec Ideal S8192x2560 .fp8e4m3 := shapeCast S8192x2560 (m ((c : Thread nD τ).loc main_arg10)) shapeCasts_S8x1024x2560_S8192x2560
abbrev X11 : Vec Ideal S8192x1 .f32 := shapeCast S8192x1 (m ((c : Thread nD τ).loc main_arg11)) shapeCasts_S8x1024_S8192x1
abbrev X12 : Vec Ideal S8192x1 .f32 := shapeCast S8192x1 (m ((c : Thread nD τ).loc main_arg12)) shapeCasts_S8x1024_S8192x1
abbrev X13 : Vec Ideal S1x2560 .f32 := shapeCast S1x2560 (m ((c : Thread nD τ).loc main_arg13)) shapeCasts_S2560_S1x2560

theorem V_v0 : V m c main_v0 = X1 m c := by
  unfold_abbrev_sides
  after_results
  rfl

theorem V_v1 : V m c main_v1 = X2 m c := by
  unfold_abbrev_sides
  after_results
  rfl

theorem V_v2 : V m c main_v2 = X4 m c := by
  unfold_abbrev_sides
  after_results
  rfl

theorem V_v3 : V m c main_v3 = X5 m c := by
  unfold_abbrev_sides
  after_results
  rfl

theorem V_v4 : V m c main_v4 = X6 m c := by
  unfold_abbrev_sides
  after_results
  rfl

theorem V_v5 : V m c main_v5 = X7 m c := by
  unfold_abbrev_sides
  after_results
  rfl

theorem V_v6 : V m c main_v6 = X8 m c := by
  unfold_abbrev_sides
  after_results
  rfl

theorem V_v7 : V m c main_v7 = X9 m c := by
  unfold_abbrev_sides
  after_results
  rfl

theorem V_v8 : V m c main_v8 = X10 m c := by
  unfold_abbrev_sides
  after_results
  rfl

theorem V_v9 : V m c main_v9 = X11 m c := by
  unfold_abbrev_sides
  after_results
  rfl

theorem V_v10 : V m c main_v10 = X12 m c := by
  unfold_abbrev_sides
  after_results
  rfl

theorem V_v11 : V m c main_v11 = X13 m c := by
  unfold_abbrev_sides
  after_results
  rfl

/-- The one grid point. -/
def t₀ : Fin cfg0.N := ⟨0, by decide⟩

theorem iblk0_eq : (iblk m c 0 t₀ : Vec Ideal S8192x10240 .bf16) = X0 m c := by
  have hz : (fun a => (win0_0.index t₀) a * main_arg0.ty.shape.size a) = fun _ => 0 := funext fun a => by fin_cases a <;> decide
  unfold iblk
  exact (Memref.read_access_unit_zero (Elt Ideal) main_arg0 hz (fun a => by fin_cases a <;> decide) _).trans (V_main_arg0 m c)

theorem iblk1_eq : (iblk m c 1 t₀ : Vec Ideal S8192x1 .f32) = X1 m c := by
  have hz : (fun a => (win0_1.index t₀) a * main_v0.ty.shape.size a) = fun _ => 0 := funext fun a => by fin_cases a <;> decide
  unfold iblk
  exact (Memref.read_access_unit_zero (Elt Ideal) main_v0 hz (fun a => by fin_cases a <;> decide) _).trans (V_v0 m c)

theorem iblk2_eq : (iblk m c 2 t₀ : Vec Ideal S1x10240 .f32) = X2 m c := by
  have hz : (fun a => (win0_2.index t₀) a * main_v1.ty.shape.size a) = fun _ => 0 := funext fun a => by fin_cases a <;> decide
  unfold iblk
  exact (Memref.read_access_unit_zero (Elt Ideal) main_v1 hz (fun a => by fin_cases a <;> decide) _).trans (V_v1 m c)

theorem iblk3_eq : (iblk m c 3 t₀ : Vec Ideal S2560x10240 .fp8e4m3) = X3 m c := by
  have hz : (fun a => (win0_3.index t₀) a * main_arg3.ty.shape.size a) = fun _ => 0 := funext fun a => by fin_cases a <;> decide
  unfold iblk
  exact (Memref.read_access_unit_zero (Elt Ideal) main_arg3 hz (fun a => by fin_cases a <;> decide) _).trans (V_main_arg3 m c)

theorem iblk4_eq : (iblk m c 4 t₀ : Vec Ideal S8192x7680 .fp8e5m2) = X4 m c := by
  have hz : (fun a => (win0_4.index t₀) a * main_v2.ty.shape.size a) = fun _ => 0 := funext fun a => by fin_cases a <;> decide
  unfold iblk
  exact (Memref.read_access_unit_zero (Elt Ideal) main_v2 hz (fun a => by fin_cases a <;> decide) _).trans (V_v2 m c)

theorem iblk5_eq : (iblk m c 5 t₀ : Vec Ideal S8192x1 .f32) = X5 m c := by
  have hz : (fun a => (win0_5.index t₀) a * main_v3.ty.shape.size a) = fun _ => 0 := funext fun a => by fin_cases a <;> decide
  unfold iblk
  exact (Memref.read_access_unit_zero (Elt Ideal) main_v3 hz (fun a => by fin_cases a <;> decide) _).trans (V_v3 m c)

theorem iblk6_eq : (iblk m c 6 t₀ : Vec Ideal S1x7680 .f32) = X6 m c := by
  have hz : (fun a => (win0_6.index t₀) a * main_v4.ty.shape.size a) = fun _ => 0 := funext fun a => by fin_cases a <;> decide
  unfold iblk
  exact (Memref.read_access_unit_zero (Elt Ideal) main_v4 hz (fun a => by fin_cases a <;> decide) _).trans (V_v4 m c)

theorem iblk7_eq : (iblk m c 7 t₀ : Vec Ideal S2560x7680 .fp8e4m3) = X7 m c := by
  have hz : (fun a => (win0_7.index t₀) a * main_v5.ty.shape.size a) = fun _ => 0 := funext fun a => by fin_cases a <;> decide
  unfold iblk
  exact (Memref.read_access_unit_zero (Elt Ideal) main_v5 hz (fun a => by fin_cases a <;> decide) _).trans (V_v5 m c)

theorem iblk8_eq : (iblk m c 8 t₀ : Vec Ideal S8192x2560 .fp8e5m2) = X8 m c := by
  have hz : (fun a => (win0_8.index t₀) a * main_v6.ty.shape.size a) = fun _ => 0 := funext fun a => by fin_cases a <;> decide
  unfold iblk
  exact (Memref.read_access_unit_zero (Elt Ideal) main_v6 hz (fun a => by fin_cases a <;> decide) _).trans (V_v6 m c)

theorem iblk9_eq : (iblk m c 9 t₀ : Vec Ideal S8192x1 .f32) = X9 m c := by
  have hz : (fun a => (win0_9.index t₀) a * main_v7.ty.shape.size a) = fun _ => 0 := funext fun a => by fin_cases a <;> decide
  unfold iblk
  exact (Memref.read_access_unit_zero (Elt Ideal) main_v7 hz (fun a => by fin_cases a <;> decide) _).trans (V_v7 m c)

theorem iblk10_eq : (iblk m c 10 t₀ : Vec Ideal S8192x2560 .fp8e4m3) = X10 m c := by
  have hz : (fun a => (win0_10.index t₀) a * main_v8.ty.shape.size a) = fun _ => 0 := funext fun a => by fin_cases a <;> decide
  unfold iblk
  exact (Memref.read_access_unit_zero (Elt Ideal) main_v8 hz (fun a => by fin_cases a <;> decide) _).trans (V_v8 m c)

theorem iblk11_eq : (iblk m c 11 t₀ : Vec Ideal S8192x1 .f32) = X11 m c := by
  have hz : (fun a => (win0_11.index t₀) a * main_v9.ty.shape.size a) = fun _ => 0 := funext fun a => by fin_cases a <;> decide
  unfold iblk
  exact (Memref.read_access_unit_zero (Elt Ideal) main_v9 hz (fun a => by fin_cases a <;> decide) _).trans (V_v9 m c)

theorem iblk12_eq : (iblk m c 12 t₀ : Vec Ideal S8192x1 .f32) = X12 m c := by
  have hz : (fun a => (win0_12.index t₀) a * main_v10.ty.shape.size a) = fun _ => 0 := funext fun a => by fin_cases a <;> decide
  unfold iblk
  exact (Memref.read_access_unit_zero (Elt Ideal) main_v10 hz (fun a => by fin_cases a <;> decide) _).trans (V_v10 m c)

theorem iblk13_eq : (iblk m c 13 t₀ : Vec Ideal S1x2560 .f32) = X13 m c := by
  have hz : (fun a => (win0_13.index t₀) a * main_v11.ty.shape.size a) = fun _ => 0 := funext fun a => by fin_cases a <;> decide
  unfold iblk
  exact (Memref.read_access_unit_zero (Elt Ideal) main_v11 hz (fun a => by fin_cases a <;> decide) _).trans (V_v11 m c)

theorem hz : (![0, 0] : Fin 2 → Nat) = fun _ => 0 := funext fun a => by fin_cases a <;> rfl

/-- The input gradient's payload, from the whole arrays. -/
abbrev pay (x0 : Vec Ideal S8192x10240 .bf16) (x1 : Vec Ideal S8192x1 .f32) (x2 : Vec Ideal S1x10240 .f32) (x3 : Vec Ideal S2560x10240 .fp8e4m3) (x4 : Vec Ideal S8192x7680 .fp8e5m2) (x5 : Vec Ideal S8192x1 .f32) (x6 : Vec Ideal S1x7680 .f32) (x7 : Vec Ideal S2560x7680 .fp8e4m3) (x8 : Vec Ideal S8192x2560 .fp8e5m2) (x9 : Vec Ideal S8192x1 .f32) (x10 : Vec Ideal S8192x2560 .fp8e4m3) (x11 : Vec Ideal S8192x1 .f32) (x12 : Vec Ideal S8192x1 .f32) (x13 : Vec Ideal S1x2560 .f32) : Vec Ideal S8192x2560 .bf16 :=
  k0_pay1 (k0_pay7 x12) (k0_pay8 (k0_pay4 x1 x0 x3 x2) (k0_pay5 x7) x6 x4 x5 x13) (k0_pay9 (k0_pay4 x1 x0 x3 x2) (k0_pay5 x7) x6 x4 x5 x10 x11 x13) x8 x9

/-- The whole-buffer loads read the buffers and each one covering store leaves its payload. -/
theorem out14_eq (x0 : Vec Ideal S8192x10240 .bf16) (x1 : Vec Ideal S8192x1 .f32) (x2 : Vec Ideal S1x10240 .f32) (x3 : Vec Ideal S2560x10240 .fp8e4m3) (x4 : Vec Ideal S8192x7680 .fp8e5m2) (x5 : Vec Ideal S8192x1 .f32) (x6 : Vec Ideal S1x7680 .f32) (x7 : Vec Ideal S2560x7680 .fp8e4m3) (x8 : Vec Ideal S8192x2560 .fp8e5m2) (x9 : Vec Ideal S8192x1 .f32) (x10 : Vec Ideal S8192x2560 .fp8e4m3) (x11 : Vec Ideal S8192x1 .f32) (x12 : Vec Ideal S8192x1 .f32) (x13 : Vec Ideal S1x2560 .f32) : out0_14 x0 x1 x2 x3 x4 x5 x6 x7 x8 x9 x10 x11 x12 x13 = pay x0 x1 x2 x3 x4 x5 x6 x7 x8 x9 x10 x11 x12 x13 := by
  unfold out0_14 k0_pay10 k0_pay11
  rw [View.canon_unit_zero (S := S8192x2560) hz]
  simp only [View.ld_unit_zero (S := S8192x2560) hz, View.ld_unit_zero (S := S8192x1) hz, View.ld_unit_zero (S := S1x10240) hz, View.ld_unit_zero (S := S8192x10240) hz, View.ld_unit_zero (S := S2560x10240) hz, View.ld_unit_zero (S := S1x7680) hz, View.ld_unit_zero (S := S8192x7680) hz, View.ld_unit_zero (S := S2560x7680) hz, View.ld_unit_zero (S := S1x2560) hz]

theorem out15_eq (x0 : Vec Ideal S8192x10240 .bf16) (x1 : Vec Ideal S8192x1 .f32) (x2 : Vec Ideal S1x10240 .f32) (x3 : Vec Ideal S2560x10240 .fp8e4m3) (x4 : Vec Ideal S8192x7680 .fp8e5m2) (x5 : Vec Ideal S8192x1 .f32) (x6 : Vec Ideal S1x7680 .f32) (x7 : Vec Ideal S2560x7680 .fp8e4m3) (x8 : Vec Ideal S8192x2560 .fp8e5m2) (x9 : Vec Ideal S8192x1 .f32) (x10 : Vec Ideal S8192x2560 .fp8e4m3) (x11 : Vec Ideal S8192x1 .f32) (x12 : Vec Ideal S8192x1 .f32) (x13 : Vec Ideal S1x2560 .f32) : out0_15 x0 x1 x2 x3 x4 x5 x6 x7 x8 x9 x10 x11 x12 x13 = k0_pay3 x1 x0 := by
  unfold out0_15
  rw [View.canon_unit_zero (S := S8192x10240) hz, View.ld_unit_zero (S := S8192x1) hz, View.ld_unit_zero (S := S8192x10240) hz]

/-- The input gradient after the run. -/
theorem final14 : (dats m 0 c).arrAt 14 cfg0.N = pay (X0 m c) (X1 m c) (X2 m c) (X3 m c) (X4 m c) (X5 m c) (X6 m c) (X7 m c) (X8 m c) (X9 m c) (X10 m c) (X11 m c) (X12 m c) (X13 m c) := by
  have ho := Value.blocks14 m c t₀ (by decide)
  have hz : (fun a => (win0_14.index t₀) a * main_v12_0.ty.shape.size a) = fun _ => 0 := funext fun a => by fin_cases a <;> decide
  rw [show ((cfg0.win 14).blk t₀).view.read (Elt Ideal) ((dats m 0 c).arrAt 14 cfg0.N) = (dats m 0 c).arrAt 14 cfg0.N from
    Memref.read_access_unit_zero (Elt Ideal) main_v12_0 hz (fun a => by fin_cases a <;> decide) _] at ho
  rw [ho]
  show (cfg0.win 14).cut _ ((dats m 0 c).after 14 t₀) = _
  rw [after0_14, out14_eq, iblk0_eq, iblk1_eq, iblk2_eq, iblk3_eq, iblk4_eq, iblk5_eq, iblk6_eq, iblk7_eq, iblk8_eq, iblk9_eq, iblk10_eq, iblk11_eq, iblk12_eq, iblk13_eq]
  rfl

/-- The codes after the run. -/
theorem final15 : (dats m 0 c).arrAt 15 cfg0.N = k0_pay3 (X1 m c) (X0 m c) := by
  have ho := Value.blocks15 m c t₀ (by decide)
  have hz : (fun a => (win0_15.index t₀) a * main_v12_1.ty.shape.size a) = fun _ => 0 := funext fun a => by fin_cases a <;> decide
  rw [show ((cfg0.win 15).blk t₀).view.read (Elt Ideal) ((dats m 0 c).arrAt 15 cfg0.N) = (dats m 0 c).arrAt 15 cfg0.N from
    Memref.read_access_unit_zero (Elt Ideal) main_v12_1 hz (fun a => by fin_cases a <;> decide) _] at ho
  rw [ho]
  show (cfg0.win 15).cut _ ((dats m 0 c).after 15 t₀) = _
  rw [after0_15, out15_eq, iblk0_eq, iblk1_eq]
  rfl

/-- The rounding of a number to a code: clipping at the largest code (the rounding itself is the identity over the extended reals). -/
def clip (x : EReal) : EReal := min (Ideal.ofBits .f32 0x47600000#32) (max (Ideal.ofBits .f32 0xC7600000#32) x)

theorem code_eq (x1 : Vec Ideal S8192x1 .f32) (x0 : Vec Ideal S8192x10240 .bf16) :
    k0_pay3 x1 x0 = truncf .fp8e5m2 (minimumf (broadcast S8192x10240 (Scalar.ofBits .f32 0x47600000#32) : FVec Ideal S8192x10240 .f32)
      (maximumf (broadcast S8192x10240 (Scalar.ofBits .f32 0xC7600000#32))
        (mulf (extf .f32 x0 bitsLt_bf16_f32) (broadcastTo S8192x10240 (Exponent.rinv (s := S8192x1) (shapeCast S8192x1 x1 shapeCasts_S8192x1_S8192x1) : FVec Ideal S8192x1 .f32)
          broadcasts_S8192x1_S8192x10240)))) bitsLt_fp8e5m2_f32 := rfl

/-- The codes at an entry: the entry times the inverse scale of its row, clipped. -/
theorem code_apply (x1 : Vec Ideal S8192x1 .f32) (x0 : Vec Ideal S8192x10240 .bf16) (t : Fin 8192) (l : Fin 10240) :
    k0_pay3 x1 x0 (ix2 t l) = clip (x0 (ix2 t l) * Exponent.rinv (s := S8192x1) x1 (ix2 t 0)) := by
  rw [code_eq, (shapeCast_self x1 _ : shapeCast S8192x1 x1 shapeCasts_S8192x1_S8192x1 = x1)]
  generalize Exponent.rinv (s := S8192x1) x1 = u
  unfold clip
  pointwise []

theorem mlp_eq (x1 : Vec Ideal S8192x1 .f32) (x0 : Vec Ideal S8192x10240 .bf16) (x3 : Vec Ideal S2560x10240 .fp8e4m3) (x2 : Vec Ideal S1x10240 .f32) :
    k0_pay4 x1 x0 x3 x2 = mulf (matmul dot_S8192x10240_S2560x10240_S8192x2560_1_1_0_0_n_n none (extf .bf16 (k0_pay3 x1 x0) bitsLt_fp8e5m2_bf16)
      (mulf (extf .bf16 x3 bitsLt_fp8e4m3_bf16) (broadcastTo S2560x10240 (truncf .bf16 (shapeCast S1x10240 x2 shapeCasts_S1x10240_S1x10240 : FVec Ideal S1x10240 .f32) bitsLt_bf16_f32 : FVec Ideal S1x10240 .bf16)
        broadcasts_S1x10240_S2560x10240)) (constant S8192x2560 .f32 0x00000000#32))
      (broadcastTo S8192x2560 (Exponent.rscale (s := S8192x1) (shapeCast S8192x1 x1 shapeCasts_S8192x1_S8192x1) : FVec Ideal S8192x1 .f32) broadcasts_S8192x1_S8192x2560) := rfl

/-- The first product at an entry. -/
theorem mlp_apply (x1 : Vec Ideal S8192x1 .f32) (x0 : Vec Ideal S8192x10240 .bf16) (x3 : Vec Ideal S2560x10240 .fp8e4m3) (x2 : Vec Ideal S1x10240 .f32)
    (t : Fin 8192) (d : Fin 2560) : k0_pay4 x1 x0 x3 x2 (ix2 t d)
      = (∑ k : Fin 10240, k0_pay3 x1 x0 (ix2 t k) * (x3 (ix2 d k) * x2 (ix2 0 k))) * Exponent.rscale (s := S8192x1) x1 (ix2 t 0) := by
  rw [mlp_eq, (shapeCast_self x1 _ : shapeCast S8192x1 x1 shapeCasts_S8192x1_S8192x1 = x1)]
  generalize Exponent.rscale (s := S8192x1) x1 = u
  generalize k0_pay3 x1 x0 = v
  pointwise []

/-- The gradient of the normalised input at an entry, times `gamma`. -/
theorem dxh_apply (u : FVec Ideal S8192x2560 .f32) (x7 : Vec Ideal S2560x7680 .fp8e4m3) (x6 : Vec Ideal S1x7680 .f32) (x4 : Vec Ideal S8192x7680 .fp8e5m2)
    (x5 : Vec Ideal S8192x1 .f32) (x13 : Vec Ideal S1x2560 .f32) (t : Fin 8192) (d : Fin 2560) : k0_pay6 u (k0_pay5 x7) x6 x4 x5 x13 (ix2 t d)
      = (u (ix2 t d) + (∑ k : Fin 7680, x4 (ix2 t k) * (x7 (ix2 d k) * x6 (ix2 0 k))) * x5 (ix2 t 0)) * x13 (ix2 0 d) := by
  unfold k0_pay6 k0_pay5
  pointwise []

/-- The number of columns' reciprocal, rounded. -/
def rD : EReal := Ideal.ofBits .f32 0x39CCCCCD#32

/-- The mean over the columns, as a column. -/
def mean (v : FVec Ideal S8192x2560 .f32) : FVec Ideal S8192x1 .f32 :=
  mulf (shapeCast S8192x1 (multiReduction .add [1] S8192 v 0x00000000#32 reduces_S8192x2560_S8192 (.inl rfl) rfl : FVec Ideal S8192 .f32) shapeCasts_S8192_S8192x1)
    (broadcast S8192x1 (Scalar.ofBits .f32 0x39CCCCCD#32))

theorem mean_apply (v : FVec Ideal S8192x2560 .f32) (k : Fin 8192) : mean v (ix2 k 0) = (∑ j : Fin 2560, v (ix2 k j)) * rD := by
  unfold mean rD
  pointwise []

/-- The derivative of the layer norm and the residual, from the gradient of the normalised input times `gamma`. -/
def ln (p : FVec Ideal S8192x2560 .f32) (x8 : Vec Ideal S8192x2560 .fp8e5m2) (x9 : Vec Ideal S8192x1 .f32) (x10 : Vec Ideal S8192x2560 .fp8e4m3) (x11 : Vec Ideal S8192x1 .f32)
    (x12 : Vec Ideal S8192x1 .f32) : FVec Ideal S8192x2560 .bf16 :=
  let x : FVec Ideal S8192x2560 .f32 := mulf (extf .f32 (shapeCast S8192x2560 x10 shapeCasts_S8192x2560_S8192x2560 : FVec Ideal S8192x2560 .fp8e4m3) bitsLt_fp8e4m3_f32)
    (broadcastTo S8192x2560 (shapeCast S8192x1 x11 shapeCasts_S8192x1_S8192x1 : FVec Ideal S8192x1 .f32) broadcasts_S8192x1_S8192x2560)
  truncf .bf16 (addf (mulf (extf .f32 (shapeCast S8192x2560 x8 shapeCasts_S8192x2560_S8192x2560 : FVec Ideal S8192x2560 .fp8e5m2) bitsLt_fp8e5m2_f32)
      (broadcastTo S8192x2560 (shapeCast S8192x1 x9 shapeCasts_S8192x1_S8192x1 : FVec Ideal S8192x1 .f32) broadcasts_S8192x1_S8192x2560))
    (mulf (broadcastTo S8192x2560 (shapeCast S8192x1 x12 shapeCasts_S8192x1_S8192x1 : FVec Ideal S8192x1 .f32) broadcasts_S8192x1_S8192x2560)
      (subf (subf p (broadcastTo S8192x2560 (mean p) broadcasts_S8192x1_S8192x2560))
        (mulf x (broadcastTo S8192x2560 (mean (mulf p x)) broadcasts_S8192x1_S8192x2560))))) bitsLt_bf16_f32

theorem pay_eq (x0 : Vec Ideal S8192x10240 .bf16) (x1 : Vec Ideal S8192x1 .f32) (x2 : Vec Ideal S1x10240 .f32) (x3 : Vec Ideal S2560x10240 .fp8e4m3) (x4 : Vec Ideal S8192x7680 .fp8e5m2) (x5 : Vec Ideal S8192x1 .f32) (x6 : Vec Ideal S1x7680 .f32) (x7 : Vec Ideal S2560x7680 .fp8e4m3) (x8 : Vec Ideal S8192x2560 .fp8e5m2) (x9 : Vec Ideal S8192x1 .f32) (x10 : Vec Ideal S8192x2560 .fp8e4m3) (x11 : Vec Ideal S8192x1 .f32) (x12 : Vec Ideal S8192x1 .f32) (x13 : Vec Ideal S1x2560 .f32) : pay x0 x1 x2 x3 x4 x5 x6 x7 x8 x9 x10 x11 x12 x13
    = ln (k0_pay6 (k0_pay4 x1 x0 x3 x2) (k0_pay5 x7) x6 x4 x5 x13) x8 x9 x10 x11 x12 := rfl

theorem ln_apply (p : FVec Ideal S8192x2560 .f32) (x8 : Vec Ideal S8192x2560 .fp8e5m2) (x9 : Vec Ideal S8192x1 .f32) (x10 : Vec Ideal S8192x2560 .fp8e4m3)
    (x11 : Vec Ideal S8192x1 .f32) (x12 : Vec Ideal S8192x1 .f32) (t : Fin 8192) (d : Fin 2560) :
    ln p x8 x9 x10 x11 x12 (ix2 t d) = x8 (ix2 t d) * x9 (ix2 t 0) + x12 (ix2 t 0) * (p (ix2 t d) - (∑ j : Fin 2560, p (ix2 t j)) * rD
      - x10 (ix2 t d) * x11 (ix2 t 0) * ((∑ j : Fin 2560, p (ix2 t j) * (x10 (ix2 t j) * x11 (ix2 t 0))) * rD)) := by
  unfold ln
  pointwise [mean_apply]

/-- A scale flattened to one entry per token is the scale array's entry for that token's row and place. -/
theorem scale_apply (x : Vec Ideal S8x1024 .f32) (t : Fin 8192) :
    shapeCast S8192x1 x shapeCasts_S8x1024_S8192x1 (ix2 t 0)
      = x (ix2 ⟨t.val / 1024, by omega⟩ ⟨t.val % 1024, by omega⟩) := by
  pointwise []

end Cert.DxReference

end
-- ==== Proof.DxEq.lean ====
/-
  Hand-written, untrusted. The claims about `dx`: on row maxima whose quotients are in range and scales of the second product that are
  numbers, not negative, the kernel's two arrays after the run are the reference's.
-/
module

public import proofs.«01_k».proof.Defs
public import proofs.«01_k».proof.Proof.Gen.Pre_normal_rmax
public import proofs.«01_k».proof.Proof.DxValue
public import proofs.«01_k».proof.Proof.DxReference

@[expose] public section

set_option maxRecDepth 16384

noncomputable section

namespace Cert.DxEq

open Idealize.ShloMosaic Idealize.ShloMosaic.TcCoe Idealize.SL.Sem

theorem and_ones (a b : BitVec 1) (h : IntOp.andi a b = 1#1) : a = 1#1 ∧ b = 1#1 := by
  revert a b; decide

theorem ge_of_bits (x y : EReal) (h : Ideal.cmp .oge x y = 1#1) : y ≤ x := by
  by_contra hn
  simp [Ideal.cmp, hn] at h

theorem lt_of_bits (x y : EReal) (h : Ideal.cmp .olt x y = 1#1) : x < y := by
  by_contra hn
  simp [Ideal.cmp, hn] at h

/-- What the precondition says of one token. -/
theorem pre_apply (x : FVec Ideal Pre_normal_rmax.S8x1024 .f32) (z : FVec Ideal Pre_normal_rmax.S8x1024 .f32) (y0 y2 y3 y4 y6 y7 y8 y9 y10 y11 y12 y13)
    (h : Pre_normal_rmax.fn (F := Ideal) y0 x y2 y3 y4 z y6 y7 y8 y9 y10 y11 y12 y13 = fun _ => 1#1) (a : Fin 8) (b : Fin 1024) :
    Exponent.Ok (x (ix2 a b)) ∧ 0 ≤ z (ix2 a b) ∧ z (ix2 a b) ≠ ⊤ := by
  have hy := congrFun h (ix2 a b)
  have e : Pre_normal_rmax.fn (F := Ideal) y0 x y2 y3 y4 z y6 y7 y8 y9 y10 y11 y12 y13 (ix2 a b)
      = IntOp.andi (IntOp.andi (IntOp.ori (Ideal.cmp .oeq (x (ix2 a b)) (Ideal.ofBits .f32 0x00000000#32))
          (IntOp.andi (Ideal.cmp .oge (x (ix2 a b) * Exponent.iq) (Ideal.ofBits .f32 0x00800000#32))
            (Ideal.cmp .olt (x (ix2 a b) * Exponent.iq) (Ideal.ofBits .f32 0x7E800000#32))))
          (Ideal.cmp .oge (z (ix2 a b)) (Ideal.ofBits .f32 0x00000000#32)))
          (Ideal.cmp .olt (z (ix2 a b)) (Ideal.ofBits .f32 0x7F800000#32)) := rfl
  rw [e, Exponent.zero_bits] at hy
  obtain ⟨h1, h2⟩ := and_ones _ _ hy
  obtain ⟨h3, h4⟩ := and_ones _ _ h1
  exact ⟨Exponent.ok_of_bits _ h3, ge_of_bits _ _ h4, ne_top_of_lt (lt_of_bits _ _ h2)⟩

/-- A sum of numbers times one that is not negative and not infinite. -/
theorem sum_mul (x : EReal) (h0 : 0 ≤ x) (ht : x ≠ ⊤) (f : ℕ → EReal) (n : ℕ) : ∑ s ∈ Finset.range n, f s * x = (∑ s ∈ Finset.range n, f s) * x := by
  induction n with
  | zero => simp
  | succ n ih => rw [Finset.sum_range_succ, Finset.sum_range_succ, ih, EReal.right_distrib_of_nonneg_of_ne_top h0 ht]

variable (m : (ℓ : Loc KDxIdeal.nD KDxIdeal.τ KDxIdeal.sig) → Buf (Elt Ideal) ℓ) (c : Dev KDxIdeal.nD)

/-- Every row maximum is zero or its quotient is in range, and every scale of the second product is a number, not negative. -/
def Good : Prop := ∀ T : Fin 8192, Exponent.Ok (DxKernel.tok (DxKernel.K1 m c) T) ∧ 0 ≤ DxKernel.tok (DxKernel.K5 m c) T ∧ DxKernel.tok (DxKernel.K5 m c) T ≠ ⊤

variable {m c}

theorem good (h : Pre_KDxIdeal_normal_rmax m) : Good m c := fun T => pre_apply _ _ _ _ _ _ _ _ _ _ _ _ _ _ (h c) _ _

variable (m c)
/-- The reference's operands, from the kernel's argument arrays. -/
abbrev R1 : Vec Ideal RDxIdeal.S8192x1 .f32 := shapeCast RDxIdeal.S8192x1 (DxKernel.K1 m c) RDxIdeal.Gen.shapeCasts_S8x1024_S8192x1
abbrev R5 : Vec Ideal RDxIdeal.S8192x1 .f32 := shapeCast RDxIdeal.S8192x1 (DxKernel.K5 m c) RDxIdeal.Gen.shapeCasts_S8x1024_S8192x1
abbrev R9 : Vec Ideal RDxIdeal.S8192x1 .f32 := shapeCast RDxIdeal.S8192x1 (DxKernel.K9 m c) RDxIdeal.Gen.shapeCasts_S8x1024_S8192x1
abbrev R11 : Vec Ideal RDxIdeal.S8192x1 .f32 := shapeCast RDxIdeal.S8192x1 (DxKernel.K11 m c) RDxIdeal.Gen.shapeCasts_S8x1024_S8192x1
abbrev R12 : Vec Ideal RDxIdeal.S8192x1 .f32 := shapeCast RDxIdeal.S8192x1 (DxKernel.K12 m c) RDxIdeal.Gen.shapeCasts_S8x1024_S8192x1
variable {m c}

theorem ok_R1 (h : Good m c) (T : Fin 8192) : Exponent.Ok (R1 m c (ix2 T 0)) := by
  have e : R1 m c (ix2 T 0) = DxKernel.tok (DxKernel.K1 m c) T := DxReference.scale_apply _ T
  rw [e]; exact (h T).1

/-- The scales agree. -/
theorem scale_eq (h : Good m c) (T : Fin 8192) : Exponent.rscale (s := RDxIdeal.S8192x1) (R1 m c) (ix2 T 0) = DxKernel.tscale m c T := by
  have e : R1 m c (ix2 T 0) = DxKernel.tok (DxKernel.K1 m c) T := DxReference.scale_apply _ T
  rw [Exponent.rscale_apply _ _ (ok_R1 h T), e]
  exact (Exponent.scale_apply (s := KDxIdeal.S8x1024) (DxKernel.K1 m c) _ (h T).1).symm

theorem scale_num (h : Good m c) (T : Fin 8192) : 0 ≤ DxKernel.tscale m c T ∧ DxKernel.tscale m c T ≠ ⊤ := by
  have e : DxKernel.tscale m c T = Exponent.sc (DxKernel.tok (DxKernel.K1 m c) T) := Exponent.scale_apply (s := KDxIdeal.S8x1024) (DxKernel.K1 m c) _ (h T).1
  rw [e, Exponent.sc]
  exact ⟨EReal.coe_nonneg.2 (by positivity), EReal.coe_ne_top _⟩

/-- The codes agree. -/
theorem code_eq (h : Good m c) (T : Fin 8192) (L : Fin 10240) :
    RDxIdeal.Gen.k0_pay3 (R1 m c) (DxKernel.K0 m c) (ix2 T L) = DxKernel.code m c T L := by
  have e : R1 m c (ix2 T 0) = DxKernel.tok (DxKernel.K1 m c) T := DxReference.scale_apply _ T
  rw [DxReference.code_apply, Exponent.rinv_apply _ _ (ok_R1 h T), e]
  unfold DxKernel.code DxKernel.tinv
  rw [Exponent.inv_apply (s := KDxIdeal.S8x1024) (DxKernel.K1 m c) _ (h T).1]
  rfl

/-- The accumulator is the two products, each scaled once. -/
theorem acc_eq (h : Good m c) (T : Fin 8192) (d : Fin 2560) : DxKernel.accT m c T d
    = (∑ L, DxKernel.mterm m c T d L) * DxKernel.tscale m c T + (∑ L, DxKernel.aterm m c T d L) * DxKernel.tok (DxKernel.K5 m c) T := by
  unfold DxKernel.accT
  rw [sum_mul _ (scale_num h T).1 (scale_num h T).2, sum_mul _ (h T).2.1 (h T).2.2]
  exact congrArg₂ (fun x y => x * DxKernel.tscale m c T + y * DxKernel.tok (DxKernel.K5 m c) T)
    (Sums.sum_blocks 8 1280 rfl (DxKernel.mterm m c T d)) (Sums.sum_blocks 6 1280 rfl (DxKernel.aterm m c T d))

variable (m c)
/-- The reference's gradient of the normalised input, times `gamma`. -/
abbrev P : FVec Ideal RDxIdeal.S8192x2560 .f32 := RDxIdeal.Gen.k0_pay6
  (RDxIdeal.Gen.k0_pay4 (R1 m c) (DxKernel.K0 m c) (DxKernel.K3 m c) (DxKernel.K2 m c)) (RDxIdeal.Gen.k0_pay5 (DxKernel.K7 m c)) (DxKernel.K6 m c)
  (DxKernel.K4 m c) (R5 m c) (DxKernel.K13 m c)
variable {m c}

theorem p_eq (h : Good m c) (T : Fin 8192) (d : Fin 2560) : P m c (ix2 T d) = DxKernel.accT m c T d * DxKernel.K13 m c (ix2 0 d) := by
  have e5 : R5 m c (ix2 T 0) = DxKernel.tok (DxKernel.K5 m c) T := DxReference.scale_apply _ T
  refine (DxReference.dxh_apply _ (DxKernel.K7 m c) (DxKernel.K6 m c) (DxKernel.K4 m c) (R5 m c) (DxKernel.K13 m c) T d).trans ?_
  rw [DxReference.mlp_apply, scale_eq h T, e5, acc_eq h T d]
  refine congrArg₂ (fun x y => (x * DxKernel.tscale m c T + y * DxKernel.tok (DxKernel.K5 m c) T) * DxKernel.K13 m c (ix2 0 d)) ?_ ?_
  · refine Finset.sum_congr rfl fun L _ => ?_
    rw [code_eq h T L, DxKernel.mterm, mul_assoc, mul_comm (DxKernel.K2 m c (ix2 0 L))]
  · refine Finset.sum_congr rfl fun L _ => ?_
    rw [DxKernel.aterm, mul_assoc, mul_comm (DxKernel.K6 m c (ix2 0 L))]

/-- The input gradients agree. -/
theorem value_eq (h : Good m c) : DxReference.pay (DxKernel.K0 m c) (R1 m c) (DxKernel.K2 m c) (DxKernel.K3 m c) (DxKernel.K4 m c) (R5 m c)
    (DxKernel.K6 m c) (DxKernel.K7 m c) (DxKernel.K8 m c) (R9 m c) (DxKernel.K10 m c) (R11 m c) (R12 m c) (DxKernel.K13 m c) = DxKernel.G14 m c := by
  funext j
  obtain ⟨T, d, rfl⟩ : ∃ (T : Fin 8192) (d : Fin 2560), j = ix2 T d := ⟨j 0, j 1, eq_ix2 j⟩
  have e9 : R9 m c (ix2 T 0) = DxKernel.tok (DxKernel.K9 m c) T := DxReference.scale_apply _ T
  have e11 : R11 m c (ix2 T 0) = DxKernel.tok (DxKernel.K11 m c) T := DxReference.scale_apply _ T
  have e12 : R12 m c (ix2 T 0) = DxKernel.tok (DxKernel.K12 m c) T := DxReference.scale_apply _ T
  refine (congrFun (DxReference.pay_eq _ _ _ _ _ _ _ _ _ _ _ _ _ _) (ix2 T d)).trans ?_
  refine (DxReference.ln_apply (P m c) (DxKernel.K8 m c) (R9 m c) (DxKernel.K10 m c) (R11 m c) (R12 m c) T d).trans ?_
  rw [e9, e11, e12]
  simp only [p_eq h T]
  rfl

theorem codes_eq (h : Good m c) : RDxIdeal.Gen.k0_pay3 (R1 m c) (DxKernel.K0 m c) = DxKernel.G15 m c := by
  funext j
  obtain ⟨T, L, rfl⟩ : ∃ (T : Fin 8192) (L : Fin 10240), j = ix2 T L := ⟨j 0, j 1, eq_ix2 j⟩
  exact code_eq h T L

/-- The kernel's two result arrays are the reference's, on equal arguments. -/
theorem algebraic : algebraic_KDxIdeal_RDxIdeal_pre_normal_rmax := by
  intro m g m' g' hpre hargs
  refine ⟨fun c => DxKernel.G14 m c, fun c => DxKernel.G15 m c,
    (θ_run KDxIdeal.defs _ _).mono (fun r h c => ⟨(h.1 c).1, (h.1 c).2, h.2 c⟩) (θ_run_and (DxKernel.run_arrays m g) (KDxIdeal.Gen.unchanged m g)), ?_⟩
  refine (θ_run RDxIdeal.defs _ _).mono (fun r h c => ?_) (RDxIdeal.Value.run_blocks m' g')
  obtain ⟨hv, hv1, hrest⟩ := h c
  obtain ⟨e0, e1, e2, e3, e4, e5, e6, e7, e8, e9, e10, e11, e12, e13⟩ := hargs c
  have hg : Good m c := good hpre
  refine ⟨(hv.trans (DxReference.final14 m' c)).trans ?_, (hv1.trans (DxReference.final15 m' c)).trans ?_, hrest⟩
  · refine Eq.trans ?_ (value_eq hg)
    unfold DxReference.X0 DxReference.X1 DxReference.X2 DxReference.X3 DxReference.X4 DxReference.X5 DxReference.X6 DxReference.X7 DxReference.X8
      DxReference.X9 DxReference.X10 DxReference.X11 DxReference.X12 DxReference.X13
    rw [e0, e1, e2, e3, e4, e5, e6, e7, e8, e9, e10, e11, e12, e13]
  · refine Eq.trans ?_ (codes_eq hg)
    unfold DxReference.X0 DxReference.X1
    rw [e0, e1]

end Cert.DxEq

end
-- ==== Proof.lean ====
module

public import proofs.«01_k».proof.Defs
public import proofs.«01_k».proof.Proof.Gen.KOut
public import proofs.«01_k».proof.Proof.Gen.KOut.Skeleton
public import proofs.«01_k».proof.Proof.Gen.KOut.Launch
public import proofs.«01_k».proof.Proof.Gen.KOut.Points
public import proofs.«01_k».proof.Proof.Gen.KOut.Frame
public import proofs.«01_k».proof.Proof.Gen.KOutIdeal
public import proofs.«01_k».proof.Proof.Gen.KOutIdeal.Skeleton
public import proofs.«01_k».proof.Proof.Gen.KOutIdeal.Launch
public import proofs.«01_k».proof.Proof.Gen.KOutIdeal.Points
public import proofs.«01_k».proof.Proof.Gen.KOutIdeal.Frame
public import proofs.«01_k».proof.Proof.Gen.ROutIdeal
public import proofs.«01_k».proof.Proof.Gen.ROutIdeal.Skeleton
public import proofs.«01_k».proof.Proof.Gen.ROutIdeal.Launch
public import proofs.«01_k».proof.Proof.Gen.ROutIdeal.Points
public import proofs.«01_k».proof.Proof.Gen.ROutIdeal.Frame
public import proofs.«01_k».proof.Proof.Gen.KQkv
public import proofs.«01_k».proof.Proof.Gen.KQkv.Skeleton
public import proofs.«01_k».proof.Proof.Gen.KQkv.Launch
public import proofs.«01_k».proof.Proof.Gen.KQkv.Points
public import proofs.«01_k».proof.Proof.Gen.KQkv.Frame
public import proofs.«01_k».proof.Proof.Gen.KQkvIdeal
public import proofs.«01_k».proof.Proof.Gen.KQkvIdeal.Skeleton
public import proofs.«01_k».proof.Proof.Gen.KQkvIdeal.Launch
public import proofs.«01_k».proof.Proof.Gen.KQkvIdeal.Points
public import proofs.«01_k».proof.Proof.Gen.KQkvIdeal.Frame
public import proofs.«01_k».proof.Proof.Gen.RQkvIdeal
public import proofs.«01_k».proof.Proof.Gen.RQkvIdeal.Skeleton
public import proofs.«01_k».proof.Proof.Gen.RQkvIdeal.Launch
public import proofs.«01_k».proof.Proof.Gen.RQkvIdeal.Points
public import proofs.«01_k».proof.Proof.Gen.RQkvIdeal.Frame
public import proofs.«01_k».proof.Proof.Gen.KOutIdeal.Value
public import proofs.«01_k».proof.Proof.Gen.KQkvIdeal.Value
public import proofs.«01_k».proof.Proof.Gen.ROutIdeal.Value
public import proofs.«01_k».proof.Proof.Gen.RQkvIdeal.Value
public import proofs.«01_k».proof.Proof.Gen.KIn
public import proofs.«01_k».proof.Proof.Gen.KIn.Skeleton
public import proofs.«01_k».proof.Proof.Gen.KIn.Launch
public import proofs.«01_k».proof.Proof.Gen.KIn.Points
public import proofs.«01_k».proof.Proof.InShare
public import proofs.«01_k».proof.Proof.Gen.KInIdeal
public import proofs.«01_k».proof.Proof.Gen.KInIdeal.Skeleton
public import proofs.«01_k».proof.Proof.Gen.KInIdeal.Launch
public import proofs.«01_k».proof.Proof.Gen.KInIdeal.Points
public import proofs.«01_k».proof.Proof.InIdealFrame.Frame
public import proofs.«01_k».proof.Proof.InIdealFrame.Value
public import proofs.«01_k».proof.Proof.Gen.RInIdeal
public import proofs.«01_k».proof.Proof.Gen.RInIdeal.Skeleton
public import proofs.«01_k».proof.Proof.Gen.RInIdeal.Launch
public import proofs.«01_k».proof.Proof.Gen.RInIdeal.Points
public import proofs.«01_k».proof.Proof.Gen.RInIdeal.Frame
public import proofs.«01_k».proof.Proof.Gen.Pre_normal_cmax
public import proofs.«01_k».proof.Proof.Gen.KDx
public import proofs.«01_k».proof.Proof.Gen.KDxIdeal
public import proofs.«01_k».proof.Proof.Gen.KDxIdeal.Skeleton
public import proofs.«01_k».proof.Proof.Gen.KDxIdeal.Launch
public import proofs.«01_k».proof.Proof.Gen.KDxIdeal.Points
public import proofs.«01_k».proof.Proof.Gen.RDxIdeal
public import proofs.«01_k».proof.Proof.Gen.RDxIdeal.Skeleton
public import proofs.«01_k».proof.Proof.Gen.RDxIdeal.Launch
public import proofs.«01_k».proof.Proof.Gen.RDxIdeal.Points
public import proofs.«01_k».proof.Proof.Gen.RDxIdeal.Frame
public import proofs.«01_k».proof.Proof.Gen.Pre_normal_rmax
public import proofs.«01_k».proof.Proof.OutEq
public import proofs.«01_k».proof.Proof.QkvEq
public import proofs.«01_k».proof.Proof.InEq
public import proofs.«01_k».proof.Proof.DxShare
public import proofs.«01_k».proof.Proof.DxEq
public import Idealize.ShloMosaic.Adequacy
public import Idealize.ShloMosaic.Init

@[expose] public section

noncomputable section

namespace Cert.Proof

open Idealize.ShloMosaic Idealize.SL.Sem Cert.KOut

/-- Every run of each program ends with its semaphores at zero; idealizing changes nothing, as no rewrite was asked for; and over the
    extended reals each kernel's result array is its reference's. -/
theorem claim : Cert.Claim := ⟨Cert.KOut.Gen.facts, Cert.KOutIdeal.Gen.facts, Cert.ROutIdeal.Gen.facts, Cert.KQkv.Gen.facts, Cert.KQkvIdeal.Gen.facts, Cert.RQkvIdeal.Gen.facts,
  Cert.KIn.Gen.facts, Cert.KInIdeal.Gen.facts, Cert.RInIdeal.Gen.facts,
  Cert.KDx.Gen.facts, Cert.KDxIdeal.Gen.facts, Cert.RDxIdeal.Gen.facts, Cert.Pre_normal_cmax.Gen.facts, Cert.Pre_normal_rmax.Gen.facts,
  fun m ρ _ => Cert.KOut.Gen.frame m ρ, fun m ρ _ => Cert.KOutIdeal.Gen.frame m ρ, fun m ρ _ => Cert.ROutIdeal.Gen.frame m ρ,
  fun m ρ _ => Cert.KQkv.Gen.frame m ρ, fun m ρ _ => Cert.KQkvIdeal.Gen.frame m ρ, fun m ρ _ => Cert.RQkvIdeal.Gen.frame m ρ,
  Cert.InShare.frame, fun m ρ _ => Cert.KInIdeal.Gen.frame m ρ, fun m ρ _ => Cert.KInIdeal.Gen.frame m ρ,
  fun m ρ _ => Cert.RInIdeal.Gen.frame m ρ, fun m ρ _ => Cert.RInIdeal.Gen.frame m ρ,
  Cert.DxShare.frame, fun m ρ _ => Cert.KDxIdeal.Gen.frame m ρ, fun m ρ _ => Cert.KDxIdeal.Gen.frame m ρ,
  fun m ρ _ => Cert.RDxIdeal.Gen.frame m ρ, fun m ρ _ => Cert.RDxIdeal.Gen.frame m ρ,
  trivial, Cert.OutEq.algebraic, trivial, Cert.QkvEq.algebraic, trivial, Cert.InEq.algebraic,
  trivial, Cert.DxEq.algebraic⟩

end Cert.Proof

end
